-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x3x4 : Shape := ⟨3, ![4, 3, 4]⟩
abbrev S1x3x4096 : Shape := ⟨3, ![1, 3, 4096]⟩
abbrev S1x3x4 : Shape := ⟨3, ![1, 3, 4]⟩
abbrev S3x4096 : Shape := ⟨2, ![3, 4096]⟩
abbrev S1x4096 : Shape := ⟨2, ![1, 4096]⟩
abbrev S1x1x4096 : Shape := ⟨3, ![1, 1, 4096]⟩
abbrev S1 : Shape := ⟨1, ![1]⟩
abbrev S1x1x1 : Shape := ⟨3, ![1, 1, 1]⟩
abbrev S4x4096 : Shape := ⟨2, ![4, 4096]⟩
abbrev S3x1024 : Shape := ⟨2, ![3, 1024]⟩
abbrev S1024x4096 : Shape := ⟨2, ![1024, 4096]⟩
abbrev S1x1024 : Shape := ⟨2, ![1, 1024]⟩
abbrev S1024x1 : Shape := ⟨2, ![1024, 1]⟩
abbrev S1024 : Shape := ⟨1, ![1024]⟩
abbrev S4x1024 : Shape := ⟨2, ![4, 1024]⟩
abbrev S3x4 : Shape := ⟨2, ![3, 4]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x3x4096, .f32⟩
  | .hbm, ⟨4, _⟩ => ⟨S4x3x4, .f32⟩
  | .local _ .vmem, ⟨0, _⟩ => ⟨S1x3x4096, .f32⟩
  | .local _ .vmem, ⟨1, _⟩ => ⟨S1x3x4096, .f32⟩
  | .local _ .vmem, ⟨2, _⟩ => ⟨S1x3x4096, .f32⟩
  | .local _ .vmem, ⟨3, _⟩ => ⟨S1x3x4096, .f32⟩
  | .local _ .vmem, ⟨4, _⟩ => ⟨S1x3x4, .f32⟩
  | .local _ .vmem, ⟨5, _⟩ => ⟨S1x3x4, .f32⟩
  | .local _ .vmem, ⟨6, _⟩ => ⟨S3x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c10_i32 : BitVec 32 := 10#32
  let v19 : BitVec 32 := Scalar.addi c0_i32 c10_i32
  let c1_i32 : BitVec 32 := 1#32
  ⟨c0_i32, v19, c1_i32⟩
@[reducible] def k0_t2_loop : Scf.Loop 32 :=
  let c0_i32_164 : BitVec 32 := 0#32
  let c6_i32_165 : BitVec 32 := 6#32
  let v835 : BitVec 32 := Scalar.addi c0_i32_164 c6_i32_165
  let c1_i32_166 : BitVec 32 := 1#32
  ⟨c0_i32_164, v835, c1_i32_166⟩
@[reducible] def k0_t3_loop : Scf.Loop 32 :=
  let c0_i32_48 : BitVec 32 := 0#32
  let c6_i32 : BitVec 32 := 6#32
  let v161 : BitVec 32 := Scalar.addi c0_i32_48 c6_i32
  let c1_i32_49 : BitVec 32 := 1#32
  ⟨c0_i32_48, v161, c1_i32_49⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S4x3 : Shape := ⟨2, ![4, 3]⟩
abbrev S4x1x3 : Shape := ⟨3, ![4, 1, 3]⟩
abbrev S4x3x3 : Shape := ⟨3, ![4, 3, 3]⟩
abbrev S4 : Shape := ⟨1, ![4]⟩
abbrev S4x1x1 : Shape := ⟨3, ![4, 1, 1]⟩
abbrev S4x3x1 : Shape := ⟨3, ![4, 3, 1]⟩
abbrev S4x3x4 : Shape := ⟨3, ![4, 3, 4]⟩

abbrev nBuf : Space → Nat
  | .hbm => 1657
  | .vmem => 0
  | .smem => 0
  | _ => 0

abbrev hbmTy0_0 (i : Nat) : BufTy := match i % 128 with
  | 0 => ⟨S4x4096x3, .f32⟩
  | 1 => ⟨S4x4096x3, .f32⟩
  | 2 => ⟨S_, .i32⟩
  | 3 => ⟨S_, .i32⟩
  | 4 => ⟨S4x4096x3, .f32⟩
  | 5 => ⟨S_, .i32⟩
  | 6 => ⟨S_, .i32⟩
  | 7 => ⟨S4x4096x3, .f32⟩
  | 8 => ⟨S_, .i32⟩
  | 9 => ⟨S_, .i1⟩
  | 10 => ⟨S_, .i32⟩
  | 11 => ⟨S_, .i32⟩
  | 12 => ⟨S4x4096x3, .f32⟩
  | 13 => ⟨S_, .f32⟩
  | 14 => ⟨S4x4096, .f32⟩
  | 15 => ⟨S4x4096x1, .f32⟩
  | 16 => ⟨S4x4096x4096, .f32⟩
  | 17 => ⟨S_, .f32⟩
  | 18 => ⟨S4x4096x4096, .f32⟩
  | 19 => ⟨S4x4096x4096, .f32⟩
  | 20 => ⟨S4x4096x4096, .f32⟩
  | 21 => ⟨S4x4096x4096, .f32⟩
  | 22 => ⟨S4x4096x3, .f32⟩
  | 23 => ⟨S_, .f32⟩
  | 24 => ⟨S4x4096, .f32⟩
  | 25 => ⟨S4x1x4096, .f32⟩
  | 26 => ⟨S4x4096x4096, .f32⟩
  | 27 => ⟨S4x4096x4096, .f32⟩
  | 28 => ⟨S_, .f32⟩
  | 29 => ⟨S4x4096x4096, .f32⟩
  | 30 => ⟨S4x4096x4096, .f32⟩
  | 31 => ⟨S4x4096x4096, .i32⟩
  | 32 => ⟨S_, .f32⟩
  | 33 => ⟨S_, .i32⟩
  | 34 => ⟨S4x4096, .f32⟩
  | 35 => ⟨S4x4096, .i32⟩
  | 36 => ⟨S4x4096x1, .i32⟩
  | 37 => ⟨S_, .i32⟩
  | 38 => ⟨S4x4096x1, .i32⟩
  | 39 => ⟨S4x4096x1, .i1⟩
  | 40 => ⟨S_, .i32⟩
  | 41 => ⟨S4x4096x1, .i32⟩
  | 42 => ⟨S4x4096x1, .i32⟩
  | 43 => ⟨S4x4096x1, .i32⟩
  | 44 => ⟨S4x4096x3, .f32⟩
  | 45 => ⟨S_, .f32⟩
  | 46 => ⟨S4x3, .f32⟩
  | 47 => ⟨S4x1x3, .f32⟩
  | 48 => ⟨S_, .f32⟩
  | 49 => ⟨S4x1x3, .f32⟩
  | 50 => ⟨S4x1x3, .f32⟩
  | 51 => ⟨S_, .f32⟩
  | 52 => ⟨S4x3, .f32⟩
  | 53 => ⟨S4x1x3, .f32⟩
  | 54 => ⟨S_, .f32⟩
  | 55 => ⟨S4x1x3, .f32⟩
  | 56 => ⟨S4x1x3, .f32⟩
  | 57 => ⟨S4x4096x3, .f32⟩
  | 58 => ⟨S4x4096x3, .f32⟩
  | 59 => ⟨S4x4096x3, .f32⟩
  | 60 => ⟨S4x4096x3, .f32⟩
  | 61 => ⟨S4x3x3, .f32⟩
  | 62 => ⟨S_, .f32⟩
  | 63 => ⟨S4, .f32⟩
  | 64 => ⟨S_, .f32⟩
  | 65 => ⟨S4, .f32⟩
  | 66 => ⟨S_, .f32⟩
  | 67 => ⟨S4, .f32⟩
  | 68 => ⟨S_, .f32⟩
  | 69 => ⟨S4, .f32⟩
  | 70 => ⟨S4x3x3, .f32⟩
  | 71 => ⟨S4x3x3, .f32⟩
  | 72 => ⟨S4x3x3, .i32⟩
  | 73 => ⟨S4x3x3, .i32⟩
  | 74 => ⟨S_, .i32⟩
  | 75 => ⟨S4x3x3, .i32⟩
  | 76 => ⟨S_, .i32⟩
  | 77 => ⟨S4x3x3, .i32⟩
  | 78 => ⟨S_, .i32⟩
  | 79 => ⟨S4x3x3, .i32⟩
  | 80 => ⟨S4x3x3, .i1⟩
  | 81 => ⟨S4x3x3, .i1⟩
  | 82 => ⟨S4x3x3, .i1⟩
  | 83 => ⟨S4x3x3, .i1⟩
  | 84 => ⟨S4x3x3, .i1⟩
  | 85 => ⟨S4x3x3, .i1⟩
  | 86 => ⟨S4x3x3, .i1⟩
  | 87 => ⟨S4x3x3, .i1⟩
  | 88 => ⟨S4x3x3, .i1⟩
  | 89 => ⟨S4x3x3, .i1⟩
  | 90 => ⟨S4x3x3, .i1⟩
  | 91 => ⟨S4x3x3, .i1⟩
  | 92 => ⟨S4x3x3, .i1⟩
  | 93 => ⟨S4x3x3, .i1⟩
  | 94 => ⟨S4x3x3, .i1⟩
  | 95 => ⟨S4x3x3, .i1⟩
  | 96 => ⟨S4x3x3, .i1⟩
  | 97 => ⟨S4x3x3, .i1⟩
  | 98 => ⟨S4x3x3, .i1⟩
  | 99 => ⟨S4x3x3, .i1⟩
  | 100 => ⟨S4x3x3, .i1⟩
  | 101 => ⟨S4x3x3, .i1⟩
  | 102 => ⟨S4x3x3, .i1⟩
  | 103 => ⟨S4x3x3, .i1⟩
  | 104 => ⟨S4x3x3, .i1⟩
  | 105 => ⟨S4x3x3, .i1⟩
  | 106 => ⟨S4x3x3, .i1⟩
  | 107 => ⟨S4x3x3, .i1⟩
  | 108 => ⟨S4x3x3, .i1⟩
  | 109 => ⟨S4x3x3, .i1⟩
  | 110 => ⟨S4x3x3, .i1⟩
  | 111 => ⟨S4x3x3, .i1⟩
  | 112 => ⟨S4x3x3, .i1⟩
  | 113 => ⟨S4x3x3, .i1⟩
  | 114 => ⟨S4x3x3, .f32⟩
  | 115 => ⟨S4x3x3, .f32⟩
  | 116 => ⟨S4x1x1, .f32⟩
  | 117 => ⟨S4, .f32⟩
  | 118 => ⟨S4, .f32⟩
  | 119 => ⟨S4, .i1⟩
  | 120 => ⟨S4x1x1, .f32⟩
  | 121 => ⟨S4, .f32⟩
  | 122 => ⟨S4x1x1, .f32⟩
  | 123 => ⟨S4, .f32⟩
  | 124 => ⟨S4, .f32⟩
  | 125 => ⟨S4, .f32⟩
  | 126 => ⟨S4, .f32⟩
  | 127 => ⟨S4, .f32⟩
  | _ => ⟨S4x4096x3, .f32⟩

abbrev hbmTy0_1 (i : Nat) : BufTy := match i % 128 with
  | 0 => ⟨S4, .f32⟩
  | 1 => ⟨S4, .f32⟩
  | 2 => ⟨S4, .f32⟩
  | 3 => ⟨S4, .i1⟩
  | 4 => ⟨S4, .f32⟩
  | 5 => ⟨S4, .f32⟩
  | 6 => ⟨S4, .f32⟩
  | 7 => ⟨S4, .f32⟩
  | 8 => ⟨S4, .f32⟩
  | 9 => ⟨S4, .f32⟩
  | 10 => ⟨S4, .f32⟩
  | 11 => ⟨S4, .f32⟩
  | 12 => ⟨S4, .f32⟩
  | 13 => ⟨S4x3x3, .f32⟩
  | 14 => ⟨S4x3x3, .f32⟩
  | 15 => ⟨S4x3x3, .f32⟩
  | 16 => ⟨S4x3x3, .f32⟩
  | 17 => ⟨S4x3x3, .f32⟩
  | 18 => ⟨S4x3x3, .f32⟩
  | 19 => ⟨S4x3x3, .f32⟩
  | 20 => ⟨S4x3x3, .f32⟩
  | 21 => ⟨S4x3x3, .f32⟩
  | 22 => ⟨S4x3x3, .f32⟩
  | 23 => ⟨S4x1x1, .f32⟩
  | 24 => ⟨S4, .f32⟩
  | 25 => ⟨S4, .f32⟩
  | 26 => ⟨S4, .i1⟩
  | 27 => ⟨S4x1x1, .f32⟩
  | 28 => ⟨S4, .f32⟩
  | 29 => ⟨S4x1x1, .f32⟩
  | 30 => ⟨S4, .f32⟩
  | 31 => ⟨S4, .f32⟩
  | 32 => ⟨S4, .f32⟩
  | 33 => ⟨S4, .f32⟩
  | 34 => ⟨S4, .f32⟩
  | 35 => ⟨S4, .f32⟩
  | 36 => ⟨S4, .f32⟩
  | 37 => ⟨S4, .f32⟩
  | 38 => ⟨S4, .i1⟩
  | 39 => ⟨S4, .f32⟩
  | 40 => ⟨S4, .f32⟩
  | 41 => ⟨S4, .f32⟩
  | 42 => ⟨S4, .f32⟩
  | 43 => ⟨S4, .f32⟩
  | 44 => ⟨S4, .f32⟩
  | 45 => ⟨S4, .f32⟩
  | 46 => ⟨S4, .f32⟩
  | 47 => ⟨S4, .f32⟩
  | 48 => ⟨S4x3x3, .f32⟩
  | 49 => ⟨S4x3x3, .f32⟩
  | 50 => ⟨S4x3x3, .f32⟩
  | 51 => ⟨S4x3x3, .f32⟩
  | 52 => ⟨S4x3x3, .f32⟩
  | 53 => ⟨S4x3x3, .f32⟩
  | 54 => ⟨S4x3x3, .f32⟩
  | 55 => ⟨S4x3x3, .f32⟩
  | 56 => ⟨S4x3x3, .f32⟩
  | 57 => ⟨S4x3x3, .f32⟩
  | 58 => ⟨S4x1x1, .f32⟩
  | 59 => ⟨S4, .f32⟩
  | 60 => ⟨S4, .f32⟩
  | 61 => ⟨S4, .i1⟩
  | 62 => ⟨S4x1x1, .f32⟩
  | 63 => ⟨S4, .f32⟩
  | 64 => ⟨S4x1x1, .f32⟩
  | 65 => ⟨S4, .f32⟩
  | 66 => ⟨S4, .f32⟩
  | 67 => ⟨S4, .f32⟩
  | 68 => ⟨S4, .f32⟩
  | 69 => ⟨S4, .f32⟩
  | 70 => ⟨S4, .f32⟩
  | 71 => ⟨S4, .f32⟩
  | 72 => ⟨S4, .f32⟩
  | 73 => ⟨S4, .i1⟩
  | 74 => ⟨S4, .f32⟩
  | 75 => ⟨S4, .f32⟩
  | 76 => ⟨S4, .f32⟩
  | 77 => ⟨S4, .f32⟩
  | 78 => ⟨S4, .f32⟩
  | 79 => ⟨S4, .f32⟩
  | 80 => ⟨S4, .f32⟩
  | 81 => ⟨S4, .f32⟩
  | 82 => ⟨S4, .f32⟩
  | 83 => ⟨S4x3x3, .f32⟩
  | 84 => ⟨S4x3x3, .f32⟩
  | 85 => ⟨S4x3x3, .f32⟩
  | 86 => ⟨S4x3x3, .f32⟩
  | 87 => ⟨S4x3x3, .f32⟩
  | 88 => ⟨S4x3x3, .f32⟩
  | 89 => ⟨S4x3x3, .f32⟩
  | 90 => ⟨S4x3x3, .f32⟩
  | 91 => ⟨S4x3x3, .f32⟩
  | 92 => ⟨S4x3x3, .f32⟩
  | 93 => ⟨S4x1x1, .f32⟩
  | 94 => ⟨S4, .f32⟩
  | 95 => ⟨S4, .f32⟩
  | 96 => ⟨S4, .i1⟩
  | 97 => ⟨S4x1x1, .f32⟩
  | 98 => ⟨S4, .f32⟩
  | 99 => ⟨S4x1x1, .f32⟩
  | 100 => ⟨S4, .f32⟩
  | 101 => ⟨S4, .f32⟩
  | 102 => ⟨S4, .f32⟩
  | 103 => ⟨S4, .f32⟩
  | 104 => ⟨S4, .f32⟩
  | 105 => ⟨S4, .f32⟩
  | 106 => ⟨S4, .f32⟩
  | 107 => ⟨S4, .f32⟩
  | 108 => ⟨S4, .i1⟩
  | 109 => ⟨S4, .f32⟩
  | 110 => ⟨S4, .f32⟩
  | 111 => ⟨S4, .f32⟩
  | 112 => ⟨S4, .f32⟩
  | 113 => ⟨S4, .f32⟩
  | 114 => ⟨S4, .f32⟩
  | 115 => ⟨S4, .f32⟩
  | 116 => ⟨S4, .f32⟩
  | 117 => ⟨S4, .f32⟩
  | 118 => ⟨S4x3x3, .f32⟩
  | 119 => ⟨S4x3x3, .f32⟩
  | 120 => ⟨S4x3x3, .f32⟩
  | 121 => ⟨S4x3x3, .f32⟩
  | 122 => ⟨S4x3x3, .f32⟩
  | 123 => ⟨S4x3x3, .f32⟩
  | 124 => ⟨S4x3x3, .f32⟩
  | 125 => ⟨S4x3x3, .f32⟩
  | 126 => ⟨S4x3x3, .f32⟩
  | 127 => ⟨S4x3x3, .f32⟩
  | _ => ⟨S4x4096x3, .f32⟩

abbrev hbmTy0_2 (i : Nat) : BufTy := match i % 128 with
  | 0 => ⟨S4x1x1, .f32⟩
  | 1 => ⟨S4, .f32⟩
  | 2 => ⟨S4, .f32⟩
  | 3 => ⟨S4, .i1⟩
  | 4 => ⟨S4x1x1, .f32⟩
  | 5 => ⟨S4, .f32⟩
  | 6 => ⟨S4x1x1, .f32⟩
  | 7 => ⟨S4, .f32⟩
  | 8 => ⟨S4, .f32⟩
  | 9 => ⟨S4, .f32⟩
  | 10 => ⟨S4, .f32⟩
  | 11 => ⟨S4, .f32⟩
  | 12 => ⟨S4, .f32⟩
  | 13 => ⟨S4, .f32⟩
  | 14 => ⟨S4, .f32⟩
  | 15 => ⟨S4, .i1⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S4, .f32⟩
  | 23 => ⟨S4, .f32⟩
  | 24 => ⟨S4, .f32⟩
  | 25 => ⟨S4x3x3, .f32⟩
  | 26 => ⟨S4x3x3, .f32⟩
  | 27 => ⟨S4x3x3, .f32⟩
  | 28 => ⟨S4x3x3, .f32⟩
  | 29 => ⟨S4x3x3, .f32⟩
  | 30 => ⟨S4x3x3, .f32⟩
  | 31 => ⟨S4x3x3, .f32⟩
  | 32 => ⟨S4x3x3, .f32⟩
  | 33 => ⟨S4x3x3, .f32⟩
  | 34 => ⟨S4x3x3, .f32⟩
  | 35 => ⟨S4x1x1, .f32⟩
  | 36 => ⟨S4, .f32⟩
  | 37 => ⟨S4, .f32⟩
  | 38 => ⟨S4, .i1⟩
  | 39 => ⟨S4x1x1, .f32⟩
  | 40 => ⟨S4, .f32⟩
  | 41 => ⟨S4x1x1, .f32⟩
  | 42 => ⟨S4, .f32⟩
  | 43 => ⟨S4, .f32⟩
  | 44 => ⟨S4, .f32⟩
  | 45 => ⟨S4, .f32⟩
  | 46 => ⟨S4, .f32⟩
  | 47 => ⟨S4, .f32⟩
  | 48 => ⟨S4, .f32⟩
  | 49 => ⟨S4, .f32⟩
  | 50 => ⟨S4, .i1⟩
  | 51 => ⟨S4, .f32⟩
  | 52 => ⟨S4, .f32⟩
  | 53 => ⟨S4, .f32⟩
  | 54 => ⟨S4, .f32⟩
  | 55 => ⟨S4, .f32⟩
  | 56 => ⟨S4, .f32⟩
  | 57 => ⟨S4, .f32⟩
  | 58 => ⟨S4, .f32⟩
  | 59 => ⟨S4, .f32⟩
  | 60 => ⟨S4x3x3, .f32⟩
  | 61 => ⟨S4x3x3, .f32⟩
  | 62 => ⟨S4x3x3, .f32⟩
  | 63 => ⟨S4x3x3, .f32⟩
  | 64 => ⟨S4x3x3, .f32⟩
  | 65 => ⟨S4x3x3, .f32⟩
  | 66 => ⟨S4x3x3, .f32⟩
  | 67 => ⟨S4x3x3, .f32⟩
  | 68 => ⟨S4x3x3, .f32⟩
  | 69 => ⟨S4x3x3, .f32⟩
  | 70 => ⟨S4x1x1, .f32⟩
  | 71 => ⟨S4, .f32⟩
  | 72 => ⟨S4, .f32⟩
  | 73 => ⟨S4, .i1⟩
  | 74 => ⟨S4x1x1, .f32⟩
  | 75 => ⟨S4, .f32⟩
  | 76 => ⟨S4x1x1, .f32⟩
  | 77 => ⟨S4, .f32⟩
  | 78 => ⟨S4, .f32⟩
  | 79 => ⟨S4, .f32⟩
  | 80 => ⟨S4, .f32⟩
  | 81 => ⟨S4, .f32⟩
  | 82 => ⟨S4, .f32⟩
  | 83 => ⟨S4, .f32⟩
  | 84 => ⟨S4, .f32⟩
  | 85 => ⟨S4, .i1⟩
  | 86 => ⟨S4, .f32⟩
  | 87 => ⟨S4, .f32⟩
  | 88 => ⟨S4, .f32⟩
  | 89 => ⟨S4, .f32⟩
  | 90 => ⟨S4, .f32⟩
  | 91 => ⟨S4, .f32⟩
  | 92 => ⟨S4, .f32⟩
  | 93 => ⟨S4, .f32⟩
  | 94 => ⟨S4, .f32⟩
  | 95 => ⟨S4x3x3, .f32⟩
  | 96 => ⟨S4x3x3, .f32⟩
  | 97 => ⟨S4x3x3, .f32⟩
  | 98 => ⟨S4x3x3, .f32⟩
  | 99 => ⟨S4x3x3, .f32⟩
  | 100 => ⟨S4x3x3, .f32⟩
  | 101 => ⟨S4x3x3, .f32⟩
  | 102 => ⟨S4x3x3, .f32⟩
  | 103 => ⟨S4x3x3, .f32⟩
  | 104 => ⟨S4x3x3, .f32⟩
  | 105 => ⟨S4x1x1, .f32⟩
  | 106 => ⟨S4, .f32⟩
  | 107 => ⟨S4, .f32⟩
  | 108 => ⟨S4, .i1⟩
  | 109 => ⟨S4x1x1, .f32⟩
  | 110 => ⟨S4, .f32⟩
  | 111 => ⟨S4x1x1, .f32⟩
  | 112 => ⟨S4, .f32⟩
  | 113 => ⟨S4, .f32⟩
  | 114 => ⟨S4, .f32⟩
  | 115 => ⟨S4, .f32⟩
  | 116 => ⟨S4, .f32⟩
  | 117 => ⟨S4, .f32⟩
  | 118 => ⟨S4, .f32⟩
  | 119 => ⟨S4, .f32⟩
  | 120 => ⟨S4, .i1⟩
  | 121 => ⟨S4, .f32⟩
  | 122 => ⟨S4, .f32⟩
  | 123 => ⟨S4, .f32⟩
  | 124 => ⟨S4, .f32⟩
  | 125 => ⟨S4, .f32⟩
  | 126 => ⟨S4, .f32⟩
  | 127 => ⟨S4, .f32⟩
  | _ => ⟨S4x4096x3, .f32⟩

abbrev hbmTy0_3 (i : Nat) : BufTy := match i % 128 with
  | 0 => ⟨S4, .f32⟩
  | 1 => ⟨S4, .f32⟩
  | 2 => ⟨S4x3x3, .f32⟩
  | 3 => ⟨S4x3x3, .f32⟩
  | 4 => ⟨S4x3x3, .f32⟩
  | 5 => ⟨S4x3x3, .f32⟩
  | 6 => ⟨S4x3x3, .f32⟩
  | 7 => ⟨S4x3x3, .f32⟩
  | 8 => ⟨S4x3x3, .f32⟩
  | 9 => ⟨S4x3x3, .f32⟩
  | 10 => ⟨S4x3x3, .f32⟩
  | 11 => ⟨S4x3x3, .f32⟩
  | 12 => ⟨S4x1x1, .f32⟩
  | 13 => ⟨S4, .f32⟩
  | 14 => ⟨S4, .f32⟩
  | 15 => ⟨S4, .i1⟩
  | 16 => ⟨S4x1x1, .f32⟩
  | 17 => ⟨S4, .f32⟩
  | 18 => ⟨S4x1x1, .f32⟩
  | 19 => ⟨S4, .f32⟩
  | 20 => ⟨S4, .f32⟩
  | 21 => ⟨S4, .f32⟩
  | 22 => ⟨S4, .f32⟩
  | 23 => ⟨S4, .f32⟩
  | 24 => ⟨S4, .f32⟩
  | 25 => ⟨S4, .f32⟩
  | 26 => ⟨S4, .f32⟩
  | 27 => ⟨S4, .i1⟩
  | 28 => ⟨S4, .f32⟩
  | 29 => ⟨S4, .f32⟩
  | 30 => ⟨S4, .f32⟩
  | 31 => ⟨S4, .f32⟩
  | 32 => ⟨S4, .f32⟩
  | 33 => ⟨S4, .f32⟩
  | 34 => ⟨S4, .f32⟩
  | 35 => ⟨S4, .f32⟩
  | 36 => ⟨S4, .f32⟩
  | 37 => ⟨S4x3x3, .f32⟩
  | 38 => ⟨S4x3x3, .f32⟩
  | 39 => ⟨S4x3x3, .f32⟩
  | 40 => ⟨S4x3x3, .f32⟩
  | 41 => ⟨S4x3x3, .f32⟩
  | 42 => ⟨S4x3x3, .f32⟩
  | 43 => ⟨S4x3x3, .f32⟩
  | 44 => ⟨S4x3x3, .f32⟩
  | 45 => ⟨S4x3x3, .f32⟩
  | 46 => ⟨S4x3x3, .f32⟩
  | 47 => ⟨S4x1x1, .f32⟩
  | 48 => ⟨S4, .f32⟩
  | 49 => ⟨S4, .f32⟩
  | 50 => ⟨S4, .i1⟩
  | 51 => ⟨S4x1x1, .f32⟩
  | 52 => ⟨S4, .f32⟩
  | 53 => ⟨S4x1x1, .f32⟩
  | 54 => ⟨S4, .f32⟩
  | 55 => ⟨S4, .f32⟩
  | 56 => ⟨S4, .f32⟩
  | 57 => ⟨S4, .f32⟩
  | 58 => ⟨S4, .f32⟩
  | 59 => ⟨S4, .f32⟩
  | 60 => ⟨S4, .f32⟩
  | 61 => ⟨S4, .f32⟩
  | 62 => ⟨S4, .i1⟩
  | 63 => ⟨S4, .f32⟩
  | 64 => ⟨S4, .f32⟩
  | 65 => ⟨S4, .f32⟩
  | 66 => ⟨S4, .f32⟩
  | 67 => ⟨S4, .f32⟩
  | 68 => ⟨S4, .f32⟩
  | 69 => ⟨S4, .f32⟩
  | 70 => ⟨S4, .f32⟩
  | 71 => ⟨S4, .f32⟩
  | 72 => ⟨S4x3x3, .f32⟩
  | 73 => ⟨S4x3x3, .f32⟩
  | 74 => ⟨S4x3x3, .f32⟩
  | 75 => ⟨S4x3x3, .f32⟩
  | 76 => ⟨S4x3x3, .f32⟩
  | 77 => ⟨S4x3x3, .f32⟩
  | 78 => ⟨S4x3x3, .f32⟩
  | 79 => ⟨S4x3x3, .f32⟩
  | 80 => ⟨S4x3x3, .f32⟩
  | 81 => ⟨S4x3x3, .f32⟩
  | 82 => ⟨S4x1x1, .f32⟩
  | 83 => ⟨S4, .f32⟩
  | 84 => ⟨S4, .f32⟩
  | 85 => ⟨S4, .i1⟩
  | 86 => ⟨S4x1x1, .f32⟩
  | 87 => ⟨S4, .f32⟩
  | 88 => ⟨S4x1x1, .f32⟩
  | 89 => ⟨S4, .f32⟩
  | 90 => ⟨S4, .f32⟩
  | 91 => ⟨S4, .f32⟩
  | 92 => ⟨S4, .f32⟩
  | 93 => ⟨S4, .f32⟩
  | 94 => ⟨S4, .f32⟩
  | 95 => ⟨S4, .f32⟩
  | 96 => ⟨S4, .f32⟩
  | 97 => ⟨S4, .i1⟩
  | 98 => ⟨S4, .f32⟩
  | 99 => ⟨S4, .f32⟩
  | 100 => ⟨S4, .f32⟩
  | 101 => ⟨S4, .f32⟩
  | 102 => ⟨S4, .f32⟩
  | 103 => ⟨S4, .f32⟩
  | 104 => ⟨S4, .f32⟩
  | 105 => ⟨S4, .f32⟩
  | 106 => ⟨S4, .f32⟩
  | 107 => ⟨S4x3x3, .f32⟩
  | 108 => ⟨S4x3x3, .f32⟩
  | 109 => ⟨S4x3x3, .f32⟩
  | 110 => ⟨S4x3x3, .f32⟩
  | 111 => ⟨S4x3x3, .f32⟩
  | 112 => ⟨S4x3x3, .f32⟩
  | 113 => ⟨S4x3x3, .f32⟩
  | 114 => ⟨S4x3x3, .f32⟩
  | 115 => ⟨S4x3x3, .f32⟩
  | 116 => ⟨S4x3x3, .f32⟩
  | 117 => ⟨S4x1x1, .f32⟩
  | 118 => ⟨S4, .f32⟩
  | 119 => ⟨S4, .f32⟩
  | 120 => ⟨S4, .i1⟩
  | 121 => ⟨S4x1x1, .f32⟩
  | 122 => ⟨S4, .f32⟩
  | 123 => ⟨S4x1x1, .f32⟩
  | 124 => ⟨S4, .f32⟩
  | 125 => ⟨S4, .f32⟩
  | 126 => ⟨S4, .f32⟩
  | 127 => ⟨S4, .f32⟩
  | _ => ⟨S4x4096x3, .f32⟩

abbrev hbmTy0_4 (i : Nat) : BufTy := match i % 128 with
  | 0 => ⟨S4, .f32⟩
  | 1 => ⟨S4, .f32⟩
  | 2 => ⟨S4, .f32⟩
  | 3 => ⟨S4, .f32⟩
  | 4 => ⟨S4, .i1⟩
  | 5 => ⟨S4, .f32⟩
  | 6 => ⟨S4, .f32⟩
  | 7 => ⟨S4, .f32⟩
  | 8 => ⟨S4, .f32⟩
  | 9 => ⟨S4, .f32⟩
  | 10 => ⟨S4, .f32⟩
  | 11 => ⟨S4, .f32⟩
  | 12 => ⟨S4, .f32⟩
  | 13 => ⟨S4, .f32⟩
  | 14 => ⟨S4x3x3, .f32⟩
  | 15 => ⟨S4x3x3, .f32⟩
  | 16 => ⟨S4x3x3, .f32⟩
  | 17 => ⟨S4x3x3, .f32⟩
  | 18 => ⟨S4x3x3, .f32⟩
  | 19 => ⟨S4x3x3, .f32⟩
  | 20 => ⟨S4x3x3, .f32⟩
  | 21 => ⟨S4x3x3, .f32⟩
  | 22 => ⟨S4x3x3, .f32⟩
  | 23 => ⟨S4x3x3, .f32⟩
  | 24 => ⟨S4x1x1, .f32⟩
  | 25 => ⟨S4, .f32⟩
  | 26 => ⟨S4, .f32⟩
  | 27 => ⟨S4, .i1⟩
  | 28 => ⟨S4x1x1, .f32⟩
  | 29 => ⟨S4, .f32⟩
  | 30 => ⟨S4x1x1, .f32⟩
  | 31 => ⟨S4, .f32⟩
  | 32 => ⟨S4, .f32⟩
  | 33 => ⟨S4, .f32⟩
  | 34 => ⟨S4, .f32⟩
  | 35 => ⟨S4, .f32⟩
  | 36 => ⟨S4, .f32⟩
  | 37 => ⟨S4, .f32⟩
  | 38 => ⟨S4, .f32⟩
  | 39 => ⟨S4, .i1⟩
  | 40 => ⟨S4, .f32⟩
  | 41 => ⟨S4, .f32⟩
  | 42 => ⟨S4, .f32⟩
  | 43 => ⟨S4, .f32⟩
  | 44 => ⟨S4, .f32⟩
  | 45 => ⟨S4, .f32⟩
  | 46 => ⟨S4, .f32⟩
  | 47 => ⟨S4, .f32⟩
  | 48 => ⟨S4, .f32⟩
  | 49 => ⟨S4x3x3, .f32⟩
  | 50 => ⟨S4x3x3, .f32⟩
  | 51 => ⟨S4x3x3, .f32⟩
  | 52 => ⟨S4x3x3, .f32⟩
  | 53 => ⟨S4x3x3, .f32⟩
  | 54 => ⟨S4x3x3, .f32⟩
  | 55 => ⟨S4x3x3, .f32⟩
  | 56 => ⟨S4x3x3, .f32⟩
  | 57 => ⟨S4x3x3, .f32⟩
  | 58 => ⟨S4x3x3, .f32⟩
  | 59 => ⟨S4x1x1, .f32⟩
  | 60 => ⟨S4, .f32⟩
  | 61 => ⟨S4, .f32⟩
  | 62 => ⟨S4, .i1⟩
  | 63 => ⟨S4x1x1, .f32⟩
  | 64 => ⟨S4, .f32⟩
  | 65 => ⟨S4x1x1, .f32⟩
  | 66 => ⟨S4, .f32⟩
  | 67 => ⟨S4, .f32⟩
  | 68 => ⟨S4, .f32⟩
  | 69 => ⟨S4, .f32⟩
  | 70 => ⟨S4, .f32⟩
  | 71 => ⟨S4, .f32⟩
  | 72 => ⟨S4, .f32⟩
  | 73 => ⟨S4, .f32⟩
  | 74 => ⟨S4, .i1⟩
  | 75 => ⟨S4, .f32⟩
  | 76 => ⟨S4, .f32⟩
  | 77 => ⟨S4, .f32⟩
  | 78 => ⟨S4, .f32⟩
  | 79 => ⟨S4, .f32⟩
  | 80 => ⟨S4, .f32⟩
  | 81 => ⟨S4, .f32⟩
  | 82 => ⟨S4, .f32⟩
  | 83 => ⟨S4, .f32⟩
  | 84 => ⟨S4x3x3, .f32⟩
  | 85 => ⟨S4x3x3, .f32⟩
  | 86 => ⟨S4x3x3, .f32⟩
  | 87 => ⟨S4x3x3, .f32⟩
  | 88 => ⟨S4x3x3, .f32⟩
  | 89 => ⟨S4x3x3, .f32⟩
  | 90 => ⟨S4x3x3, .f32⟩
  | 91 => ⟨S4x3x3, .f32⟩
  | 92 => ⟨S4x3x3, .f32⟩
  | 93 => ⟨S4x3x3, .f32⟩
  | 94 => ⟨S4x1x1, .f32⟩
  | 95 => ⟨S4, .f32⟩
  | 96 => ⟨S4, .f32⟩
  | 97 => ⟨S4, .i1⟩
  | 98 => ⟨S4x1x1, .f32⟩
  | 99 => ⟨S4, .f32⟩
  | 100 => ⟨S4x1x1, .f32⟩
  | 101 => ⟨S4, .f32⟩
  | 102 => ⟨S4, .f32⟩
  | 103 => ⟨S4, .f32⟩
  | 104 => ⟨S4, .f32⟩
  | 105 => ⟨S4, .f32⟩
  | 106 => ⟨S4, .f32⟩
  | 107 => ⟨S4, .f32⟩
  | 108 => ⟨S4, .f32⟩
  | 109 => ⟨S4, .i1⟩
  | 110 => ⟨S4, .f32⟩
  | 111 => ⟨S4, .f32⟩
  | 112 => ⟨S4, .f32⟩
  | 113 => ⟨S4, .f32⟩
  | 114 => ⟨S4, .f32⟩
  | 115 => ⟨S4, .f32⟩
  | 116 => ⟨S4, .f32⟩
  | 117 => ⟨S4, .f32⟩
  | 118 => ⟨S4, .f32⟩
  | 119 => ⟨S4x3x3, .f32⟩
  | 120 => ⟨S4x3x3, .f32⟩
  | 121 => ⟨S4x3x3, .f32⟩
  | 122 => ⟨S4x3x3, .f32⟩
  | 123 => ⟨S4x3x3, .f32⟩
  | 124 => ⟨S4x3x3, .f32⟩
  | 125 => ⟨S4x3x3, .f32⟩
  | 126 => ⟨S4x3x3, .f32⟩
  | 127 => ⟨S4x3x3, .f32⟩
  | _ => ⟨S4x4096x3, .f32⟩

abbrev hbmTy0_5 (i : Nat) : BufTy := match i % 128 with
  | 0 => ⟨S4x3x3, .f32⟩
  | 1 => ⟨S4x1x1, .f32⟩
  | 2 => ⟨S4, .f32⟩
  | 3 => ⟨S4, .f32⟩
  | 4 => ⟨S4, .i1⟩
  | 5 => ⟨S4x1x1, .f32⟩
  | 6 => ⟨S4, .f32⟩
  | 7 => ⟨S4x1x1, .f32⟩
  | 8 => ⟨S4, .f32⟩
  | 9 => ⟨S4, .f32⟩
  | 10 => ⟨S4, .f32⟩
  | 11 => ⟨S4, .f32⟩
  | 12 => ⟨S4, .f32⟩
  | 13 => ⟨S4, .f32⟩
  | 14 => ⟨S4, .f32⟩
  | 15 => ⟨S4, .f32⟩
  | 16 => ⟨S4, .i1⟩
  | 17 => ⟨S4, .f32⟩
  | 18 => ⟨S4, .f32⟩
  | 19 => ⟨S4, .f32⟩
  | 20 => ⟨S4, .f32⟩
  | 21 => ⟨S4, .f32⟩
  | 22 => ⟨S4, .f32⟩
  | 23 => ⟨S4, .f32⟩
  | 24 => ⟨S4, .f32⟩
  | 25 => ⟨S4, .f32⟩
  | 26 => ⟨S4x3x3, .f32⟩
  | 27 => ⟨S4x3x3, .f32⟩
  | 28 => ⟨S4x3x3, .f32⟩
  | 29 => ⟨S4x3x3, .f32⟩
  | 30 => ⟨S4x3x3, .f32⟩
  | 31 => ⟨S4x3x3, .f32⟩
  | 32 => ⟨S4x3x3, .f32⟩
  | 33 => ⟨S4x3x3, .f32⟩
  | 34 => ⟨S4x3x3, .f32⟩
  | 35 => ⟨S4x3x3, .f32⟩
  | 36 => ⟨S4x1x1, .f32⟩
  | 37 => ⟨S4, .f32⟩
  | 38 => ⟨S4, .f32⟩
  | 39 => ⟨S4, .i1⟩
  | 40 => ⟨S4x1x1, .f32⟩
  | 41 => ⟨S4, .f32⟩
  | 42 => ⟨S4x1x1, .f32⟩
  | 43 => ⟨S4, .f32⟩
  | 44 => ⟨S4, .f32⟩
  | 45 => ⟨S4, .f32⟩
  | 46 => ⟨S4, .f32⟩
  | 47 => ⟨S4, .f32⟩
  | 48 => ⟨S4, .f32⟩
  | 49 => ⟨S4, .f32⟩
  | 50 => ⟨S4, .f32⟩
  | 51 => ⟨S4, .i1⟩
  | 52 => ⟨S4, .f32⟩
  | 53 => ⟨S4, .f32⟩
  | 54 => ⟨S4, .f32⟩
  | 55 => ⟨S4, .f32⟩
  | 56 => ⟨S4, .f32⟩
  | 57 => ⟨S4, .f32⟩
  | 58 => ⟨S4, .f32⟩
  | 59 => ⟨S4, .f32⟩
  | 60 => ⟨S4, .f32⟩
  | 61 => ⟨S4x3x3, .f32⟩
  | 62 => ⟨S4x3x3, .f32⟩
  | 63 => ⟨S4x3x3, .f32⟩
  | 64 => ⟨S4x3x3, .f32⟩
  | 65 => ⟨S4x3x3, .f32⟩
  | 66 => ⟨S4x3x3, .f32⟩
  | 67 => ⟨S4x3x3, .f32⟩
  | 68 => ⟨S4x3x3, .f32⟩
  | 69 => ⟨S4x3x3, .f32⟩
  | 70 => ⟨S4x3x3, .f32⟩
  | 71 => ⟨S4x1x1, .f32⟩
  | 72 => ⟨S4, .f32⟩
  | 73 => ⟨S4, .f32⟩
  | 74 => ⟨S4, .i1⟩
  | 75 => ⟨S4x1x1, .f32⟩
  | 76 => ⟨S4, .f32⟩
  | 77 => ⟨S4x1x1, .f32⟩
  | 78 => ⟨S4, .f32⟩
  | 79 => ⟨S4, .f32⟩
  | 80 => ⟨S4, .f32⟩
  | 81 => ⟨S4, .f32⟩
  | 82 => ⟨S4, .f32⟩
  | 83 => ⟨S4, .f32⟩
  | 84 => ⟨S4, .f32⟩
  | 85 => ⟨S4, .f32⟩
  | 86 => ⟨S4, .i1⟩
  | 87 => ⟨S4, .f32⟩
  | 88 => ⟨S4, .f32⟩
  | 89 => ⟨S4, .f32⟩
  | 90 => ⟨S4, .f32⟩
  | 91 => ⟨S4, .f32⟩
  | 92 => ⟨S4, .f32⟩
  | 93 => ⟨S4, .f32⟩
  | 94 => ⟨S4, .f32⟩
  | 95 => ⟨S4, .f32⟩
  | 96 => ⟨S4x3x3, .f32⟩
  | 97 => ⟨S4x3x3, .f32⟩
  | 98 => ⟨S4x3x3, .f32⟩
  | 99 => ⟨S4x3x3, .f32⟩
  | 100 => ⟨S4x3x3, .f32⟩
  | 101 => ⟨S4x3x3, .f32⟩
  | 102 => ⟨S4x3x3, .f32⟩
  | 103 => ⟨S4x3x3, .f32⟩
  | 104 => ⟨S4x3x3, .f32⟩
  | 105 => ⟨S4x3x3, .f32⟩
  | 106 => ⟨S4x3x3, .f32⟩
  | 107 => ⟨S4x3x3, .f32⟩
  | 108 => ⟨S4x1x1, .f32⟩
  | 109 => ⟨S4, .f32⟩
  | 110 => ⟨S4x1x1, .f32⟩
  | 111 => ⟨S4, .f32⟩
  | 112 => ⟨S4, .i1⟩
  | 113 => ⟨S4x3x3, .i1⟩
  | 114 => ⟨S4x3x3, .f32⟩
  | 115 => ⟨S4x3x3, .f32⟩
  | 116 => ⟨S4x3x3, .f32⟩
  | 117 => ⟨S4x3x3, .f32⟩
  | 118 => ⟨S4x3x3, .f32⟩
  | 119 => ⟨S4x3x3, .f32⟩
  | 120 => ⟨S4x1x1, .f32⟩
  | 121 => ⟨S4, .f32⟩
  | 122 => ⟨S4x1x1, .f32⟩
  | 123 => ⟨S4, .f32⟩
  | 124 => ⟨S4, .i1⟩
  | 125 => ⟨S4x3x3, .i1⟩
  | 126 => ⟨S4x3x3, .f32⟩
  | 127 => ⟨S4x3x3, .f32⟩
  | _ => ⟨S4x4096x3, .f32⟩

abbrev hbmTy0_6 (i : Nat) : BufTy := match i % 128 with
  | 0 => ⟨S4x3x3, .f32⟩
  | 1 => ⟨S4x3x3, .f32⟩
  | 2 => ⟨S4x3x3, .f32⟩
  | 3 => ⟨S4x3x3, .f32⟩
  | 4 => ⟨S4x1x1, .f32⟩
  | 5 => ⟨S4, .f32⟩
  | 6 => ⟨S4x1x1, .f32⟩
  | 7 => ⟨S4, .f32⟩
  | 8 => ⟨S4, .i1⟩
  | 9 => ⟨S4x3x3, .i1⟩
  | 10 => ⟨S4x3x3, .f32⟩
  | 11 => ⟨S4x3x3, .f32⟩
  | 12 => ⟨S4x3x3, .f32⟩
  | 13 => ⟨S4x3x3, .f32⟩
  | 14 => ⟨S4x3x3, .f32⟩
  | 15 => ⟨S4x3x3, .f32⟩
  | 16 => ⟨S_, .f32⟩
  | 17 => ⟨S4x3, .f32⟩
  | 18 => ⟨S4x1x3, .f32⟩
  | 19 => ⟨S_, .f32⟩
  | 20 => ⟨S4x1x3, .f32⟩
  | 21 => ⟨S4x1x3, .f32⟩
  | 22 => ⟨S4x1x3, .f32⟩
  | 23 => ⟨S4x3x3, .f32⟩
  | 24 => ⟨S4x3x3, .f32⟩
  | 25 => ⟨S4x3x3, .f32⟩
  | 26 => ⟨S4x1x1, .f32⟩
  | 27 => ⟨S4, .f32⟩
  | 28 => ⟨S4x1x1, .f32⟩
  | 29 => ⟨S4, .f32⟩
  | 30 => ⟨S4x1x1, .f32⟩
  | 31 => ⟨S4, .f32⟩
  | 32 => ⟨S4x1x1, .f32⟩
  | 33 => ⟨S4, .f32⟩
  | 34 => ⟨S4x1x1, .f32⟩
  | 35 => ⟨S4, .f32⟩
  | 36 => ⟨S4x1x1, .f32⟩
  | 37 => ⟨S4, .f32⟩
  | 38 => ⟨S4x1x1, .f32⟩
  | 39 => ⟨S4, .f32⟩
  | 40 => ⟨S4x1x1, .f32⟩
  | 41 => ⟨S4, .f32⟩
  | 42 => ⟨S4x1x1, .f32⟩
  | 43 => ⟨S4, .f32⟩
  | 44 => ⟨S4, .f32⟩
  | 45 => ⟨S4, .f32⟩
  | 46 => ⟨S4, .f32⟩
  | 47 => ⟨S4, .f32⟩
  | 48 => ⟨S4, .f32⟩
  | 49 => ⟨S4, .f32⟩
  | 50 => ⟨S4, .f32⟩
  | 51 => ⟨S4, .f32⟩
  | 52 => ⟨S4, .f32⟩
  | 53 => ⟨S4, .f32⟩
  | 54 => ⟨S4, .f32⟩
  | 55 => ⟨S4, .f32⟩
  | 56 => ⟨S4, .f32⟩
  | 57 => ⟨S4, .f32⟩
  | 58 => ⟨S_, .f32⟩
  | 59 => ⟨S4, .f32⟩
  | 60 => ⟨S4, .i1⟩
  | 61 => ⟨S_, .f32⟩
  | 62 => ⟨S_, .f32⟩
  | 63 => ⟨S4, .f32⟩
  | 64 => ⟨S4, .f32⟩
  | 65 => ⟨S4, .f32⟩
  | 66 => ⟨S4x3x3, .f32⟩
  | 67 => ⟨S4x3x3, .i32⟩
  | 68 => ⟨S_, .i32⟩
  | 69 => ⟨S4x3x3, .i32⟩
  | 70 => ⟨S4x3x3, .i1⟩
  | 71 => ⟨S4x3x3, .f32⟩
  | 72 => ⟨S4x3x3, .f32⟩
  | 73 => ⟨S4x3x3, .f32⟩
  | 74 => ⟨S4x3x3, .f32⟩
  | 75 => ⟨S4x3, .f32⟩
  | 76 => ⟨S4x3, .f32⟩
  | 77 => ⟨S4x3, .f32⟩
  | 78 => ⟨S4x3, .f32⟩
  | 79 => ⟨S4x4096x3, .f32⟩
  | 80 => ⟨S4x1x3, .f32⟩
  | 81 => ⟨S4x4096x3, .f32⟩
  | 82 => ⟨S4x4096x3, .f32⟩
  | 83 => ⟨S_, .i32⟩
  | 84 => ⟨S_, .i32⟩
  | 85 => ⟨S_, .f32⟩
  | 86 => ⟨S4x3, .f32⟩
  | 87 => ⟨S4x1x3, .f32⟩
  | 88 => ⟨S_, .f32⟩
  | 89 => ⟨S4x1x3, .f32⟩
  | 90 => ⟨S4x1x3, .f32⟩
  | 91 => ⟨S_, .f32⟩
  | 92 => ⟨S4x3, .f32⟩
  | 93 => ⟨S4x1x3, .f32⟩
  | 94 => ⟨S_, .f32⟩
  | 95 => ⟨S4x1x3, .f32⟩
  | 96 => ⟨S4x1x3, .f32⟩
  | 97 => ⟨S4x4096x3, .f32⟩
  | 98 => ⟨S4x4096x3, .f32⟩
  | 99 => ⟨S4x4096x3, .f32⟩
  | 100 => ⟨S4x4096x3, .f32⟩
  | 101 => ⟨S4x3x3, .f32⟩
  | 102 => ⟨S_, .f32⟩
  | 103 => ⟨S4, .f32⟩
  | 104 => ⟨S_, .f32⟩
  | 105 => ⟨S4, .f32⟩
  | 106 => ⟨S_, .f32⟩
  | 107 => ⟨S4, .f32⟩
  | 108 => ⟨S_, .f32⟩
  | 109 => ⟨S4, .f32⟩
  | 110 => ⟨S4x3x3, .f32⟩
  | 111 => ⟨S4x3x3, .f32⟩
  | 112 => ⟨S4x3x3, .i32⟩
  | 113 => ⟨S4x3x3, .i32⟩
  | 114 => ⟨S_, .i32⟩
  | 115 => ⟨S4x3x3, .i32⟩
  | 116 => ⟨S_, .i32⟩
  | 117 => ⟨S4x3x3, .i32⟩
  | 118 => ⟨S_, .i32⟩
  | 119 => ⟨S4x3x3, .i32⟩
  | 120 => ⟨S4x3x3, .i1⟩
  | 121 => ⟨S4x3x3, .i1⟩
  | 122 => ⟨S4x3x3, .i1⟩
  | 123 => ⟨S4x3x3, .i1⟩
  | 124 => ⟨S4x3x3, .i1⟩
  | 125 => ⟨S4x3x3, .i1⟩
  | 126 => ⟨S4x3x3, .i1⟩
  | 127 => ⟨S4x3x3, .i1⟩
  | _ => ⟨S4x4096x3, .f32⟩

abbrev hbmTy0_7 (i : Nat) : BufTy := match i % 128 with
  | 0 => ⟨S4x3x3, .i1⟩
  | 1 => ⟨S4x3x3, .i1⟩
  | 2 => ⟨S4x3x3, .i1⟩
  | 3 => ⟨S4x3x3, .i1⟩
  | 4 => ⟨S4x3x3, .i1⟩
  | 5 => ⟨S4x3x3, .i1⟩
  | 6 => ⟨S4x3x3, .i1⟩
  | 7 => ⟨S4x3x3, .i1⟩
  | 8 => ⟨S4x3x3, .i1⟩
  | 9 => ⟨S4x3x3, .i1⟩
  | 10 => ⟨S4x3x3, .i1⟩
  | 11 => ⟨S4x3x3, .i1⟩
  | 12 => ⟨S4x3x3, .i1⟩
  | 13 => ⟨S4x3x3, .i1⟩
  | 14 => ⟨S4x3x3, .i1⟩
  | 15 => ⟨S4x3x3, .i1⟩
  | 16 => ⟨S4x3x3, .i1⟩
  | 17 => ⟨S4x3x3, .i1⟩
  | 18 => ⟨S4x3x3, .i1⟩
  | 19 => ⟨S4x3x3, .i1⟩
  | 20 => ⟨S4x3x3, .i1⟩
  | 21 => ⟨S4x3x3, .i1⟩
  | 22 => ⟨S4x3x3, .i1⟩
  | 23 => ⟨S4x3x3, .i1⟩
  | 24 => ⟨S4x3x3, .i1⟩
  | 25 => ⟨S4x3x3, .i1⟩
  | 26 => ⟨S4x3x3, .f32⟩
  | 27 => ⟨S4x3x3, .f32⟩
  | 28 => ⟨S4x1x1, .f32⟩
  | 29 => ⟨S4, .f32⟩
  | 30 => ⟨S4, .f32⟩
  | 31 => ⟨S4, .i1⟩
  | 32 => ⟨S4x1x1, .f32⟩
  | 33 => ⟨S4, .f32⟩
  | 34 => ⟨S4x1x1, .f32⟩
  | 35 => ⟨S4, .f32⟩
  | 36 => ⟨S4, .f32⟩
  | 37 => ⟨S4, .f32⟩
  | 38 => ⟨S4, .f32⟩
  | 39 => ⟨S4, .f32⟩
  | 40 => ⟨S4, .f32⟩
  | 41 => ⟨S4, .f32⟩
  | 42 => ⟨S4, .f32⟩
  | 43 => ⟨S4, .i1⟩
  | 44 => ⟨S4, .f32⟩
  | 45 => ⟨S4, .f32⟩
  | 46 => ⟨S4, .f32⟩
  | 47 => ⟨S4, .f32⟩
  | 48 => ⟨S4, .f32⟩
  | 49 => ⟨S4, .f32⟩
  | 50 => ⟨S4, .f32⟩
  | 51 => ⟨S4, .f32⟩
  | 52 => ⟨S4, .f32⟩
  | 53 => ⟨S4x3x3, .f32⟩
  | 54 => ⟨S4x3x3, .f32⟩
  | 55 => ⟨S4x3x3, .f32⟩
  | 56 => ⟨S4x3x3, .f32⟩
  | 57 => ⟨S4x3x3, .f32⟩
  | 58 => ⟨S4x3x3, .f32⟩
  | 59 => ⟨S4x3x3, .f32⟩
  | 60 => ⟨S4x3x3, .f32⟩
  | 61 => ⟨S4x3x3, .f32⟩
  | 62 => ⟨S4x3x3, .f32⟩
  | 63 => ⟨S4x1x1, .f32⟩
  | 64 => ⟨S4, .f32⟩
  | 65 => ⟨S4, .f32⟩
  | 66 => ⟨S4, .i1⟩
  | 67 => ⟨S4x1x1, .f32⟩
  | 68 => ⟨S4, .f32⟩
  | 69 => ⟨S4x1x1, .f32⟩
  | 70 => ⟨S4, .f32⟩
  | 71 => ⟨S4, .f32⟩
  | 72 => ⟨S4, .f32⟩
  | 73 => ⟨S4, .f32⟩
  | 74 => ⟨S4, .f32⟩
  | 75 => ⟨S4, .f32⟩
  | 76 => ⟨S4, .f32⟩
  | 77 => ⟨S4, .f32⟩
  | 78 => ⟨S4, .i1⟩
  | 79 => ⟨S4, .f32⟩
  | 80 => ⟨S4, .f32⟩
  | 81 => ⟨S4, .f32⟩
  | 82 => ⟨S4, .f32⟩
  | 83 => ⟨S4, .f32⟩
  | 84 => ⟨S4, .f32⟩
  | 85 => ⟨S4, .f32⟩
  | 86 => ⟨S4, .f32⟩
  | 87 => ⟨S4, .f32⟩
  | 88 => ⟨S4x3x3, .f32⟩
  | 89 => ⟨S4x3x3, .f32⟩
  | 90 => ⟨S4x3x3, .f32⟩
  | 91 => ⟨S4x3x3, .f32⟩
  | 92 => ⟨S4x3x3, .f32⟩
  | 93 => ⟨S4x3x3, .f32⟩
  | 94 => ⟨S4x3x3, .f32⟩
  | 95 => ⟨S4x3x3, .f32⟩
  | 96 => ⟨S4x3x3, .f32⟩
  | 97 => ⟨S4x3x3, .f32⟩
  | 98 => ⟨S4x1x1, .f32⟩
  | 99 => ⟨S4, .f32⟩
  | 100 => ⟨S4, .f32⟩
  | 101 => ⟨S4, .i1⟩
  | 102 => ⟨S4x1x1, .f32⟩
  | 103 => ⟨S4, .f32⟩
  | 104 => ⟨S4x1x1, .f32⟩
  | 105 => ⟨S4, .f32⟩
  | 106 => ⟨S4, .f32⟩
  | 107 => ⟨S4, .f32⟩
  | 108 => ⟨S4, .f32⟩
  | 109 => ⟨S4, .f32⟩
  | 110 => ⟨S4, .f32⟩
  | 111 => ⟨S4, .f32⟩
  | 112 => ⟨S4, .f32⟩
  | 113 => ⟨S4, .i1⟩
  | 114 => ⟨S4, .f32⟩
  | 115 => ⟨S4, .f32⟩
  | 116 => ⟨S4, .f32⟩
  | 117 => ⟨S4, .f32⟩
  | 118 => ⟨S4, .f32⟩
  | 119 => ⟨S4, .f32⟩
  | 120 => ⟨S4, .f32⟩
  | 121 => ⟨S4, .f32⟩
  | 122 => ⟨S4, .f32⟩
  | 123 => ⟨S4x3x3, .f32⟩
  | 124 => ⟨S4x3x3, .f32⟩
  | 125 => ⟨S4x3x3, .f32⟩
  | 126 => ⟨S4x3x3, .f32⟩
  | 127 => ⟨S4x3x3, .f32⟩
  | _ => ⟨S4x4096x3, .f32⟩

abbrev hbmTy0_8 (i : Nat) : BufTy := match i % 128 with
  | 0 => ⟨S4x3x3, .f32⟩
  | 1 => ⟨S4x3x3, .f32⟩
  | 2 => ⟨S4x3x3, .f32⟩
  | 3 => ⟨S4x3x3, .f32⟩
  | 4 => ⟨S4x3x3, .f32⟩
  | 5 => ⟨S4x1x1, .f32⟩
  | 6 => ⟨S4, .f32⟩
  | 7 => ⟨S4, .f32⟩
  | 8 => ⟨S4, .i1⟩
  | 9 => ⟨S4x1x1, .f32⟩
  | 10 => ⟨S4, .f32⟩
  | 11 => ⟨S4x1x1, .f32⟩
  | 12 => ⟨S4, .f32⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .i1⟩
  | 21 => ⟨S4, .f32⟩
  | 22 => ⟨S4, .f32⟩
  | 23 => ⟨S4, .f32⟩
  | 24 => ⟨S4, .f32⟩
  | 25 => ⟨S4, .f32⟩
  | 26 => ⟨S4, .f32⟩
  | 27 => ⟨S4, .f32⟩
  | 28 => ⟨S4, .f32⟩
  | 29 => ⟨S4, .f32⟩
  | 30 => ⟨S4x3x3, .f32⟩
  | 31 => ⟨S4x3x3, .f32⟩
  | 32 => ⟨S4x3x3, .f32⟩
  | 33 => ⟨S4x3x3, .f32⟩
  | 34 => ⟨S4x3x3, .f32⟩
  | 35 => ⟨S4x3x3, .f32⟩
  | 36 => ⟨S4x3x3, .f32⟩
  | 37 => ⟨S4x3x3, .f32⟩
  | 38 => ⟨S4x3x3, .f32⟩
  | 39 => ⟨S4x3x3, .f32⟩
  | 40 => ⟨S4x1x1, .f32⟩
  | 41 => ⟨S4, .f32⟩
  | 42 => ⟨S4, .f32⟩
  | 43 => ⟨S4, .i1⟩
  | 44 => ⟨S4x1x1, .f32⟩
  | 45 => ⟨S4, .f32⟩
  | 46 => ⟨S4x1x1, .f32⟩
  | 47 => ⟨S4, .f32⟩
  | 48 => ⟨S4, .f32⟩
  | 49 => ⟨S4, .f32⟩
  | 50 => ⟨S4, .f32⟩
  | 51 => ⟨S4, .f32⟩
  | 52 => ⟨S4, .f32⟩
  | 53 => ⟨S4, .f32⟩
  | 54 => ⟨S4, .f32⟩
  | 55 => ⟨S4, .i1⟩
  | 56 => ⟨S4, .f32⟩
  | 57 => ⟨S4, .f32⟩
  | 58 => ⟨S4, .f32⟩
  | 59 => ⟨S4, .f32⟩
  | 60 => ⟨S4, .f32⟩
  | 61 => ⟨S4, .f32⟩
  | 62 => ⟨S4, .f32⟩
  | 63 => ⟨S4, .f32⟩
  | 64 => ⟨S4, .f32⟩
  | 65 => ⟨S4x3x3, .f32⟩
  | 66 => ⟨S4x3x3, .f32⟩
  | 67 => ⟨S4x3x3, .f32⟩
  | 68 => ⟨S4x3x3, .f32⟩
  | 69 => ⟨S4x3x3, .f32⟩
  | 70 => ⟨S4x3x3, .f32⟩
  | 71 => ⟨S4x3x3, .f32⟩
  | 72 => ⟨S4x3x3, .f32⟩
  | 73 => ⟨S4x3x3, .f32⟩
  | 74 => ⟨S4x3x3, .f32⟩
  | 75 => ⟨S4x1x1, .f32⟩
  | 76 => ⟨S4, .f32⟩
  | 77 => ⟨S4, .f32⟩
  | 78 => ⟨S4, .i1⟩
  | 79 => ⟨S4x1x1, .f32⟩
  | 80 => ⟨S4, .f32⟩
  | 81 => ⟨S4x1x1, .f32⟩
  | 82 => ⟨S4, .f32⟩
  | 83 => ⟨S4, .f32⟩
  | 84 => ⟨S4, .f32⟩
  | 85 => ⟨S4, .f32⟩
  | 86 => ⟨S4, .f32⟩
  | 87 => ⟨S4, .f32⟩
  | 88 => ⟨S4, .f32⟩
  | 89 => ⟨S4, .f32⟩
  | 90 => ⟨S4, .i1⟩
  | 91 => ⟨S4, .f32⟩
  | 92 => ⟨S4, .f32⟩
  | 93 => ⟨S4, .f32⟩
  | 94 => ⟨S4, .f32⟩
  | 95 => ⟨S4, .f32⟩
  | 96 => ⟨S4, .f32⟩
  | 97 => ⟨S4, .f32⟩
  | 98 => ⟨S4, .f32⟩
  | 99 => ⟨S4, .f32⟩
  | 100 => ⟨S4x3x3, .f32⟩
  | 101 => ⟨S4x3x3, .f32⟩
  | 102 => ⟨S4x3x3, .f32⟩
  | 103 => ⟨S4x3x3, .f32⟩
  | 104 => ⟨S4x3x3, .f32⟩
  | 105 => ⟨S4x3x3, .f32⟩
  | 106 => ⟨S4x3x3, .f32⟩
  | 107 => ⟨S4x3x3, .f32⟩
  | 108 => ⟨S4x3x3, .f32⟩
  | 109 => ⟨S4x3x3, .f32⟩
  | 110 => ⟨S4x1x1, .f32⟩
  | 111 => ⟨S4, .f32⟩
  | 112 => ⟨S4, .f32⟩
  | 113 => ⟨S4, .i1⟩
  | 114 => ⟨S4x1x1, .f32⟩
  | 115 => ⟨S4, .f32⟩
  | 116 => ⟨S4x1x1, .f32⟩
  | 117 => ⟨S4, .f32⟩
  | 118 => ⟨S4, .f32⟩
  | 119 => ⟨S4, .f32⟩
  | 120 => ⟨S4, .f32⟩
  | 121 => ⟨S4, .f32⟩
  | 122 => ⟨S4, .f32⟩
  | 123 => ⟨S4, .f32⟩
  | 124 => ⟨S4, .f32⟩
  | 125 => ⟨S4, .i1⟩
  | 126 => ⟨S4, .f32⟩
  | 127 => ⟨S4, .f32⟩
  | _ => ⟨S4x4096x3, .f32⟩

abbrev hbmTy0_9 (i : Nat) : BufTy := match i % 128 with
  | 0 => ⟨S4, .f32⟩
  | 1 => ⟨S4, .f32⟩
  | 2 => ⟨S4, .f32⟩
  | 3 => ⟨S4, .f32⟩
  | 4 => ⟨S4, .f32⟩
  | 5 => ⟨S4, .f32⟩
  | 6 => ⟨S4, .f32⟩
  | 7 => ⟨S4x3x3, .f32⟩
  | 8 => ⟨S4x3x3, .f32⟩
  | 9 => ⟨S4x3x3, .f32⟩
  | 10 => ⟨S4x3x3, .f32⟩
  | 11 => ⟨S4x3x3, .f32⟩
  | 12 => ⟨S4x3x3, .f32⟩
  | 13 => ⟨S4x3x3, .f32⟩
  | 14 => ⟨S4x3x3, .f32⟩
  | 15 => ⟨S4x3x3, .f32⟩
  | 16 => ⟨S4x3x3, .f32⟩
  | 17 => ⟨S4x1x1, .f32⟩
  | 18 => ⟨S4, .f32⟩
  | 19 => ⟨S4, .f32⟩
  | 20 => ⟨S4, .i1⟩
  | 21 => ⟨S4x1x1, .f32⟩
  | 22 => ⟨S4, .f32⟩
  | 23 => ⟨S4x1x1, .f32⟩
  | 24 => ⟨S4, .f32⟩
  | 25 => ⟨S4, .f32⟩
  | 26 => ⟨S4, .f32⟩
  | 27 => ⟨S4, .f32⟩
  | 28 => ⟨S4, .f32⟩
  | 29 => ⟨S4, .f32⟩
  | 30 => ⟨S4, .f32⟩
  | 31 => ⟨S4, .f32⟩
  | 32 => ⟨S4, .i1⟩
  | 33 => ⟨S4, .f32⟩
  | 34 => ⟨S4, .f32⟩
  | 35 => ⟨S4, .f32⟩
  | 36 => ⟨S4, .f32⟩
  | 37 => ⟨S4, .f32⟩
  | 38 => ⟨S4, .f32⟩
  | 39 => ⟨S4, .f32⟩
  | 40 => ⟨S4, .f32⟩
  | 41 => ⟨S4, .f32⟩
  | 42 => ⟨S4x3x3, .f32⟩
  | 43 => ⟨S4x3x3, .f32⟩
  | 44 => ⟨S4x3x3, .f32⟩
  | 45 => ⟨S4x3x3, .f32⟩
  | 46 => ⟨S4x3x3, .f32⟩
  | 47 => ⟨S4x3x3, .f32⟩
  | 48 => ⟨S4x3x3, .f32⟩
  | 49 => ⟨S4x3x3, .f32⟩
  | 50 => ⟨S4x3x3, .f32⟩
  | 51 => ⟨S4x3x3, .f32⟩
  | 52 => ⟨S4x1x1, .f32⟩
  | 53 => ⟨S4, .f32⟩
  | 54 => ⟨S4, .f32⟩
  | 55 => ⟨S4, .i1⟩
  | 56 => ⟨S4x1x1, .f32⟩
  | 57 => ⟨S4, .f32⟩
  | 58 => ⟨S4x1x1, .f32⟩
  | 59 => ⟨S4, .f32⟩
  | 60 => ⟨S4, .f32⟩
  | 61 => ⟨S4, .f32⟩
  | 62 => ⟨S4, .f32⟩
  | 63 => ⟨S4, .f32⟩
  | 64 => ⟨S4, .f32⟩
  | 65 => ⟨S4, .f32⟩
  | 66 => ⟨S4, .f32⟩
  | 67 => ⟨S4, .i1⟩
  | 68 => ⟨S4, .f32⟩
  | 69 => ⟨S4, .f32⟩
  | 70 => ⟨S4, .f32⟩
  | 71 => ⟨S4, .f32⟩
  | 72 => ⟨S4, .f32⟩
  | 73 => ⟨S4, .f32⟩
  | 74 => ⟨S4, .f32⟩
  | 75 => ⟨S4, .f32⟩
  | 76 => ⟨S4, .f32⟩
  | 77 => ⟨S4x3x3, .f32⟩
  | 78 => ⟨S4x3x3, .f32⟩
  | 79 => ⟨S4x3x3, .f32⟩
  | 80 => ⟨S4x3x3, .f32⟩
  | 81 => ⟨S4x3x3, .f32⟩
  | 82 => ⟨S4x3x3, .f32⟩
  | 83 => ⟨S4x3x3, .f32⟩
  | 84 => ⟨S4x3x3, .f32⟩
  | 85 => ⟨S4x3x3, .f32⟩
  | 86 => ⟨S4x3x3, .f32⟩
  | 87 => ⟨S4x1x1, .f32⟩
  | 88 => ⟨S4, .f32⟩
  | 89 => ⟨S4, .f32⟩
  | 90 => ⟨S4, .i1⟩
  | 91 => ⟨S4x1x1, .f32⟩
  | 92 => ⟨S4, .f32⟩
  | 93 => ⟨S4x1x1, .f32⟩
  | 94 => ⟨S4, .f32⟩
  | 95 => ⟨S4, .f32⟩
  | 96 => ⟨S4, .f32⟩
  | 97 => ⟨S4, .f32⟩
  | 98 => ⟨S4, .f32⟩
  | 99 => ⟨S4, .f32⟩
  | 100 => ⟨S4, .f32⟩
  | 101 => ⟨S4, .f32⟩
  | 102 => ⟨S4, .i1⟩
  | 103 => ⟨S4, .f32⟩
  | 104 => ⟨S4, .f32⟩
  | 105 => ⟨S4, .f32⟩
  | 106 => ⟨S4, .f32⟩
  | 107 => ⟨S4, .f32⟩
  | 108 => ⟨S4, .f32⟩
  | 109 => ⟨S4, .f32⟩
  | 110 => ⟨S4, .f32⟩
  | 111 => ⟨S4, .f32⟩
  | 112 => ⟨S4x3x3, .f32⟩
  | 113 => ⟨S4x3x3, .f32⟩
  | 114 => ⟨S4x3x3, .f32⟩
  | 115 => ⟨S4x3x3, .f32⟩
  | 116 => ⟨S4x3x3, .f32⟩
  | 117 => ⟨S4x3x3, .f32⟩
  | 118 => ⟨S4x3x3, .f32⟩
  | 119 => ⟨S4x3x3, .f32⟩
  | 120 => ⟨S4x3x3, .f32⟩
  | 121 => ⟨S4x3x3, .f32⟩
  | 122 => ⟨S4x1x1, .f32⟩
  | 123 => ⟨S4, .f32⟩
  | 124 => ⟨S4, .f32⟩
  | 125 => ⟨S4, .i1⟩
  | 126 => ⟨S4x1x1, .f32⟩
  | 127 => ⟨S4, .f32⟩
  | _ => ⟨S4x4096x3, .f32⟩

abbrev hbmTy0_10 (i : Nat) : BufTy := match i % 128 with
  | 0 => ⟨S4x1x1, .f32⟩
  | 1 => ⟨S4, .f32⟩
  | 2 => ⟨S4, .f32⟩
  | 3 => ⟨S4, .f32⟩
  | 4 => ⟨S4, .f32⟩
  | 5 => ⟨S4, .f32⟩
  | 6 => ⟨S4, .f32⟩
  | 7 => ⟨S4, .f32⟩
  | 8 => ⟨S4, .f32⟩
  | 9 => ⟨S4, .i1⟩
  | 10 => ⟨S4, .f32⟩
  | 11 => ⟨S4, .f32⟩
  | 12 => ⟨S4, .f32⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4x3x3, .f32⟩
  | 20 => ⟨S4x3x3, .f32⟩
  | 21 => ⟨S4x3x3, .f32⟩
  | 22 => ⟨S4x3x3, .f32⟩
  | 23 => ⟨S4x3x3, .f32⟩
  | 24 => ⟨S4x3x3, .f32⟩
  | 25 => ⟨S4x3x3, .f32⟩
  | 26 => ⟨S4x3x3, .f32⟩
  | 27 => ⟨S4x3x3, .f32⟩
  | 28 => ⟨S4x3x3, .f32⟩
  | 29 => ⟨S4x1x1, .f32⟩
  | 30 => ⟨S4, .f32⟩
  | 31 => ⟨S4, .f32⟩
  | 32 => ⟨S4, .i1⟩
  | 33 => ⟨S4x1x1, .f32⟩
  | 34 => ⟨S4, .f32⟩
  | 35 => ⟨S4x1x1, .f32⟩
  | 36 => ⟨S4, .f32⟩
  | 37 => ⟨S4, .f32⟩
  | 38 => ⟨S4, .f32⟩
  | 39 => ⟨S4, .f32⟩
  | 40 => ⟨S4, .f32⟩
  | 41 => ⟨S4, .f32⟩
  | 42 => ⟨S4, .f32⟩
  | 43 => ⟨S4, .f32⟩
  | 44 => ⟨S4, .i1⟩
  | 45 => ⟨S4, .f32⟩
  | 46 => ⟨S4, .f32⟩
  | 47 => ⟨S4, .f32⟩
  | 48 => ⟨S4, .f32⟩
  | 49 => ⟨S4, .f32⟩
  | 50 => ⟨S4, .f32⟩
  | 51 => ⟨S4, .f32⟩
  | 52 => ⟨S4, .f32⟩
  | 53 => ⟨S4, .f32⟩
  | 54 => ⟨S4x3x3, .f32⟩
  | 55 => ⟨S4x3x3, .f32⟩
  | 56 => ⟨S4x3x3, .f32⟩
  | 57 => ⟨S4x3x3, .f32⟩
  | 58 => ⟨S4x3x3, .f32⟩
  | 59 => ⟨S4x3x3, .f32⟩
  | 60 => ⟨S4x3x3, .f32⟩
  | 61 => ⟨S4x3x3, .f32⟩
  | 62 => ⟨S4x3x3, .f32⟩
  | 63 => ⟨S4x3x3, .f32⟩
  | 64 => ⟨S4x1x1, .f32⟩
  | 65 => ⟨S4, .f32⟩
  | 66 => ⟨S4, .f32⟩
  | 67 => ⟨S4, .i1⟩
  | 68 => ⟨S4x1x1, .f32⟩
  | 69 => ⟨S4, .f32⟩
  | 70 => ⟨S4x1x1, .f32⟩
  | 71 => ⟨S4, .f32⟩
  | 72 => ⟨S4, .f32⟩
  | 73 => ⟨S4, .f32⟩
  | 74 => ⟨S4, .f32⟩
  | 75 => ⟨S4, .f32⟩
  | 76 => ⟨S4, .f32⟩
  | 77 => ⟨S4, .f32⟩
  | 78 => ⟨S4, .f32⟩
  | 79 => ⟨S4, .i1⟩
  | 80 => ⟨S4, .f32⟩
  | 81 => ⟨S4, .f32⟩
  | 82 => ⟨S4, .f32⟩
  | 83 => ⟨S4, .f32⟩
  | 84 => ⟨S4, .f32⟩
  | 85 => ⟨S4, .f32⟩
  | 86 => ⟨S4, .f32⟩
  | 87 => ⟨S4, .f32⟩
  | 88 => ⟨S4, .f32⟩
  | 89 => ⟨S4x3x3, .f32⟩
  | 90 => ⟨S4x3x3, .f32⟩
  | 91 => ⟨S4x3x3, .f32⟩
  | 92 => ⟨S4x3x3, .f32⟩
  | 93 => ⟨S4x3x3, .f32⟩
  | 94 => ⟨S4x3x3, .f32⟩
  | 95 => ⟨S4x3x3, .f32⟩
  | 96 => ⟨S4x3x3, .f32⟩
  | 97 => ⟨S4x3x3, .f32⟩
  | 98 => ⟨S4x3x3, .f32⟩
  | 99 => ⟨S4x1x1, .f32⟩
  | 100 => ⟨S4, .f32⟩
  | 101 => ⟨S4, .f32⟩
  | 102 => ⟨S4, .i1⟩
  | 103 => ⟨S4x1x1, .f32⟩
  | 104 => ⟨S4, .f32⟩
  | 105 => ⟨S4x1x1, .f32⟩
  | 106 => ⟨S4, .f32⟩
  | 107 => ⟨S4, .f32⟩
  | 108 => ⟨S4, .f32⟩
  | 109 => ⟨S4, .f32⟩
  | 110 => ⟨S4, .f32⟩
  | 111 => ⟨S4, .f32⟩
  | 112 => ⟨S4, .f32⟩
  | 113 => ⟨S4, .f32⟩
  | 114 => ⟨S4, .i1⟩
  | 115 => ⟨S4, .f32⟩
  | 116 => ⟨S4, .f32⟩
  | 117 => ⟨S4, .f32⟩
  | 118 => ⟨S4, .f32⟩
  | 119 => ⟨S4, .f32⟩
  | 120 => ⟨S4, .f32⟩
  | 121 => ⟨S4, .f32⟩
  | 122 => ⟨S4, .f32⟩
  | 123 => ⟨S4, .f32⟩
  | 124 => ⟨S4x3x3, .f32⟩
  | 125 => ⟨S4x3x3, .f32⟩
  | 126 => ⟨S4x3x3, .f32⟩
  | 127 => ⟨S4x3x3, .f32⟩
  | _ => ⟨S4x4096x3, .f32⟩

abbrev hbmTy0_11 (i : Nat) : BufTy := match i % 128 with
  | 0 => ⟨S4x3x3, .f32⟩
  | 1 => ⟨S4x3x3, .f32⟩
  | 2 => ⟨S4x3x3, .f32⟩
  | 3 => ⟨S4x3x3, .f32⟩
  | 4 => ⟨S4x3x3, .f32⟩
  | 5 => ⟨S4x3x3, .f32⟩
  | 6 => ⟨S4x1x1, .f32⟩
  | 7 => ⟨S4, .f32⟩
  | 8 => ⟨S4, .f32⟩
  | 9 => ⟨S4, .i1⟩
  | 10 => ⟨S4x1x1, .f32⟩
  | 11 => ⟨S4, .f32⟩
  | 12 => ⟨S4x1x1, .f32⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S4, .i1⟩
  | 22 => ⟨S4, .f32⟩
  | 23 => ⟨S4, .f32⟩
  | 24 => ⟨S4, .f32⟩
  | 25 => ⟨S4, .f32⟩
  | 26 => ⟨S4, .f32⟩
  | 27 => ⟨S4, .f32⟩
  | 28 => ⟨S4, .f32⟩
  | 29 => ⟨S4, .f32⟩
  | 30 => ⟨S4, .f32⟩
  | 31 => ⟨S4x3x3, .f32⟩
  | 32 => ⟨S4x3x3, .f32⟩
  | 33 => ⟨S4x3x3, .f32⟩
  | 34 => ⟨S4x3x3, .f32⟩
  | 35 => ⟨S4x3x3, .f32⟩
  | 36 => ⟨S4x3x3, .f32⟩
  | 37 => ⟨S4x3x3, .f32⟩
  | 38 => ⟨S4x3x3, .f32⟩
  | 39 => ⟨S4x3x3, .f32⟩
  | 40 => ⟨S4x3x3, .f32⟩
  | 41 => ⟨S4x1x1, .f32⟩
  | 42 => ⟨S4, .f32⟩
  | 43 => ⟨S4, .f32⟩
  | 44 => ⟨S4, .i1⟩
  | 45 => ⟨S4x1x1, .f32⟩
  | 46 => ⟨S4, .f32⟩
  | 47 => ⟨S4x1x1, .f32⟩
  | 48 => ⟨S4, .f32⟩
  | 49 => ⟨S4, .f32⟩
  | 50 => ⟨S4, .f32⟩
  | 51 => ⟨S4, .f32⟩
  | 52 => ⟨S4, .f32⟩
  | 53 => ⟨S4, .f32⟩
  | 54 => ⟨S4, .f32⟩
  | 55 => ⟨S4, .f32⟩
  | 56 => ⟨S4, .i1⟩
  | 57 => ⟨S4, .f32⟩
  | 58 => ⟨S4, .f32⟩
  | 59 => ⟨S4, .f32⟩
  | 60 => ⟨S4, .f32⟩
  | 61 => ⟨S4, .f32⟩
  | 62 => ⟨S4, .f32⟩
  | 63 => ⟨S4, .f32⟩
  | 64 => ⟨S4, .f32⟩
  | 65 => ⟨S4, .f32⟩
  | 66 => ⟨S4x3x3, .f32⟩
  | 67 => ⟨S4x3x3, .f32⟩
  | 68 => ⟨S4x3x3, .f32⟩
  | 69 => ⟨S4x3x3, .f32⟩
  | 70 => ⟨S4x3x3, .f32⟩
  | 71 => ⟨S4x3x3, .f32⟩
  | 72 => ⟨S4x3x3, .f32⟩
  | 73 => ⟨S4x3x3, .f32⟩
  | 74 => ⟨S4x3x3, .f32⟩
  | 75 => ⟨S4x3x3, .f32⟩
  | 76 => ⟨S4x1x1, .f32⟩
  | 77 => ⟨S4, .f32⟩
  | 78 => ⟨S4, .f32⟩
  | 79 => ⟨S4, .i1⟩
  | 80 => ⟨S4x1x1, .f32⟩
  | 81 => ⟨S4, .f32⟩
  | 82 => ⟨S4x1x1, .f32⟩
  | 83 => ⟨S4, .f32⟩
  | 84 => ⟨S4, .f32⟩
  | 85 => ⟨S4, .f32⟩
  | 86 => ⟨S4, .f32⟩
  | 87 => ⟨S4, .f32⟩
  | 88 => ⟨S4, .f32⟩
  | 89 => ⟨S4, .f32⟩
  | 90 => ⟨S4, .f32⟩
  | 91 => ⟨S4, .i1⟩
  | 92 => ⟨S4, .f32⟩
  | 93 => ⟨S4, .f32⟩
  | 94 => ⟨S4, .f32⟩
  | 95 => ⟨S4, .f32⟩
  | 96 => ⟨S4, .f32⟩
  | 97 => ⟨S4, .f32⟩
  | 98 => ⟨S4, .f32⟩
  | 99 => ⟨S4, .f32⟩
  | 100 => ⟨S4, .f32⟩
  | 101 => ⟨S4x3x3, .f32⟩
  | 102 => ⟨S4x3x3, .f32⟩
  | 103 => ⟨S4x3x3, .f32⟩
  | 104 => ⟨S4x3x3, .f32⟩
  | 105 => ⟨S4x3x3, .f32⟩
  | 106 => ⟨S4x3x3, .f32⟩
  | 107 => ⟨S4x3x3, .f32⟩
  | 108 => ⟨S4x3x3, .f32⟩
  | 109 => ⟨S4x3x3, .f32⟩
  | 110 => ⟨S4x3x3, .f32⟩
  | 111 => ⟨S4x1x1, .f32⟩
  | 112 => ⟨S4, .f32⟩
  | 113 => ⟨S4, .f32⟩
  | 114 => ⟨S4, .i1⟩
  | 115 => ⟨S4x1x1, .f32⟩
  | 116 => ⟨S4, .f32⟩
  | 117 => ⟨S4x1x1, .f32⟩
  | 118 => ⟨S4, .f32⟩
  | 119 => ⟨S4, .f32⟩
  | 120 => ⟨S4, .f32⟩
  | 121 => ⟨S4, .f32⟩
  | 122 => ⟨S4, .f32⟩
  | 123 => ⟨S4, .f32⟩
  | 124 => ⟨S4, .f32⟩
  | 125 => ⟨S4, .f32⟩
  | 126 => ⟨S4, .i1⟩
  | 127 => ⟨S4, .f32⟩
  | _ => ⟨S4x4096x3, .f32⟩

abbrev hbmTy0_12 (i : Nat) : BufTy := match i % 128 with
  | 0 => ⟨S4, .f32⟩
  | 1 => ⟨S4, .f32⟩
  | 2 => ⟨S4, .f32⟩
  | 3 => ⟨S4, .f32⟩
  | 4 => ⟨S4, .f32⟩
  | 5 => ⟨S4, .f32⟩
  | 6 => ⟨S4, .f32⟩
  | 7 => ⟨S4, .f32⟩
  | 8 => ⟨S4x3x3, .f32⟩
  | 9 => ⟨S4x3x3, .f32⟩
  | 10 => ⟨S4x3x3, .f32⟩
  | 11 => ⟨S4x3x3, .f32⟩
  | 12 => ⟨S4x3x3, .f32⟩
  | 13 => ⟨S4x3x3, .f32⟩
  | 14 => ⟨S4x3x3, .f32⟩
  | 15 => ⟨S4x3x3, .f32⟩
  | 16 => ⟨S4x3x3, .f32⟩
  | 17 => ⟨S4x3x3, .f32⟩
  | 18 => ⟨S4x3x3, .f32⟩
  | 19 => ⟨S4x3x3, .f32⟩
  | 20 => ⟨S4x1x1, .f32⟩
  | 21 => ⟨S4, .f32⟩
  | 22 => ⟨S4x1x1, .f32⟩
  | 23 => ⟨S4, .f32⟩
  | 24 => ⟨S4, .i1⟩
  | 25 => ⟨S4x3x3, .i1⟩
  | 26 => ⟨S4x3x3, .f32⟩
  | 27 => ⟨S4x3x3, .f32⟩
  | 28 => ⟨S4x3x3, .f32⟩
  | 29 => ⟨S4x3x3, .f32⟩
  | 30 => ⟨S4x3x3, .f32⟩
  | 31 => ⟨S4x3x3, .f32⟩
  | 32 => ⟨S4x1x1, .f32⟩
  | 33 => ⟨S4, .f32⟩
  | 34 => ⟨S4x1x1, .f32⟩
  | 35 => ⟨S4, .f32⟩
  | 36 => ⟨S4, .i1⟩
  | 37 => ⟨S4x3x3, .i1⟩
  | 38 => ⟨S4x3x3, .f32⟩
  | 39 => ⟨S4x3x3, .f32⟩
  | 40 => ⟨S4x3x3, .f32⟩
  | 41 => ⟨S4x3x3, .f32⟩
  | 42 => ⟨S4x3x3, .f32⟩
  | 43 => ⟨S4x3x3, .f32⟩
  | 44 => ⟨S4x1x1, .f32⟩
  | 45 => ⟨S4, .f32⟩
  | 46 => ⟨S4x1x1, .f32⟩
  | 47 => ⟨S4, .f32⟩
  | 48 => ⟨S4, .i1⟩
  | 49 => ⟨S4x3x3, .i1⟩
  | 50 => ⟨S4x3x3, .f32⟩
  | 51 => ⟨S4x3x3, .f32⟩
  | 52 => ⟨S4x3x3, .f32⟩
  | 53 => ⟨S4x3x3, .f32⟩
  | 54 => ⟨S4x3x3, .f32⟩
  | 55 => ⟨S4x3x3, .f32⟩
  | 56 => ⟨S_, .f32⟩
  | 57 => ⟨S4x3, .f32⟩
  | 58 => ⟨S4x1x3, .f32⟩
  | 59 => ⟨S_, .f32⟩
  | 60 => ⟨S4x1x3, .f32⟩
  | 61 => ⟨S4x1x3, .f32⟩
  | 62 => ⟨S4x1x3, .f32⟩
  | 63 => ⟨S4x3x3, .f32⟩
  | 64 => ⟨S4x3x3, .f32⟩
  | 65 => ⟨S4x3x3, .f32⟩
  | 66 => ⟨S4x1x1, .f32⟩
  | 67 => ⟨S4, .f32⟩
  | 68 => ⟨S4x1x1, .f32⟩
  | 69 => ⟨S4, .f32⟩
  | 70 => ⟨S4x1x1, .f32⟩
  | 71 => ⟨S4, .f32⟩
  | 72 => ⟨S4x1x1, .f32⟩
  | 73 => ⟨S4, .f32⟩
  | 74 => ⟨S4x1x1, .f32⟩
  | 75 => ⟨S4, .f32⟩
  | 76 => ⟨S4x1x1, .f32⟩
  | 77 => ⟨S4, .f32⟩
  | 78 => ⟨S4x1x1, .f32⟩
  | 79 => ⟨S4, .f32⟩
  | 80 => ⟨S4x1x1, .f32⟩
  | 81 => ⟨S4, .f32⟩
  | 82 => ⟨S4x1x1, .f32⟩
  | 83 => ⟨S4, .f32⟩
  | 84 => ⟨S4, .f32⟩
  | 85 => ⟨S4, .f32⟩
  | 86 => ⟨S4, .f32⟩
  | 87 => ⟨S4, .f32⟩
  | 88 => ⟨S4, .f32⟩
  | 89 => ⟨S4, .f32⟩
  | 90 => ⟨S4, .f32⟩
  | 91 => ⟨S4, .f32⟩
  | 92 => ⟨S4, .f32⟩
  | 93 => ⟨S4, .f32⟩
  | 94 => ⟨S4, .f32⟩
  | 95 => ⟨S4, .f32⟩
  | 96 => ⟨S4, .f32⟩
  | 97 => ⟨S4, .f32⟩
  | 98 => ⟨S_, .f32⟩
  | 99 => ⟨S4, .f32⟩
  | 100 => ⟨S4, .i1⟩
  | 101 => ⟨S_, .f32⟩
  | 102 => ⟨S_, .f32⟩
  | 103 => ⟨S4, .f32⟩
  | 104 => ⟨S4, .f32⟩
  | 105 => ⟨S4, .f32⟩
  | 106 => ⟨S4x3x3, .f32⟩
  | 107 => ⟨S4x3x3, .i32⟩
  | 108 => ⟨S_, .i32⟩
  | 109 => ⟨S4x3x3, .i32⟩
  | 110 => ⟨S4x3x3, .i1⟩
  | 111 => ⟨S4x3x3, .f32⟩
  | 112 => ⟨S4x3x3, .f32⟩
  | 113 => ⟨S4x3x3, .f32⟩
  | 114 => ⟨S4x3x3, .f32⟩
  | 115 => ⟨S4x3, .f32⟩
  | 116 => ⟨S4x3, .f32⟩
  | 117 => ⟨S4x3, .f32⟩
  | 118 => ⟨S4x3, .f32⟩
  | 119 => ⟨S4x3x1, .f32⟩
  | 120 => ⟨S4x3x4, .f32⟩
  | _ => ⟨S4x4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_while0c_c_4 : Ref sig .tc := ⟨.hbm, 8, rfl⟩
abbrev main_while0c_v4 : Ref sig .tc := ⟨.hbm, 9, rfl⟩
abbrev main_while0b_c_4 : Ref sig .tc := ⟨.hbm, 10, rfl⟩
abbrev main_while0b_v4 : Ref sig .tc := ⟨.hbm, 11, rfl⟩
abbrev main_while0b_v5 : Ref sig .tc := ⟨.hbm, 12, rfl⟩
abbrev main_while0b_cst : Ref sig .tc := ⟨.hbm, 13, rfl⟩
abbrev main_while0b_v6 : Ref sig .tc := ⟨.hbm, 14, rfl⟩
abbrev main_while0b_v7 : Ref sig .tc := ⟨.hbm, 15, rfl⟩
abbrev main_while0b_v8 : Ref sig .tc := ⟨.hbm, 16, rfl⟩
abbrev main_while0b_cst_5 : Ref sig .tc := ⟨.hbm, 17, rfl⟩
abbrev main_while0b_v9 : Ref sig .tc := ⟨.hbm, 18, rfl⟩
abbrev main_while0b_v10 : Ref sig .tc := ⟨.hbm, 19, rfl⟩
abbrev main_while0b_v11 : Ref sig .tc := ⟨.hbm, 20, rfl⟩
abbrev main_while0b_v12 : Ref sig .tc := ⟨.hbm, 21, rfl⟩
abbrev main_while0b_v13 : Ref sig .tc := ⟨.hbm, 22, rfl⟩
abbrev main_while0b_cst_6 : Ref sig .tc := ⟨.hbm, 23, rfl⟩
abbrev main_while0b_v14 : Ref sig .tc := ⟨.hbm, 24, rfl⟩
abbrev main_while0b_v15 : Ref sig .tc := ⟨.hbm, 25, rfl⟩
abbrev main_while0b_v16 : Ref sig .tc := ⟨.hbm, 26, rfl⟩
abbrev main_while0b_v17 : Ref sig .tc := ⟨.hbm, 27, rfl⟩
abbrev main_while0b_cst_7 : Ref sig .tc := ⟨.hbm, 28, rfl⟩
abbrev main_while0b_v18 : Ref sig .tc := ⟨.hbm, 29, rfl⟩
abbrev main_while0b_v19 : Ref sig .tc := ⟨.hbm, 30, rfl⟩
abbrev main_while0b_call0_v0 : Ref sig .tc := ⟨.hbm, 31, rfl⟩
abbrev main_while0b_call0_cst : Ref sig .tc := ⟨.hbm, 32, rfl⟩
abbrev main_while0b_call0_c : Ref sig .tc := ⟨.hbm, 33, rfl⟩
abbrev main_while0b_call0_v1_0 : Ref sig .tc := ⟨.hbm, 34, rfl⟩
abbrev main_while0b_v20 : Ref sig .tc := ⟨.hbm, 35, rfl⟩
abbrev main_while0b_v21 : Ref sig .tc := ⟨.hbm, 36, rfl⟩
abbrev main_while0b_call1_c : Ref sig .tc := ⟨.hbm, 37, rfl⟩
abbrev main_while0b_call1_v0 : Ref sig .tc := ⟨.hbm, 38, rfl⟩
abbrev main_while0b_call1_v1 : Ref sig .tc := ⟨.hbm, 39, rfl⟩
abbrev main_while0b_call1_c_0 : Ref sig .tc := ⟨.hbm, 40, rfl⟩
abbrev main_while0b_call1_v2 : Ref sig .tc := ⟨.hbm, 41, rfl⟩
abbrev main_while0b_call1_v3 : Ref sig .tc := ⟨.hbm, 42, rfl⟩
abbrev main_while0b_call1_v4 : Ref sig .tc := ⟨.hbm, 43, rfl⟩
abbrev main_while0b_v22 : Ref sig .tc := ⟨.hbm, 44, rfl⟩
abbrev main_while0b_call2_cst : Ref sig .tc := ⟨.hbm, 45, rfl⟩
abbrev main_while0b_call2_v0 : Ref sig .tc := ⟨.hbm, 46, rfl⟩
abbrev main_while0b_call2_v1 : Ref sig .tc := ⟨.hbm, 47, rfl⟩
abbrev main_while0b_call2_cst_0 : Ref sig .tc := ⟨.hbm, 48, rfl⟩
abbrev main_while0b_call2_v2 : Ref sig .tc := ⟨.hbm, 49, rfl⟩
abbrev main_while0b_call2_v3 : Ref sig .tc := ⟨.hbm, 50, rfl⟩
abbrev main_while0b_call2_cst_1 : Ref sig .tc := ⟨.hbm, 51, rfl⟩
abbrev main_while0b_call2_v4 : Ref sig .tc := ⟨.hbm, 52, rfl⟩
abbrev main_while0b_call2_v5 : Ref sig .tc := ⟨.hbm, 53, rfl⟩
abbrev main_while0b_call2_cst_2 : Ref sig .tc := ⟨.hbm, 54, rfl⟩
abbrev main_while0b_call2_v6 : Ref sig .tc := ⟨.hbm, 55, rfl⟩
abbrev main_while0b_call2_v7 : Ref sig .tc := ⟨.hbm, 56, rfl⟩
abbrev main_while0b_call2_v8 : Ref sig .tc := ⟨.hbm, 57, rfl⟩
abbrev main_while0b_call2_v9 : Ref sig .tc := ⟨.hbm, 58, rfl⟩
abbrev main_while0b_call2_v10 : Ref sig .tc := ⟨.hbm, 59, rfl⟩
abbrev main_while0b_call2_v11 : Ref sig .tc := ⟨.hbm, 60, rfl⟩
abbrev main_while0b_call2_v12 : Ref sig .tc := ⟨.hbm, 61, rfl⟩
abbrev main_while0b_call2_cst_3 : Ref sig .tc := ⟨.hbm, 62, rfl⟩
abbrev main_while0b_call2_v13 : Ref sig .tc := ⟨.hbm, 63, rfl⟩
abbrev main_while0b_call2_cst_4 : Ref sig .tc := ⟨.hbm, 64, rfl⟩
abbrev main_while0b_call2_v14 : Ref sig .tc := ⟨.hbm, 65, rfl⟩
abbrev main_while0b_call2_cst_5 : Ref sig .tc := ⟨.hbm, 66, rfl⟩
abbrev main_while0b_call2_v15 : Ref sig .tc := ⟨.hbm, 67, rfl⟩
abbrev main_while0b_call2_cst_6 : Ref sig .tc := ⟨.hbm, 68, rfl⟩
abbrev main_while0b_call2_v16 : Ref sig .tc := ⟨.hbm, 69, rfl⟩
abbrev main_while0b_call2_v17 : Ref sig .tc := ⟨.hbm, 70, rfl⟩
abbrev main_while0b_call2_v18 : Ref sig .tc := ⟨.hbm, 71, rfl⟩
abbrev main_while0b_call2_v19 : Ref sig .tc := ⟨.hbm, 72, rfl⟩
abbrev main_while0b_call2_v20 : Ref sig .tc := ⟨.hbm, 73, rfl⟩
abbrev main_while0b_call2_c : Ref sig .tc := ⟨.hbm, 74, rfl⟩
abbrev main_while0b_call2_v21 : Ref sig .tc := ⟨.hbm, 75, rfl⟩
abbrev main_while0b_call2_c_7 : Ref sig .tc := ⟨.hbm, 76, rfl⟩
abbrev main_while0b_call2_v22 : Ref sig .tc := ⟨.hbm, 77, rfl⟩
abbrev main_while0b_call2_c_8 : Ref sig .tc := ⟨.hbm, 78, rfl⟩
abbrev main_while0b_call2_v23 : Ref sig .tc := ⟨.hbm, 79, rfl⟩
abbrev main_while0b_call2_v24 : Ref sig .tc := ⟨.hbm, 80, rfl⟩
abbrev main_while0b_call2_v25 : Ref sig .tc := ⟨.hbm, 81, rfl⟩
abbrev main_while0b_call2_v26 : Ref sig .tc := ⟨.hbm, 82, rfl⟩
abbrev main_while0b_call2_v27 : Ref sig .tc := ⟨.hbm, 83, rfl⟩
abbrev main_while0b_call2_v28 : Ref sig .tc := ⟨.hbm, 84, rfl⟩
abbrev main_while0b_call2_v29 : Ref sig .tc := ⟨.hbm, 85, rfl⟩
abbrev main_while0b_call2_v30 : Ref sig .tc := ⟨.hbm, 86, rfl⟩
abbrev main_while0b_call2_v31 : Ref sig .tc := ⟨.hbm, 87, rfl⟩
abbrev main_while0b_call2_v32 : Ref sig .tc := ⟨.hbm, 88, rfl⟩
abbrev main_while0b_call2_v33 : Ref sig .tc := ⟨.hbm, 89, rfl⟩
abbrev main_while0b_call2_v34 : Ref sig .tc := ⟨.hbm, 90, rfl⟩
abbrev main_while0b_call2_v35 : Ref sig .tc := ⟨.hbm, 91, rfl⟩
abbrev main_while0b_call2_v36 : Ref sig .tc := ⟨.hbm, 92, rfl⟩
abbrev main_while0b_call2_v37 : Ref sig .tc := ⟨.hbm, 93, rfl⟩
abbrev main_while0b_call2_v38 : Ref sig .tc := ⟨.hbm, 94, rfl⟩
abbrev main_while0b_call2_v39 : Ref sig .tc := ⟨.hbm, 95, rfl⟩
abbrev main_while0b_call2_v40 : Ref sig .tc := ⟨.hbm, 96, rfl⟩
abbrev main_while0b_call2_v41 : Ref sig .tc := ⟨.hbm, 97, rfl⟩
abbrev main_while0b_call2_v42 : Ref sig .tc := ⟨.hbm, 98, rfl⟩
abbrev main_while0b_call2_v43 : Ref sig .tc := ⟨.hbm, 99, rfl⟩
abbrev main_while0b_call2_v44 : Ref sig .tc := ⟨.hbm, 100, rfl⟩
abbrev main_while0b_call2_v45 : Ref sig .tc := ⟨.hbm, 101, rfl⟩
abbrev main_while0b_call2_v46 : Ref sig .tc := ⟨.hbm, 102, rfl⟩
abbrev main_while0b_call2_v47 : Ref sig .tc := ⟨.hbm, 103, rfl⟩
abbrev main_while0b_call2_v48 : Ref sig .tc := ⟨.hbm, 104, rfl⟩
abbrev main_while0b_call2_v49 : Ref sig .tc := ⟨.hbm, 105, rfl⟩
abbrev main_while0b_call2_v50 : Ref sig .tc := ⟨.hbm, 106, rfl⟩
abbrev main_while0b_call2_v51 : Ref sig .tc := ⟨.hbm, 107, rfl⟩
abbrev main_while0b_call2_v52 : Ref sig .tc := ⟨.hbm, 108, rfl⟩
abbrev main_while0b_call2_v53 : Ref sig .tc := ⟨.hbm, 109, rfl⟩
abbrev main_while0b_call2_v54 : Ref sig .tc := ⟨.hbm, 110, rfl⟩
abbrev main_while0b_call2_v55 : Ref sig .tc := ⟨.hbm, 111, rfl⟩
abbrev main_while0b_call2_v56 : Ref sig .tc := ⟨.hbm, 112, rfl⟩
abbrev main_while0b_call2_v57 : Ref sig .tc := ⟨.hbm, 113, rfl⟩
abbrev main_while0b_call2_v58 : Ref sig .tc := ⟨.hbm, 114, rfl⟩
abbrev main_while0b_call2_v59 : Ref sig .tc := ⟨.hbm, 115, rfl⟩
abbrev main_while0b_call2_v60 : Ref sig .tc := ⟨.hbm, 116, rfl⟩
abbrev main_while0b_call2_v61 : Ref sig .tc := ⟨.hbm, 117, rfl⟩
abbrev main_while0b_call2_v62 : Ref sig .tc := ⟨.hbm, 118, rfl⟩
abbrev main_while0b_call2_v63 : Ref sig .tc := ⟨.hbm, 119, rfl⟩
abbrev main_while0b_call2_v64 : Ref sig .tc := ⟨.hbm, 120, rfl⟩
abbrev main_while0b_call2_v65 : Ref sig .tc := ⟨.hbm, 121, rfl⟩
abbrev main_while0b_call2_v66 : Ref sig .tc := ⟨.hbm, 122, rfl⟩
abbrev main_while0b_call2_v67 : Ref sig .tc := ⟨.hbm, 123, rfl⟩
abbrev main_while0b_call2_v68 : Ref sig .tc := ⟨.hbm, 124, rfl⟩
abbrev main_while0b_call2_v69 : Ref sig .tc := ⟨.hbm, 125, rfl⟩
abbrev main_while0b_call2_v70 : Ref sig .tc := ⟨.hbm, 126, rfl⟩
abbrev main_while0b_call2_v71 : Ref sig .tc := ⟨.hbm, 127, rfl⟩
abbrev main_while0b_call2_v72 : Ref sig .tc := ⟨.hbm, 128, rfl⟩
abbrev main_while0b_call2_v73 : Ref sig .tc := ⟨.hbm, 129, rfl⟩
abbrev main_while0b_call2_v74 : Ref sig .tc := ⟨.hbm, 130, rfl⟩
abbrev main_while0b_call2_v75 : Ref sig .tc := ⟨.hbm, 131, rfl⟩
abbrev main_while0b_call2_v76 : Ref sig .tc := ⟨.hbm, 132, rfl⟩
abbrev main_while0b_call2_v77 : Ref sig .tc := ⟨.hbm, 133, rfl⟩
abbrev main_while0b_call2_v78 : Ref sig .tc := ⟨.hbm, 134, rfl⟩
abbrev main_while0b_call2_v79 : Ref sig .tc := ⟨.hbm, 135, rfl⟩
abbrev main_while0b_call2_v80 : Ref sig .tc := ⟨.hbm, 136, rfl⟩
abbrev main_while0b_call2_v81 : Ref sig .tc := ⟨.hbm, 137, rfl⟩
abbrev main_while0b_call2_v82 : Ref sig .tc := ⟨.hbm, 138, rfl⟩
abbrev main_while0b_call2_v83 : Ref sig .tc := ⟨.hbm, 139, rfl⟩
abbrev main_while0b_call2_v84 : Ref sig .tc := ⟨.hbm, 140, rfl⟩
abbrev main_while0b_call2_v85 : Ref sig .tc := ⟨.hbm, 141, rfl⟩
abbrev main_while0b_call2_v86 : Ref sig .tc := ⟨.hbm, 142, rfl⟩
abbrev main_while0b_call2_v87 : Ref sig .tc := ⟨.hbm, 143, rfl⟩
abbrev main_while0b_call2_v88 : Ref sig .tc := ⟨.hbm, 144, rfl⟩
abbrev main_while0b_call2_v89 : Ref sig .tc := ⟨.hbm, 145, rfl⟩
abbrev main_while0b_call2_v90 : Ref sig .tc := ⟨.hbm, 146, rfl⟩
abbrev main_while0b_call2_v91 : Ref sig .tc := ⟨.hbm, 147, rfl⟩
abbrev main_while0b_call2_v92 : Ref sig .tc := ⟨.hbm, 148, rfl⟩
abbrev main_while0b_call2_v93 : Ref sig .tc := ⟨.hbm, 149, rfl⟩
abbrev main_while0b_call2_v94 : Ref sig .tc := ⟨.hbm, 150, rfl⟩
abbrev main_while0b_call2_v95 : Ref sig .tc := ⟨.hbm, 151, rfl⟩
abbrev main_while0b_call2_v96 : Ref sig .tc := ⟨.hbm, 152, rfl⟩
abbrev main_while0b_call2_v97 : Ref sig .tc := ⟨.hbm, 153, rfl⟩
abbrev main_while0b_call2_v98 : Ref sig .tc := ⟨.hbm, 154, rfl⟩
abbrev main_while0b_call2_v99 : Ref sig .tc := ⟨.hbm, 155, rfl⟩
abbrev main_while0b_call2_v100 : Ref sig .tc := ⟨.hbm, 156, rfl⟩
abbrev main_while0b_call2_v101 : Ref sig .tc := ⟨.hbm, 157, rfl⟩
abbrev main_while0b_call2_v102 : Ref sig .tc := ⟨.hbm, 158, rfl⟩
abbrev main_while0b_call2_v103 : Ref sig .tc := ⟨.hbm, 159, rfl⟩
abbrev main_while0b_call2_v104 : Ref sig .tc := ⟨.hbm, 160, rfl⟩
abbrev main_while0b_call2_v105 : Ref sig .tc := ⟨.hbm, 161, rfl⟩
abbrev main_while0b_call2_v106 : Ref sig .tc := ⟨.hbm, 162, rfl⟩
abbrev main_while0b_call2_v107 : Ref sig .tc := ⟨.hbm, 163, rfl⟩
abbrev main_while0b_call2_v108 : Ref sig .tc := ⟨.hbm, 164, rfl⟩
abbrev main_while0b_call2_v109 : Ref sig .tc := ⟨.hbm, 165, rfl⟩
abbrev main_while0b_call2_v110 : Ref sig .tc := ⟨.hbm, 166, rfl⟩
abbrev main_while0b_call2_v111 : Ref sig .tc := ⟨.hbm, 167, rfl⟩
abbrev main_while0b_call2_v112 : Ref sig .tc := ⟨.hbm, 168, rfl⟩
abbrev main_while0b_call2_v113 : Ref sig .tc := ⟨.hbm, 169, rfl⟩
abbrev main_while0b_call2_v114 : Ref sig .tc := ⟨.hbm, 170, rfl⟩
abbrev main_while0b_call2_v115 : Ref sig .tc := ⟨.hbm, 171, rfl⟩
abbrev main_while0b_call2_v116 : Ref sig .tc := ⟨.hbm, 172, rfl⟩
abbrev main_while0b_call2_v117 : Ref sig .tc := ⟨.hbm, 173, rfl⟩
abbrev main_while0b_call2_v118 : Ref sig .tc := ⟨.hbm, 174, rfl⟩
abbrev main_while0b_call2_v119 : Ref sig .tc := ⟨.hbm, 175, rfl⟩
abbrev main_while0b_call2_v120 : Ref sig .tc := ⟨.hbm, 176, rfl⟩
abbrev main_while0b_call2_v121 : Ref sig .tc := ⟨.hbm, 177, rfl⟩
abbrev main_while0b_call2_v122 : Ref sig .tc := ⟨.hbm, 178, rfl⟩
abbrev main_while0b_call2_v123 : Ref sig .tc := ⟨.hbm, 179, rfl⟩
abbrev main_while0b_call2_v124 : Ref sig .tc := ⟨.hbm, 180, rfl⟩
abbrev main_while0b_call2_v125 : Ref sig .tc := ⟨.hbm, 181, rfl⟩
abbrev main_while0b_call2_v126 : Ref sig .tc := ⟨.hbm, 182, rfl⟩
abbrev main_while0b_call2_v127 : Ref sig .tc := ⟨.hbm, 183, rfl⟩
abbrev main_while0b_call2_v128 : Ref sig .tc := ⟨.hbm, 184, rfl⟩
abbrev main_while0b_call2_v129 : Ref sig .tc := ⟨.hbm, 185, rfl⟩
abbrev main_while0b_call2_v130 : Ref sig .tc := ⟨.hbm, 186, rfl⟩
abbrev main_while0b_call2_v131 : Ref sig .tc := ⟨.hbm, 187, rfl⟩
abbrev main_while0b_call2_v132 : Ref sig .tc := ⟨.hbm, 188, rfl⟩
abbrev main_while0b_call2_v133 : Ref sig .tc := ⟨.hbm, 189, rfl⟩
abbrev main_while0b_call2_v134 : Ref sig .tc := ⟨.hbm, 190, rfl⟩
abbrev main_while0b_call2_v135 : Ref sig .tc := ⟨.hbm, 191, rfl⟩
abbrev main_while0b_call2_v136 : Ref sig .tc := ⟨.hbm, 192, rfl⟩
abbrev main_while0b_call2_v137 : Ref sig .tc := ⟨.hbm, 193, rfl⟩
abbrev main_while0b_call2_v138 : Ref sig .tc := ⟨.hbm, 194, rfl⟩
abbrev main_while0b_call2_v139 : Ref sig .tc := ⟨.hbm, 195, rfl⟩
abbrev main_while0b_call2_v140 : Ref sig .tc := ⟨.hbm, 196, rfl⟩
abbrev main_while0b_call2_v141 : Ref sig .tc := ⟨.hbm, 197, rfl⟩
abbrev main_while0b_call2_v142 : Ref sig .tc := ⟨.hbm, 198, rfl⟩
abbrev main_while0b_call2_v143 : Ref sig .tc := ⟨.hbm, 199, rfl⟩
abbrev main_while0b_call2_v144 : Ref sig .tc := ⟨.hbm, 200, rfl⟩
abbrev main_while0b_call2_v145 : Ref sig .tc := ⟨.hbm, 201, rfl⟩
abbrev main_while0b_call2_v146 : Ref sig .tc := ⟨.hbm, 202, rfl⟩
abbrev main_while0b_call2_v147 : Ref sig .tc := ⟨.hbm, 203, rfl⟩
abbrev main_while0b_call2_v148 : Ref sig .tc := ⟨.hbm, 204, rfl⟩
abbrev main_while0b_call2_v149 : Ref sig .tc := ⟨.hbm, 205, rfl⟩
abbrev main_while0b_call2_v150 : Ref sig .tc := ⟨.hbm, 206, rfl⟩
abbrev main_while0b_call2_v151 : Ref sig .tc := ⟨.hbm, 207, rfl⟩
abbrev main_while0b_call2_v152 : Ref sig .tc := ⟨.hbm, 208, rfl⟩
abbrev main_while0b_call2_v153 : Ref sig .tc := ⟨.hbm, 209, rfl⟩
abbrev main_while0b_call2_v154 : Ref sig .tc := ⟨.hbm, 210, rfl⟩
abbrev main_while0b_call2_v155 : Ref sig .tc := ⟨.hbm, 211, rfl⟩
abbrev main_while0b_call2_v156 : Ref sig .tc := ⟨.hbm, 212, rfl⟩
abbrev main_while0b_call2_v157 : Ref sig .tc := ⟨.hbm, 213, rfl⟩
abbrev main_while0b_call2_v158 : Ref sig .tc := ⟨.hbm, 214, rfl⟩
abbrev main_while0b_call2_v159 : Ref sig .tc := ⟨.hbm, 215, rfl⟩
abbrev main_while0b_call2_v160 : Ref sig .tc := ⟨.hbm, 216, rfl⟩
abbrev main_while0b_call2_v161 : Ref sig .tc := ⟨.hbm, 217, rfl⟩
abbrev main_while0b_call2_v162 : Ref sig .tc := ⟨.hbm, 218, rfl⟩
abbrev main_while0b_call2_v163 : Ref sig .tc := ⟨.hbm, 219, rfl⟩
abbrev main_while0b_call2_v164 : Ref sig .tc := ⟨.hbm, 220, rfl⟩
abbrev main_while0b_call2_v165 : Ref sig .tc := ⟨.hbm, 221, rfl⟩
abbrev main_while0b_call2_v166 : Ref sig .tc := ⟨.hbm, 222, rfl⟩
abbrev main_while0b_call2_v167 : Ref sig .tc := ⟨.hbm, 223, rfl⟩
abbrev main_while0b_call2_v168 : Ref sig .tc := ⟨.hbm, 224, rfl⟩
abbrev main_while0b_call2_v169 : Ref sig .tc := ⟨.hbm, 225, rfl⟩
abbrev main_while0b_call2_v170 : Ref sig .tc := ⟨.hbm, 226, rfl⟩
abbrev main_while0b_call2_v171 : Ref sig .tc := ⟨.hbm, 227, rfl⟩
abbrev main_while0b_call2_v172 : Ref sig .tc := ⟨.hbm, 228, rfl⟩
abbrev main_while0b_call2_v173 : Ref sig .tc := ⟨.hbm, 229, rfl⟩
abbrev main_while0b_call2_v174 : Ref sig .tc := ⟨.hbm, 230, rfl⟩
abbrev main_while0b_call2_v175 : Ref sig .tc := ⟨.hbm, 231, rfl⟩
abbrev main_while0b_call2_v176 : Ref sig .tc := ⟨.hbm, 232, rfl⟩
abbrev main_while0b_call2_v177 : Ref sig .tc := ⟨.hbm, 233, rfl⟩
abbrev main_while0b_call2_v178 : Ref sig .tc := ⟨.hbm, 234, rfl⟩
abbrev main_while0b_call2_v179 : Ref sig .tc := ⟨.hbm, 235, rfl⟩
abbrev main_while0b_call2_v180 : Ref sig .tc := ⟨.hbm, 236, rfl⟩
abbrev main_while0b_call2_v181 : Ref sig .tc := ⟨.hbm, 237, rfl⟩
abbrev main_while0b_call2_v182 : Ref sig .tc := ⟨.hbm, 238, rfl⟩
abbrev main_while0b_call2_v183 : Ref sig .tc := ⟨.hbm, 239, rfl⟩
abbrev main_while0b_call2_v184 : Ref sig .tc := ⟨.hbm, 240, rfl⟩
abbrev main_while0b_call2_v185 : Ref sig .tc := ⟨.hbm, 241, rfl⟩
abbrev main_while0b_call2_v186 : Ref sig .tc := ⟨.hbm, 242, rfl⟩
abbrev main_while0b_call2_v187 : Ref sig .tc := ⟨.hbm, 243, rfl⟩
abbrev main_while0b_call2_v188 : Ref sig .tc := ⟨.hbm, 244, rfl⟩
abbrev main_while0b_call2_v189 : Ref sig .tc := ⟨.hbm, 245, rfl⟩
abbrev main_while0b_call2_v190 : Ref sig .tc := ⟨.hbm, 246, rfl⟩
abbrev main_while0b_call2_v191 : Ref sig .tc := ⟨.hbm, 247, rfl⟩
abbrev main_while0b_call2_v192 : Ref sig .tc := ⟨.hbm, 248, rfl⟩
abbrev main_while0b_call2_v193 : Ref sig .tc := ⟨.hbm, 249, rfl⟩
abbrev main_while0b_call2_v194 : Ref sig .tc := ⟨.hbm, 250, rfl⟩
abbrev main_while0b_call2_v195 : Ref sig .tc := ⟨.hbm, 251, rfl⟩
abbrev main_while0b_call2_v196 : Ref sig .tc := ⟨.hbm, 252, rfl⟩
abbrev main_while0b_call2_v197 : Ref sig .tc := ⟨.hbm, 253, rfl⟩
abbrev main_while0b_call2_v198 : Ref sig .tc := ⟨.hbm, 254, rfl⟩
abbrev main_while0b_call2_v199 : Ref sig .tc := ⟨.hbm, 255, rfl⟩
abbrev main_while0b_call2_v200 : Ref sig .tc := ⟨.hbm, 256, rfl⟩
abbrev main_while0b_call2_v201 : Ref sig .tc := ⟨.hbm, 257, rfl⟩
abbrev main_while0b_call2_v202 : Ref sig .tc := ⟨.hbm, 258, rfl⟩
abbrev main_while0b_call2_v203 : Ref sig .tc := ⟨.hbm, 259, rfl⟩
abbrev main_while0b_call2_v204 : Ref sig .tc := ⟨.hbm, 260, rfl⟩
abbrev main_while0b_call2_v205 : Ref sig .tc := ⟨.hbm, 261, rfl⟩
abbrev main_while0b_call2_v206 : Ref sig .tc := ⟨.hbm, 262, rfl⟩
abbrev main_while0b_call2_v207 : Ref sig .tc := ⟨.hbm, 263, rfl⟩
abbrev main_while0b_call2_v208 : Ref sig .tc := ⟨.hbm, 264, rfl⟩
abbrev main_while0b_call2_v209 : Ref sig .tc := ⟨.hbm, 265, rfl⟩
abbrev main_while0b_call2_v210 : Ref sig .tc := ⟨.hbm, 266, rfl⟩
abbrev main_while0b_call2_v211 : Ref sig .tc := ⟨.hbm, 267, rfl⟩
abbrev main_while0b_call2_v212 : Ref sig .tc := ⟨.hbm, 268, rfl⟩
abbrev main_while0b_call2_v213 : Ref sig .tc := ⟨.hbm, 269, rfl⟩
abbrev main_while0b_call2_v214 : Ref sig .tc := ⟨.hbm, 270, rfl⟩
abbrev main_while0b_call2_v215 : Ref sig .tc := ⟨.hbm, 271, rfl⟩
abbrev main_while0b_call2_v216 : Ref sig .tc := ⟨.hbm, 272, rfl⟩
abbrev main_while0b_call2_v217 : Ref sig .tc := ⟨.hbm, 273, rfl⟩
abbrev main_while0b_call2_v218 : Ref sig .tc := ⟨.hbm, 274, rfl⟩
abbrev main_while0b_call2_v219 : Ref sig .tc := ⟨.hbm, 275, rfl⟩
abbrev main_while0b_call2_v220 : Ref sig .tc := ⟨.hbm, 276, rfl⟩
abbrev main_while0b_call2_v221 : Ref sig .tc := ⟨.hbm, 277, rfl⟩
abbrev main_while0b_call2_v222 : Ref sig .tc := ⟨.hbm, 278, rfl⟩
abbrev main_while0b_call2_v223 : Ref sig .tc := ⟨.hbm, 279, rfl⟩
abbrev main_while0b_call2_v224 : Ref sig .tc := ⟨.hbm, 280, rfl⟩
abbrev main_while0b_call2_v225 : Ref sig .tc := ⟨.hbm, 281, rfl⟩
abbrev main_while0b_call2_v226 : Ref sig .tc := ⟨.hbm, 282, rfl⟩
abbrev main_while0b_call2_v227 : Ref sig .tc := ⟨.hbm, 283, rfl⟩
abbrev main_while0b_call2_v228 : Ref sig .tc := ⟨.hbm, 284, rfl⟩
abbrev main_while0b_call2_v229 : Ref sig .tc := ⟨.hbm, 285, rfl⟩
abbrev main_while0b_call2_v230 : Ref sig .tc := ⟨.hbm, 286, rfl⟩
abbrev main_while0b_call2_v231 : Ref sig .tc := ⟨.hbm, 287, rfl⟩
abbrev main_while0b_call2_v232 : Ref sig .tc := ⟨.hbm, 288, rfl⟩
abbrev main_while0b_call2_v233 : Ref sig .tc := ⟨.hbm, 289, rfl⟩
abbrev main_while0b_call2_v234 : Ref sig .tc := ⟨.hbm, 290, rfl⟩
abbrev main_while0b_call2_v235 : Ref sig .tc := ⟨.hbm, 291, rfl⟩
abbrev main_while0b_call2_v236 : Ref sig .tc := ⟨.hbm, 292, rfl⟩
abbrev main_while0b_call2_v237 : Ref sig .tc := ⟨.hbm, 293, rfl⟩
abbrev main_while0b_call2_v238 : Ref sig .tc := ⟨.hbm, 294, rfl⟩
abbrev main_while0b_call2_v239 : Ref sig .tc := ⟨.hbm, 295, rfl⟩
abbrev main_while0b_call2_v240 : Ref sig .tc := ⟨.hbm, 296, rfl⟩
abbrev main_while0b_call2_v241 : Ref sig .tc := ⟨.hbm, 297, rfl⟩
abbrev main_while0b_call2_v242 : Ref sig .tc := ⟨.hbm, 298, rfl⟩
abbrev main_while0b_call2_v243 : Ref sig .tc := ⟨.hbm, 299, rfl⟩
abbrev main_while0b_call2_v244 : Ref sig .tc := ⟨.hbm, 300, rfl⟩
abbrev main_while0b_call2_v245 : Ref sig .tc := ⟨.hbm, 301, rfl⟩
abbrev main_while0b_call2_v246 : Ref sig .tc := ⟨.hbm, 302, rfl⟩
abbrev main_while0b_call2_v247 : Ref sig .tc := ⟨.hbm, 303, rfl⟩
abbrev main_while0b_call2_v248 : Ref sig .tc := ⟨.hbm, 304, rfl⟩
abbrev main_while0b_call2_v249 : Ref sig .tc := ⟨.hbm, 305, rfl⟩
abbrev main_while0b_call2_v250 : Ref sig .tc := ⟨.hbm, 306, rfl⟩
abbrev main_while0b_call2_v251 : Ref sig .tc := ⟨.hbm, 307, rfl⟩
abbrev main_while0b_call2_v252 : Ref sig .tc := ⟨.hbm, 308, rfl⟩
abbrev main_while0b_call2_v253 : Ref sig .tc := ⟨.hbm, 309, rfl⟩
abbrev main_while0b_call2_v254 : Ref sig .tc := ⟨.hbm, 310, rfl⟩
abbrev main_while0b_call2_v255 : Ref sig .tc := ⟨.hbm, 311, rfl⟩
abbrev main_while0b_call2_v256 : Ref sig .tc := ⟨.hbm, 312, rfl⟩
abbrev main_while0b_call2_v257 : Ref sig .tc := ⟨.hbm, 313, rfl⟩
abbrev main_while0b_call2_v258 : Ref sig .tc := ⟨.hbm, 314, rfl⟩
abbrev main_while0b_call2_v259 : Ref sig .tc := ⟨.hbm, 315, rfl⟩
abbrev main_while0b_call2_v260 : Ref sig .tc := ⟨.hbm, 316, rfl⟩
abbrev main_while0b_call2_v261 : Ref sig .tc := ⟨.hbm, 317, rfl⟩
abbrev main_while0b_call2_v262 : Ref sig .tc := ⟨.hbm, 318, rfl⟩
abbrev main_while0b_call2_v263 : Ref sig .tc := ⟨.hbm, 319, rfl⟩
abbrev main_while0b_call2_v264 : Ref sig .tc := ⟨.hbm, 320, rfl⟩
abbrev main_while0b_call2_v265 : Ref sig .tc := ⟨.hbm, 321, rfl⟩
abbrev main_while0b_call2_v266 : Ref sig .tc := ⟨.hbm, 322, rfl⟩
abbrev main_while0b_call2_v267 : Ref sig .tc := ⟨.hbm, 323, rfl⟩
abbrev main_while0b_call2_v268 : Ref sig .tc := ⟨.hbm, 324, rfl⟩
abbrev main_while0b_call2_v269 : Ref sig .tc := ⟨.hbm, 325, rfl⟩
abbrev main_while0b_call2_v270 : Ref sig .tc := ⟨.hbm, 326, rfl⟩
abbrev main_while0b_call2_v271 : Ref sig .tc := ⟨.hbm, 327, rfl⟩
abbrev main_while0b_call2_v272 : Ref sig .tc := ⟨.hbm, 328, rfl⟩
abbrev main_while0b_call2_v273 : Ref sig .tc := ⟨.hbm, 329, rfl⟩
abbrev main_while0b_call2_v274 : Ref sig .tc := ⟨.hbm, 330, rfl⟩
abbrev main_while0b_call2_v275 : Ref sig .tc := ⟨.hbm, 331, rfl⟩
abbrev main_while0b_call2_v276 : Ref sig .tc := ⟨.hbm, 332, rfl⟩
abbrev main_while0b_call2_v277 : Ref sig .tc := ⟨.hbm, 333, rfl⟩
abbrev main_while0b_call2_v278 : Ref sig .tc := ⟨.hbm, 334, rfl⟩
abbrev main_while0b_call2_v279 : Ref sig .tc := ⟨.hbm, 335, rfl⟩
abbrev main_while0b_call2_v280 : Ref sig .tc := ⟨.hbm, 336, rfl⟩
abbrev main_while0b_call2_v281 : Ref sig .tc := ⟨.hbm, 337, rfl⟩
abbrev main_while0b_call2_v282 : Ref sig .tc := ⟨.hbm, 338, rfl⟩
abbrev main_while0b_call2_v283 : Ref sig .tc := ⟨.hbm, 339, rfl⟩
abbrev main_while0b_call2_v284 : Ref sig .tc := ⟨.hbm, 340, rfl⟩
abbrev main_while0b_call2_v285 : Ref sig .tc := ⟨.hbm, 341, rfl⟩
abbrev main_while0b_call2_v286 : Ref sig .tc := ⟨.hbm, 342, rfl⟩
abbrev main_while0b_call2_v287 : Ref sig .tc := ⟨.hbm, 343, rfl⟩
abbrev main_while0b_call2_v288 : Ref sig .tc := ⟨.hbm, 344, rfl⟩
abbrev main_while0b_call2_v289 : Ref sig .tc := ⟨.hbm, 345, rfl⟩
abbrev main_while0b_call2_v290 : Ref sig .tc := ⟨.hbm, 346, rfl⟩
abbrev main_while0b_call2_v291 : Ref sig .tc := ⟨.hbm, 347, rfl⟩
abbrev main_while0b_call2_v292 : Ref sig .tc := ⟨.hbm, 348, rfl⟩
abbrev main_while0b_call2_v293 : Ref sig .tc := ⟨.hbm, 349, rfl⟩
abbrev main_while0b_call2_v294 : Ref sig .tc := ⟨.hbm, 350, rfl⟩
abbrev main_while0b_call2_v295 : Ref sig .tc := ⟨.hbm, 351, rfl⟩
abbrev main_while0b_call2_v296 : Ref sig .tc := ⟨.hbm, 352, rfl⟩
abbrev main_while0b_call2_v297 : Ref sig .tc := ⟨.hbm, 353, rfl⟩
abbrev main_while0b_call2_v298 : Ref sig .tc := ⟨.hbm, 354, rfl⟩
abbrev main_while0b_call2_v299 : Ref sig .tc := ⟨.hbm, 355, rfl⟩
abbrev main_while0b_call2_v300 : Ref sig .tc := ⟨.hbm, 356, rfl⟩
abbrev main_while0b_call2_v301 : Ref sig .tc := ⟨.hbm, 357, rfl⟩
abbrev main_while0b_call2_v302 : Ref sig .tc := ⟨.hbm, 358, rfl⟩
abbrev main_while0b_call2_v303 : Ref sig .tc := ⟨.hbm, 359, rfl⟩
abbrev main_while0b_call2_v304 : Ref sig .tc := ⟨.hbm, 360, rfl⟩
abbrev main_while0b_call2_v305 : Ref sig .tc := ⟨.hbm, 361, rfl⟩
abbrev main_while0b_call2_v306 : Ref sig .tc := ⟨.hbm, 362, rfl⟩
abbrev main_while0b_call2_v307 : Ref sig .tc := ⟨.hbm, 363, rfl⟩
abbrev main_while0b_call2_v308 : Ref sig .tc := ⟨.hbm, 364, rfl⟩
abbrev main_while0b_call2_v309 : Ref sig .tc := ⟨.hbm, 365, rfl⟩
abbrev main_while0b_call2_v310 : Ref sig .tc := ⟨.hbm, 366, rfl⟩
abbrev main_while0b_call2_v311 : Ref sig .tc := ⟨.hbm, 367, rfl⟩
abbrev main_while0b_call2_v312 : Ref sig .tc := ⟨.hbm, 368, rfl⟩
abbrev main_while0b_call2_v313 : Ref sig .tc := ⟨.hbm, 369, rfl⟩
abbrev main_while0b_call2_v314 : Ref sig .tc := ⟨.hbm, 370, rfl⟩
abbrev main_while0b_call2_v315 : Ref sig .tc := ⟨.hbm, 371, rfl⟩
abbrev main_while0b_call2_v316 : Ref sig .tc := ⟨.hbm, 372, rfl⟩
abbrev main_while0b_call2_v317 : Ref sig .tc := ⟨.hbm, 373, rfl⟩
abbrev main_while0b_call2_v318 : Ref sig .tc := ⟨.hbm, 374, rfl⟩
abbrev main_while0b_call2_v319 : Ref sig .tc := ⟨.hbm, 375, rfl⟩
abbrev main_while0b_call2_v320 : Ref sig .tc := ⟨.hbm, 376, rfl⟩
abbrev main_while0b_call2_v321 : Ref sig .tc := ⟨.hbm, 377, rfl⟩
abbrev main_while0b_call2_v322 : Ref sig .tc := ⟨.hbm, 378, rfl⟩
abbrev main_while0b_call2_v323 : Ref sig .tc := ⟨.hbm, 379, rfl⟩
abbrev main_while0b_call2_v324 : Ref sig .tc := ⟨.hbm, 380, rfl⟩
abbrev main_while0b_call2_v325 : Ref sig .tc := ⟨.hbm, 381, rfl⟩
abbrev main_while0b_call2_v326 : Ref sig .tc := ⟨.hbm, 382, rfl⟩
abbrev main_while0b_call2_v327 : Ref sig .tc := ⟨.hbm, 383, rfl⟩
abbrev main_while0b_call2_v328 : Ref sig .tc := ⟨.hbm, 384, rfl⟩
abbrev main_while0b_call2_v329 : Ref sig .tc := ⟨.hbm, 385, rfl⟩
abbrev main_while0b_call2_v330 : Ref sig .tc := ⟨.hbm, 386, rfl⟩
abbrev main_while0b_call2_v331 : Ref sig .tc := ⟨.hbm, 387, rfl⟩
abbrev main_while0b_call2_v332 : Ref sig .tc := ⟨.hbm, 388, rfl⟩
abbrev main_while0b_call2_v333 : Ref sig .tc := ⟨.hbm, 389, rfl⟩
abbrev main_while0b_call2_v334 : Ref sig .tc := ⟨.hbm, 390, rfl⟩
abbrev main_while0b_call2_v335 : Ref sig .tc := ⟨.hbm, 391, rfl⟩
abbrev main_while0b_call2_v336 : Ref sig .tc := ⟨.hbm, 392, rfl⟩
abbrev main_while0b_call2_v337 : Ref sig .tc := ⟨.hbm, 393, rfl⟩
abbrev main_while0b_call2_v338 : Ref sig .tc := ⟨.hbm, 394, rfl⟩
abbrev main_while0b_call2_v339 : Ref sig .tc := ⟨.hbm, 395, rfl⟩
abbrev main_while0b_call2_v340 : Ref sig .tc := ⟨.hbm, 396, rfl⟩
abbrev main_while0b_call2_v341 : Ref sig .tc := ⟨.hbm, 397, rfl⟩
abbrev main_while0b_call2_v342 : Ref sig .tc := ⟨.hbm, 398, rfl⟩
abbrev main_while0b_call2_v343 : Ref sig .tc := ⟨.hbm, 399, rfl⟩
abbrev main_while0b_call2_v344 : Ref sig .tc := ⟨.hbm, 400, rfl⟩
abbrev main_while0b_call2_v345 : Ref sig .tc := ⟨.hbm, 401, rfl⟩
abbrev main_while0b_call2_v346 : Ref sig .tc := ⟨.hbm, 402, rfl⟩
abbrev main_while0b_call2_v347 : Ref sig .tc := ⟨.hbm, 403, rfl⟩
abbrev main_while0b_call2_v348 : Ref sig .tc := ⟨.hbm, 404, rfl⟩
abbrev main_while0b_call2_v349 : Ref sig .tc := ⟨.hbm, 405, rfl⟩
abbrev main_while0b_call2_v350 : Ref sig .tc := ⟨.hbm, 406, rfl⟩
abbrev main_while0b_call2_v351 : Ref sig .tc := ⟨.hbm, 407, rfl⟩
abbrev main_while0b_call2_v352 : Ref sig .tc := ⟨.hbm, 408, rfl⟩
abbrev main_while0b_call2_v353 : Ref sig .tc := ⟨.hbm, 409, rfl⟩
abbrev main_while0b_call2_v354 : Ref sig .tc := ⟨.hbm, 410, rfl⟩
abbrev main_while0b_call2_v355 : Ref sig .tc := ⟨.hbm, 411, rfl⟩
abbrev main_while0b_call2_v356 : Ref sig .tc := ⟨.hbm, 412, rfl⟩
abbrev main_while0b_call2_v357 : Ref sig .tc := ⟨.hbm, 413, rfl⟩
abbrev main_while0b_call2_v358 : Ref sig .tc := ⟨.hbm, 414, rfl⟩
abbrev main_while0b_call2_v359 : Ref sig .tc := ⟨.hbm, 415, rfl⟩
abbrev main_while0b_call2_v360 : Ref sig .tc := ⟨.hbm, 416, rfl⟩
abbrev main_while0b_call2_v361 : Ref sig .tc := ⟨.hbm, 417, rfl⟩
abbrev main_while0b_call2_v362 : Ref sig .tc := ⟨.hbm, 418, rfl⟩
abbrev main_while0b_call2_v363 : Ref sig .tc := ⟨.hbm, 419, rfl⟩
abbrev main_while0b_call2_v364 : Ref sig .tc := ⟨.hbm, 420, rfl⟩
abbrev main_while0b_call2_v365 : Ref sig .tc := ⟨.hbm, 421, rfl⟩
abbrev main_while0b_call2_v366 : Ref sig .tc := ⟨.hbm, 422, rfl⟩
abbrev main_while0b_call2_v367 : Ref sig .tc := ⟨.hbm, 423, rfl⟩
abbrev main_while0b_call2_v368 : Ref sig .tc := ⟨.hbm, 424, rfl⟩
abbrev main_while0b_call2_v369 : Ref sig .tc := ⟨.hbm, 425, rfl⟩
abbrev main_while0b_call2_v370 : Ref sig .tc := ⟨.hbm, 426, rfl⟩
abbrev main_while0b_call2_v371 : Ref sig .tc := ⟨.hbm, 427, rfl⟩
abbrev main_while0b_call2_v372 : Ref sig .tc := ⟨.hbm, 428, rfl⟩
abbrev main_while0b_call2_v373 : Ref sig .tc := ⟨.hbm, 429, rfl⟩
abbrev main_while0b_call2_v374 : Ref sig .tc := ⟨.hbm, 430, rfl⟩
abbrev main_while0b_call2_v375 : Ref sig .tc := ⟨.hbm, 431, rfl⟩
abbrev main_while0b_call2_v376 : Ref sig .tc := ⟨.hbm, 432, rfl⟩
abbrev main_while0b_call2_v377 : Ref sig .tc := ⟨.hbm, 433, rfl⟩
abbrev main_while0b_call2_v378 : Ref sig .tc := ⟨.hbm, 434, rfl⟩
abbrev main_while0b_call2_v379 : Ref sig .tc := ⟨.hbm, 435, rfl⟩
abbrev main_while0b_call2_v380 : Ref sig .tc := ⟨.hbm, 436, rfl⟩
abbrev main_while0b_call2_v381 : Ref sig .tc := ⟨.hbm, 437, rfl⟩
abbrev main_while0b_call2_v382 : Ref sig .tc := ⟨.hbm, 438, rfl⟩
abbrev main_while0b_call2_v383 : Ref sig .tc := ⟨.hbm, 439, rfl⟩
abbrev main_while0b_call2_v384 : Ref sig .tc := ⟨.hbm, 440, rfl⟩
abbrev main_while0b_call2_v385 : Ref sig .tc := ⟨.hbm, 441, rfl⟩
abbrev main_while0b_call2_v386 : Ref sig .tc := ⟨.hbm, 442, rfl⟩
abbrev main_while0b_call2_v387 : Ref sig .tc := ⟨.hbm, 443, rfl⟩
abbrev main_while0b_call2_v388 : Ref sig .tc := ⟨.hbm, 444, rfl⟩
abbrev main_while0b_call2_v389 : Ref sig .tc := ⟨.hbm, 445, rfl⟩
abbrev main_while0b_call2_v390 : Ref sig .tc := ⟨.hbm, 446, rfl⟩
abbrev main_while0b_call2_v391 : Ref sig .tc := ⟨.hbm, 447, rfl⟩
abbrev main_while0b_call2_v392 : Ref sig .tc := ⟨.hbm, 448, rfl⟩
abbrev main_while0b_call2_v393 : Ref sig .tc := ⟨.hbm, 449, rfl⟩
abbrev main_while0b_call2_v394 : Ref sig .tc := ⟨.hbm, 450, rfl⟩
abbrev main_while0b_call2_v395 : Ref sig .tc := ⟨.hbm, 451, rfl⟩
abbrev main_while0b_call2_v396 : Ref sig .tc := ⟨.hbm, 452, rfl⟩
abbrev main_while0b_call2_v397 : Ref sig .tc := ⟨.hbm, 453, rfl⟩
abbrev main_while0b_call2_v398 : Ref sig .tc := ⟨.hbm, 454, rfl⟩
abbrev main_while0b_call2_v399 : Ref sig .tc := ⟨.hbm, 455, rfl⟩
abbrev main_while0b_call2_v400 : Ref sig .tc := ⟨.hbm, 456, rfl⟩
abbrev main_while0b_call2_v401 : Ref sig .tc := ⟨.hbm, 457, rfl⟩
abbrev main_while0b_call2_v402 : Ref sig .tc := ⟨.hbm, 458, rfl⟩
abbrev main_while0b_call2_v403 : Ref sig .tc := ⟨.hbm, 459, rfl⟩
abbrev main_while0b_call2_v404 : Ref sig .tc := ⟨.hbm, 460, rfl⟩
abbrev main_while0b_call2_v405 : Ref sig .tc := ⟨.hbm, 461, rfl⟩
abbrev main_while0b_call2_v406 : Ref sig .tc := ⟨.hbm, 462, rfl⟩
abbrev main_while0b_call2_v407 : Ref sig .tc := ⟨.hbm, 463, rfl⟩
abbrev main_while0b_call2_v408 : Ref sig .tc := ⟨.hbm, 464, rfl⟩
abbrev main_while0b_call2_v409 : Ref sig .tc := ⟨.hbm, 465, rfl⟩
abbrev main_while0b_call2_v410 : Ref sig .tc := ⟨.hbm, 466, rfl⟩
abbrev main_while0b_call2_v411 : Ref sig .tc := ⟨.hbm, 467, rfl⟩
abbrev main_while0b_call2_v412 : Ref sig .tc := ⟨.hbm, 468, rfl⟩
abbrev main_while0b_call2_v413 : Ref sig .tc := ⟨.hbm, 469, rfl⟩
abbrev main_while0b_call2_v414 : Ref sig .tc := ⟨.hbm, 470, rfl⟩
abbrev main_while0b_call2_v415 : Ref sig .tc := ⟨.hbm, 471, rfl⟩
abbrev main_while0b_call2_v416 : Ref sig .tc := ⟨.hbm, 472, rfl⟩
abbrev main_while0b_call2_v417 : Ref sig .tc := ⟨.hbm, 473, rfl⟩
abbrev main_while0b_call2_v418 : Ref sig .tc := ⟨.hbm, 474, rfl⟩
abbrev main_while0b_call2_v419 : Ref sig .tc := ⟨.hbm, 475, rfl⟩
abbrev main_while0b_call2_v420 : Ref sig .tc := ⟨.hbm, 476, rfl⟩
abbrev main_while0b_call2_v421 : Ref sig .tc := ⟨.hbm, 477, rfl⟩
abbrev main_while0b_call2_v422 : Ref sig .tc := ⟨.hbm, 478, rfl⟩
abbrev main_while0b_call2_v423 : Ref sig .tc := ⟨.hbm, 479, rfl⟩
abbrev main_while0b_call2_v424 : Ref sig .tc := ⟨.hbm, 480, rfl⟩
abbrev main_while0b_call2_v425 : Ref sig .tc := ⟨.hbm, 481, rfl⟩
abbrev main_while0b_call2_v426 : Ref sig .tc := ⟨.hbm, 482, rfl⟩
abbrev main_while0b_call2_v427 : Ref sig .tc := ⟨.hbm, 483, rfl⟩
abbrev main_while0b_call2_v428 : Ref sig .tc := ⟨.hbm, 484, rfl⟩
abbrev main_while0b_call2_v429 : Ref sig .tc := ⟨.hbm, 485, rfl⟩
abbrev main_while0b_call2_v430 : Ref sig .tc := ⟨.hbm, 486, rfl⟩
abbrev main_while0b_call2_v431 : Ref sig .tc := ⟨.hbm, 487, rfl⟩
abbrev main_while0b_call2_v432 : Ref sig .tc := ⟨.hbm, 488, rfl⟩
abbrev main_while0b_call2_v433 : Ref sig .tc := ⟨.hbm, 489, rfl⟩
abbrev main_while0b_call2_v434 : Ref sig .tc := ⟨.hbm, 490, rfl⟩
abbrev main_while0b_call2_v435 : Ref sig .tc := ⟨.hbm, 491, rfl⟩
abbrev main_while0b_call2_v436 : Ref sig .tc := ⟨.hbm, 492, rfl⟩
abbrev main_while0b_call2_v437 : Ref sig .tc := ⟨.hbm, 493, rfl⟩
abbrev main_while0b_call2_v438 : Ref sig .tc := ⟨.hbm, 494, rfl⟩
abbrev main_while0b_call2_v439 : Ref sig .tc := ⟨.hbm, 495, rfl⟩
abbrev main_while0b_call2_v440 : Ref sig .tc := ⟨.hbm, 496, rfl⟩
abbrev main_while0b_call2_v441 : Ref sig .tc := ⟨.hbm, 497, rfl⟩
abbrev main_while0b_call2_v442 : Ref sig .tc := ⟨.hbm, 498, rfl⟩
abbrev main_while0b_call2_v443 : Ref sig .tc := ⟨.hbm, 499, rfl⟩
abbrev main_while0b_call2_v444 : Ref sig .tc := ⟨.hbm, 500, rfl⟩
abbrev main_while0b_call2_v445 : Ref sig .tc := ⟨.hbm, 501, rfl⟩
abbrev main_while0b_call2_v446 : Ref sig .tc := ⟨.hbm, 502, rfl⟩
abbrev main_while0b_call2_v447 : Ref sig .tc := ⟨.hbm, 503, rfl⟩
abbrev main_while0b_call2_v448 : Ref sig .tc := ⟨.hbm, 504, rfl⟩
abbrev main_while0b_call2_v449 : Ref sig .tc := ⟨.hbm, 505, rfl⟩
abbrev main_while0b_call2_v450 : Ref sig .tc := ⟨.hbm, 506, rfl⟩
abbrev main_while0b_call2_v451 : Ref sig .tc := ⟨.hbm, 507, rfl⟩
abbrev main_while0b_call2_v452 : Ref sig .tc := ⟨.hbm, 508, rfl⟩
abbrev main_while0b_call2_v453 : Ref sig .tc := ⟨.hbm, 509, rfl⟩
abbrev main_while0b_call2_v454 : Ref sig .tc := ⟨.hbm, 510, rfl⟩
abbrev main_while0b_call2_v455 : Ref sig .tc := ⟨.hbm, 511, rfl⟩
abbrev main_while0b_call2_v456 : Ref sig .tc := ⟨.hbm, 512, rfl⟩
abbrev main_while0b_call2_v457 : Ref sig .tc := ⟨.hbm, 513, rfl⟩
abbrev main_while0b_call2_v458 : Ref sig .tc := ⟨.hbm, 514, rfl⟩
abbrev main_while0b_call2_v459 : Ref sig .tc := ⟨.hbm, 515, rfl⟩
abbrev main_while0b_call2_v460 : Ref sig .tc := ⟨.hbm, 516, rfl⟩
abbrev main_while0b_call2_v461 : Ref sig .tc := ⟨.hbm, 517, rfl⟩
abbrev main_while0b_call2_v462 : Ref sig .tc := ⟨.hbm, 518, rfl⟩
abbrev main_while0b_call2_v463 : Ref sig .tc := ⟨.hbm, 519, rfl⟩
abbrev main_while0b_call2_v464 : Ref sig .tc := ⟨.hbm, 520, rfl⟩
abbrev main_while0b_call2_v465 : Ref sig .tc := ⟨.hbm, 521, rfl⟩
abbrev main_while0b_call2_v466 : Ref sig .tc := ⟨.hbm, 522, rfl⟩
abbrev main_while0b_call2_v467 : Ref sig .tc := ⟨.hbm, 523, rfl⟩
abbrev main_while0b_call2_v468 : Ref sig .tc := ⟨.hbm, 524, rfl⟩
abbrev main_while0b_call2_v469 : Ref sig .tc := ⟨.hbm, 525, rfl⟩
abbrev main_while0b_call2_v470 : Ref sig .tc := ⟨.hbm, 526, rfl⟩
abbrev main_while0b_call2_v471 : Ref sig .tc := ⟨.hbm, 527, rfl⟩
abbrev main_while0b_call2_v472 : Ref sig .tc := ⟨.hbm, 528, rfl⟩
abbrev main_while0b_call2_v473 : Ref sig .tc := ⟨.hbm, 529, rfl⟩
abbrev main_while0b_call2_v474 : Ref sig .tc := ⟨.hbm, 530, rfl⟩
abbrev main_while0b_call2_v475 : Ref sig .tc := ⟨.hbm, 531, rfl⟩
abbrev main_while0b_call2_v476 : Ref sig .tc := ⟨.hbm, 532, rfl⟩
abbrev main_while0b_call2_v477 : Ref sig .tc := ⟨.hbm, 533, rfl⟩
abbrev main_while0b_call2_v478 : Ref sig .tc := ⟨.hbm, 534, rfl⟩
abbrev main_while0b_call2_v479 : Ref sig .tc := ⟨.hbm, 535, rfl⟩
abbrev main_while0b_call2_v480 : Ref sig .tc := ⟨.hbm, 536, rfl⟩
abbrev main_while0b_call2_v481 : Ref sig .tc := ⟨.hbm, 537, rfl⟩
abbrev main_while0b_call2_v482 : Ref sig .tc := ⟨.hbm, 538, rfl⟩
abbrev main_while0b_call2_v483 : Ref sig .tc := ⟨.hbm, 539, rfl⟩
abbrev main_while0b_call2_v484 : Ref sig .tc := ⟨.hbm, 540, rfl⟩
abbrev main_while0b_call2_v485 : Ref sig .tc := ⟨.hbm, 541, rfl⟩
abbrev main_while0b_call2_v486 : Ref sig .tc := ⟨.hbm, 542, rfl⟩
abbrev main_while0b_call2_v487 : Ref sig .tc := ⟨.hbm, 543, rfl⟩
abbrev main_while0b_call2_v488 : Ref sig .tc := ⟨.hbm, 544, rfl⟩
abbrev main_while0b_call2_v489 : Ref sig .tc := ⟨.hbm, 545, rfl⟩
abbrev main_while0b_call2_v490 : Ref sig .tc := ⟨.hbm, 546, rfl⟩
abbrev main_while0b_call2_v491 : Ref sig .tc := ⟨.hbm, 547, rfl⟩
abbrev main_while0b_call2_v492 : Ref sig .tc := ⟨.hbm, 548, rfl⟩
abbrev main_while0b_call2_v493 : Ref sig .tc := ⟨.hbm, 549, rfl⟩
abbrev main_while0b_call2_v494 : Ref sig .tc := ⟨.hbm, 550, rfl⟩
abbrev main_while0b_call2_v495 : Ref sig .tc := ⟨.hbm, 551, rfl⟩
abbrev main_while0b_call2_v496 : Ref sig .tc := ⟨.hbm, 552, rfl⟩
abbrev main_while0b_call2_v497 : Ref sig .tc := ⟨.hbm, 553, rfl⟩
abbrev main_while0b_call2_v498 : Ref sig .tc := ⟨.hbm, 554, rfl⟩
abbrev main_while0b_call2_v499 : Ref sig .tc := ⟨.hbm, 555, rfl⟩
abbrev main_while0b_call2_v500 : Ref sig .tc := ⟨.hbm, 556, rfl⟩
abbrev main_while0b_call2_v501 : Ref sig .tc := ⟨.hbm, 557, rfl⟩
abbrev main_while0b_call2_v502 : Ref sig .tc := ⟨.hbm, 558, rfl⟩
abbrev main_while0b_call2_v503 : Ref sig .tc := ⟨.hbm, 559, rfl⟩
abbrev main_while0b_call2_v504 : Ref sig .tc := ⟨.hbm, 560, rfl⟩
abbrev main_while0b_call2_v505 : Ref sig .tc := ⟨.hbm, 561, rfl⟩
abbrev main_while0b_call2_v506 : Ref sig .tc := ⟨.hbm, 562, rfl⟩
abbrev main_while0b_call2_v507 : Ref sig .tc := ⟨.hbm, 563, rfl⟩
abbrev main_while0b_call2_v508 : Ref sig .tc := ⟨.hbm, 564, rfl⟩
abbrev main_while0b_call2_v509 : Ref sig .tc := ⟨.hbm, 565, rfl⟩
abbrev main_while0b_call2_v510 : Ref sig .tc := ⟨.hbm, 566, rfl⟩
abbrev main_while0b_call2_v511 : Ref sig .tc := ⟨.hbm, 567, rfl⟩
abbrev main_while0b_call2_v512 : Ref sig .tc := ⟨.hbm, 568, rfl⟩
abbrev main_while0b_call2_v513 : Ref sig .tc := ⟨.hbm, 569, rfl⟩
abbrev main_while0b_call2_v514 : Ref sig .tc := ⟨.hbm, 570, rfl⟩
abbrev main_while0b_call2_v515 : Ref sig .tc := ⟨.hbm, 571, rfl⟩
abbrev main_while0b_call2_v516 : Ref sig .tc := ⟨.hbm, 572, rfl⟩
abbrev main_while0b_call2_v517 : Ref sig .tc := ⟨.hbm, 573, rfl⟩
abbrev main_while0b_call2_v518 : Ref sig .tc := ⟨.hbm, 574, rfl⟩
abbrev main_while0b_call2_v519 : Ref sig .tc := ⟨.hbm, 575, rfl⟩
abbrev main_while0b_call2_v520 : Ref sig .tc := ⟨.hbm, 576, rfl⟩
abbrev main_while0b_call2_v521 : Ref sig .tc := ⟨.hbm, 577, rfl⟩
abbrev main_while0b_call2_v522 : Ref sig .tc := ⟨.hbm, 578, rfl⟩
abbrev main_while0b_call2_v523 : Ref sig .tc := ⟨.hbm, 579, rfl⟩
abbrev main_while0b_call2_v524 : Ref sig .tc := ⟨.hbm, 580, rfl⟩
abbrev main_while0b_call2_v525 : Ref sig .tc := ⟨.hbm, 581, rfl⟩
abbrev main_while0b_call2_v526 : Ref sig .tc := ⟨.hbm, 582, rfl⟩
abbrev main_while0b_call2_v527 : Ref sig .tc := ⟨.hbm, 583, rfl⟩
abbrev main_while0b_call2_v528 : Ref sig .tc := ⟨.hbm, 584, rfl⟩
abbrev main_while0b_call2_v529 : Ref sig .tc := ⟨.hbm, 585, rfl⟩
abbrev main_while0b_call2_v530 : Ref sig .tc := ⟨.hbm, 586, rfl⟩
abbrev main_while0b_call2_v531 : Ref sig .tc := ⟨.hbm, 587, rfl⟩
abbrev main_while0b_call2_v532 : Ref sig .tc := ⟨.hbm, 588, rfl⟩
abbrev main_while0b_call2_v533 : Ref sig .tc := ⟨.hbm, 589, rfl⟩
abbrev main_while0b_call2_v534 : Ref sig .tc := ⟨.hbm, 590, rfl⟩
abbrev main_while0b_call2_v535 : Ref sig .tc := ⟨.hbm, 591, rfl⟩
abbrev main_while0b_call2_v536 : Ref sig .tc := ⟨.hbm, 592, rfl⟩
abbrev main_while0b_call2_v537 : Ref sig .tc := ⟨.hbm, 593, rfl⟩
abbrev main_while0b_call2_v538 : Ref sig .tc := ⟨.hbm, 594, rfl⟩
abbrev main_while0b_call2_v539 : Ref sig .tc := ⟨.hbm, 595, rfl⟩
abbrev main_while0b_call2_v540 : Ref sig .tc := ⟨.hbm, 596, rfl⟩
abbrev main_while0b_call2_v541 : Ref sig .tc := ⟨.hbm, 597, rfl⟩
abbrev main_while0b_call2_v542 : Ref sig .tc := ⟨.hbm, 598, rfl⟩
abbrev main_while0b_call2_v543 : Ref sig .tc := ⟨.hbm, 599, rfl⟩
abbrev main_while0b_call2_v544 : Ref sig .tc := ⟨.hbm, 600, rfl⟩
abbrev main_while0b_call2_v545 : Ref sig .tc := ⟨.hbm, 601, rfl⟩
abbrev main_while0b_call2_v546 : Ref sig .tc := ⟨.hbm, 602, rfl⟩
abbrev main_while0b_call2_v547 : Ref sig .tc := ⟨.hbm, 603, rfl⟩
abbrev main_while0b_call2_v548 : Ref sig .tc := ⟨.hbm, 604, rfl⟩
abbrev main_while0b_call2_v549 : Ref sig .tc := ⟨.hbm, 605, rfl⟩
abbrev main_while0b_call2_v550 : Ref sig .tc := ⟨.hbm, 606, rfl⟩
abbrev main_while0b_call2_v551 : Ref sig .tc := ⟨.hbm, 607, rfl⟩
abbrev main_while0b_call2_v552 : Ref sig .tc := ⟨.hbm, 608, rfl⟩
abbrev main_while0b_call2_v553 : Ref sig .tc := ⟨.hbm, 609, rfl⟩
abbrev main_while0b_call2_v554 : Ref sig .tc := ⟨.hbm, 610, rfl⟩
abbrev main_while0b_call2_v555 : Ref sig .tc := ⟨.hbm, 611, rfl⟩
abbrev main_while0b_call2_v556 : Ref sig .tc := ⟨.hbm, 612, rfl⟩
abbrev main_while0b_call2_v557 : Ref sig .tc := ⟨.hbm, 613, rfl⟩
abbrev main_while0b_call2_v558 : Ref sig .tc := ⟨.hbm, 614, rfl⟩
abbrev main_while0b_call2_v559 : Ref sig .tc := ⟨.hbm, 615, rfl⟩
abbrev main_while0b_call2_v560 : Ref sig .tc := ⟨.hbm, 616, rfl⟩
abbrev main_while0b_call2_v561 : Ref sig .tc := ⟨.hbm, 617, rfl⟩
abbrev main_while0b_call2_v562 : Ref sig .tc := ⟨.hbm, 618, rfl⟩
abbrev main_while0b_call2_v563 : Ref sig .tc := ⟨.hbm, 619, rfl⟩
abbrev main_while0b_call2_v564 : Ref sig .tc := ⟨.hbm, 620, rfl⟩
abbrev main_while0b_call2_v565 : Ref sig .tc := ⟨.hbm, 621, rfl⟩
abbrev main_while0b_call2_v566 : Ref sig .tc := ⟨.hbm, 622, rfl⟩
abbrev main_while0b_call2_v567 : Ref sig .tc := ⟨.hbm, 623, rfl⟩
abbrev main_while0b_call2_v568 : Ref sig .tc := ⟨.hbm, 624, rfl⟩
abbrev main_while0b_call2_v569 : Ref sig .tc := ⟨.hbm, 625, rfl⟩
abbrev main_while0b_call2_v570 : Ref sig .tc := ⟨.hbm, 626, rfl⟩
abbrev main_while0b_call2_v571 : Ref sig .tc := ⟨.hbm, 627, rfl⟩
abbrev main_while0b_call2_v572 : Ref sig .tc := ⟨.hbm, 628, rfl⟩
abbrev main_while0b_call2_v573 : Ref sig .tc := ⟨.hbm, 629, rfl⟩
abbrev main_while0b_call2_v574 : Ref sig .tc := ⟨.hbm, 630, rfl⟩
abbrev main_while0b_call2_v575 : Ref sig .tc := ⟨.hbm, 631, rfl⟩
abbrev main_while0b_call2_v576 : Ref sig .tc := ⟨.hbm, 632, rfl⟩
abbrev main_while0b_call2_v577 : Ref sig .tc := ⟨.hbm, 633, rfl⟩
abbrev main_while0b_call2_v578 : Ref sig .tc := ⟨.hbm, 634, rfl⟩
abbrev main_while0b_call2_v579 : Ref sig .tc := ⟨.hbm, 635, rfl⟩
abbrev main_while0b_call2_v580 : Ref sig .tc := ⟨.hbm, 636, rfl⟩
abbrev main_while0b_call2_v581 : Ref sig .tc := ⟨.hbm, 637, rfl⟩
abbrev main_while0b_call2_v582 : Ref sig .tc := ⟨.hbm, 638, rfl⟩
abbrev main_while0b_call2_v583 : Ref sig .tc := ⟨.hbm, 639, rfl⟩
abbrev main_while0b_call2_v584 : Ref sig .tc := ⟨.hbm, 640, rfl⟩
abbrev main_while0b_call2_v585 : Ref sig .tc := ⟨.hbm, 641, rfl⟩
abbrev main_while0b_call2_v586 : Ref sig .tc := ⟨.hbm, 642, rfl⟩
abbrev main_while0b_call2_v587 : Ref sig .tc := ⟨.hbm, 643, rfl⟩
abbrev main_while0b_call2_v588 : Ref sig .tc := ⟨.hbm, 644, rfl⟩
abbrev main_while0b_call2_v589 : Ref sig .tc := ⟨.hbm, 645, rfl⟩
abbrev main_while0b_call2_v590 : Ref sig .tc := ⟨.hbm, 646, rfl⟩
abbrev main_while0b_call2_v591 : Ref sig .tc := ⟨.hbm, 647, rfl⟩
abbrev main_while0b_call2_v592 : Ref sig .tc := ⟨.hbm, 648, rfl⟩
abbrev main_while0b_call2_v593 : Ref sig .tc := ⟨.hbm, 649, rfl⟩
abbrev main_while0b_call2_v594 : Ref sig .tc := ⟨.hbm, 650, rfl⟩
abbrev main_while0b_call2_v595 : Ref sig .tc := ⟨.hbm, 651, rfl⟩
abbrev main_while0b_call2_v596 : Ref sig .tc := ⟨.hbm, 652, rfl⟩
abbrev main_while0b_call2_v597 : Ref sig .tc := ⟨.hbm, 653, rfl⟩
abbrev main_while0b_call2_v598 : Ref sig .tc := ⟨.hbm, 654, rfl⟩
abbrev main_while0b_call2_v599 : Ref sig .tc := ⟨.hbm, 655, rfl⟩
abbrev main_while0b_call2_v600 : Ref sig .tc := ⟨.hbm, 656, rfl⟩
abbrev main_while0b_call2_v601 : Ref sig .tc := ⟨.hbm, 657, rfl⟩
abbrev main_while0b_call2_v602 : Ref sig .tc := ⟨.hbm, 658, rfl⟩
abbrev main_while0b_call2_v603 : Ref sig .tc := ⟨.hbm, 659, rfl⟩
abbrev main_while0b_call2_v604 : Ref sig .tc := ⟨.hbm, 660, rfl⟩
abbrev main_while0b_call2_v605 : Ref sig .tc := ⟨.hbm, 661, rfl⟩
abbrev main_while0b_call2_v606 : Ref sig .tc := ⟨.hbm, 662, rfl⟩
abbrev main_while0b_call2_v607 : Ref sig .tc := ⟨.hbm, 663, rfl⟩
abbrev main_while0b_call2_v608 : Ref sig .tc := ⟨.hbm, 664, rfl⟩
abbrev main_while0b_call2_v609 : Ref sig .tc := ⟨.hbm, 665, rfl⟩
abbrev main_while0b_call2_v610 : Ref sig .tc := ⟨.hbm, 666, rfl⟩
abbrev main_while0b_call2_v611 : Ref sig .tc := ⟨.hbm, 667, rfl⟩
abbrev main_while0b_call2_v612 : Ref sig .tc := ⟨.hbm, 668, rfl⟩
abbrev main_while0b_call2_v613 : Ref sig .tc := ⟨.hbm, 669, rfl⟩
abbrev main_while0b_call2_v614 : Ref sig .tc := ⟨.hbm, 670, rfl⟩
abbrev main_while0b_call2_v615 : Ref sig .tc := ⟨.hbm, 671, rfl⟩
abbrev main_while0b_call2_v616 : Ref sig .tc := ⟨.hbm, 672, rfl⟩
abbrev main_while0b_call2_v617 : Ref sig .tc := ⟨.hbm, 673, rfl⟩
abbrev main_while0b_call2_v618 : Ref sig .tc := ⟨.hbm, 674, rfl⟩
abbrev main_while0b_call2_v619 : Ref sig .tc := ⟨.hbm, 675, rfl⟩
abbrev main_while0b_call2_v620 : Ref sig .tc := ⟨.hbm, 676, rfl⟩
abbrev main_while0b_call2_v621 : Ref sig .tc := ⟨.hbm, 677, rfl⟩
abbrev main_while0b_call2_v622 : Ref sig .tc := ⟨.hbm, 678, rfl⟩
abbrev main_while0b_call2_v623 : Ref sig .tc := ⟨.hbm, 679, rfl⟩
abbrev main_while0b_call2_v624 : Ref sig .tc := ⟨.hbm, 680, rfl⟩
abbrev main_while0b_call2_v625 : Ref sig .tc := ⟨.hbm, 681, rfl⟩
abbrev main_while0b_call2_v626 : Ref sig .tc := ⟨.hbm, 682, rfl⟩
abbrev main_while0b_call2_v627 : Ref sig .tc := ⟨.hbm, 683, rfl⟩
abbrev main_while0b_call2_v628 : Ref sig .tc := ⟨.hbm, 684, rfl⟩
abbrev main_while0b_call2_v629 : Ref sig .tc := ⟨.hbm, 685, rfl⟩
abbrev main_while0b_call2_v630 : Ref sig .tc := ⟨.hbm, 686, rfl⟩
abbrev main_while0b_call2_v631 : Ref sig .tc := ⟨.hbm, 687, rfl⟩
abbrev main_while0b_call2_v632 : Ref sig .tc := ⟨.hbm, 688, rfl⟩
abbrev main_while0b_call2_v633 : Ref sig .tc := ⟨.hbm, 689, rfl⟩
abbrev main_while0b_call2_v634 : Ref sig .tc := ⟨.hbm, 690, rfl⟩
abbrev main_while0b_call2_v635 : Ref sig .tc := ⟨.hbm, 691, rfl⟩
abbrev main_while0b_call2_v636 : Ref sig .tc := ⟨.hbm, 692, rfl⟩
abbrev main_while0b_call2_v637 : Ref sig .tc := ⟨.hbm, 693, rfl⟩
abbrev main_while0b_call2_v638 : Ref sig .tc := ⟨.hbm, 694, rfl⟩
abbrev main_while0b_call2_v639 : Ref sig .tc := ⟨.hbm, 695, rfl⟩
abbrev main_while0b_call2_v640 : Ref sig .tc := ⟨.hbm, 696, rfl⟩
abbrev main_while0b_call2_v641 : Ref sig .tc := ⟨.hbm, 697, rfl⟩
abbrev main_while0b_call2_v642 : Ref sig .tc := ⟨.hbm, 698, rfl⟩
abbrev main_while0b_call2_v643 : Ref sig .tc := ⟨.hbm, 699, rfl⟩
abbrev main_while0b_call2_v644 : Ref sig .tc := ⟨.hbm, 700, rfl⟩
abbrev main_while0b_call2_v645 : Ref sig .tc := ⟨.hbm, 701, rfl⟩
abbrev main_while0b_call2_v646 : Ref sig .tc := ⟨.hbm, 702, rfl⟩
abbrev main_while0b_call2_v647 : Ref sig .tc := ⟨.hbm, 703, rfl⟩
abbrev main_while0b_call2_v648 : Ref sig .tc := ⟨.hbm, 704, rfl⟩
abbrev main_while0b_call2_v649 : Ref sig .tc := ⟨.hbm, 705, rfl⟩
abbrev main_while0b_call2_v650 : Ref sig .tc := ⟨.hbm, 706, rfl⟩
abbrev main_while0b_call2_v651 : Ref sig .tc := ⟨.hbm, 707, rfl⟩
abbrev main_while0b_call2_v652 : Ref sig .tc := ⟨.hbm, 708, rfl⟩
abbrev main_while0b_call2_v653 : Ref sig .tc := ⟨.hbm, 709, rfl⟩
abbrev main_while0b_call2_v654 : Ref sig .tc := ⟨.hbm, 710, rfl⟩
abbrev main_while0b_call2_v655 : Ref sig .tc := ⟨.hbm, 711, rfl⟩
abbrev main_while0b_call2_v656 : Ref sig .tc := ⟨.hbm, 712, rfl⟩
abbrev main_while0b_call2_v657 : Ref sig .tc := ⟨.hbm, 713, rfl⟩
abbrev main_while0b_call2_v658 : Ref sig .tc := ⟨.hbm, 714, rfl⟩
abbrev main_while0b_call2_v659 : Ref sig .tc := ⟨.hbm, 715, rfl⟩
abbrev main_while0b_call2_v660 : Ref sig .tc := ⟨.hbm, 716, rfl⟩
abbrev main_while0b_call2_v661 : Ref sig .tc := ⟨.hbm, 717, rfl⟩
abbrev main_while0b_call2_v662 : Ref sig .tc := ⟨.hbm, 718, rfl⟩
abbrev main_while0b_call2_v663 : Ref sig .tc := ⟨.hbm, 719, rfl⟩
abbrev main_while0b_call2_v664 : Ref sig .tc := ⟨.hbm, 720, rfl⟩
abbrev main_while0b_call2_v665 : Ref sig .tc := ⟨.hbm, 721, rfl⟩
abbrev main_while0b_call2_v666 : Ref sig .tc := ⟨.hbm, 722, rfl⟩
abbrev main_while0b_call2_v667 : Ref sig .tc := ⟨.hbm, 723, rfl⟩
abbrev main_while0b_call2_v668 : Ref sig .tc := ⟨.hbm, 724, rfl⟩
abbrev main_while0b_call2_v669 : Ref sig .tc := ⟨.hbm, 725, rfl⟩
abbrev main_while0b_call2_v670 : Ref sig .tc := ⟨.hbm, 726, rfl⟩
abbrev main_while0b_call2_v671 : Ref sig .tc := ⟨.hbm, 727, rfl⟩
abbrev main_while0b_call2_v672 : Ref sig .tc := ⟨.hbm, 728, rfl⟩
abbrev main_while0b_call2_v673 : Ref sig .tc := ⟨.hbm, 729, rfl⟩
abbrev main_while0b_call2_v674 : Ref sig .tc := ⟨.hbm, 730, rfl⟩
abbrev main_while0b_call2_v675 : Ref sig .tc := ⟨.hbm, 731, rfl⟩
abbrev main_while0b_call2_v676 : Ref sig .tc := ⟨.hbm, 732, rfl⟩
abbrev main_while0b_call2_v677 : Ref sig .tc := ⟨.hbm, 733, rfl⟩
abbrev main_while0b_call2_v678 : Ref sig .tc := ⟨.hbm, 734, rfl⟩
abbrev main_while0b_call2_v679 : Ref sig .tc := ⟨.hbm, 735, rfl⟩
abbrev main_while0b_call2_v680 : Ref sig .tc := ⟨.hbm, 736, rfl⟩
abbrev main_while0b_call2_v681 : Ref sig .tc := ⟨.hbm, 737, rfl⟩
abbrev main_while0b_call2_v682 : Ref sig .tc := ⟨.hbm, 738, rfl⟩
abbrev main_while0b_call2_v683 : Ref sig .tc := ⟨.hbm, 739, rfl⟩
abbrev main_while0b_call2_v684 : Ref sig .tc := ⟨.hbm, 740, rfl⟩
abbrev main_while0b_call2_v685 : Ref sig .tc := ⟨.hbm, 741, rfl⟩
abbrev main_while0b_call2_v686 : Ref sig .tc := ⟨.hbm, 742, rfl⟩
abbrev main_while0b_call2_v687 : Ref sig .tc := ⟨.hbm, 743, rfl⟩
abbrev main_while0b_call2_v688 : Ref sig .tc := ⟨.hbm, 744, rfl⟩
abbrev main_while0b_call2_v689 : Ref sig .tc := ⟨.hbm, 745, rfl⟩
abbrev main_while0b_call2_v690 : Ref sig .tc := ⟨.hbm, 746, rfl⟩
abbrev main_while0b_call2_v691 : Ref sig .tc := ⟨.hbm, 747, rfl⟩
abbrev main_while0b_call2_v692 : Ref sig .tc := ⟨.hbm, 748, rfl⟩
abbrev main_while0b_call2_v693 : Ref sig .tc := ⟨.hbm, 749, rfl⟩
abbrev main_while0b_call2_v694 : Ref sig .tc := ⟨.hbm, 750, rfl⟩
abbrev main_while0b_call2_v695 : Ref sig .tc := ⟨.hbm, 751, rfl⟩
abbrev main_while0b_call2_v696 : Ref sig .tc := ⟨.hbm, 752, rfl⟩
abbrev main_while0b_call2_v697 : Ref sig .tc := ⟨.hbm, 753, rfl⟩
abbrev main_while0b_call2_v698 : Ref sig .tc := ⟨.hbm, 754, rfl⟩
abbrev main_while0b_call2_v699 : Ref sig .tc := ⟨.hbm, 755, rfl⟩
abbrev main_while0b_call2_v700 : Ref sig .tc := ⟨.hbm, 756, rfl⟩
abbrev main_while0b_call2_v701 : Ref sig .tc := ⟨.hbm, 757, rfl⟩
abbrev main_while0b_call2_v702 : Ref sig .tc := ⟨.hbm, 758, rfl⟩
abbrev main_while0b_call2_v703 : Ref sig .tc := ⟨.hbm, 759, rfl⟩
abbrev main_while0b_call2_v704 : Ref sig .tc := ⟨.hbm, 760, rfl⟩
abbrev main_while0b_call2_v705 : Ref sig .tc := ⟨.hbm, 761, rfl⟩
abbrev main_while0b_call2_v706 : Ref sig .tc := ⟨.hbm, 762, rfl⟩
abbrev main_while0b_call2_v707 : Ref sig .tc := ⟨.hbm, 763, rfl⟩
abbrev main_while0b_call2_v708 : Ref sig .tc := ⟨.hbm, 764, rfl⟩
abbrev main_while0b_call2_v709 : Ref sig .tc := ⟨.hbm, 765, rfl⟩
abbrev main_while0b_call2_v710 : Ref sig .tc := ⟨.hbm, 766, rfl⟩
abbrev main_while0b_call2_v711 : Ref sig .tc := ⟨.hbm, 767, rfl⟩
abbrev main_while0b_call2_v712 : Ref sig .tc := ⟨.hbm, 768, rfl⟩
abbrev main_while0b_call2_v713 : Ref sig .tc := ⟨.hbm, 769, rfl⟩
abbrev main_while0b_call2_v714 : Ref sig .tc := ⟨.hbm, 770, rfl⟩
abbrev main_while0b_call2_v715 : Ref sig .tc := ⟨.hbm, 771, rfl⟩
abbrev main_while0b_call2_v716 : Ref sig .tc := ⟨.hbm, 772, rfl⟩
abbrev main_while0b_call2_v717 : Ref sig .tc := ⟨.hbm, 773, rfl⟩
abbrev main_while0b_call2_v718 : Ref sig .tc := ⟨.hbm, 774, rfl⟩
abbrev main_while0b_call2_v719 : Ref sig .tc := ⟨.hbm, 775, rfl⟩
abbrev main_while0b_call2_v720 : Ref sig .tc := ⟨.hbm, 776, rfl⟩
abbrev main_while0b_call2_v721 : Ref sig .tc := ⟨.hbm, 777, rfl⟩
abbrev main_while0b_call2_v722 : Ref sig .tc := ⟨.hbm, 778, rfl⟩
abbrev main_while0b_call2_v723 : Ref sig .tc := ⟨.hbm, 779, rfl⟩
abbrev main_while0b_call2_v724 : Ref sig .tc := ⟨.hbm, 780, rfl⟩
abbrev main_while0b_call2_v725 : Ref sig .tc := ⟨.hbm, 781, rfl⟩
abbrev main_while0b_call2_v726 : Ref sig .tc := ⟨.hbm, 782, rfl⟩
abbrev main_while0b_call2_v727 : Ref sig .tc := ⟨.hbm, 783, rfl⟩
abbrev main_while0b_call2_cst_9 : Ref sig .tc := ⟨.hbm, 784, rfl⟩
abbrev main_while0b_call2_v728 : Ref sig .tc := ⟨.hbm, 785, rfl⟩
abbrev main_while0b_call2_v729 : Ref sig .tc := ⟨.hbm, 786, rfl⟩
abbrev main_while0b_call2_cst_10 : Ref sig .tc := ⟨.hbm, 787, rfl⟩
abbrev main_while0b_call2_v730 : Ref sig .tc := ⟨.hbm, 788, rfl⟩
abbrev main_while0b_call2_v731 : Ref sig .tc := ⟨.hbm, 789, rfl⟩
abbrev main_while0b_call2_v732 : Ref sig .tc := ⟨.hbm, 790, rfl⟩
abbrev main_while0b_call2_v733 : Ref sig .tc := ⟨.hbm, 791, rfl⟩
abbrev main_while0b_call2_v734 : Ref sig .tc := ⟨.hbm, 792, rfl⟩
abbrev main_while0b_call2_v735 : Ref sig .tc := ⟨.hbm, 793, rfl⟩
abbrev main_while0b_call2_v736 : Ref sig .tc := ⟨.hbm, 794, rfl⟩
abbrev main_while0b_call2_v737 : Ref sig .tc := ⟨.hbm, 795, rfl⟩
abbrev main_while0b_call2_v738 : Ref sig .tc := ⟨.hbm, 796, rfl⟩
abbrev main_while0b_call2_v739 : Ref sig .tc := ⟨.hbm, 797, rfl⟩
abbrev main_while0b_call2_v740 : Ref sig .tc := ⟨.hbm, 798, rfl⟩
abbrev main_while0b_call2_v741 : Ref sig .tc := ⟨.hbm, 799, rfl⟩
abbrev main_while0b_call2_v742 : Ref sig .tc := ⟨.hbm, 800, rfl⟩
abbrev main_while0b_call2_v743 : Ref sig .tc := ⟨.hbm, 801, rfl⟩
abbrev main_while0b_call2_v744 : Ref sig .tc := ⟨.hbm, 802, rfl⟩
abbrev main_while0b_call2_v745 : Ref sig .tc := ⟨.hbm, 803, rfl⟩
abbrev main_while0b_call2_v746 : Ref sig .tc := ⟨.hbm, 804, rfl⟩
abbrev main_while0b_call2_v747 : Ref sig .tc := ⟨.hbm, 805, rfl⟩
abbrev main_while0b_call2_v748 : Ref sig .tc := ⟨.hbm, 806, rfl⟩
abbrev main_while0b_call2_v749 : Ref sig .tc := ⟨.hbm, 807, rfl⟩
abbrev main_while0b_call2_v750 : Ref sig .tc := ⟨.hbm, 808, rfl⟩
abbrev main_while0b_call2_v751 : Ref sig .tc := ⟨.hbm, 809, rfl⟩
abbrev main_while0b_call2_v752 : Ref sig .tc := ⟨.hbm, 810, rfl⟩
abbrev main_while0b_call2_v753 : Ref sig .tc := ⟨.hbm, 811, rfl⟩
abbrev main_while0b_call2_v754 : Ref sig .tc := ⟨.hbm, 812, rfl⟩
abbrev main_while0b_call2_v755 : Ref sig .tc := ⟨.hbm, 813, rfl⟩
abbrev main_while0b_call2_v756 : Ref sig .tc := ⟨.hbm, 814, rfl⟩
abbrev main_while0b_call2_v757 : Ref sig .tc := ⟨.hbm, 815, rfl⟩
abbrev main_while0b_call2_v758 : Ref sig .tc := ⟨.hbm, 816, rfl⟩
abbrev main_while0b_call2_v759 : Ref sig .tc := ⟨.hbm, 817, rfl⟩
abbrev main_while0b_call2_v760 : Ref sig .tc := ⟨.hbm, 818, rfl⟩
abbrev main_while0b_call2_v761 : Ref sig .tc := ⟨.hbm, 819, rfl⟩
abbrev main_while0b_call2_v762 : Ref sig .tc := ⟨.hbm, 820, rfl⟩
abbrev main_while0b_call2_v763 : Ref sig .tc := ⟨.hbm, 821, rfl⟩
abbrev main_while0b_call2_v764 : Ref sig .tc := ⟨.hbm, 822, rfl⟩
abbrev main_while0b_call2_v765 : Ref sig .tc := ⟨.hbm, 823, rfl⟩
abbrev main_while0b_call2_v766 : Ref sig .tc := ⟨.hbm, 824, rfl⟩
abbrev main_while0b_call2_v767 : Ref sig .tc := ⟨.hbm, 825, rfl⟩
abbrev main_while0b_call2_cst_11 : Ref sig .tc := ⟨.hbm, 826, rfl⟩
abbrev main_while0b_call2_v768 : Ref sig .tc := ⟨.hbm, 827, rfl⟩
abbrev main_while0b_call2_v769 : Ref sig .tc := ⟨.hbm, 828, rfl⟩
abbrev main_while0b_call2_cst_12 : Ref sig .tc := ⟨.hbm, 829, rfl⟩
abbrev main_while0b_call2_cst_13 : Ref sig .tc := ⟨.hbm, 830, rfl⟩
abbrev main_while0b_call2_call0_v0 : Ref sig .tc := ⟨.hbm, 831, rfl⟩
abbrev main_while0b_call2_call0_v1 : Ref sig .tc := ⟨.hbm, 832, rfl⟩
abbrev main_while0b_call2_v770 : Ref sig .tc := ⟨.hbm, 833, rfl⟩
abbrev main_while0b_call2_v771 : Ref sig .tc := ⟨.hbm, 834, rfl⟩
abbrev main_while0b_call2_v772 : Ref sig .tc := ⟨.hbm, 835, rfl⟩
abbrev main_while0b_call2_c_14 : Ref sig .tc := ⟨.hbm, 836, rfl⟩
abbrev main_while0b_call2_v773 : Ref sig .tc := ⟨.hbm, 837, rfl⟩
abbrev main_while0b_call2_v774 : Ref sig .tc := ⟨.hbm, 838, rfl⟩
abbrev main_while0b_call2_v775 : Ref sig .tc := ⟨.hbm, 839, rfl⟩
abbrev main_while0b_call2_v776 : Ref sig .tc := ⟨.hbm, 840, rfl⟩
abbrev main_while0b_call2_v777 : Ref sig .tc := ⟨.hbm, 841, rfl⟩
abbrev main_while0b_v23_0 : Ref sig .tc := ⟨.hbm, 842, rfl⟩
abbrev main_while0b_call2_v779 : Ref sig .tc := ⟨.hbm, 843, rfl⟩
abbrev main_while0b_call2_v780 : Ref sig .tc := ⟨.hbm, 844, rfl⟩
abbrev main_while0b_call2_v781 : Ref sig .tc := ⟨.hbm, 845, rfl⟩
abbrev main_while0b_v23_1 : Ref sig .tc := ⟨.hbm, 846, rfl⟩
abbrev main_while0b_v24 : Ref sig .tc := ⟨.hbm, 847, rfl⟩
abbrev main_while0b_v25 : Ref sig .tc := ⟨.hbm, 848, rfl⟩
abbrev main_while0b_v26 : Ref sig .tc := ⟨.hbm, 849, rfl⟩
abbrev main_while0b_v27 : Ref sig .tc := ⟨.hbm, 850, rfl⟩
abbrev main_while0b_c_8 : Ref sig .tc := ⟨.hbm, 851, rfl⟩
abbrev main_while0b_v28 : Ref sig .tc := ⟨.hbm, 852, rfl⟩
abbrev main_call3_cst : Ref sig .tc := ⟨.hbm, 853, rfl⟩
abbrev main_call3_v0 : Ref sig .tc := ⟨.hbm, 854, rfl⟩
abbrev main_call3_v1 : Ref sig .tc := ⟨.hbm, 855, rfl⟩
abbrev main_call3_cst_0 : Ref sig .tc := ⟨.hbm, 856, rfl⟩
abbrev main_call3_v2 : Ref sig .tc := ⟨.hbm, 857, rfl⟩
abbrev main_call3_v3 : Ref sig .tc := ⟨.hbm, 858, rfl⟩
abbrev main_call3_cst_1 : Ref sig .tc := ⟨.hbm, 859, rfl⟩
abbrev main_call3_v4 : Ref sig .tc := ⟨.hbm, 860, rfl⟩
abbrev main_call3_v5 : Ref sig .tc := ⟨.hbm, 861, rfl⟩
abbrev main_call3_cst_2 : Ref sig .tc := ⟨.hbm, 862, rfl⟩
abbrev main_call3_v6 : Ref sig .tc := ⟨.hbm, 863, rfl⟩
abbrev main_call3_v7 : Ref sig .tc := ⟨.hbm, 864, rfl⟩
abbrev main_call3_v8 : Ref sig .tc := ⟨.hbm, 865, rfl⟩
abbrev main_call3_v9 : Ref sig .tc := ⟨.hbm, 866, rfl⟩
abbrev main_call3_v10 : Ref sig .tc := ⟨.hbm, 867, rfl⟩
abbrev main_call3_v11 : Ref sig .tc := ⟨.hbm, 868, rfl⟩
abbrev main_call3_v12 : Ref sig .tc := ⟨.hbm, 869, rfl⟩
abbrev main_call3_cst_3 : Ref sig .tc := ⟨.hbm, 870, rfl⟩
abbrev main_call3_v13 : Ref sig .tc := ⟨.hbm, 871, rfl⟩
abbrev main_call3_cst_4 : Ref sig .tc := ⟨.hbm, 872, rfl⟩
abbrev main_call3_v14 : Ref sig .tc := ⟨.hbm, 873, rfl⟩
abbrev main_call3_cst_5 : Ref sig .tc := ⟨.hbm, 874, rfl⟩
abbrev main_call3_v15 : Ref sig .tc := ⟨.hbm, 875, rfl⟩
abbrev main_call3_cst_6 : Ref sig .tc := ⟨.hbm, 876, rfl⟩
abbrev main_call3_v16 : Ref sig .tc := ⟨.hbm, 877, rfl⟩
abbrev main_call3_v17 : Ref sig .tc := ⟨.hbm, 878, rfl⟩
abbrev main_call3_v18 : Ref sig .tc := ⟨.hbm, 879, rfl⟩
abbrev main_call3_v19 : Ref sig .tc := ⟨.hbm, 880, rfl⟩
abbrev main_call3_v20 : Ref sig .tc := ⟨.hbm, 881, rfl⟩
abbrev main_call3_c : Ref sig .tc := ⟨.hbm, 882, rfl⟩
abbrev main_call3_v21 : Ref sig .tc := ⟨.hbm, 883, rfl⟩
abbrev main_call3_c_7 : Ref sig .tc := ⟨.hbm, 884, rfl⟩
abbrev main_call3_v22 : Ref sig .tc := ⟨.hbm, 885, rfl⟩
abbrev main_call3_c_8 : Ref sig .tc := ⟨.hbm, 886, rfl⟩
abbrev main_call3_v23 : Ref sig .tc := ⟨.hbm, 887, rfl⟩
abbrev main_call3_v24 : Ref sig .tc := ⟨.hbm, 888, rfl⟩
abbrev main_call3_v25 : Ref sig .tc := ⟨.hbm, 889, rfl⟩
abbrev main_call3_v26 : Ref sig .tc := ⟨.hbm, 890, rfl⟩
abbrev main_call3_v27 : Ref sig .tc := ⟨.hbm, 891, rfl⟩
abbrev main_call3_v28 : Ref sig .tc := ⟨.hbm, 892, rfl⟩
abbrev main_call3_v29 : Ref sig .tc := ⟨.hbm, 893, rfl⟩
abbrev main_call3_v30 : Ref sig .tc := ⟨.hbm, 894, rfl⟩
abbrev main_call3_v31 : Ref sig .tc := ⟨.hbm, 895, rfl⟩
abbrev main_call3_v32 : Ref sig .tc := ⟨.hbm, 896, rfl⟩
abbrev main_call3_v33 : Ref sig .tc := ⟨.hbm, 897, rfl⟩
abbrev main_call3_v34 : Ref sig .tc := ⟨.hbm, 898, rfl⟩
abbrev main_call3_v35 : Ref sig .tc := ⟨.hbm, 899, rfl⟩
abbrev main_call3_v36 : Ref sig .tc := ⟨.hbm, 900, rfl⟩
abbrev main_call3_v37 : Ref sig .tc := ⟨.hbm, 901, rfl⟩
abbrev main_call3_v38 : Ref sig .tc := ⟨.hbm, 902, rfl⟩
abbrev main_call3_v39 : Ref sig .tc := ⟨.hbm, 903, rfl⟩
abbrev main_call3_v40 : Ref sig .tc := ⟨.hbm, 904, rfl⟩
abbrev main_call3_v41 : Ref sig .tc := ⟨.hbm, 905, rfl⟩
abbrev main_call3_v42 : Ref sig .tc := ⟨.hbm, 906, rfl⟩
abbrev main_call3_v43 : Ref sig .tc := ⟨.hbm, 907, rfl⟩
abbrev main_call3_v44 : Ref sig .tc := ⟨.hbm, 908, rfl⟩
abbrev main_call3_v45 : Ref sig .tc := ⟨.hbm, 909, rfl⟩
abbrev main_call3_v46 : Ref sig .tc := ⟨.hbm, 910, rfl⟩
abbrev main_call3_v47 : Ref sig .tc := ⟨.hbm, 911, rfl⟩
abbrev main_call3_v48 : Ref sig .tc := ⟨.hbm, 912, rfl⟩
abbrev main_call3_v49 : Ref sig .tc := ⟨.hbm, 913, rfl⟩
abbrev main_call3_v50 : Ref sig .tc := ⟨.hbm, 914, rfl⟩
abbrev main_call3_v51 : Ref sig .tc := ⟨.hbm, 915, rfl⟩
abbrev main_call3_v52 : Ref sig .tc := ⟨.hbm, 916, rfl⟩
abbrev main_call3_v53 : Ref sig .tc := ⟨.hbm, 917, rfl⟩
abbrev main_call3_v54 : Ref sig .tc := ⟨.hbm, 918, rfl⟩
abbrev main_call3_v55 : Ref sig .tc := ⟨.hbm, 919, rfl⟩
abbrev main_call3_v56 : Ref sig .tc := ⟨.hbm, 920, rfl⟩
abbrev main_call3_v57 : Ref sig .tc := ⟨.hbm, 921, rfl⟩
abbrev main_call3_v58 : Ref sig .tc := ⟨.hbm, 922, rfl⟩
abbrev main_call3_v59 : Ref sig .tc := ⟨.hbm, 923, rfl⟩
abbrev main_call3_v60 : Ref sig .tc := ⟨.hbm, 924, rfl⟩
abbrev main_call3_v61 : Ref sig .tc := ⟨.hbm, 925, rfl⟩
abbrev main_call3_v62 : Ref sig .tc := ⟨.hbm, 926, rfl⟩
abbrev main_call3_v63 : Ref sig .tc := ⟨.hbm, 927, rfl⟩
abbrev main_call3_v64 : Ref sig .tc := ⟨.hbm, 928, rfl⟩
abbrev main_call3_v65 : Ref sig .tc := ⟨.hbm, 929, rfl⟩
abbrev main_call3_v66 : Ref sig .tc := ⟨.hbm, 930, rfl⟩
abbrev main_call3_v67 : Ref sig .tc := ⟨.hbm, 931, rfl⟩
abbrev main_call3_v68 : Ref sig .tc := ⟨.hbm, 932, rfl⟩
abbrev main_call3_v69 : Ref sig .tc := ⟨.hbm, 933, rfl⟩
abbrev main_call3_v70 : Ref sig .tc := ⟨.hbm, 934, rfl⟩
abbrev main_call3_v71 : Ref sig .tc := ⟨.hbm, 935, rfl⟩
abbrev main_call3_v72 : Ref sig .tc := ⟨.hbm, 936, rfl⟩
abbrev main_call3_v73 : Ref sig .tc := ⟨.hbm, 937, rfl⟩
abbrev main_call3_v74 : Ref sig .tc := ⟨.hbm, 938, rfl⟩
abbrev main_call3_v75 : Ref sig .tc := ⟨.hbm, 939, rfl⟩
abbrev main_call3_v76 : Ref sig .tc := ⟨.hbm, 940, rfl⟩
abbrev main_call3_v77 : Ref sig .tc := ⟨.hbm, 941, rfl⟩
abbrev main_call3_v78 : Ref sig .tc := ⟨.hbm, 942, rfl⟩
abbrev main_call3_v79 : Ref sig .tc := ⟨.hbm, 943, rfl⟩
abbrev main_call3_v80 : Ref sig .tc := ⟨.hbm, 944, rfl⟩
abbrev main_call3_v81 : Ref sig .tc := ⟨.hbm, 945, rfl⟩
abbrev main_call3_v82 : Ref sig .tc := ⟨.hbm, 946, rfl⟩
abbrev main_call3_v83 : Ref sig .tc := ⟨.hbm, 947, rfl⟩
abbrev main_call3_v84 : Ref sig .tc := ⟨.hbm, 948, rfl⟩
abbrev main_call3_v85 : Ref sig .tc := ⟨.hbm, 949, rfl⟩
abbrev main_call3_v86 : Ref sig .tc := ⟨.hbm, 950, rfl⟩
abbrev main_call3_v87 : Ref sig .tc := ⟨.hbm, 951, rfl⟩
abbrev main_call3_v88 : Ref sig .tc := ⟨.hbm, 952, rfl⟩
abbrev main_call3_v89 : Ref sig .tc := ⟨.hbm, 953, rfl⟩
abbrev main_call3_v90 : Ref sig .tc := ⟨.hbm, 954, rfl⟩
abbrev main_call3_v91 : Ref sig .tc := ⟨.hbm, 955, rfl⟩
abbrev main_call3_v92 : Ref sig .tc := ⟨.hbm, 956, rfl⟩
abbrev main_call3_v93 : Ref sig .tc := ⟨.hbm, 957, rfl⟩
abbrev main_call3_v94 : Ref sig .tc := ⟨.hbm, 958, rfl⟩
abbrev main_call3_v95 : Ref sig .tc := ⟨.hbm, 959, rfl⟩
abbrev main_call3_v96 : Ref sig .tc := ⟨.hbm, 960, rfl⟩
abbrev main_call3_v97 : Ref sig .tc := ⟨.hbm, 961, rfl⟩
abbrev main_call3_v98 : Ref sig .tc := ⟨.hbm, 962, rfl⟩
abbrev main_call3_v99 : Ref sig .tc := ⟨.hbm, 963, rfl⟩
abbrev main_call3_v100 : Ref sig .tc := ⟨.hbm, 964, rfl⟩
abbrev main_call3_v101 : Ref sig .tc := ⟨.hbm, 965, rfl⟩
abbrev main_call3_v102 : Ref sig .tc := ⟨.hbm, 966, rfl⟩
abbrev main_call3_v103 : Ref sig .tc := ⟨.hbm, 967, rfl⟩
abbrev main_call3_v104 : Ref sig .tc := ⟨.hbm, 968, rfl⟩
abbrev main_call3_v105 : Ref sig .tc := ⟨.hbm, 969, rfl⟩
abbrev main_call3_v106 : Ref sig .tc := ⟨.hbm, 970, rfl⟩
abbrev main_call3_v107 : Ref sig .tc := ⟨.hbm, 971, rfl⟩
abbrev main_call3_v108 : Ref sig .tc := ⟨.hbm, 972, rfl⟩
abbrev main_call3_v109 : Ref sig .tc := ⟨.hbm, 973, rfl⟩
abbrev main_call3_v110 : Ref sig .tc := ⟨.hbm, 974, rfl⟩
abbrev main_call3_v111 : Ref sig .tc := ⟨.hbm, 975, rfl⟩
abbrev main_call3_v112 : Ref sig .tc := ⟨.hbm, 976, rfl⟩
abbrev main_call3_v113 : Ref sig .tc := ⟨.hbm, 977, rfl⟩
abbrev main_call3_v114 : Ref sig .tc := ⟨.hbm, 978, rfl⟩
abbrev main_call3_v115 : Ref sig .tc := ⟨.hbm, 979, rfl⟩
abbrev main_call3_v116 : Ref sig .tc := ⟨.hbm, 980, rfl⟩
abbrev main_call3_v117 : Ref sig .tc := ⟨.hbm, 981, rfl⟩
abbrev main_call3_v118 : Ref sig .tc := ⟨.hbm, 982, rfl⟩
abbrev main_call3_v119 : Ref sig .tc := ⟨.hbm, 983, rfl⟩
abbrev main_call3_v120 : Ref sig .tc := ⟨.hbm, 984, rfl⟩
abbrev main_call3_v121 : Ref sig .tc := ⟨.hbm, 985, rfl⟩
abbrev main_call3_v122 : Ref sig .tc := ⟨.hbm, 986, rfl⟩
abbrev main_call3_v123 : Ref sig .tc := ⟨.hbm, 987, rfl⟩
abbrev main_call3_v124 : Ref sig .tc := ⟨.hbm, 988, rfl⟩
abbrev main_call3_v125 : Ref sig .tc := ⟨.hbm, 989, rfl⟩
abbrev main_call3_v126 : Ref sig .tc := ⟨.hbm, 990, rfl⟩
abbrev main_call3_v127 : Ref sig .tc := ⟨.hbm, 991, rfl⟩
abbrev main_call3_v128 : Ref sig .tc := ⟨.hbm, 992, rfl⟩
abbrev main_call3_v129 : Ref sig .tc := ⟨.hbm, 993, rfl⟩
abbrev main_call3_v130 : Ref sig .tc := ⟨.hbm, 994, rfl⟩
abbrev main_call3_v131 : Ref sig .tc := ⟨.hbm, 995, rfl⟩
abbrev main_call3_v132 : Ref sig .tc := ⟨.hbm, 996, rfl⟩
abbrev main_call3_v133 : Ref sig .tc := ⟨.hbm, 997, rfl⟩
abbrev main_call3_v134 : Ref sig .tc := ⟨.hbm, 998, rfl⟩
abbrev main_call3_v135 : Ref sig .tc := ⟨.hbm, 999, rfl⟩
abbrev main_call3_v136 : Ref sig .tc := ⟨.hbm, 1000, rfl⟩
abbrev main_call3_v137 : Ref sig .tc := ⟨.hbm, 1001, rfl⟩
abbrev main_call3_v138 : Ref sig .tc := ⟨.hbm, 1002, rfl⟩
abbrev main_call3_v139 : Ref sig .tc := ⟨.hbm, 1003, rfl⟩
abbrev main_call3_v140 : Ref sig .tc := ⟨.hbm, 1004, rfl⟩
abbrev main_call3_v141 : Ref sig .tc := ⟨.hbm, 1005, rfl⟩
abbrev main_call3_v142 : Ref sig .tc := ⟨.hbm, 1006, rfl⟩
abbrev main_call3_v143 : Ref sig .tc := ⟨.hbm, 1007, rfl⟩
abbrev main_call3_v144 : Ref sig .tc := ⟨.hbm, 1008, rfl⟩
abbrev main_call3_v145 : Ref sig .tc := ⟨.hbm, 1009, rfl⟩
abbrev main_call3_v146 : Ref sig .tc := ⟨.hbm, 1010, rfl⟩
abbrev main_call3_v147 : Ref sig .tc := ⟨.hbm, 1011, rfl⟩
abbrev main_call3_v148 : Ref sig .tc := ⟨.hbm, 1012, rfl⟩
abbrev main_call3_v149 : Ref sig .tc := ⟨.hbm, 1013, rfl⟩
abbrev main_call3_v150 : Ref sig .tc := ⟨.hbm, 1014, rfl⟩
abbrev main_call3_v151 : Ref sig .tc := ⟨.hbm, 1015, rfl⟩
abbrev main_call3_v152 : Ref sig .tc := ⟨.hbm, 1016, rfl⟩
abbrev main_call3_v153 : Ref sig .tc := ⟨.hbm, 1017, rfl⟩
abbrev main_call3_v154 : Ref sig .tc := ⟨.hbm, 1018, rfl⟩
abbrev main_call3_v155 : Ref sig .tc := ⟨.hbm, 1019, rfl⟩
abbrev main_call3_v156 : Ref sig .tc := ⟨.hbm, 1020, rfl⟩
abbrev main_call3_v157 : Ref sig .tc := ⟨.hbm, 1021, rfl⟩
abbrev main_call3_v158 : Ref sig .tc := ⟨.hbm, 1022, rfl⟩
abbrev main_call3_v159 : Ref sig .tc := ⟨.hbm, 1023, rfl⟩
abbrev main_call3_v160 : Ref sig .tc := ⟨.hbm, 1024, rfl⟩
abbrev main_call3_v161 : Ref sig .tc := ⟨.hbm, 1025, rfl⟩
abbrev main_call3_v162 : Ref sig .tc := ⟨.hbm, 1026, rfl⟩
abbrev main_call3_v163 : Ref sig .tc := ⟨.hbm, 1027, rfl⟩
abbrev main_call3_v164 : Ref sig .tc := ⟨.hbm, 1028, rfl⟩
abbrev main_call3_v165 : Ref sig .tc := ⟨.hbm, 1029, rfl⟩
abbrev main_call3_v166 : Ref sig .tc := ⟨.hbm, 1030, rfl⟩
abbrev main_call3_v167 : Ref sig .tc := ⟨.hbm, 1031, rfl⟩
abbrev main_call3_v168 : Ref sig .tc := ⟨.hbm, 1032, rfl⟩
abbrev main_call3_v169 : Ref sig .tc := ⟨.hbm, 1033, rfl⟩
abbrev main_call3_v170 : Ref sig .tc := ⟨.hbm, 1034, rfl⟩
abbrev main_call3_v171 : Ref sig .tc := ⟨.hbm, 1035, rfl⟩
abbrev main_call3_v172 : Ref sig .tc := ⟨.hbm, 1036, rfl⟩
abbrev main_call3_v173 : Ref sig .tc := ⟨.hbm, 1037, rfl⟩
abbrev main_call3_v174 : Ref sig .tc := ⟨.hbm, 1038, rfl⟩
abbrev main_call3_v175 : Ref sig .tc := ⟨.hbm, 1039, rfl⟩
abbrev main_call3_v176 : Ref sig .tc := ⟨.hbm, 1040, rfl⟩
abbrev main_call3_v177 : Ref sig .tc := ⟨.hbm, 1041, rfl⟩
abbrev main_call3_v178 : Ref sig .tc := ⟨.hbm, 1042, rfl⟩
abbrev main_call3_v179 : Ref sig .tc := ⟨.hbm, 1043, rfl⟩
abbrev main_call3_v180 : Ref sig .tc := ⟨.hbm, 1044, rfl⟩
abbrev main_call3_v181 : Ref sig .tc := ⟨.hbm, 1045, rfl⟩
abbrev main_call3_v182 : Ref sig .tc := ⟨.hbm, 1046, rfl⟩
abbrev main_call3_v183 : Ref sig .tc := ⟨.hbm, 1047, rfl⟩
abbrev main_call3_v184 : Ref sig .tc := ⟨.hbm, 1048, rfl⟩
abbrev main_call3_v185 : Ref sig .tc := ⟨.hbm, 1049, rfl⟩
abbrev main_call3_v186 : Ref sig .tc := ⟨.hbm, 1050, rfl⟩
abbrev main_call3_v187 : Ref sig .tc := ⟨.hbm, 1051, rfl⟩
abbrev main_call3_v188 : Ref sig .tc := ⟨.hbm, 1052, rfl⟩
abbrev main_call3_v189 : Ref sig .tc := ⟨.hbm, 1053, rfl⟩
abbrev main_call3_v190 : Ref sig .tc := ⟨.hbm, 1054, rfl⟩
abbrev main_call3_v191 : Ref sig .tc := ⟨.hbm, 1055, rfl⟩
abbrev main_call3_v192 : Ref sig .tc := ⟨.hbm, 1056, rfl⟩
abbrev main_call3_v193 : Ref sig .tc := ⟨.hbm, 1057, rfl⟩
abbrev main_call3_v194 : Ref sig .tc := ⟨.hbm, 1058, rfl⟩
abbrev main_call3_v195 : Ref sig .tc := ⟨.hbm, 1059, rfl⟩
abbrev main_call3_v196 : Ref sig .tc := ⟨.hbm, 1060, rfl⟩
abbrev main_call3_v197 : Ref sig .tc := ⟨.hbm, 1061, rfl⟩
abbrev main_call3_v198 : Ref sig .tc := ⟨.hbm, 1062, rfl⟩
abbrev main_call3_v199 : Ref sig .tc := ⟨.hbm, 1063, rfl⟩
abbrev main_call3_v200 : Ref sig .tc := ⟨.hbm, 1064, rfl⟩
abbrev main_call3_v201 : Ref sig .tc := ⟨.hbm, 1065, rfl⟩
abbrev main_call3_v202 : Ref sig .tc := ⟨.hbm, 1066, rfl⟩
abbrev main_call3_v203 : Ref sig .tc := ⟨.hbm, 1067, rfl⟩
abbrev main_call3_v204 : Ref sig .tc := ⟨.hbm, 1068, rfl⟩
abbrev main_call3_v205 : Ref sig .tc := ⟨.hbm, 1069, rfl⟩
abbrev main_call3_v206 : Ref sig .tc := ⟨.hbm, 1070, rfl⟩
abbrev main_call3_v207 : Ref sig .tc := ⟨.hbm, 1071, rfl⟩
abbrev main_call3_v208 : Ref sig .tc := ⟨.hbm, 1072, rfl⟩
abbrev main_call3_v209 : Ref sig .tc := ⟨.hbm, 1073, rfl⟩
abbrev main_call3_v210 : Ref sig .tc := ⟨.hbm, 1074, rfl⟩
abbrev main_call3_v211 : Ref sig .tc := ⟨.hbm, 1075, rfl⟩
abbrev main_call3_v212 : Ref sig .tc := ⟨.hbm, 1076, rfl⟩
abbrev main_call3_v213 : Ref sig .tc := ⟨.hbm, 1077, rfl⟩
abbrev main_call3_v214 : Ref sig .tc := ⟨.hbm, 1078, rfl⟩
abbrev main_call3_v215 : Ref sig .tc := ⟨.hbm, 1079, rfl⟩
abbrev main_call3_v216 : Ref sig .tc := ⟨.hbm, 1080, rfl⟩
abbrev main_call3_v217 : Ref sig .tc := ⟨.hbm, 1081, rfl⟩
abbrev main_call3_v218 : Ref sig .tc := ⟨.hbm, 1082, rfl⟩
abbrev main_call3_v219 : Ref sig .tc := ⟨.hbm, 1083, rfl⟩
abbrev main_call3_v220 : Ref sig .tc := ⟨.hbm, 1084, rfl⟩
abbrev main_call3_v221 : Ref sig .tc := ⟨.hbm, 1085, rfl⟩
abbrev main_call3_v222 : Ref sig .tc := ⟨.hbm, 1086, rfl⟩
abbrev main_call3_v223 : Ref sig .tc := ⟨.hbm, 1087, rfl⟩
abbrev main_call3_v224 : Ref sig .tc := ⟨.hbm, 1088, rfl⟩
abbrev main_call3_v225 : Ref sig .tc := ⟨.hbm, 1089, rfl⟩
abbrev main_call3_v226 : Ref sig .tc := ⟨.hbm, 1090, rfl⟩
abbrev main_call3_v227 : Ref sig .tc := ⟨.hbm, 1091, rfl⟩
abbrev main_call3_v228 : Ref sig .tc := ⟨.hbm, 1092, rfl⟩
abbrev main_call3_v229 : Ref sig .tc := ⟨.hbm, 1093, rfl⟩
abbrev main_call3_v230 : Ref sig .tc := ⟨.hbm, 1094, rfl⟩
abbrev main_call3_v231 : Ref sig .tc := ⟨.hbm, 1095, rfl⟩
abbrev main_call3_v232 : Ref sig .tc := ⟨.hbm, 1096, rfl⟩
abbrev main_call3_v233 : Ref sig .tc := ⟨.hbm, 1097, rfl⟩
abbrev main_call3_v234 : Ref sig .tc := ⟨.hbm, 1098, rfl⟩
abbrev main_call3_v235 : Ref sig .tc := ⟨.hbm, 1099, rfl⟩
abbrev main_call3_v236 : Ref sig .tc := ⟨.hbm, 1100, rfl⟩
abbrev main_call3_v237 : Ref sig .tc := ⟨.hbm, 1101, rfl⟩
abbrev main_call3_v238 : Ref sig .tc := ⟨.hbm, 1102, rfl⟩
abbrev main_call3_v239 : Ref sig .tc := ⟨.hbm, 1103, rfl⟩
abbrev main_call3_v240 : Ref sig .tc := ⟨.hbm, 1104, rfl⟩
abbrev main_call3_v241 : Ref sig .tc := ⟨.hbm, 1105, rfl⟩
abbrev main_call3_v242 : Ref sig .tc := ⟨.hbm, 1106, rfl⟩
abbrev main_call3_v243 : Ref sig .tc := ⟨.hbm, 1107, rfl⟩
abbrev main_call3_v244 : Ref sig .tc := ⟨.hbm, 1108, rfl⟩
abbrev main_call3_v245 : Ref sig .tc := ⟨.hbm, 1109, rfl⟩
abbrev main_call3_v246 : Ref sig .tc := ⟨.hbm, 1110, rfl⟩
abbrev main_call3_v247 : Ref sig .tc := ⟨.hbm, 1111, rfl⟩
abbrev main_call3_v248 : Ref sig .tc := ⟨.hbm, 1112, rfl⟩
abbrev main_call3_v249 : Ref sig .tc := ⟨.hbm, 1113, rfl⟩
abbrev main_call3_v250 : Ref sig .tc := ⟨.hbm, 1114, rfl⟩
abbrev main_call3_v251 : Ref sig .tc := ⟨.hbm, 1115, rfl⟩
abbrev main_call3_v252 : Ref sig .tc := ⟨.hbm, 1116, rfl⟩
abbrev main_call3_v253 : Ref sig .tc := ⟨.hbm, 1117, rfl⟩
abbrev main_call3_v254 : Ref sig .tc := ⟨.hbm, 1118, rfl⟩
abbrev main_call3_v255 : Ref sig .tc := ⟨.hbm, 1119, rfl⟩
abbrev main_call3_v256 : Ref sig .tc := ⟨.hbm, 1120, rfl⟩
abbrev main_call3_v257 : Ref sig .tc := ⟨.hbm, 1121, rfl⟩
abbrev main_call3_v258 : Ref sig .tc := ⟨.hbm, 1122, rfl⟩
abbrev main_call3_v259 : Ref sig .tc := ⟨.hbm, 1123, rfl⟩
abbrev main_call3_v260 : Ref sig .tc := ⟨.hbm, 1124, rfl⟩
abbrev main_call3_v261 : Ref sig .tc := ⟨.hbm, 1125, rfl⟩
abbrev main_call3_v262 : Ref sig .tc := ⟨.hbm, 1126, rfl⟩
abbrev main_call3_v263 : Ref sig .tc := ⟨.hbm, 1127, rfl⟩
abbrev main_call3_v264 : Ref sig .tc := ⟨.hbm, 1128, rfl⟩
abbrev main_call3_v265 : Ref sig .tc := ⟨.hbm, 1129, rfl⟩
abbrev main_call3_v266 : Ref sig .tc := ⟨.hbm, 1130, rfl⟩
abbrev main_call3_v267 : Ref sig .tc := ⟨.hbm, 1131, rfl⟩
abbrev main_call3_v268 : Ref sig .tc := ⟨.hbm, 1132, rfl⟩
abbrev main_call3_v269 : Ref sig .tc := ⟨.hbm, 1133, rfl⟩
abbrev main_call3_v270 : Ref sig .tc := ⟨.hbm, 1134, rfl⟩
abbrev main_call3_v271 : Ref sig .tc := ⟨.hbm, 1135, rfl⟩
abbrev main_call3_v272 : Ref sig .tc := ⟨.hbm, 1136, rfl⟩
abbrev main_call3_v273 : Ref sig .tc := ⟨.hbm, 1137, rfl⟩
abbrev main_call3_v274 : Ref sig .tc := ⟨.hbm, 1138, rfl⟩
abbrev main_call3_v275 : Ref sig .tc := ⟨.hbm, 1139, rfl⟩
abbrev main_call3_v276 : Ref sig .tc := ⟨.hbm, 1140, rfl⟩
abbrev main_call3_v277 : Ref sig .tc := ⟨.hbm, 1141, rfl⟩
abbrev main_call3_v278 : Ref sig .tc := ⟨.hbm, 1142, rfl⟩
abbrev main_call3_v279 : Ref sig .tc := ⟨.hbm, 1143, rfl⟩
abbrev main_call3_v280 : Ref sig .tc := ⟨.hbm, 1144, rfl⟩
abbrev main_call3_v281 : Ref sig .tc := ⟨.hbm, 1145, rfl⟩
abbrev main_call3_v282 : Ref sig .tc := ⟨.hbm, 1146, rfl⟩
abbrev main_call3_v283 : Ref sig .tc := ⟨.hbm, 1147, rfl⟩
abbrev main_call3_v284 : Ref sig .tc := ⟨.hbm, 1148, rfl⟩
abbrev main_call3_v285 : Ref sig .tc := ⟨.hbm, 1149, rfl⟩
abbrev main_call3_v286 : Ref sig .tc := ⟨.hbm, 1150, rfl⟩
abbrev main_call3_v287 : Ref sig .tc := ⟨.hbm, 1151, rfl⟩
abbrev main_call3_v288 : Ref sig .tc := ⟨.hbm, 1152, rfl⟩
abbrev main_call3_v289 : Ref sig .tc := ⟨.hbm, 1153, rfl⟩
abbrev main_call3_v290 : Ref sig .tc := ⟨.hbm, 1154, rfl⟩
abbrev main_call3_v291 : Ref sig .tc := ⟨.hbm, 1155, rfl⟩
abbrev main_call3_v292 : Ref sig .tc := ⟨.hbm, 1156, rfl⟩
abbrev main_call3_v293 : Ref sig .tc := ⟨.hbm, 1157, rfl⟩
abbrev main_call3_v294 : Ref sig .tc := ⟨.hbm, 1158, rfl⟩
abbrev main_call3_v295 : Ref sig .tc := ⟨.hbm, 1159, rfl⟩
abbrev main_call3_v296 : Ref sig .tc := ⟨.hbm, 1160, rfl⟩
abbrev main_call3_v297 : Ref sig .tc := ⟨.hbm, 1161, rfl⟩
abbrev main_call3_v298 : Ref sig .tc := ⟨.hbm, 1162, rfl⟩
abbrev main_call3_v299 : Ref sig .tc := ⟨.hbm, 1163, rfl⟩
abbrev main_call3_v300 : Ref sig .tc := ⟨.hbm, 1164, rfl⟩
abbrev main_call3_v301 : Ref sig .tc := ⟨.hbm, 1165, rfl⟩
abbrev main_call3_v302 : Ref sig .tc := ⟨.hbm, 1166, rfl⟩
abbrev main_call3_v303 : Ref sig .tc := ⟨.hbm, 1167, rfl⟩
abbrev main_call3_v304 : Ref sig .tc := ⟨.hbm, 1168, rfl⟩
abbrev main_call3_v305 : Ref sig .tc := ⟨.hbm, 1169, rfl⟩
abbrev main_call3_v306 : Ref sig .tc := ⟨.hbm, 1170, rfl⟩
abbrev main_call3_v307 : Ref sig .tc := ⟨.hbm, 1171, rfl⟩
abbrev main_call3_v308 : Ref sig .tc := ⟨.hbm, 1172, rfl⟩
abbrev main_call3_v309 : Ref sig .tc := ⟨.hbm, 1173, rfl⟩
abbrev main_call3_v310 : Ref sig .tc := ⟨.hbm, 1174, rfl⟩
abbrev main_call3_v311 : Ref sig .tc := ⟨.hbm, 1175, rfl⟩
abbrev main_call3_v312 : Ref sig .tc := ⟨.hbm, 1176, rfl⟩
abbrev main_call3_v313 : Ref sig .tc := ⟨.hbm, 1177, rfl⟩
abbrev main_call3_v314 : Ref sig .tc := ⟨.hbm, 1178, rfl⟩
abbrev main_call3_v315 : Ref sig .tc := ⟨.hbm, 1179, rfl⟩
abbrev main_call3_v316 : Ref sig .tc := ⟨.hbm, 1180, rfl⟩
abbrev main_call3_v317 : Ref sig .tc := ⟨.hbm, 1181, rfl⟩
abbrev main_call3_v318 : Ref sig .tc := ⟨.hbm, 1182, rfl⟩
abbrev main_call3_v319 : Ref sig .tc := ⟨.hbm, 1183, rfl⟩
abbrev main_call3_v320 : Ref sig .tc := ⟨.hbm, 1184, rfl⟩
abbrev main_call3_v321 : Ref sig .tc := ⟨.hbm, 1185, rfl⟩
abbrev main_call3_v322 : Ref sig .tc := ⟨.hbm, 1186, rfl⟩
abbrev main_call3_v323 : Ref sig .tc := ⟨.hbm, 1187, rfl⟩
abbrev main_call3_v324 : Ref sig .tc := ⟨.hbm, 1188, rfl⟩
abbrev main_call3_v325 : Ref sig .tc := ⟨.hbm, 1189, rfl⟩
abbrev main_call3_v326 : Ref sig .tc := ⟨.hbm, 1190, rfl⟩
abbrev main_call3_v327 : Ref sig .tc := ⟨.hbm, 1191, rfl⟩
abbrev main_call3_v328 : Ref sig .tc := ⟨.hbm, 1192, rfl⟩
abbrev main_call3_v329 : Ref sig .tc := ⟨.hbm, 1193, rfl⟩
abbrev main_call3_v330 : Ref sig .tc := ⟨.hbm, 1194, rfl⟩
abbrev main_call3_v331 : Ref sig .tc := ⟨.hbm, 1195, rfl⟩
abbrev main_call3_v332 : Ref sig .tc := ⟨.hbm, 1196, rfl⟩
abbrev main_call3_v333 : Ref sig .tc := ⟨.hbm, 1197, rfl⟩
abbrev main_call3_v334 : Ref sig .tc := ⟨.hbm, 1198, rfl⟩
abbrev main_call3_v335 : Ref sig .tc := ⟨.hbm, 1199, rfl⟩
abbrev main_call3_v336 : Ref sig .tc := ⟨.hbm, 1200, rfl⟩
abbrev main_call3_v337 : Ref sig .tc := ⟨.hbm, 1201, rfl⟩
abbrev main_call3_v338 : Ref sig .tc := ⟨.hbm, 1202, rfl⟩
abbrev main_call3_v339 : Ref sig .tc := ⟨.hbm, 1203, rfl⟩
abbrev main_call3_v340 : Ref sig .tc := ⟨.hbm, 1204, rfl⟩
abbrev main_call3_v341 : Ref sig .tc := ⟨.hbm, 1205, rfl⟩
abbrev main_call3_v342 : Ref sig .tc := ⟨.hbm, 1206, rfl⟩
abbrev main_call3_v343 : Ref sig .tc := ⟨.hbm, 1207, rfl⟩
abbrev main_call3_v344 : Ref sig .tc := ⟨.hbm, 1208, rfl⟩
abbrev main_call3_v345 : Ref sig .tc := ⟨.hbm, 1209, rfl⟩
abbrev main_call3_v346 : Ref sig .tc := ⟨.hbm, 1210, rfl⟩
abbrev main_call3_v347 : Ref sig .tc := ⟨.hbm, 1211, rfl⟩
abbrev main_call3_v348 : Ref sig .tc := ⟨.hbm, 1212, rfl⟩
abbrev main_call3_v349 : Ref sig .tc := ⟨.hbm, 1213, rfl⟩
abbrev main_call3_v350 : Ref sig .tc := ⟨.hbm, 1214, rfl⟩
abbrev main_call3_v351 : Ref sig .tc := ⟨.hbm, 1215, rfl⟩
abbrev main_call3_v352 : Ref sig .tc := ⟨.hbm, 1216, rfl⟩
abbrev main_call3_v353 : Ref sig .tc := ⟨.hbm, 1217, rfl⟩
abbrev main_call3_v354 : Ref sig .tc := ⟨.hbm, 1218, rfl⟩
abbrev main_call3_v355 : Ref sig .tc := ⟨.hbm, 1219, rfl⟩
abbrev main_call3_v356 : Ref sig .tc := ⟨.hbm, 1220, rfl⟩
abbrev main_call3_v357 : Ref sig .tc := ⟨.hbm, 1221, rfl⟩
abbrev main_call3_v358 : Ref sig .tc := ⟨.hbm, 1222, rfl⟩
abbrev main_call3_v359 : Ref sig .tc := ⟨.hbm, 1223, rfl⟩
abbrev main_call3_v360 : Ref sig .tc := ⟨.hbm, 1224, rfl⟩
abbrev main_call3_v361 : Ref sig .tc := ⟨.hbm, 1225, rfl⟩
abbrev main_call3_v362 : Ref sig .tc := ⟨.hbm, 1226, rfl⟩
abbrev main_call3_v363 : Ref sig .tc := ⟨.hbm, 1227, rfl⟩
abbrev main_call3_v364 : Ref sig .tc := ⟨.hbm, 1228, rfl⟩
abbrev main_call3_v365 : Ref sig .tc := ⟨.hbm, 1229, rfl⟩
abbrev main_call3_v366 : Ref sig .tc := ⟨.hbm, 1230, rfl⟩
abbrev main_call3_v367 : Ref sig .tc := ⟨.hbm, 1231, rfl⟩
abbrev main_call3_v368 : Ref sig .tc := ⟨.hbm, 1232, rfl⟩
abbrev main_call3_v369 : Ref sig .tc := ⟨.hbm, 1233, rfl⟩
abbrev main_call3_v370 : Ref sig .tc := ⟨.hbm, 1234, rfl⟩
abbrev main_call3_v371 : Ref sig .tc := ⟨.hbm, 1235, rfl⟩
abbrev main_call3_v372 : Ref sig .tc := ⟨.hbm, 1236, rfl⟩
abbrev main_call3_v373 : Ref sig .tc := ⟨.hbm, 1237, rfl⟩
abbrev main_call3_v374 : Ref sig .tc := ⟨.hbm, 1238, rfl⟩
abbrev main_call3_v375 : Ref sig .tc := ⟨.hbm, 1239, rfl⟩
abbrev main_call3_v376 : Ref sig .tc := ⟨.hbm, 1240, rfl⟩
abbrev main_call3_v377 : Ref sig .tc := ⟨.hbm, 1241, rfl⟩
abbrev main_call3_v378 : Ref sig .tc := ⟨.hbm, 1242, rfl⟩
abbrev main_call3_v379 : Ref sig .tc := ⟨.hbm, 1243, rfl⟩
abbrev main_call3_v380 : Ref sig .tc := ⟨.hbm, 1244, rfl⟩
abbrev main_call3_v381 : Ref sig .tc := ⟨.hbm, 1245, rfl⟩
abbrev main_call3_v382 : Ref sig .tc := ⟨.hbm, 1246, rfl⟩
abbrev main_call3_v383 : Ref sig .tc := ⟨.hbm, 1247, rfl⟩
abbrev main_call3_v384 : Ref sig .tc := ⟨.hbm, 1248, rfl⟩
abbrev main_call3_v385 : Ref sig .tc := ⟨.hbm, 1249, rfl⟩
abbrev main_call3_v386 : Ref sig .tc := ⟨.hbm, 1250, rfl⟩
abbrev main_call3_v387 : Ref sig .tc := ⟨.hbm, 1251, rfl⟩
abbrev main_call3_v388 : Ref sig .tc := ⟨.hbm, 1252, rfl⟩
abbrev main_call3_v389 : Ref sig .tc := ⟨.hbm, 1253, rfl⟩
abbrev main_call3_v390 : Ref sig .tc := ⟨.hbm, 1254, rfl⟩
abbrev main_call3_v391 : Ref sig .tc := ⟨.hbm, 1255, rfl⟩
abbrev main_call3_v392 : Ref sig .tc := ⟨.hbm, 1256, rfl⟩
abbrev main_call3_v393 : Ref sig .tc := ⟨.hbm, 1257, rfl⟩
abbrev main_call3_v394 : Ref sig .tc := ⟨.hbm, 1258, rfl⟩
abbrev main_call3_v395 : Ref sig .tc := ⟨.hbm, 1259, rfl⟩
abbrev main_call3_v396 : Ref sig .tc := ⟨.hbm, 1260, rfl⟩
abbrev main_call3_v397 : Ref sig .tc := ⟨.hbm, 1261, rfl⟩
abbrev main_call3_v398 : Ref sig .tc := ⟨.hbm, 1262, rfl⟩
abbrev main_call3_v399 : Ref sig .tc := ⟨.hbm, 1263, rfl⟩
abbrev main_call3_v400 : Ref sig .tc := ⟨.hbm, 1264, rfl⟩
abbrev main_call3_v401 : Ref sig .tc := ⟨.hbm, 1265, rfl⟩
abbrev main_call3_v402 : Ref sig .tc := ⟨.hbm, 1266, rfl⟩
abbrev main_call3_v403 : Ref sig .tc := ⟨.hbm, 1267, rfl⟩
abbrev main_call3_v404 : Ref sig .tc := ⟨.hbm, 1268, rfl⟩
abbrev main_call3_v405 : Ref sig .tc := ⟨.hbm, 1269, rfl⟩
abbrev main_call3_v406 : Ref sig .tc := ⟨.hbm, 1270, rfl⟩
abbrev main_call3_v407 : Ref sig .tc := ⟨.hbm, 1271, rfl⟩
abbrev main_call3_v408 : Ref sig .tc := ⟨.hbm, 1272, rfl⟩
abbrev main_call3_v409 : Ref sig .tc := ⟨.hbm, 1273, rfl⟩
abbrev main_call3_v410 : Ref sig .tc := ⟨.hbm, 1274, rfl⟩
abbrev main_call3_v411 : Ref sig .tc := ⟨.hbm, 1275, rfl⟩
abbrev main_call3_v412 : Ref sig .tc := ⟨.hbm, 1276, rfl⟩
abbrev main_call3_v413 : Ref sig .tc := ⟨.hbm, 1277, rfl⟩
abbrev main_call3_v414 : Ref sig .tc := ⟨.hbm, 1278, rfl⟩
abbrev main_call3_v415 : Ref sig .tc := ⟨.hbm, 1279, rfl⟩
abbrev main_call3_v416 : Ref sig .tc := ⟨.hbm, 1280, rfl⟩
abbrev main_call3_v417 : Ref sig .tc := ⟨.hbm, 1281, rfl⟩
abbrev main_call3_v418 : Ref sig .tc := ⟨.hbm, 1282, rfl⟩
abbrev main_call3_v419 : Ref sig .tc := ⟨.hbm, 1283, rfl⟩
abbrev main_call3_v420 : Ref sig .tc := ⟨.hbm, 1284, rfl⟩
abbrev main_call3_v421 : Ref sig .tc := ⟨.hbm, 1285, rfl⟩
abbrev main_call3_v422 : Ref sig .tc := ⟨.hbm, 1286, rfl⟩
abbrev main_call3_v423 : Ref sig .tc := ⟨.hbm, 1287, rfl⟩
abbrev main_call3_v424 : Ref sig .tc := ⟨.hbm, 1288, rfl⟩
abbrev main_call3_v425 : Ref sig .tc := ⟨.hbm, 1289, rfl⟩
abbrev main_call3_v426 : Ref sig .tc := ⟨.hbm, 1290, rfl⟩
abbrev main_call3_v427 : Ref sig .tc := ⟨.hbm, 1291, rfl⟩
abbrev main_call3_v428 : Ref sig .tc := ⟨.hbm, 1292, rfl⟩
abbrev main_call3_v429 : Ref sig .tc := ⟨.hbm, 1293, rfl⟩
abbrev main_call3_v430 : Ref sig .tc := ⟨.hbm, 1294, rfl⟩
abbrev main_call3_v431 : Ref sig .tc := ⟨.hbm, 1295, rfl⟩
abbrev main_call3_v432 : Ref sig .tc := ⟨.hbm, 1296, rfl⟩
abbrev main_call3_v433 : Ref sig .tc := ⟨.hbm, 1297, rfl⟩
abbrev main_call3_v434 : Ref sig .tc := ⟨.hbm, 1298, rfl⟩
abbrev main_call3_v435 : Ref sig .tc := ⟨.hbm, 1299, rfl⟩
abbrev main_call3_v436 : Ref sig .tc := ⟨.hbm, 1300, rfl⟩
abbrev main_call3_v437 : Ref sig .tc := ⟨.hbm, 1301, rfl⟩
abbrev main_call3_v438 : Ref sig .tc := ⟨.hbm, 1302, rfl⟩
abbrev main_call3_v439 : Ref sig .tc := ⟨.hbm, 1303, rfl⟩
abbrev main_call3_v440 : Ref sig .tc := ⟨.hbm, 1304, rfl⟩
abbrev main_call3_v441 : Ref sig .tc := ⟨.hbm, 1305, rfl⟩
abbrev main_call3_v442 : Ref sig .tc := ⟨.hbm, 1306, rfl⟩
abbrev main_call3_v443 : Ref sig .tc := ⟨.hbm, 1307, rfl⟩
abbrev main_call3_v444 : Ref sig .tc := ⟨.hbm, 1308, rfl⟩
abbrev main_call3_v445 : Ref sig .tc := ⟨.hbm, 1309, rfl⟩
abbrev main_call3_v446 : Ref sig .tc := ⟨.hbm, 1310, rfl⟩
abbrev main_call3_v447 : Ref sig .tc := ⟨.hbm, 1311, rfl⟩
abbrev main_call3_v448 : Ref sig .tc := ⟨.hbm, 1312, rfl⟩
abbrev main_call3_v449 : Ref sig .tc := ⟨.hbm, 1313, rfl⟩
abbrev main_call3_v450 : Ref sig .tc := ⟨.hbm, 1314, rfl⟩
abbrev main_call3_v451 : Ref sig .tc := ⟨.hbm, 1315, rfl⟩
abbrev main_call3_v452 : Ref sig .tc := ⟨.hbm, 1316, rfl⟩
abbrev main_call3_v453 : Ref sig .tc := ⟨.hbm, 1317, rfl⟩
abbrev main_call3_v454 : Ref sig .tc := ⟨.hbm, 1318, rfl⟩
abbrev main_call3_v455 : Ref sig .tc := ⟨.hbm, 1319, rfl⟩
abbrev main_call3_v456 : Ref sig .tc := ⟨.hbm, 1320, rfl⟩
abbrev main_call3_v457 : Ref sig .tc := ⟨.hbm, 1321, rfl⟩
abbrev main_call3_v458 : Ref sig .tc := ⟨.hbm, 1322, rfl⟩
abbrev main_call3_v459 : Ref sig .tc := ⟨.hbm, 1323, rfl⟩
abbrev main_call3_v460 : Ref sig .tc := ⟨.hbm, 1324, rfl⟩
abbrev main_call3_v461 : Ref sig .tc := ⟨.hbm, 1325, rfl⟩
abbrev main_call3_v462 : Ref sig .tc := ⟨.hbm, 1326, rfl⟩
abbrev main_call3_v463 : Ref sig .tc := ⟨.hbm, 1327, rfl⟩
abbrev main_call3_v464 : Ref sig .tc := ⟨.hbm, 1328, rfl⟩
abbrev main_call3_v465 : Ref sig .tc := ⟨.hbm, 1329, rfl⟩
abbrev main_call3_v466 : Ref sig .tc := ⟨.hbm, 1330, rfl⟩
abbrev main_call3_v467 : Ref sig .tc := ⟨.hbm, 1331, rfl⟩
abbrev main_call3_v468 : Ref sig .tc := ⟨.hbm, 1332, rfl⟩
abbrev main_call3_v469 : Ref sig .tc := ⟨.hbm, 1333, rfl⟩
abbrev main_call3_v470 : Ref sig .tc := ⟨.hbm, 1334, rfl⟩
abbrev main_call3_v471 : Ref sig .tc := ⟨.hbm, 1335, rfl⟩
abbrev main_call3_v472 : Ref sig .tc := ⟨.hbm, 1336, rfl⟩
abbrev main_call3_v473 : Ref sig .tc := ⟨.hbm, 1337, rfl⟩
abbrev main_call3_v474 : Ref sig .tc := ⟨.hbm, 1338, rfl⟩
abbrev main_call3_v475 : Ref sig .tc := ⟨.hbm, 1339, rfl⟩
abbrev main_call3_v476 : Ref sig .tc := ⟨.hbm, 1340, rfl⟩
abbrev main_call3_v477 : Ref sig .tc := ⟨.hbm, 1341, rfl⟩
abbrev main_call3_v478 : Ref sig .tc := ⟨.hbm, 1342, rfl⟩
abbrev main_call3_v479 : Ref sig .tc := ⟨.hbm, 1343, rfl⟩
abbrev main_call3_v480 : Ref sig .tc := ⟨.hbm, 1344, rfl⟩
abbrev main_call3_v481 : Ref sig .tc := ⟨.hbm, 1345, rfl⟩
abbrev main_call3_v482 : Ref sig .tc := ⟨.hbm, 1346, rfl⟩
abbrev main_call3_v483 : Ref sig .tc := ⟨.hbm, 1347, rfl⟩
abbrev main_call3_v484 : Ref sig .tc := ⟨.hbm, 1348, rfl⟩
abbrev main_call3_v485 : Ref sig .tc := ⟨.hbm, 1349, rfl⟩
abbrev main_call3_v486 : Ref sig .tc := ⟨.hbm, 1350, rfl⟩
abbrev main_call3_v487 : Ref sig .tc := ⟨.hbm, 1351, rfl⟩
abbrev main_call3_v488 : Ref sig .tc := ⟨.hbm, 1352, rfl⟩
abbrev main_call3_v489 : Ref sig .tc := ⟨.hbm, 1353, rfl⟩
abbrev main_call3_v490 : Ref sig .tc := ⟨.hbm, 1354, rfl⟩
abbrev main_call3_v491 : Ref sig .tc := ⟨.hbm, 1355, rfl⟩
abbrev main_call3_v492 : Ref sig .tc := ⟨.hbm, 1356, rfl⟩
abbrev main_call3_v493 : Ref sig .tc := ⟨.hbm, 1357, rfl⟩
abbrev main_call3_v494 : Ref sig .tc := ⟨.hbm, 1358, rfl⟩
abbrev main_call3_v495 : Ref sig .tc := ⟨.hbm, 1359, rfl⟩
abbrev main_call3_v496 : Ref sig .tc := ⟨.hbm, 1360, rfl⟩
abbrev main_call3_v497 : Ref sig .tc := ⟨.hbm, 1361, rfl⟩
abbrev main_call3_v498 : Ref sig .tc := ⟨.hbm, 1362, rfl⟩
abbrev main_call3_v499 : Ref sig .tc := ⟨.hbm, 1363, rfl⟩
abbrev main_call3_v500 : Ref sig .tc := ⟨.hbm, 1364, rfl⟩
abbrev main_call3_v501 : Ref sig .tc := ⟨.hbm, 1365, rfl⟩
abbrev main_call3_v502 : Ref sig .tc := ⟨.hbm, 1366, rfl⟩
abbrev main_call3_v503 : Ref sig .tc := ⟨.hbm, 1367, rfl⟩
abbrev main_call3_v504 : Ref sig .tc := ⟨.hbm, 1368, rfl⟩
abbrev main_call3_v505 : Ref sig .tc := ⟨.hbm, 1369, rfl⟩
abbrev main_call3_v506 : Ref sig .tc := ⟨.hbm, 1370, rfl⟩
abbrev main_call3_v507 : Ref sig .tc := ⟨.hbm, 1371, rfl⟩
abbrev main_call3_v508 : Ref sig .tc := ⟨.hbm, 1372, rfl⟩
abbrev main_call3_v509 : Ref sig .tc := ⟨.hbm, 1373, rfl⟩
abbrev main_call3_v510 : Ref sig .tc := ⟨.hbm, 1374, rfl⟩
abbrev main_call3_v511 : Ref sig .tc := ⟨.hbm, 1375, rfl⟩
abbrev main_call3_v512 : Ref sig .tc := ⟨.hbm, 1376, rfl⟩
abbrev main_call3_v513 : Ref sig .tc := ⟨.hbm, 1377, rfl⟩
abbrev main_call3_v514 : Ref sig .tc := ⟨.hbm, 1378, rfl⟩
abbrev main_call3_v515 : Ref sig .tc := ⟨.hbm, 1379, rfl⟩
abbrev main_call3_v516 : Ref sig .tc := ⟨.hbm, 1380, rfl⟩
abbrev main_call3_v517 : Ref sig .tc := ⟨.hbm, 1381, rfl⟩
abbrev main_call3_v518 : Ref sig .tc := ⟨.hbm, 1382, rfl⟩
abbrev main_call3_v519 : Ref sig .tc := ⟨.hbm, 1383, rfl⟩
abbrev main_call3_v520 : Ref sig .tc := ⟨.hbm, 1384, rfl⟩
abbrev main_call3_v521 : Ref sig .tc := ⟨.hbm, 1385, rfl⟩
abbrev main_call3_v522 : Ref sig .tc := ⟨.hbm, 1386, rfl⟩
abbrev main_call3_v523 : Ref sig .tc := ⟨.hbm, 1387, rfl⟩
abbrev main_call3_v524 : Ref sig .tc := ⟨.hbm, 1388, rfl⟩
abbrev main_call3_v525 : Ref sig .tc := ⟨.hbm, 1389, rfl⟩
abbrev main_call3_v526 : Ref sig .tc := ⟨.hbm, 1390, rfl⟩
abbrev main_call3_v527 : Ref sig .tc := ⟨.hbm, 1391, rfl⟩
abbrev main_call3_v528 : Ref sig .tc := ⟨.hbm, 1392, rfl⟩
abbrev main_call3_v529 : Ref sig .tc := ⟨.hbm, 1393, rfl⟩
abbrev main_call3_v530 : Ref sig .tc := ⟨.hbm, 1394, rfl⟩
abbrev main_call3_v531 : Ref sig .tc := ⟨.hbm, 1395, rfl⟩
abbrev main_call3_v532 : Ref sig .tc := ⟨.hbm, 1396, rfl⟩
abbrev main_call3_v533 : Ref sig .tc := ⟨.hbm, 1397, rfl⟩
abbrev main_call3_v534 : Ref sig .tc := ⟨.hbm, 1398, rfl⟩
abbrev main_call3_v535 : Ref sig .tc := ⟨.hbm, 1399, rfl⟩
abbrev main_call3_v536 : Ref sig .tc := ⟨.hbm, 1400, rfl⟩
abbrev main_call3_v537 : Ref sig .tc := ⟨.hbm, 1401, rfl⟩
abbrev main_call3_v538 : Ref sig .tc := ⟨.hbm, 1402, rfl⟩
abbrev main_call3_v539 : Ref sig .tc := ⟨.hbm, 1403, rfl⟩
abbrev main_call3_v540 : Ref sig .tc := ⟨.hbm, 1404, rfl⟩
abbrev main_call3_v541 : Ref sig .tc := ⟨.hbm, 1405, rfl⟩
abbrev main_call3_v542 : Ref sig .tc := ⟨.hbm, 1406, rfl⟩
abbrev main_call3_v543 : Ref sig .tc := ⟨.hbm, 1407, rfl⟩
abbrev main_call3_v544 : Ref sig .tc := ⟨.hbm, 1408, rfl⟩
abbrev main_call3_v545 : Ref sig .tc := ⟨.hbm, 1409, rfl⟩
abbrev main_call3_v546 : Ref sig .tc := ⟨.hbm, 1410, rfl⟩
abbrev main_call3_v547 : Ref sig .tc := ⟨.hbm, 1411, rfl⟩
abbrev main_call3_v548 : Ref sig .tc := ⟨.hbm, 1412, rfl⟩
abbrev main_call3_v549 : Ref sig .tc := ⟨.hbm, 1413, rfl⟩
abbrev main_call3_v550 : Ref sig .tc := ⟨.hbm, 1414, rfl⟩
abbrev main_call3_v551 : Ref sig .tc := ⟨.hbm, 1415, rfl⟩
abbrev main_call3_v552 : Ref sig .tc := ⟨.hbm, 1416, rfl⟩
abbrev main_call3_v553 : Ref sig .tc := ⟨.hbm, 1417, rfl⟩
abbrev main_call3_v554 : Ref sig .tc := ⟨.hbm, 1418, rfl⟩
abbrev main_call3_v555 : Ref sig .tc := ⟨.hbm, 1419, rfl⟩
abbrev main_call3_v556 : Ref sig .tc := ⟨.hbm, 1420, rfl⟩
abbrev main_call3_v557 : Ref sig .tc := ⟨.hbm, 1421, rfl⟩
abbrev main_call3_v558 : Ref sig .tc := ⟨.hbm, 1422, rfl⟩
abbrev main_call3_v559 : Ref sig .tc := ⟨.hbm, 1423, rfl⟩
abbrev main_call3_v560 : Ref sig .tc := ⟨.hbm, 1424, rfl⟩
abbrev main_call3_v561 : Ref sig .tc := ⟨.hbm, 1425, rfl⟩
abbrev main_call3_v562 : Ref sig .tc := ⟨.hbm, 1426, rfl⟩
abbrev main_call3_v563 : Ref sig .tc := ⟨.hbm, 1427, rfl⟩
abbrev main_call3_v564 : Ref sig .tc := ⟨.hbm, 1428, rfl⟩
abbrev main_call3_v565 : Ref sig .tc := ⟨.hbm, 1429, rfl⟩
abbrev main_call3_v566 : Ref sig .tc := ⟨.hbm, 1430, rfl⟩
abbrev main_call3_v567 : Ref sig .tc := ⟨.hbm, 1431, rfl⟩
abbrev main_call3_v568 : Ref sig .tc := ⟨.hbm, 1432, rfl⟩
abbrev main_call3_v569 : Ref sig .tc := ⟨.hbm, 1433, rfl⟩
abbrev main_call3_v570 : Ref sig .tc := ⟨.hbm, 1434, rfl⟩
abbrev main_call3_v571 : Ref sig .tc := ⟨.hbm, 1435, rfl⟩
abbrev main_call3_v572 : Ref sig .tc := ⟨.hbm, 1436, rfl⟩
abbrev main_call3_v573 : Ref sig .tc := ⟨.hbm, 1437, rfl⟩
abbrev main_call3_v574 : Ref sig .tc := ⟨.hbm, 1438, rfl⟩
abbrev main_call3_v575 : Ref sig .tc := ⟨.hbm, 1439, rfl⟩
abbrev main_call3_v576 : Ref sig .tc := ⟨.hbm, 1440, rfl⟩
abbrev main_call3_v577 : Ref sig .tc := ⟨.hbm, 1441, rfl⟩
abbrev main_call3_v578 : Ref sig .tc := ⟨.hbm, 1442, rfl⟩
abbrev main_call3_v579 : Ref sig .tc := ⟨.hbm, 1443, rfl⟩
abbrev main_call3_v580 : Ref sig .tc := ⟨.hbm, 1444, rfl⟩
abbrev main_call3_v581 : Ref sig .tc := ⟨.hbm, 1445, rfl⟩
abbrev main_call3_v582 : Ref sig .tc := ⟨.hbm, 1446, rfl⟩
abbrev main_call3_v583 : Ref sig .tc := ⟨.hbm, 1447, rfl⟩
abbrev main_call3_v584 : Ref sig .tc := ⟨.hbm, 1448, rfl⟩
abbrev main_call3_v585 : Ref sig .tc := ⟨.hbm, 1449, rfl⟩
abbrev main_call3_v586 : Ref sig .tc := ⟨.hbm, 1450, rfl⟩
abbrev main_call3_v587 : Ref sig .tc := ⟨.hbm, 1451, rfl⟩
abbrev main_call3_v588 : Ref sig .tc := ⟨.hbm, 1452, rfl⟩
abbrev main_call3_v589 : Ref sig .tc := ⟨.hbm, 1453, rfl⟩
abbrev main_call3_v590 : Ref sig .tc := ⟨.hbm, 1454, rfl⟩
abbrev main_call3_v591 : Ref sig .tc := ⟨.hbm, 1455, rfl⟩
abbrev main_call3_v592 : Ref sig .tc := ⟨.hbm, 1456, rfl⟩
abbrev main_call3_v593 : Ref sig .tc := ⟨.hbm, 1457, rfl⟩
abbrev main_call3_v594 : Ref sig .tc := ⟨.hbm, 1458, rfl⟩
abbrev main_call3_v595 : Ref sig .tc := ⟨.hbm, 1459, rfl⟩
abbrev main_call3_v596 : Ref sig .tc := ⟨.hbm, 1460, rfl⟩
abbrev main_call3_v597 : Ref sig .tc := ⟨.hbm, 1461, rfl⟩
abbrev main_call3_v598 : Ref sig .tc := ⟨.hbm, 1462, rfl⟩
abbrev main_call3_v599 : Ref sig .tc := ⟨.hbm, 1463, rfl⟩
abbrev main_call3_v600 : Ref sig .tc := ⟨.hbm, 1464, rfl⟩
abbrev main_call3_v601 : Ref sig .tc := ⟨.hbm, 1465, rfl⟩
abbrev main_call3_v602 : Ref sig .tc := ⟨.hbm, 1466, rfl⟩
abbrev main_call3_v603 : Ref sig .tc := ⟨.hbm, 1467, rfl⟩
abbrev main_call3_v604 : Ref sig .tc := ⟨.hbm, 1468, rfl⟩
abbrev main_call3_v605 : Ref sig .tc := ⟨.hbm, 1469, rfl⟩
abbrev main_call3_v606 : Ref sig .tc := ⟨.hbm, 1470, rfl⟩
abbrev main_call3_v607 : Ref sig .tc := ⟨.hbm, 1471, rfl⟩
abbrev main_call3_v608 : Ref sig .tc := ⟨.hbm, 1472, rfl⟩
abbrev main_call3_v609 : Ref sig .tc := ⟨.hbm, 1473, rfl⟩
abbrev main_call3_v610 : Ref sig .tc := ⟨.hbm, 1474, rfl⟩
abbrev main_call3_v611 : Ref sig .tc := ⟨.hbm, 1475, rfl⟩
abbrev main_call3_v612 : Ref sig .tc := ⟨.hbm, 1476, rfl⟩
abbrev main_call3_v613 : Ref sig .tc := ⟨.hbm, 1477, rfl⟩
abbrev main_call3_v614 : Ref sig .tc := ⟨.hbm, 1478, rfl⟩
abbrev main_call3_v615 : Ref sig .tc := ⟨.hbm, 1479, rfl⟩
abbrev main_call3_v616 : Ref sig .tc := ⟨.hbm, 1480, rfl⟩
abbrev main_call3_v617 : Ref sig .tc := ⟨.hbm, 1481, rfl⟩
abbrev main_call3_v618 : Ref sig .tc := ⟨.hbm, 1482, rfl⟩
abbrev main_call3_v619 : Ref sig .tc := ⟨.hbm, 1483, rfl⟩
abbrev main_call3_v620 : Ref sig .tc := ⟨.hbm, 1484, rfl⟩
abbrev main_call3_v621 : Ref sig .tc := ⟨.hbm, 1485, rfl⟩
abbrev main_call3_v622 : Ref sig .tc := ⟨.hbm, 1486, rfl⟩
abbrev main_call3_v623 : Ref sig .tc := ⟨.hbm, 1487, rfl⟩
abbrev main_call3_v624 : Ref sig .tc := ⟨.hbm, 1488, rfl⟩
abbrev main_call3_v625 : Ref sig .tc := ⟨.hbm, 1489, rfl⟩
abbrev main_call3_v626 : Ref sig .tc := ⟨.hbm, 1490, rfl⟩
abbrev main_call3_v627 : Ref sig .tc := ⟨.hbm, 1491, rfl⟩
abbrev main_call3_v628 : Ref sig .tc := ⟨.hbm, 1492, rfl⟩
abbrev main_call3_v629 : Ref sig .tc := ⟨.hbm, 1493, rfl⟩
abbrev main_call3_v630 : Ref sig .tc := ⟨.hbm, 1494, rfl⟩
abbrev main_call3_v631 : Ref sig .tc := ⟨.hbm, 1495, rfl⟩
abbrev main_call3_v632 : Ref sig .tc := ⟨.hbm, 1496, rfl⟩
abbrev main_call3_v633 : Ref sig .tc := ⟨.hbm, 1497, rfl⟩
abbrev main_call3_v634 : Ref sig .tc := ⟨.hbm, 1498, rfl⟩
abbrev main_call3_v635 : Ref sig .tc := ⟨.hbm, 1499, rfl⟩
abbrev main_call3_v636 : Ref sig .tc := ⟨.hbm, 1500, rfl⟩
abbrev main_call3_v637 : Ref sig .tc := ⟨.hbm, 1501, rfl⟩
abbrev main_call3_v638 : Ref sig .tc := ⟨.hbm, 1502, rfl⟩
abbrev main_call3_v639 : Ref sig .tc := ⟨.hbm, 1503, rfl⟩
abbrev main_call3_v640 : Ref sig .tc := ⟨.hbm, 1504, rfl⟩
abbrev main_call3_v641 : Ref sig .tc := ⟨.hbm, 1505, rfl⟩
abbrev main_call3_v642 : Ref sig .tc := ⟨.hbm, 1506, rfl⟩
abbrev main_call3_v643 : Ref sig .tc := ⟨.hbm, 1507, rfl⟩
abbrev main_call3_v644 : Ref sig .tc := ⟨.hbm, 1508, rfl⟩
abbrev main_call3_v645 : Ref sig .tc := ⟨.hbm, 1509, rfl⟩
abbrev main_call3_v646 : Ref sig .tc := ⟨.hbm, 1510, rfl⟩
abbrev main_call3_v647 : Ref sig .tc := ⟨.hbm, 1511, rfl⟩
abbrev main_call3_v648 : Ref sig .tc := ⟨.hbm, 1512, rfl⟩
abbrev main_call3_v649 : Ref sig .tc := ⟨.hbm, 1513, rfl⟩
abbrev main_call3_v650 : Ref sig .tc := ⟨.hbm, 1514, rfl⟩
abbrev main_call3_v651 : Ref sig .tc := ⟨.hbm, 1515, rfl⟩
abbrev main_call3_v652 : Ref sig .tc := ⟨.hbm, 1516, rfl⟩
abbrev main_call3_v653 : Ref sig .tc := ⟨.hbm, 1517, rfl⟩
abbrev main_call3_v654 : Ref sig .tc := ⟨.hbm, 1518, rfl⟩
abbrev main_call3_v655 : Ref sig .tc := ⟨.hbm, 1519, rfl⟩
abbrev main_call3_v656 : Ref sig .tc := ⟨.hbm, 1520, rfl⟩
abbrev main_call3_v657 : Ref sig .tc := ⟨.hbm, 1521, rfl⟩
abbrev main_call3_v658 : Ref sig .tc := ⟨.hbm, 1522, rfl⟩
abbrev main_call3_v659 : Ref sig .tc := ⟨.hbm, 1523, rfl⟩
abbrev main_call3_v660 : Ref sig .tc := ⟨.hbm, 1524, rfl⟩
abbrev main_call3_v661 : Ref sig .tc := ⟨.hbm, 1525, rfl⟩
abbrev main_call3_v662 : Ref sig .tc := ⟨.hbm, 1526, rfl⟩
abbrev main_call3_v663 : Ref sig .tc := ⟨.hbm, 1527, rfl⟩
abbrev main_call3_v664 : Ref sig .tc := ⟨.hbm, 1528, rfl⟩
abbrev main_call3_v665 : Ref sig .tc := ⟨.hbm, 1529, rfl⟩
abbrev main_call3_v666 : Ref sig .tc := ⟨.hbm, 1530, rfl⟩
abbrev main_call3_v667 : Ref sig .tc := ⟨.hbm, 1531, rfl⟩
abbrev main_call3_v668 : Ref sig .tc := ⟨.hbm, 1532, rfl⟩
abbrev main_call3_v669 : Ref sig .tc := ⟨.hbm, 1533, rfl⟩
abbrev main_call3_v670 : Ref sig .tc := ⟨.hbm, 1534, rfl⟩
abbrev main_call3_v671 : Ref sig .tc := ⟨.hbm, 1535, rfl⟩
abbrev main_call3_v672 : Ref sig .tc := ⟨.hbm, 1536, rfl⟩
abbrev main_call3_v673 : Ref sig .tc := ⟨.hbm, 1537, rfl⟩
abbrev main_call3_v674 : Ref sig .tc := ⟨.hbm, 1538, rfl⟩
abbrev main_call3_v675 : Ref sig .tc := ⟨.hbm, 1539, rfl⟩
abbrev main_call3_v676 : Ref sig .tc := ⟨.hbm, 1540, rfl⟩
abbrev main_call3_v677 : Ref sig .tc := ⟨.hbm, 1541, rfl⟩
abbrev main_call3_v678 : Ref sig .tc := ⟨.hbm, 1542, rfl⟩
abbrev main_call3_v679 : Ref sig .tc := ⟨.hbm, 1543, rfl⟩
abbrev main_call3_v680 : Ref sig .tc := ⟨.hbm, 1544, rfl⟩
abbrev main_call3_v681 : Ref sig .tc := ⟨.hbm, 1545, rfl⟩
abbrev main_call3_v682 : Ref sig .tc := ⟨.hbm, 1546, rfl⟩
abbrev main_call3_v683 : Ref sig .tc := ⟨.hbm, 1547, rfl⟩
abbrev main_call3_v684 : Ref sig .tc := ⟨.hbm, 1548, rfl⟩
abbrev main_call3_v685 : Ref sig .tc := ⟨.hbm, 1549, rfl⟩
abbrev main_call3_v686 : Ref sig .tc := ⟨.hbm, 1550, rfl⟩
abbrev main_call3_v687 : Ref sig .tc := ⟨.hbm, 1551, rfl⟩
abbrev main_call3_v688 : Ref sig .tc := ⟨.hbm, 1552, rfl⟩
abbrev main_call3_v689 : Ref sig .tc := ⟨.hbm, 1553, rfl⟩
abbrev main_call3_v690 : Ref sig .tc := ⟨.hbm, 1554, rfl⟩
abbrev main_call3_v691 : Ref sig .tc := ⟨.hbm, 1555, rfl⟩
abbrev main_call3_v692 : Ref sig .tc := ⟨.hbm, 1556, rfl⟩
abbrev main_call3_v693 : Ref sig .tc := ⟨.hbm, 1557, rfl⟩
abbrev main_call3_v694 : Ref sig .tc := ⟨.hbm, 1558, rfl⟩
abbrev main_call3_v695 : Ref sig .tc := ⟨.hbm, 1559, rfl⟩
abbrev main_call3_v696 : Ref sig .tc := ⟨.hbm, 1560, rfl⟩
abbrev main_call3_v697 : Ref sig .tc := ⟨.hbm, 1561, rfl⟩
abbrev main_call3_v698 : Ref sig .tc := ⟨.hbm, 1562, rfl⟩
abbrev main_call3_v699 : Ref sig .tc := ⟨.hbm, 1563, rfl⟩
abbrev main_call3_v700 : Ref sig .tc := ⟨.hbm, 1564, rfl⟩
abbrev main_call3_v701 : Ref sig .tc := ⟨.hbm, 1565, rfl⟩
abbrev main_call3_v702 : Ref sig .tc := ⟨.hbm, 1566, rfl⟩
abbrev main_call3_v703 : Ref sig .tc := ⟨.hbm, 1567, rfl⟩
abbrev main_call3_v704 : Ref sig .tc := ⟨.hbm, 1568, rfl⟩
abbrev main_call3_v705 : Ref sig .tc := ⟨.hbm, 1569, rfl⟩
abbrev main_call3_v706 : Ref sig .tc := ⟨.hbm, 1570, rfl⟩
abbrev main_call3_v707 : Ref sig .tc := ⟨.hbm, 1571, rfl⟩
abbrev main_call3_v708 : Ref sig .tc := ⟨.hbm, 1572, rfl⟩
abbrev main_call3_v709 : Ref sig .tc := ⟨.hbm, 1573, rfl⟩
abbrev main_call3_v710 : Ref sig .tc := ⟨.hbm, 1574, rfl⟩
abbrev main_call3_v711 : Ref sig .tc := ⟨.hbm, 1575, rfl⟩
abbrev main_call3_v712 : Ref sig .tc := ⟨.hbm, 1576, rfl⟩
abbrev main_call3_v713 : Ref sig .tc := ⟨.hbm, 1577, rfl⟩
abbrev main_call3_v714 : Ref sig .tc := ⟨.hbm, 1578, rfl⟩
abbrev main_call3_v715 : Ref sig .tc := ⟨.hbm, 1579, rfl⟩
abbrev main_call3_v716 : Ref sig .tc := ⟨.hbm, 1580, rfl⟩
abbrev main_call3_v717 : Ref sig .tc := ⟨.hbm, 1581, rfl⟩
abbrev main_call3_v718 : Ref sig .tc := ⟨.hbm, 1582, rfl⟩
abbrev main_call3_v719 : Ref sig .tc := ⟨.hbm, 1583, rfl⟩
abbrev main_call3_v720 : Ref sig .tc := ⟨.hbm, 1584, rfl⟩
abbrev main_call3_v721 : Ref sig .tc := ⟨.hbm, 1585, rfl⟩
abbrev main_call3_v722 : Ref sig .tc := ⟨.hbm, 1586, rfl⟩
abbrev main_call3_v723 : Ref sig .tc := ⟨.hbm, 1587, rfl⟩
abbrev main_call3_v724 : Ref sig .tc := ⟨.hbm, 1588, rfl⟩
abbrev main_call3_v725 : Ref sig .tc := ⟨.hbm, 1589, rfl⟩
abbrev main_call3_v726 : Ref sig .tc := ⟨.hbm, 1590, rfl⟩
abbrev main_call3_v727 : Ref sig .tc := ⟨.hbm, 1591, rfl⟩
abbrev main_call3_cst_9 : Ref sig .tc := ⟨.hbm, 1592, rfl⟩
abbrev main_call3_v728 : Ref sig .tc := ⟨.hbm, 1593, rfl⟩
abbrev main_call3_v729 : Ref sig .tc := ⟨.hbm, 1594, rfl⟩
abbrev main_call3_cst_10 : Ref sig .tc := ⟨.hbm, 1595, rfl⟩
abbrev main_call3_v730 : Ref sig .tc := ⟨.hbm, 1596, rfl⟩
abbrev main_call3_v731 : Ref sig .tc := ⟨.hbm, 1597, rfl⟩
abbrev main_call3_v732 : Ref sig .tc := ⟨.hbm, 1598, rfl⟩
abbrev main_call3_v733 : Ref sig .tc := ⟨.hbm, 1599, rfl⟩
abbrev main_call3_v734 : Ref sig .tc := ⟨.hbm, 1600, rfl⟩
abbrev main_call3_v735 : Ref sig .tc := ⟨.hbm, 1601, rfl⟩
abbrev main_call3_v736 : Ref sig .tc := ⟨.hbm, 1602, rfl⟩
abbrev main_call3_v737 : Ref sig .tc := ⟨.hbm, 1603, rfl⟩
abbrev main_call3_v738 : Ref sig .tc := ⟨.hbm, 1604, rfl⟩
abbrev main_call3_v739 : Ref sig .tc := ⟨.hbm, 1605, rfl⟩
abbrev main_call3_v740 : Ref sig .tc := ⟨.hbm, 1606, rfl⟩
abbrev main_call3_v741 : Ref sig .tc := ⟨.hbm, 1607, rfl⟩
abbrev main_call3_v742 : Ref sig .tc := ⟨.hbm, 1608, rfl⟩
abbrev main_call3_v743 : Ref sig .tc := ⟨.hbm, 1609, rfl⟩
abbrev main_call3_v744 : Ref sig .tc := ⟨.hbm, 1610, rfl⟩
abbrev main_call3_v745 : Ref sig .tc := ⟨.hbm, 1611, rfl⟩
abbrev main_call3_v746 : Ref sig .tc := ⟨.hbm, 1612, rfl⟩
abbrev main_call3_v747 : Ref sig .tc := ⟨.hbm, 1613, rfl⟩
abbrev main_call3_v748 : Ref sig .tc := ⟨.hbm, 1614, rfl⟩
abbrev main_call3_v749 : Ref sig .tc := ⟨.hbm, 1615, rfl⟩
abbrev main_call3_v750 : Ref sig .tc := ⟨.hbm, 1616, rfl⟩
abbrev main_call3_v751 : Ref sig .tc := ⟨.hbm, 1617, rfl⟩
abbrev main_call3_v752 : Ref sig .tc := ⟨.hbm, 1618, rfl⟩
abbrev main_call3_v753 : Ref sig .tc := ⟨.hbm, 1619, rfl⟩
abbrev main_call3_v754 : Ref sig .tc := ⟨.hbm, 1620, rfl⟩
abbrev main_call3_v755 : Ref sig .tc := ⟨.hbm, 1621, rfl⟩
abbrev main_call3_v756 : Ref sig .tc := ⟨.hbm, 1622, rfl⟩
abbrev main_call3_v757 : Ref sig .tc := ⟨.hbm, 1623, rfl⟩
abbrev main_call3_v758 : Ref sig .tc := ⟨.hbm, 1624, rfl⟩
abbrev main_call3_v759 : Ref sig .tc := ⟨.hbm, 1625, rfl⟩
abbrev main_call3_v760 : Ref sig .tc := ⟨.hbm, 1626, rfl⟩
abbrev main_call3_v761 : Ref sig .tc := ⟨.hbm, 1627, rfl⟩
abbrev main_call3_v762 : Ref sig .tc := ⟨.hbm, 1628, rfl⟩
abbrev main_call3_v763 : Ref sig .tc := ⟨.hbm, 1629, rfl⟩
abbrev main_call3_v764 : Ref sig .tc := ⟨.hbm, 1630, rfl⟩
abbrev main_call3_v765 : Ref sig .tc := ⟨.hbm, 1631, rfl⟩
abbrev main_call3_v766 : Ref sig .tc := ⟨.hbm, 1632, rfl⟩
abbrev main_call3_v767 : Ref sig .tc := ⟨.hbm, 1633, rfl⟩
abbrev main_call3_cst_11 : Ref sig .tc := ⟨.hbm, 1634, rfl⟩
abbrev main_call3_v768 : Ref sig .tc := ⟨.hbm, 1635, rfl⟩
abbrev main_call3_v769 : Ref sig .tc := ⟨.hbm, 1636, rfl⟩
abbrev main_call3_cst_12 : Ref sig .tc := ⟨.hbm, 1637, rfl⟩
abbrev main_call3_cst_13 : Ref sig .tc := ⟨.hbm, 1638, rfl⟩
abbrev main_call3_call0_v0 : Ref sig .tc := ⟨.hbm, 1639, rfl⟩
abbrev main_call3_call0_v1 : Ref sig .tc := ⟨.hbm, 1640, rfl⟩
abbrev main_call3_v770 : Ref sig .tc := ⟨.hbm, 1641, rfl⟩
abbrev main_call3_v771 : Ref sig .tc := ⟨.hbm, 1642, rfl⟩
abbrev main_call3_v772 : Ref sig .tc := ⟨.hbm, 1643, rfl⟩
abbrev main_call3_c_14 : Ref sig .tc := ⟨.hbm, 1644, rfl⟩
abbrev main_call3_v773 : Ref sig .tc := ⟨.hbm, 1645, rfl⟩
abbrev main_call3_v774 : Ref sig .tc := ⟨.hbm, 1646, rfl⟩
abbrev main_call3_v775 : Ref sig .tc := ⟨.hbm, 1647, rfl⟩
abbrev main_call3_v776 : Ref sig .tc := ⟨.hbm, 1648, rfl⟩
abbrev main_call3_v777 : Ref sig .tc := ⟨.hbm, 1649, rfl⟩
abbrev main_v1_0 : Ref sig .tc := ⟨.hbm, 1650, rfl⟩
abbrev main_call3_v779 : Ref sig .tc := ⟨.hbm, 1651, rfl⟩
abbrev main_call3_v780 : Ref sig .tc := ⟨.hbm, 1652, rfl⟩
abbrev main_call3_v781 : Ref sig .tc := ⟨.hbm, 1653, rfl⟩
abbrev main_v1_1 : Ref sig .tc := ⟨.hbm, 1654, rfl⟩
abbrev main_v2 : Ref sig .tc := ⟨.hbm, 1655, rfl⟩
abbrev main_v3 : Ref sig .tc := ⟨.hbm, 1656, rfl⟩

abbrev nD : Nat := 1
abbrev τ : Topo := Topo.v7x

variable {F : FTy → Type} [FloatOps F]

abbrev main_while0_count : Scf.Loop 32 := ⟨0#32, 10#32, 1#32⟩
-- ==== Proof.KI.Sweeps.lean ====
/-
  The two counted loops of the kernel that carry scalars only: the Jacobi sweeps inside a step and the Jacobi sweeps of
  the final solve. A trip of either loop computes `sweep` of the fifteen carried scalars (six entries of the symmetric
  matrix, nine entries of the accumulated rotation), so the loop returns `sweep` iterated.
-/
module

public import proofs.«01_k».proof.Proof.Gen.KernelIdeal.Loops
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

/-- The proof's resource algebra. -/
local notation "𝕄" => MT nD τ sig Unit (Elt F) ℕ (UU nD τ) ℕ

/-- The fifteen scalars a sweep carries: the upper triangle of the symmetric matrix, row by row, then the accumulated
    rotation, row by row. -/
abbrev C15 (F : FTy → Type) : Type :=
  F .f32 × F .f32 × F .f32 × F .f32 × F .f32 × F .f32 × F .f32 × F .f32 × F .f32 × F .f32 × F .f32 × F .f32 × F .f32 × F .f32 × F .f32

/-- A float literal of the kernel, by its bits. -/
abbrev lit (b : BitVec 32) : F .f32 := Scalar.ofBits .f32 b

/-- The tangent of the rotation that annuls the entry `apq`; 0 where `|apq|` is below 1e-30. -/
def tanJ (app aqq apq : F .f32) : F .f32 :=
  have small := Scalar.cmpf .olt (Scalar.absf apq) (lit 0x0DA24260#32)
  have theta := Scalar.divf (Scalar.subf aqq app) (Scalar.mulf (lit 0x40000000#32) (Scalar.select small (lit 0x3F800000#32) apq))
  have r := Scalar.sqrt (Scalar.addf (Scalar.mulf theta theta) (lit 0x3F800000#32))
  Scalar.select small (lit 0x00000000#32)
    (Scalar.select (Scalar.cmpf .oge theta (lit 0x00000000#32))
      (Scalar.divf (lit 0x3F800000#32) (Scalar.addf theta r)) (Scalar.divf (lit 0xBF800000#32) (Scalar.subf r theta)))

/-- The cosine, from the tangent. -/
def cosJ (t : F .f32) : F .f32 := Scalar.rsqrt (Scalar.addf (Scalar.mulf t t) (lit 0x3F800000#32))

/-- The sine, from the tangent. -/
def sinJ (t : F .f32) : F .f32 := Scalar.mulf t (cosJ t)

/-- `c·x − s·y`. -/
def rotL (t x y : F .f32) : F .f32 := Scalar.subf (Scalar.mulf (cosJ t) x) (Scalar.mulf (sinJ t) y)

/-- `s·x + c·y`. -/
def rotR (t x y : F .f32) : F .f32 := Scalar.addf (Scalar.mulf (sinJ t) x) (Scalar.mulf (cosJ t) y)

/-- The rotation in the plane of the axes 0 and 1. -/
def rot01 : C15 F → C15 F
  | (a00, a01, a02, a11, a12, a22, v00, v01, v02, v10, v11, v12, v20, v21, v22) =>
    have t := tanJ a00 a11 a01
    (Scalar.subf a00 (Scalar.mulf t a01), lit 0x00000000#32, rotL t a02 a12, Scalar.addf a11 (Scalar.mulf t a01), rotR t a02 a12, a22,
      rotL t v00 v01, rotR t v00 v01, v02, rotL t v10 v11, rotR t v10 v11, v12, rotL t v20 v21, rotR t v20 v21, v22)

/-- The rotation in the plane of the axes 0 and 2. -/
def rot02 : C15 F → C15 F
  | (a00, a01, a02, a11, a12, a22, v00, v01, v02, v10, v11, v12, v20, v21, v22) =>
    have t := tanJ a00 a22 a02
    (Scalar.subf a00 (Scalar.mulf t a02), rotL t a01 a12, lit 0x00000000#32, a11, rotR t a01 a12, Scalar.addf a22 (Scalar.mulf t a02),
      rotL t v00 v02, v01, rotR t v00 v02, rotL t v10 v12, v11, rotR t v10 v12, rotL t v20 v22, v21, rotR t v20 v22)

/-- The rotation in the plane of the axes 1 and 2. -/
def rot12 : C15 F → C15 F
  | (a00, a01, a02, a11, a12, a22, v00, v01, v02, v10, v11, v12, v20, v21, v22) =>
    have t := tanJ a11 a22 a12
    (a00, rotL t a01 a02, rotR t a01 a02, Scalar.subf a11 (Scalar.mulf t a12), lit 0x00000000#32, Scalar.addf a22 (Scalar.mulf t a12),
      v00, rotL t v01 v02, rotR t v01 v02, v10, rotL t v11 v12, rotR t v11 v12, v20, rotL t v21 v22, rotR t v21 v22)

/-- One sweep: the three rotations, one after the other. -/
def sweep (a : C15 F) : C15 F := rot12 (rot02 (rot01 a))

section Bodies

variable (i : grid0.Coords) (arg1 : Memref sig .tc .vmem S1x3x4096 .f32) (harg1 : arg1.IsWhole) (arg2 : Memref sig .tc .vmem S1x3x4096 .f32) (harg2 : arg2.IsWhole) (arg3 : Memref sig .tc .vmem S1x3x4 .f32) (harg3 : arg3.IsWhole) (arg4 : Memref sig .tc .vmem S3x4096 .f32) (harg4 : arg4.IsWhole)

/-- A trip of the inner loop returns the sweep of what it carries. -/
theorem t2_body_eq (v756 v762 v768 v774 v780 v786 v792 v798 v804 v809 : F .f32) (k : Fin k0_t2_loop.trips) (a : C15 F) :
    k0_t2_body i arg1 harg1 arg2 harg2 arg3 harg3 arg4 harg4 v756 v762 v768 v774 v780 v786 v792 v798 v804 v809 k a
      = .ret (sweep a) := rfl

/-- A trip of the final solve's loop returns the sweep of what it carries. -/
theorem t3_body_eq (v90 v95 v100 v105 v110 v115 v120 v125 v130 : F .f32) (k : Fin k0_t3_loop.trips) (a : C15 F) :
    k0_t3_body i arg1 harg1 arg2 harg2 arg3 harg3 arg4 harg4 v90 v95 v100 v105 v110 v115 v120 v125 v130 k a
      = .ret (sweep a) := rfl

variable (c : Dev nD)

set_option warn.classDefReducibility false in
/-- The inner loop: before trip `k` it carries the initial scalars swept `k` times. -/
@[sl_loop] def loopInv_t2 (v756 v762 v768 v774 v780 v786 v792 v798 v804 v809 : F .f32) (init : C15 F) :
    LoopInvTy_k0_t2 (F := F) Unit ℕ (UU nD τ) ℕ 𝒱₀ c none Set.univ i arg1 harg1 arg2 harg2 arg3 harg3 arg4 harg4 v756 v762 v768 v774 v780 v786 v792 v798 v804 v809 init where
  inv k a := iprop(⌜a = sweep^[k] init⌝)
  step k a := by
    rw [t2_body_eq]
    iintro %h
    sl_step
    ipureintro
    rw [h, Function.iterate_succ_apply']

set_option warn.classDefReducibility false in
/-- The final solve's loop: before trip `k` it carries the initial scalars swept `k` times. -/
@[sl_loop] def loopInv_t3 (v90 v95 v100 v105 v110 v115 v120 v125 v130 : F .f32) (init : C15 F) :
    LoopInvTy_k0_t3 (F := F) Unit ℕ (UU nD τ) ℕ 𝒱₀ c none Set.univ i arg1 harg1 arg2 harg2 arg3 harg3 arg4 harg4 v90 v95 v100 v105 v110 v115 v120 v125 v130 init where
  inv k a := iprop(⌜a = sweep^[k] init⌝)
  step k a := by
    rw [t3_body_eq]
    iintro %h
    sl_step
    ipureintro
    rw [h, Function.iterate_succ_apply']

end Bodies

end Cert.Proof.KI
end
-- ==== Proof.KI.Trip.lean ====
/-
  One trip of the kernel's loop over the steps. The trip reads the moving cloud from the scratch buffer and writes the moved cloud
  back; `trip` finds what it writes as a function of what the scratch held.
-/
module

public import proofs.«01_k».proof.Proof.KI.Sweeps

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra. -/
local notation "𝕄" => MT nD τ sig Unit (Elt F) ℕ (UU nD τ) ℕ

section

variable (c : Dev nD) (i : grid0.Coords) (arg1 : Memref sig .tc .vmem S1x3x4096 .f32) (harg1 : arg1.IsWhole) (arg2 : Memref sig .tc .vmem S1x3x4096 .f32) (harg2 : arg2.IsWhole) (arg3 : Memref sig .tc .vmem S1x3x4 .f32) (harg3 : arg3.IsWhole) (arg4 : Memref sig .tc .vmem S3x4096 .f32) (harg4 : arg4.IsWhole)
  (v2 : Vec F S1x3x4096 .f32) (cst_7 : F .f32)

/-- What a trip leaves in the scratch buffer that held `f`, with the proof that it does. -/
def trip (k : Fin k0_t1_loop.trips) (f : Buf (Elt F) (arg4.view.loc (c : Thread nD τ))) :
    { g : Buf (Elt F) (arg4.view.loc (c : Thread nD τ)) //
      (arg4.view.loc (c : Thread nD τ) ↦[arg4.view.set]{fullShare} f : sProp 𝕄)
        ⊢ wp frame (wpE (defs₀ (F := F)) 𝒱₀ (c : Thread nD τ) none) Set.univ
            (k0_t1_body i arg1 harg1 arg2 harg2 arg3 harg3 arg4 harg4 v2 cst_7 k ())
            (fun _ => (arg4.view.loc (c : Thread nD τ) ↦[arg4.view.set]{fullShare} g)) } := by
  refine ⟨?_, ?run⟩
  case run =>
    unfold k0_t1_body
    iintro H4
    sl_exec!
    sl_step
    iexact H4

/-- The first trip's number. -/
abbrev k0 : Fin k0_t1_loop.trips := ⟨0, by decide⟩

/-- What a trip makes of the scratch buffer: the same at every trip. -/
def stepBuf (f : Buf (Elt F) (arg4.view.loc (c : Thread nD τ))) : Buf (Elt F) (arg4.view.loc (c : Thread nD τ)) :=
  (trip c i arg1 harg1 arg2 harg2 arg3 harg3 arg4 harg4 v2 cst_7 k0 f).1

theorem trip_eq (k : Fin k0_t1_loop.trips) (f : Buf (Elt F) (arg4.view.loc (c : Thread nD τ))) :
    (trip c i arg1 harg1 arg2 harg2 arg3 harg3 arg4 harg4 v2 cst_7 k f).1 = stepBuf c i arg1 harg1 arg2 harg2 arg3 harg3 arg4 harg4 v2 cst_7 f := rfl

set_option warn.classDefReducibility false in
/-- The loop over the steps: before trip `k` the scratch buffer holds the step iterated `k` times. -/
@[sl_loop] def loopInv_t1 (f0 : Buf (Elt F) (arg4.view.loc (c : Thread nD τ))) :
    LoopInvTy_k0_t1 (F := F) Unit ℕ (UU nD τ) ℕ 𝒱₀ c none Set.univ i arg1 harg1 arg2 harg2 arg3 harg3 arg4 harg4 v2 cst_7 where
  inv k _ := iprop(arg4.view.loc (c : Thread nD τ) ↦[arg4.view.set]{fullShare} (stepBuf c i arg1 harg1 arg2 harg2 arg3 harg3 arg4 harg4 v2 cst_7)^[k] f0)
  step k _ := by
    rw [Function.iterate_succ_apply', ← trip_eq c i arg1 harg1 arg2 harg2 arg3 harg3 arg4 harg4 v2 cst_7 k]
    exact (trip c i arg1 harg1 arg2 harg2 arg3 harg3 arg4 harg4 v2 cst_7 k _).2

end

end Cert.Proof.KI
end
-- ==== Proof.KI.Run.lean ====
/-
  The kernel's run: what a grid point leaves in the result's staging buffer (`kernelRun`, a value the run finds), the pipeline's
  proof data, the body obligation, the run of the whole program and its frame.
-/
module

public import proofs.«01_k».proof.Proof.KI.Trip
public import proofs.«01_k».proof.Proof.Gen.KernelIdeal.Frame

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra. -/
local notation "𝕄" => MT nD τ sig Unit (Elt F) ℕ (UU nD τ) ℕ

/-- What the body leaves in the result's staging buffer when the two input blocks are `x1` and `x2`, with the proof that it does: the
    inputs' buffers come back as they were, the scratch buffer at some contents. -/
def kernelRun (c : Dev nD) (i : grid0.Coords) (M1 : Memref sig .tc .vmem S1x3x4096 .f32) (h1 : M1.IsWhole)
    (M2 : Memref sig .tc .vmem S1x3x4096 .f32) (h2 : M2.IsWhole) (M3 : Memref sig .tc .vmem S1x3x4 .f32) (h3 : M3.IsWhole)
    (M4 : Memref sig .tc .vmem S3x4096 .f32) (h4 : M4.IsWhole) (x1 x2 : Vec F S1x3x4096 .f32) :
    { Y : Vec F S1x3x4 .f32 //
      ∀ (K : PUnit → sProp 𝕄),
        iprop(owns (c : Thread nD τ) M1 fullShare x1 ∗ owns (c : Thread nD τ) M2 fullShare x2 ∗ (∃ d, owns (c : Thread nD τ) M3 fullShare d)
            ∗ (∃ f, M4.view.loc (c : Thread nD τ) ↦[M4.view.set]{fullShare} f)
            ∗ (iprop(owns (c : Thread nD τ) M1 fullShare x1 ∗ owns (c : Thread nD τ) M2 fullShare x2 ∗ owns (c : Thread nD τ) M3 fullShare Y
                ∗ (∃ f, M4.view.loc (c : Thread nD τ) ↦[M4.view.set]{fullShare} f)) -∗ K ⟨⟩))
          ⊢ wp frame (wpE (defs₀ (F := F)) 𝒱₀ (c : Thread nD τ) none) Set.univ
              (cc0__icp_body i M1 h1 M2 h2 M3 h3 M4 h4) K } := by
  refine ⟨?_, fun K => ?run⟩
  case run =>
    unfold owns
    iintro ⟨⟨%f1, %hf1, H1⟩, ⟨%f2, %hf2, H2⟩, ⟨%d3, %f3, -, H3⟩, ⟨%f4, H4⟩, Hk⟩
    obtain rfl := h1.eq_unread hf1; obtain rfl := h2.eq_unread hf2
    sl_unfold [cc0__icp_body]
    sl_exec!
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; swap; · iexact H3
      ipureintro; rfl
    iexists _; iexact H4

/-! ## The pipeline's proof data -/

variable (m : (ℓ : Loc nD τ sig) → Buf (Elt F) ℓ) (ρ : Dev nD → PrngReg)

/-- The kernel's scratch buffer. -/
abbrev scr : Memref sig .tc .vmem S3x4096 .f32 := Memref.whole cc0_scratch0

/-- The value the body leaves in the result's staging buffer at the point `t`. -/
def outsAt (c : Dev nD) (t : Fin cfg0.N) : Vec F S1x3x4 .f32 :=
  (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    scr (Memref.isWhole_whole _) (iblk m c 0 t) (iblk m c 1 t)).1

/-- The arrays as the region finds them; after the body each input's buffer at its block and the result's at `outsAt`; the scratch
    buffer at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The scratch buffer, as the region's invariant holds it, is the whole view the body is run on. -/
theorem scr_eq (c : Dev nD) : (iprop(∃ f : Buf (Elt F) ((c : Thread nD τ).loc cc0_scratch0), (c : Thread nD τ).loc cc0_scratch0 ↦{fullShare} f) : sProp 𝕄)
    = iprop(∃ f, scr.view.loc (c : Thread nD τ) ↦[scr.view.set]{fullShare} f) := by
  rw [show scr.view.set = Finset.univ from View.set_whole _]

/-! ## The body obligation -/

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl, after0_0, after0_1, after0_2,
    show (dats m 0 c).Φ t.castSucc = Pipeline.ΦA spec0 c from rfl]
  unfold outsAt ΦA
  rw [scopedRest0_eq, scr_eq]
  iintro ⟨⟨HS, HΦ⟩, Ho, ⟨%d0, H0⟩, ⟨%d1, H1⟩, ⟨%d2, H2⟩⟩
  iapply ((kernelRun c _ _ _ _ _ _ _ _ _ (iblk m c 0 t) (iblk m c 1 t)).2 _)
  isplitl [H0]; · iexact H0
  isplitl [H1]; · iexact H1
  isplitl [H2]; · iexists _; iexact H2
  isplitl [HS]; · iexact HS
  iintro ⟨H0, H1, H2, HS⟩
  isplitl [HΦ HS]
  · isplitl [HS]; · iexact HS
    iexact HΦ
  isplitl [Ho]; · iexact Ho
  isplitl [H0]; · iexact H0
  isplitl [H1]; · iexact H1
  iexact H2

/-! ## The run and the frame -/

-- the launch theorem's implicit arguments are found by unfolding plain definitions
set_option backward.isDefEq.respectTransparency.types false in
/-- From any memory with zero counters every execution ends with every array of the pipeline at what the proof data say and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: every execution ends, the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Proof.KI
end
-- ==== Proof.KI.Solve.lean ====
/-
  The rigid step of the kernel once the matrix H is known, as functions of scalars: Jacobi sweeps of HᵀH, three exchanges,
  the left singular vectors, the sign, the rotation R and the translation t; and that both places of the kernel where the
  step is performed (in a trip of the loop, and after the loop) compute these functions.
-/
module

public import proofs.«01_k».proof.Proof.KI.Run

@[expose] public section

noncomputable section

namespace Cert.Proof.KI

open Cert.KernelIdeal Cert.KernelIdeal.Gen
open Idealize.ShloMosaic Idealize.ShloMosaic.TcCoe

variable {F : FTy → Type} [FloatOps F]

/-- A 3 x 3 matrix of scalars. -/
structure M9 (α : Type) : Type where
  (m00 m01 m02 m10 m11 m12 m20 m21 m22 : α)

/-- `a·b + c·d + e·f`. -/
def dot3 (a b c d e f : F .f32) : F .f32 :=
  Scalar.addf (Scalar.addf (Scalar.mulf a b) (Scalar.mulf c d)) (Scalar.mulf e f)

/-- A number rounded to the narrow format and widened again. -/
def narrow (x : F .f32) : F .f32 := Scalar.extf .f32 bitsLt_bf16_f32 (Scalar.truncf .bf16 bitsLt_bf16_f32 x)

/-- What the sweeps start from: HᵀH and the identity. -/
def gramK (H : M9 (F .f32)) : C15 F :=
  (dot3 H.m00 H.m00 H.m10 H.m10 H.m20 H.m20, dot3 H.m00 H.m01 H.m10 H.m11 H.m20 H.m21, dot3 H.m00 H.m02 H.m10 H.m12 H.m20 H.m22,
    dot3 H.m01 H.m01 H.m11 H.m11 H.m21 H.m21, dot3 H.m01 H.m02 H.m11 H.m12 H.m21 H.m22, dot3 H.m02 H.m02 H.m12 H.m12 H.m22 H.m22,
    lit 0x3F800000#32, lit 0x00000000#32, lit 0x00000000#32, lit 0x00000000#32, lit 0x3F800000#32, lit 0x00000000#32,
    lit 0x00000000#32, lit 0x00000000#32, lit 0x3F800000#32)

/-- The matrix of right singular vectors: the columns of the accumulated rotation, after the three exchanges. -/
def sortK : C15 F → M9 (F .f32)
  | (a00, a01, a02, a11, a12, a22, v00, v01, v02, v10, v11, v12, v20, v21, v22) =>
    have p := Scalar.cmpf .ogt a11 a00
    have l0 := Scalar.select p a11 a00
    have l1 := Scalar.select p a00 a11
    have q := Scalar.cmpf .ogt a22 l0
    have l2 := Scalar.select q l0 a22
    have r := Scalar.cmpf .ogt l2 l1
    ⟨Scalar.select q v02 (Scalar.select p v01 v00),
      Scalar.select r (Scalar.select q (Scalar.select p v01 v00) v02) (Scalar.select p v00 v01),
      Scalar.select r (Scalar.select p v00 v01) (Scalar.select q (Scalar.select p v01 v00) v02),
      Scalar.select q v12 (Scalar.select p v11 v10),
      Scalar.select r (Scalar.select q (Scalar.select p v11 v10) v12) (Scalar.select p v10 v11),
      Scalar.select r (Scalar.select p v10 v11) (Scalar.select q (Scalar.select p v11 v10) v12),
      Scalar.select q v22 (Scalar.select p v21 v20),
      Scalar.select r (Scalar.select q (Scalar.select p v21 v20) v22) (Scalar.select p v20 v21),
      Scalar.select r (Scalar.select p v20 v21) (Scalar.select q (Scalar.select p v21 v20) v22)⟩

/-- The reciprocal of a vector's norm; the norm taken no smaller than 1e-15. -/
def invK (x y z : F .f32) : F .f32 := Scalar.rsqrt (Scalar.maximumf (dot3 x x y y z z) (lit 0x0DA24260#32))

/-- The left singular vectors, from H and the right ones. -/
def uK (H V : M9 (F .f32)) : M9 (F .f32) :=
  have x0 := dot3 H.m00 V.m00 H.m01 V.m10 H.m02 V.m20
  have x1 := dot3 H.m10 V.m00 H.m11 V.m10 H.m12 V.m20
  have x2 := dot3 H.m20 V.m00 H.m21 V.m10 H.m22 V.m20
  have y0 := dot3 H.m00 V.m01 H.m01 V.m11 H.m02 V.m21
  have y1 := dot3 H.m10 V.m01 H.m11 V.m11 H.m12 V.m21
  have y2 := dot3 H.m20 V.m01 H.m21 V.m11 H.m22 V.m21
  have z0 := dot3 H.m00 V.m02 H.m01 V.m12 H.m02 V.m22
  have z1 := dot3 H.m10 V.m02 H.m11 V.m12 H.m12 V.m22
  have z2 := dot3 H.m20 V.m02 H.m21 V.m12 H.m22 V.m22
  ⟨Scalar.mulf x0 (invK x0 x1 x2), Scalar.mulf y0 (invK y0 y1 y2), Scalar.mulf z0 (invK z0 z1 z2),
    Scalar.mulf x1 (invK x0 x1 x2), Scalar.mulf y1 (invK y0 y1 y2), Scalar.mulf z1 (invK z0 z1 z2),
    Scalar.mulf x2 (invK x0 x1 x2), Scalar.mulf y2 (invK y0 y1 y2), Scalar.mulf z2 (invK z0 z1 z2)⟩

/-- 1 or -1, by the sign of the determinant of H. -/
def signK (H : M9 (F .f32)) : F .f32 :=
  Scalar.select (Scalar.cmpf .oge
    (Scalar.addf (Scalar.subf (Scalar.mulf H.m00 (Scalar.subf (Scalar.mulf H.m11 H.m22) (Scalar.mulf H.m12 H.m21)))
        (Scalar.mulf H.m01 (Scalar.subf (Scalar.mulf H.m10 H.m22) (Scalar.mulf H.m12 H.m20))))
      (Scalar.mulf H.m02 (Scalar.subf (Scalar.mulf H.m10 H.m21) (Scalar.mulf H.m11 H.m20))))
    (lit 0x00000000#32)) (lit 0x3F800000#32) (lit 0xBF800000#32)

/-- An entry of R: a row of V against a row of U, the third product with the sign. -/
def entR (d v0 v1 v2 u0 u1 u2 : F .f32) : F .f32 :=
  Scalar.addf (Scalar.addf (Scalar.mulf (narrow v0) (narrow u0)) (Scalar.mulf (narrow v1) (narrow u1)))
    (Scalar.mulf (Scalar.mulf d (narrow v2)) (narrow u2))

/-- The rotation, from the singular vectors and the sign. -/
def rK (d : F .f32) (V U : M9 (F .f32)) : M9 (F .f32) :=
  ⟨entR d V.m00 V.m01 V.m02 U.m00 U.m01 U.m02, entR d V.m00 V.m01 V.m02 U.m10 U.m11 U.m12, entR d V.m00 V.m01 V.m02 U.m20 U.m21 U.m22,
    entR d V.m10 V.m11 V.m12 U.m00 U.m01 U.m02, entR d V.m10 V.m11 V.m12 U.m10 U.m11 U.m12, entR d V.m10 V.m11 V.m12 U.m20 U.m21 U.m22,
    entR d V.m20 V.m21 V.m22 U.m00 U.m01 U.m02, entR d V.m20 V.m21 V.m22 U.m10 U.m11 U.m12, entR d V.m20 V.m21 V.m22 U.m20 U.m21 U.m22⟩

/-- The right singular vectors of H. -/
def vK (H : M9 (F .f32)) : M9 (F .f32) := sortK (sweep^[6] (gramK H))

/-- The rotation of the rigid step, from H. -/
def rotK (H : M9 (F .f32)) : M9 (F .f32) := rK (signK H) (vK H) (uK H (vK H))

/-- An entry of the translation: the target's mean less the rotated mean of the source. -/
def transK (r0 r1 r2 s0 s1 s2 mt : F .f32) : F .f32 :=
  Scalar.subf mt (dot3 (narrow r0) (narrow s0) (narrow r1) (narrow s1) (narrow r2) (narrow s2))

section

variable (c : Dev nD) (arg4 : Memref sig .tc .vmem S3x4096 .f32) (v2 : Vec F S1x3x4096 .f32) (cst_7 : F .f32)
  (f : Buf (Elt F) (arg4.view.loc (c : Thread nD τ)))

/-- The matrix H of a trip. -/
def tripH : M9 (F .f32) := ⟨trip.sl.r_20 c arg4 v2 cst_7 f, trip.sl.r_22 c arg4 v2 cst_7 f, trip.sl.r_23 c arg4 v2 cst_7 f, trip.sl.r_24 c arg4 v2 cst_7 f, trip.sl.r_25 c arg4 v2 cst_7 f, trip.sl.r_26 c arg4 v2 cst_7 f, trip.sl.r_27 c arg4 v2 cst_7 f, trip.sl.r_28 c arg4 v2 cst_7 f, trip.sl.r_29 c arg4 v2 cst_7 f⟩

theorem trip_R : (⟨trip.sl.r_69 c arg4 v2 cst_7 f, trip.sl.r_70 c arg4 v2 cst_7 f, trip.sl.r_71 c arg4 v2 cst_7 f, trip.sl.r_72 c arg4 v2 cst_7 f, trip.sl.r_73 c arg4 v2 cst_7 f, trip.sl.r_74 c arg4 v2 cst_7 f, trip.sl.r_75 c arg4 v2 cst_7 f, trip.sl.r_78 c arg4 v2 cst_7 f, trip.sl.r_79 c arg4 v2 cst_7 f⟩ : M9 (F .f32)) = rotK (tripH c arg4 v2 cst_7 f) := rfl

theorem trip_t0 : trip.sl.r_80 c arg4 v2 cst_7 f = transK (rotK (tripH c arg4 v2 cst_7 f)).m00 (rotK (tripH c arg4 v2 cst_7 f)).m01 (rotK (tripH c arg4 v2 cst_7 f)).m02
    (trip.sl.r c arg4 cst_7 f) (trip.sl.r_1 c arg4 cst_7 f) (trip.sl.r_2 c arg4 cst_7 f) (trip.sl.r_14 c arg4 v2 cst_7 f) := rfl
theorem trip_t1 : trip.sl.r_81 c arg4 v2 cst_7 f = transK (rotK (tripH c arg4 v2 cst_7 f)).m10 (rotK (tripH c arg4 v2 cst_7 f)).m11 (rotK (tripH c arg4 v2 cst_7 f)).m12
    (trip.sl.r c arg4 cst_7 f) (trip.sl.r_1 c arg4 cst_7 f) (trip.sl.r_2 c arg4 cst_7 f) (trip.sl.r_15 c arg4 v2 cst_7 f) := rfl
theorem trip_t2 : trip.sl.r_85 c arg4 v2 cst_7 f = transK (rotK (tripH c arg4 v2 cst_7 f)).m20 (rotK (tripH c arg4 v2 cst_7 f)).m21 (rotK (tripH c arg4 v2 cst_7 f)).m22
    (trip.sl.r c arg4 cst_7 f) (trip.sl.r_1 c arg4 cst_7 f) (trip.sl.r_2 c arg4 cst_7 f) (trip.sl.r_16 c arg4 v2 cst_7 f) := rfl

end

end Cert.Proof.KI
-- ==== Proof.Spec.lean ====
/-
  The rigid step in real numbers: the 3 x 3 singular value decomposition by Jacobi sweeps, once on matrices and once on the
  entries of a symmetric matrix, and that the two agree.
-/
module

public import Mathlib.LinearAlgebra.Matrix.Determinant.Basic
public import Mathlib.LinearAlgebra.Matrix.Notation
public import Mathlib.Analysis.Real.Sqrt
public import Mathlib.Tactic.FieldSimp
public import Mathlib.Tactic.FinCases
public import Mathlib.Tactic.LinearCombination
public import Mathlib.Tactic.Positivity

@[expose] public section

noncomputable section

namespace Cert.Proof.Spec

/-- A real 3 x 3 matrix. -/
abbrev M : Type := Matrix (Fin 3) (Fin 3) ℝ

/-- The small number the two programs compare with: the real value of the single precision number next to 1e-30. -/
def tiny : ℝ := (10633824 : ℝ) / 2 ^ 123

theorem tiny_pos : 0 < tiny := by unfold tiny; positivity

/-- The tangent of the rotation that annuls the entry `apq`. -/
def tanR (app aqq apq : ℝ) : ℝ :=
  if |apq| < tiny then 0
  else if 0 ≤ (aqq - app) / (2 * apq) then
    1 / ((aqq - app) / (2 * apq) + √((aqq - app) / (2 * apq) * ((aqq - app) / (2 * apq)) + 1))
  else -1 / (√((aqq - app) / (2 * apq) * ((aqq - app) / (2 * apq)) + 1) - (aqq - app) / (2 * apq))

/-- The cosine, from the tangent. -/
def cosR (t : ℝ) : ℝ := (√(t * t + 1))⁻¹

theorem sqrt_gt (x : ℝ) : |x| < √(x * x + 1) := by
  rw [← Real.sqrt_mul_self_eq_abs]
  exact Real.sqrt_lt_sqrt (mul_self_nonneg x) (by linarith)

theorem cos_sq (t : ℝ) : cosR t * cosR t * (t * t + 1) = 1 := by
  have h : 0 < t * t + 1 := by nlinarith [mul_self_nonneg t]
  have hs : √(t * t + 1) ≠ 0 := (Real.sqrt_pos.mpr h).ne'
  unfold cosR
  have := Real.mul_self_sqrt h.le
  rw [← mul_inv, this]
  exact inv_mul_cancel₀ h.ne'

/-- The tangent solves the equation of the rotation. -/
theorem tan_eq (app aqq apq : ℝ) :
    tanR app aqq apq * (tanR app aqq apq * tanR app aqq apq * apq + tanR app aqq apq * (aqq - app) - apq) = 0 := by
  unfold tanR
  split_ifs with h1 h2
  · simp
  all_goals
    have hq : apq ≠ 0 := by
      rintro rfl
      exact h1 (by simpa using tiny_pos)
    generalize hθ : (aqq - app) / (2 * apq) = θ at *
    have hd : aqq - app = 2 * apq * θ := by rw [← hθ]; field_simp
    have hr := sqrt_gt θ
    have hs : √(θ * θ + 1) * √(θ * θ + 1) = θ * θ + 1 := Real.mul_self_sqrt (by nlinarith [mul_self_nonneg θ])
    generalize √(θ * θ + 1) = r at *
    rw [hd]
    have ha := abs_lt.mp hr
  · have hp : θ + r ≠ 0 := by linarith
    field_simp
    linear_combination (-apq) * hs
  · have hp : r - θ ≠ 0 := by linarith
    field_simp
    linear_combination apq * hs

/-- The rotation matrix in the plane of the axes `p` and `q`. -/
def rotJ (p q : Fin 3) (t : ℝ) : M := fun i j =>
  if (i = p ∧ j = p) ∨ (i = q ∧ j = q) then cosR t
  else if i = p ∧ j = q then t * cosR t
  else if i = q ∧ j = p then -(t * cosR t)
  else if i = j then 1 else 0

/-- One rotation of the pair (A, V). -/
def rotM (p q : Fin 3) (s : M × M) : M × M :=
  (fun i j => if (i = p ∧ j = q) ∨ (i = q ∧ j = p) then 0
    else ((rotJ p q (tanR (s.1 p p) (s.1 q q) (s.1 p q))).transpose * (s.1 * rotJ p q (tanR (s.1 p p) (s.1 q q) (s.1 p q)))) i j,
    s.2 * rotJ p q (tanR (s.1 p p) (s.1 q q) (s.1 p q)))

/-- One sweep. -/
def sweepM (s : M × M) : M × M := rotM 1 2 (rotM 0 2 (rotM 0 1 s))

/-- The matrix that exchanges two columns if `b`, and does nothing otherwise. -/
def swapP (p q : Fin 3) (b : Prop) [Decidable b] : M := fun i j =>
  if b then
    if (i = p ∧ j = p) ∨ (i = q ∧ j = q) then 0
    else if (i = p ∧ j = q) ∨ (i = q ∧ j = p) then 1
    else if i = j then 1 else 0
  else if i = j then 1 else 0

/-- One exchange of the pair (A, V). -/
def swapM (p q : Fin 3) (s : M × M) : M × M :=
  ((swapP p q (s.1 p p < s.1 q q)).transpose * (s.1 * swapP p q (s.1 p p < s.1 q q)), s.2 * swapP p q (s.1 p p < s.1 q q))

/-- The three exchanges. -/
def sortM (s : M × M) : M × M := swapM 1 2 (swapM 0 2 (swapM 0 1 s))

/-- The right singular vectors. -/
def vM (H : M) : M := (sortM (sweepM^[6] (H.transpose * H, 1))).2

/-- The reciprocal of a vector's norm; the square of the norm taken no smaller than `tiny`. -/
def invR (x y z : ℝ) : ℝ := (√(max (x * x + y * y + z * z) tiny))⁻¹

theorem invR_pos (x y z : ℝ) : 0 < invR x y z :=
  inv_pos.mpr (Real.sqrt_pos.mpr (lt_max_of_lt_right tiny_pos))

/-- The left singular vectors. -/
def uM (H V : M) : M := fun i k => (H * V) i k * invR ((H * V) 0 k) ((H * V) 1 k) ((H * V) 2 k)

/-- The determinant, written out. -/
def detR (A : M) : ℝ :=
  A 0 0 * (A 1 1 * A 2 2 - A 1 2 * A 2 1) - A 0 1 * (A 1 0 * A 2 2 - A 1 2 * A 2 0) + A 0 2 * (A 1 0 * A 2 1 - A 1 1 * A 2 0)

theorem detR_eq (A : M) : detR A = A.det := by rw [Matrix.det_fin_three, detR]; ring

/-- 1 or -1, by the sign of a number. -/
def signR (x : ℝ) : ℝ := if 0 ≤ x then 1 else -1

/-- The rotation from the singular vectors and the sign. -/
def rM (d : ℝ) (V U : M) : M := fun i l => V i 0 * U l 0 + V i 1 * U l 1 + d * V i 2 * U l 2

/-- The rotation of the rigid step, from H. -/
def solve (H : M) : M := rM (signR (detR H)) (vM H) (uM H (vM H))

/-- The mean of 4096 points. -/
def mean (x : Fin 4096 → Fin 3 → ℝ) (i : Fin 3) : ℝ := (∑ k, x k i) / 4096

/-- The matrix H of two clouds. -/
def cross (x y : Fin 4096 → Fin 3 → ℝ) : M := fun i j => ∑ k, (x k i - mean x i) * (y k j - mean y j)

/-- The rotation of the rigid step from one cloud to another. -/
def rigidR (x y : Fin 4096 → Fin 3 → ℝ) : M := solve (cross x y)

/-- The translation of the rigid step. -/
def rigidT (x y : Fin 4096 → Fin 3 → ℝ) (i : Fin 3) : ℝ :=
  mean y i - (rigidR x y i 0 * mean x 0 + rigidR x y i 1 * mean x 1 + rigidR x y i 2 * mean x 2)

/-! ## The sign -/

theorem det_rotJ {p q : Fin 3} (h : p < q) (t : ℝ) : (rotJ p q t).det = 1 := by
  have hc := cos_sq t
  rw [Matrix.det_fin_three]
  fin_cases p <;> fin_cases q <;> simp at h <;> simp [rotJ] <;> linear_combination hc

theorem det_swapP {p q : Fin 3} (h : p < q) (b : Prop) [Decidable b] : (swapP p q b).det ≠ 0 := by
  rw [Matrix.det_fin_three]
  by_cases hb : b <;> fin_cases p <;> fin_cases q <;> simp at h <;> simp [swapP, hb]

theorem det_rotM {p q : Fin 3} (h : p < q) (s : M × M) : (rotM p q s).2.det = s.2.det := by
  rw [rotM, Matrix.det_mul, det_rotJ h, mul_one]

theorem det_sweepM (s : M × M) : (sweepM s).2.det = s.2.det := by
  rw [sweepM, det_rotM (by decide), det_rotM (by decide), det_rotM (by decide)]

theorem det_sweeps (n : ℕ) (s : M × M) : (sweepM^[n] s).2.det = s.2.det := by
  induction n with
  | zero => rfl
  | succ n ih => rw [Function.iterate_succ_apply', det_sweepM, ih]

theorem det_swapM {p q : Fin 3} (h : p < q) {s : M × M} (hs : s.2.det ≠ 0) : (swapM p q s).2.det ≠ 0 := by
  rw [swapM, Matrix.det_mul]
  exact mul_ne_zero hs (det_swapP h _)

theorem det_vM (H : M) : (vM H).det ≠ 0 := by
  refine det_swapM (by decide) (det_swapM (by decide) (det_swapM (by decide) ?_))
  rw [det_sweeps]; simp

/-- The determinant of V Uᵀ has the sign of the determinant of H. -/
theorem sign_eq (H : M) : signR (detR (vM H * (uM H (vM H)).transpose)) = signR (detR H) := by
  have hV := det_vM H
  generalize vM H = V at *
  have hU : uM H V = H * V * Matrix.diagonal fun k => invR ((H * V) 0 k) ((H * V) 1 k) ((H * V) 2 k) := by
    ext i k; rw [Matrix.mul_diagonal]; rfl
  rw [detR_eq, detR_eq, Matrix.det_mul, Matrix.det_transpose, hU, Matrix.det_mul, Matrix.det_mul, Matrix.det_diagonal]
  have hp : 0 < ∏ k, invR ((H * V) 0 k) ((H * V) 1 k) ((H * V) 2 k) := Finset.prod_pos fun k _ => invR_pos _ _ _
  generalize (∏ k, invR ((H * V) 0 k) ((H * V) 1 k) ((H * V) 2 k)) = P at *
  have hq : 0 < V.det * V.det * P := mul_pos (mul_self_pos.mpr hV) hp
  unfold signR
  rw [show V.det * (H.det * V.det * P) = V.det * V.det * P * H.det by ring]
  congr 1
  exact propext (mul_nonneg_iff_of_pos_left hq)

/-! ## The sweeps on the entries of a symmetric matrix -/

/-- The upper triangle of the symmetric matrix, then the accumulated rotation, row by row. -/
abbrev C15 : Type := ℝ × ℝ × ℝ × ℝ × ℝ × ℝ × ℝ × ℝ × ℝ × ℝ × ℝ × ℝ × ℝ × ℝ × ℝ

/-- The two matrices of the fifteen numbers. -/
def toM : C15 → M × M
  | (a00, a01, a02, a11, a12, a22, v00, v01, v02, v10, v11, v12, v20, v21, v22) =>
    (!![a00, a01, a02; a01, a11, a12; a02, a12, a22], !![v00, v01, v02; v10, v11, v12; v20, v21, v22])

/-- `c·x − s·y` and `s·x + c·y`. -/
def rotL (t x y : ℝ) : ℝ := cosR t * x - t * cosR t * y
@[inherit_doc rotL] def rotR (t x y : ℝ) : ℝ := t * cosR t * x + cosR t * y

/-- The rotation in the plane of the axes 0 and 1. -/
def rot01 : C15 → C15
  | (a00, a01, a02, a11, a12, a22, v00, v01, v02, v10, v11, v12, v20, v21, v22) =>
    have t := tanR a00 a11 a01
    (a00 - t * a01, 0, rotL t a02 a12, a11 + t * a01, rotR t a02 a12, a22,
      rotL t v00 v01, rotR t v00 v01, v02, rotL t v10 v11, rotR t v10 v11, v12, rotL t v20 v21, rotR t v20 v21, v22)

/-- The rotation in the plane of the axes 0 and 2. -/
def rot02 : C15 → C15
  | (a00, a01, a02, a11, a12, a22, v00, v01, v02, v10, v11, v12, v20, v21, v22) =>
    have t := tanR a00 a22 a02
    (a00 - t * a02, rotL t a01 a12, 0, a11, rotR t a01 a12, a22 + t * a02,
      rotL t v00 v02, v01, rotR t v00 v02, rotL t v10 v12, v11, rotR t v10 v12, rotL t v20 v22, v21, rotR t v20 v22)

/-- The rotation in the plane of the axes 1 and 2. -/
def rot12 : C15 → C15
  | (a00, a01, a02, a11, a12, a22, v00, v01, v02, v10, v11, v12, v20, v21, v22) =>
    have t := tanR a11 a22 a12
    (a00, rotL t a01 a02, rotR t a01 a02, a11 - t * a12, 0, a22 + t * a12,
      v00, rotL t v01 v02, rotR t v01 v02, v10, rotL t v11 v12, rotR t v11 v12, v20, rotL t v21 v22, rotR t v21 v22)

/-- One sweep. -/
def sweep (x : C15) : C15 := rot12 (rot02 (rot01 x))

theorem toM_rot01 (x : C15) : rotM 0 1 (toM x) = toM (rot01 x) := by
  obtain ⟨a00, a01, a02, a11, a12, a22, v00, v01, v02, v10, v11, v12, v20, v21, v22⟩ := x
  have hq := tan_eq a00 a11 a01
  have hc := cos_sq (tanR a00 a11 a01)
  simp only [toM, rot01, rotM]
  simp only [show ∀ (a b c d e f g h i : ℝ), (!![a, b, c; d, e, f; g, h, i] : M) 0 0 = a from fun _ _ _ _ _ _ _ _ _ => rfl,
    show ∀ (a b c d e f g h i : ℝ), (!![a, b, c; d, e, f; g, h, i] : M) 1 1 = e from fun _ _ _ _ _ _ _ _ _ => rfl,
    show ∀ (a b c d e f g h i : ℝ), (!![a, b, c; d, e, f; g, h, i] : M) 0 1 = b from fun _ _ _ _ _ _ _ _ _ => rfl]
  generalize tanR a00 a11 a01 = t at *
  refine Prod.ext ?_ ?_ <;> ext i j <;> simp only [Matrix.mul_apply, Fin.sum_univ_three, Matrix.transpose_apply] <;>
    fin_cases i <;> fin_cases j <;>
    simp [rotJ, rotL, rotR] <;> generalize cosR t = c at * <;>
    first | done | ring1 | linear_combination (a00 - t * a01) * hc + c * c * hq | linear_combination (a11 + t * a01) * hc - c * c * hq

theorem toM_rot02 (x : C15) : rotM 0 2 (toM x) = toM (rot02 x) := by
  obtain ⟨a00, a01, a02, a11, a12, a22, v00, v01, v02, v10, v11, v12, v20, v21, v22⟩ := x
  have hq := tan_eq a00 a22 a02
  have hc := cos_sq (tanR a00 a22 a02)
  simp only [toM, rot02, rotM]
  simp only [show ∀ (a b c d e f g h i : ℝ), (!![a, b, c; d, e, f; g, h, i] : M) 0 0 = a from fun _ _ _ _ _ _ _ _ _ => rfl,
    show ∀ (a b c d e f g h i : ℝ), (!![a, b, c; d, e, f; g, h, i] : M) 2 2 = i from fun _ _ _ _ _ _ _ _ _ => rfl,
    show ∀ (a b c d e f g h i : ℝ), (!![a, b, c; d, e, f; g, h, i] : M) 0 2 = c from fun _ _ _ _ _ _ _ _ _ => rfl]
  generalize tanR a00 a22 a02 = t at *
  refine Prod.ext ?_ ?_ <;> ext i j <;> simp only [Matrix.mul_apply, Fin.sum_univ_three, Matrix.transpose_apply] <;>
    fin_cases i <;> fin_cases j <;>
    simp [rotJ, rotL, rotR] <;> generalize cosR t = c at * <;>
    first | done | ring1 | linear_combination (a00 - t * a02) * hc + c * c * hq | linear_combination (a22 + t * a02) * hc - c * c * hq

theorem toM_rot12 (x : C15) : rotM 1 2 (toM x) = toM (rot12 x) := by
  obtain ⟨a00, a01, a02, a11, a12, a22, v00, v01, v02, v10, v11, v12, v20, v21, v22⟩ := x
  have hq := tan_eq a11 a22 a12
  have hc := cos_sq (tanR a11 a22 a12)
  simp only [toM, rot12, rotM]
  simp only [show ∀ (a b c d e f g h i : ℝ), (!![a, b, c; d, e, f; g, h, i] : M) 1 1 = e from fun _ _ _ _ _ _ _ _ _ => rfl,
    show ∀ (a b c d e f g h i : ℝ), (!![a, b, c; d, e, f; g, h, i] : M) 2 2 = i from fun _ _ _ _ _ _ _ _ _ => rfl,
    show ∀ (a b c d e f g h i : ℝ), (!![a, b, c; d, e, f; g, h, i] : M) 1 2 = f from fun _ _ _ _ _ _ _ _ _ => rfl]
  generalize tanR a11 a22 a12 = t at *
  refine Prod.ext ?_ ?_ <;> ext i j <;> simp only [Matrix.mul_apply, Fin.sum_univ_three, Matrix.transpose_apply] <;>
    fin_cases i <;> fin_cases j <;>
    simp [rotJ, rotL, rotR] <;> generalize cosR t = c at * <;>
    first | done | ring1 | linear_combination (a11 - t * a12) * hc + c * c * hq | linear_combination (a22 + t * a12) * hc - c * c * hq

theorem toM_sweep (x : C15) : sweepM (toM x) = toM (sweep x) := by
  rw [sweepM, toM_rot01, toM_rot02, toM_rot12]; rfl

theorem toM_sweeps (n : ℕ) (x : C15) : sweepM^[n] (toM x) = toM (sweep^[n] x) := by
  induction n with
  | zero => rfl
  | succ n ih => rw [Function.iterate_succ_apply', ih, toM_sweep, Function.iterate_succ_apply']

/-! ## The exchanges on the entries -/

/-- The exchange of the axes 0 and 1. -/
def swap01 : C15 → C15
  | (a00, a01, a02, a11, a12, a22, v00, v01, v02, v10, v11, v12, v20, v21, v22) =>
    if a00 < a11 then (a11, a01, a12, a00, a02, a22, v01, v00, v02, v11, v10, v12, v21, v20, v22)
    else (a00, a01, a02, a11, a12, a22, v00, v01, v02, v10, v11, v12, v20, v21, v22)

/-- The exchange of the axes 0 and 2. -/
def swap02 : C15 → C15
  | (a00, a01, a02, a11, a12, a22, v00, v01, v02, v10, v11, v12, v20, v21, v22) =>
    if a00 < a22 then (a22, a12, a02, a11, a01, a00, v02, v01, v00, v12, v11, v10, v22, v21, v20)
    else (a00, a01, a02, a11, a12, a22, v00, v01, v02, v10, v11, v12, v20, v21, v22)

/-- The exchange of the axes 1 and 2. -/
def swap12 : C15 → C15
  | (a00, a01, a02, a11, a12, a22, v00, v01, v02, v10, v11, v12, v20, v21, v22) =>
    if a11 < a22 then (a00, a02, a01, a22, a12, a11, v00, v02, v01, v10, v12, v11, v20, v22, v21)
    else (a00, a01, a02, a11, a12, a22, v00, v01, v02, v10, v11, v12, v20, v21, v22)

theorem toM_swap01 (x : C15) : swapM 0 1 (toM x) = toM (swap01 x) := by
  obtain ⟨a00, a01, a02, a11, a12, a22, v00, v01, v02, v10, v11, v12, v20, v21, v22⟩ := x
  by_cases h : a00 < a11
  · simp only [swap01, if_pos h]
    have h' : (toM (a00, a01, a02, a11, a12, a22, v00, v01, v02, v10, v11, v12, v20, v21, v22)).1 0 0 <
      (toM (a00, a01, a02, a11, a12, a22, v00, v01, v02, v10, v11, v12, v20, v21, v22)).1 1 1 := h
    refine Prod.ext ?_ ?_ <;> ext i j <;>
      simp only [swapM, swapP, if_pos h', Matrix.mul_apply, Fin.sum_univ_three, Matrix.transpose_apply] <;>
      fin_cases i <;> fin_cases j <;> simp [toM]
  · simp only [swap01, if_neg h]
    have h' : ¬(toM (a00, a01, a02, a11, a12, a22, v00, v01, v02, v10, v11, v12, v20, v21, v22)).1 0 0 <
      (toM (a00, a01, a02, a11, a12, a22, v00, v01, v02, v10, v11, v12, v20, v21, v22)).1 1 1 := h
    refine Prod.ext ?_ ?_ <;> ext i j <;>
      simp only [swapM, swapP, if_neg h', Matrix.mul_apply, Fin.sum_univ_three, Matrix.transpose_apply] <;>
      fin_cases i <;> fin_cases j <;> simp [toM]

theorem toM_swap02 (x : C15) : swapM 0 2 (toM x) = toM (swap02 x) := by
  obtain ⟨a00, a01, a02, a11, a12, a22, v00, v01, v02, v10, v11, v12, v20, v21, v22⟩ := x
  by_cases h : a00 < a22
  · simp only [swap02, if_pos h]
    have h' : (toM (a00, a01, a02, a11, a12, a22, v00, v01, v02, v10, v11, v12, v20, v21, v22)).1 0 0 <
      (toM (a00, a01, a02, a11, a12, a22, v00, v01, v02, v10, v11, v12, v20, v21, v22)).1 2 2 := h
    refine Prod.ext ?_ ?_ <;> ext i j <;>
      simp only [swapM, swapP, if_pos h', Matrix.mul_apply, Fin.sum_univ_three, Matrix.transpose_apply] <;>
      fin_cases i <;> fin_cases j <;> simp [toM]
  · simp only [swap02, if_neg h]
    have h' : ¬(toM (a00, a01, a02, a11, a12, a22, v00, v01, v02, v10, v11, v12, v20, v21, v22)).1 0 0 <
      (toM (a00, a01, a02, a11, a12, a22, v00, v01, v02, v10, v11, v12, v20, v21, v22)).1 2 2 := h
    refine Prod.ext ?_ ?_ <;> ext i j <;>
      simp only [swapM, swapP, if_neg h', Matrix.mul_apply, Fin.sum_univ_three, Matrix.transpose_apply] <;>
      fin_cases i <;> fin_cases j <;> simp [toM]

theorem toM_swap12 (x : C15) : swapM 1 2 (toM x) = toM (swap12 x) := by
  obtain ⟨a00, a01, a02, a11, a12, a22, v00, v01, v02, v10, v11, v12, v20, v21, v22⟩ := x
  by_cases h : a11 < a22
  · simp only [swap12, if_pos h]
    have h' : (toM (a00, a01, a02, a11, a12, a22, v00, v01, v02, v10, v11, v12, v20, v21, v22)).1 1 1 <
      (toM (a00, a01, a02, a11, a12, a22, v00, v01, v02, v10, v11, v12, v20, v21, v22)).1 2 2 := h
    refine Prod.ext ?_ ?_ <;> ext i j <;>
      simp only [swapM, swapP, if_pos h', Matrix.mul_apply, Fin.sum_univ_three, Matrix.transpose_apply] <;>
      fin_cases i <;> fin_cases j <;> simp [toM]
  · simp only [swap12, if_neg h]
    have h' : ¬(toM (a00, a01, a02, a11, a12, a22, v00, v01, v02, v10, v11, v12, v20, v21, v22)).1 1 1 <
      (toM (a00, a01, a02, a11, a12, a22, v00, v01, v02, v10, v11, v12, v20, v21, v22)).1 2 2 := h
    refine Prod.ext ?_ ?_ <;> ext i j <;>
      simp only [swapM, swapP, if_neg h', Matrix.mul_apply, Fin.sum_univ_three, Matrix.transpose_apply] <;>
      fin_cases i <;> fin_cases j <;> simp [toM]

theorem toM_sort (x : C15) : sortM (toM x) = toM (swap12 (swap02 (swap01 x))) := by
  rw [sortM, toM_swap01, toM_swap02, toM_swap12]

/-- What the sweeps on the entries start from. -/
def gram (H : M) : C15 :=
  (H 0 0 * H 0 0 + H 1 0 * H 1 0 + H 2 0 * H 2 0, H 0 0 * H 0 1 + H 1 0 * H 1 1 + H 2 0 * H 2 1,
    H 0 0 * H 0 2 + H 1 0 * H 1 2 + H 2 0 * H 2 2, H 0 1 * H 0 1 + H 1 1 * H 1 1 + H 2 1 * H 2 1,
    H 0 1 * H 0 2 + H 1 1 * H 1 2 + H 2 1 * H 2 2, H 0 2 * H 0 2 + H 1 2 * H 1 2 + H 2 2 * H 2 2, 1, 0, 0, 0, 1, 0, 0, 0, 1)

theorem toM_gram (H : M) : toM (gram H) = (H.transpose * H, 1) := by
  refine Prod.ext ?_ ?_ <;> ext i j
  · simp only [Matrix.mul_apply, Fin.sum_univ_three, Matrix.transpose_apply]
    fin_cases i <;> fin_cases j <;> simp [toM, gram] <;> ring
  · fin_cases i <;> fin_cases j <;> simp [toM, gram]

theorem vM_eq (H : M) : vM H = (toM (swap12 (swap02 (swap01 (sweep^[6] (gram H)))))).2 := by
  rw [vM, ← toM_gram, toM_sweeps, toM_sort]

/-! ## The nearest point, one step, ten steps -/

/-- A cloud of 4096 points. -/
abbrev Points := Fin 4096 → Fin 3 → ℝ

/-- The squared distance from a point to the `j`-th point of a cloud, cut off below at zero. -/
def dist2 (s : Fin 3 → ℝ) (y : Points) (j : Fin 4096) : ℝ :=
  max (∑ i, s i * s i - 2 * ∑ i, s i * y j i + ∑ i, y j i * y j i) 0

/-- `j` is the first of the points nearest to `s`. -/
def IsNear (s : Fin 3 → ℝ) (y : Points) (j : Fin 4096) : Prop :=
  ∀ k, dist2 s y j ≤ dist2 s y k ∧ (dist2 s y k = dist2 s y j → j ≤ k)

theorem exists_near (s : Fin 3 → ℝ) (y : Points) : ∃ j, IsNear s y j := by
  obtain ⟨m, -, hm⟩ := Finset.exists_min_image Finset.univ (dist2 s y) ⟨0, Finset.mem_univ _⟩
  let A := Finset.univ.filter fun j => dist2 s y j = dist2 s y m
  have hA : A.Nonempty := ⟨m, by simp [A]⟩
  have hj : dist2 s y (A.min' hA) = dist2 s y m := by simpa [A] using A.min'_mem hA
  refine ⟨A.min' hA, fun k => ⟨hj ▸ hm k (Finset.mem_univ _), fun e => A.min'_le _ (by simp [A, e, hj])⟩⟩

/-- The first of the points nearest to `s`. -/
def near (s : Fin 3 → ℝ) (y : Points) : Fin 4096 := (exists_near s y).choose

theorem near_spec (s : Fin 3 → ℝ) (y : Points) : IsNear s y (near s y) := (exists_near s y).choose_spec

theorem near_eq {s : Fin 3 → ℝ} {y : Points} {j : Fin 4096} (h : IsNear s y j) : near s y = j := by
  have n := near_spec s y
  have e : dist2 s y j = dist2 s y (near s y) := le_antisymm (h _).1 (n _).1
  exact le_antisymm ((n j).2 e) ((h _).2 e.symm)

/-- The points of `y` nearest to the points of `x`. -/
def matched (x y : Points) : Points := fun k => y (near (x k) y)

/-- One step: the rigid motion from `x` to its nearest points, applied to `x`. -/
def icpStep (y x : Points) : Points := fun k i =>
  (rigidR x (matched x y) i 0 * x k 0 + rigidR x (matched x y) i 1 * x k 1 + rigidR x (matched x y) i 2 * x k 2)
    + rigidT x (matched x y) i

/-- The points after `n` steps. -/
def moved (x y : Points) (n : ℕ) : Points := (icpStep y)^[n] x

theorem moved_succ (x y : Points) (n : ℕ) : moved x y (n + 1) = icpStep y (moved x y n) :=
  Function.iterate_succ_apply' ..

/-- The result: the rotation and, in the last column, the translation. -/
def result (x y : Points) (i : Fin 3) (j : Fin 4) : ℝ :=
  if h : j.val < 3 then rigidR x (moved x y 10) i ⟨j, h⟩ else rigidT x (moved x y 10) i

end Cert.Proof.Spec
-- ==== Proof.Coe.lean ====
/-
  The ideal operations at real numbers: sums, products, quotients, square roots, comparisons and the literals of the two
  programs, each as a real number read as an extended real.
-/
module

public import proofs.«01_k».proof.Proof.Spec
public import Idealize.ShloMosaic.Lib.IdealHost

@[expose] public section

noncomputable section

namespace Cert.Proof

open Idealize.ShloMosaic

theorem coe_div (a : ℝ) {b : ℝ} (h : b ≠ 0) : Ideal.div (a : EReal) (b : EReal) = ((a / b : ℝ) : EReal) := by
  rw [Ideal.div_coe h, ← EReal.coe_mul, mul_one_div]

theorem coe_sqrt {a : ℝ} (h : 0 ≤ a) : Ideal.sqrt (a : EReal) = ((√a : ℝ) : EReal) := by
  rw [Ideal.sqrt_coe, if_neg (not_lt.mpr h)]

theorem coe_rsqrt {a : ℝ} (h : 0 < a) : Ideal.rsqrt (a : EReal) = (((√a)⁻¹ : ℝ) : EReal) := by
  rw [Ideal.rsqrt_coe, if_neg (not_lt.mpr h.le), if_neg h.ne']

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem coe_abs (a : ℝ) : max (a : EReal) (-(a : EReal)) = ((|a| : ℝ) : EReal) := by
  rw [← EReal.coe_neg, coe_max]; rfl

theorem coe_ite (p : Prop) [Decidable p] (a b : ℝ) :
    (if p then (a : EReal) else (b : EReal)) = ((if p then a else b : ℝ) : EReal) := by split_ifs <;> rfl

theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

/-- A choice on a decided truth value. -/
theorem sel_ofBool {α : Type} (p : Prop) [Decidable p] (x y : α) :
    Scalar.select (BitVec.ofBool (decide p)) x y = if p then x else y := by
  by_cases h : p <;> simp [Scalar.select, h]

theorem sel_lt {α : Type} (a b : ℝ) (x y : α) : Scalar.select (Ideal.cmp .olt (a : EReal) b) x y = if a < b then x else y := by
  rw [show Ideal.cmp .olt (a : EReal) b = BitVec.ofBool (decide ((a : EReal) < b)) from rfl, sel_ofBool]
  simp only [EReal.coe_lt_coe_iff]

theorem sel_gt {α : Type} (a b : ℝ) (x y : α) : Scalar.select (Ideal.cmp .ogt (a : EReal) b) x y = if b < a then x else y := by
  rw [show Ideal.cmp .ogt (a : EReal) b = BitVec.ofBool (decide ((b : EReal) < a)) from rfl, sel_ofBool]
  simp only [EReal.coe_lt_coe_iff]

theorem sel_ge {α : Type} (a b : ℝ) (x y : α) : Scalar.select (Ideal.cmp .oge (a : EReal) b) x y = if b ≤ a then x else y := by
  rw [show Ideal.cmp .oge (a : EReal) b = BitVec.ofBool (decide ((b : EReal) ≤ a)) from rfl, sel_ofBool]
  simp only [EReal.coe_le_coe_iff]

theorem lit_zero : Ideal.ofBits .f32 0x00000000#32 = ((0 : ℝ) : EReal) := Ideal.ofBits_zero_f32
theorem lit_one : Ideal.ofBits .f32 0x3F800000#32 = ((1 : ℝ) : EReal) := Ideal.ofBits_one_f32
theorem lit_neg_one : Ideal.ofBits .f32 0xBF800000#32 = ((-1 : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul, -EReal.coe_neg]; norm_num
theorem lit_neg_two : Ideal.ofBits .f32 0xC0000000#32 = ((-2 : ℝ) : EReal) := by
  simp [Ideal.ofBits, Ideal.ieee, -EReal.coe_mul, -EReal.coe_neg]; norm_num
theorem lit_count : Ideal.ofBits .f32 0x45800000#32 = ((4096 : ℝ) : EReal) := by
  simp [Ideal.ofBits, Ideal.ieee, -EReal.coe_mul, -EReal.coe_neg]; norm_num
theorem lit_inv_count : Ideal.ofBits .f32 0x39800000#32 = ((1 / 4096 : ℝ) : EReal) := by
  simp [Ideal.ofBits, Ideal.ieee, -EReal.coe_mul, -EReal.coe_neg]; norm_num
theorem lit_inf : Ideal.ofBits .f32 0x7F800000#32 = (⊤ : EReal) := by
  simp [Ideal.ofBits, Ideal.ieee]
theorem lit_tiny : Ideal.ofBits .f32 0x0DA24260#32 = ((Spec.tiny : ℝ) : EReal) := by
  simp [Ideal.ofBits, Ideal.ieee, -EReal.coe_mul, -EReal.coe_neg, Spec.tiny]; norm_num

/-- The tangent, once at real numbers: the divisor in use is never zero. -/
theorem tan_den {x : ℝ} (h : ¬|x| < Spec.tiny) : 2 * x ≠ 0 := by
  rintro e
  have : x = 0 := by linarith
  rw [this] at h
  exact h (by simpa using Spec.tiny_pos)

theorem pos_sq (x : ℝ) : 0 < x * x + 1 := by nlinarith [mul_self_nonneg x]

end Cert.Proof
-- ==== Proof.KI.Real.lean ====
/-
  The kernel's rigid step at the ideal operations, from a real matrix H: every scalar is the real number that the
  step in real numbers computes.
-/
module

public import proofs.«01_k».proof.Proof.KI.Solve
public import proofs.«01_k».proof.Proof.Coe

@[expose] public section

noncomputable section

namespace Cert.Proof.KI

open Idealize.ShloMosaic

/-- A real matrix as nine scalars. -/
def co9 (A : Spec.M) : M9 (Ideal .f32) :=
  ⟨(A 0 0 : EReal), (A 0 1 : EReal), (A 0 2 : EReal), (A 1 0 : EReal), (A 1 1 : EReal), (A 1 2 : EReal), (A 2 0 : EReal), (A 2 1 : EReal), (A 2 2 : EReal)⟩

/-- Fifteen real numbers as scalars. -/
def co15 : Spec.C15 → C15 Ideal
  | (a00, a01, a02, a11, a12, a22, v00, v01, v02, v10, v11, v12, v20, v21, v22) =>
    ((a00 : EReal), (a01 : EReal), (a02 : EReal), (a11 : EReal), (a12 : EReal), (a22 : EReal), (v00 : EReal), (v01 : EReal), (v02 : EReal),
      (v10 : EReal), (v11 : EReal), (v12 : EReal), (v20 : EReal), (v21 : EReal), (v22 : EReal))

theorem kAdd (a b : ℝ) : Scalar.addf (F := Ideal) (φ := .f32) (a : EReal) (b : EReal) = ((a + b : ℝ) : EReal) := (EReal.coe_add a b).symm
theorem kSub (a b : ℝ) : Scalar.subf (F := Ideal) (φ := .f32) (a : EReal) (b : EReal) = ((a - b : ℝ) : EReal) := (EReal.coe_sub a b).symm
theorem kMul (a b : ℝ) : Scalar.mulf (F := Ideal) (φ := .f32) (a : EReal) (b : EReal) = ((a * b : ℝ) : EReal) := (EReal.coe_mul a b).symm
theorem kMax (a b : ℝ) : Scalar.maximumf (F := Ideal) (φ := .f32) (a : EReal) (b : EReal) = ((max a b : ℝ) : EReal) := coe_max a b
theorem kAbs (a : ℝ) : Scalar.absf (F := Ideal) (φ := .f32) (a : EReal) = ((|a| : ℝ) : EReal) := coe_abs a
theorem kDiv (a : ℝ) {b : ℝ} (h : b ≠ 0) : Scalar.divf (F := Ideal) (φ := .f32) (a : EReal) (b : EReal) = ((a / b : ℝ) : EReal) := coe_div a h
theorem kSqrt {a : ℝ} (h : 0 ≤ a) : Scalar.sqrt (F := Ideal) (φ := .f32) (a : EReal) = ((√a : ℝ) : EReal) := coe_sqrt h
theorem kRsqrt {a : ℝ} (h : 0 < a) : Scalar.rsqrt (F := Ideal) (φ := .f32) (a : EReal) = (((√a)⁻¹ : ℝ) : EReal) := coe_rsqrt h
theorem kLt {α : Type} (a b : ℝ) (x y : α) : Scalar.select (Scalar.cmpf (F := Ideal) (φ := .f32) .olt (a : EReal) (b : EReal)) x y = if a < b then x else y := sel_lt a b x y
theorem kGt {α : Type} (a b : ℝ) (x y : α) : Scalar.select (Scalar.cmpf (F := Ideal) (φ := .f32) .ogt (a : EReal) (b : EReal)) x y = if b < a then x else y := sel_gt a b x y
theorem kGe {α : Type} (a b : ℝ) (x y : α) : Scalar.select (Scalar.cmpf (F := Ideal) (φ := .f32) .oge (a : EReal) (b : EReal)) x y = if b ≤ a then x else y := sel_ge a b x y
theorem kZero : (lit 0x00000000#32 : Ideal .f32) = ((0 : ℝ) : EReal) := lit_zero
theorem kOne : (lit 0x3F800000#32 : Ideal .f32) = ((1 : ℝ) : EReal) := lit_one
theorem kNegOne : (lit 0xBF800000#32 : Ideal .f32) = ((-1 : ℝ) : EReal) := lit_neg_one
theorem kTwo : (lit 0x40000000#32 : Ideal .f32) = ((2 : ℝ) : EReal) := lit_two
theorem kTiny : (lit 0x0DA24260#32 : Ideal .f32) = ((Spec.tiny : ℝ) : EReal) := lit_tiny
theorem kNarrow (a : Ideal .f32) : narrow a = a := rfl

theorem tanJ_real (app aqq apq : ℝ) :
    tanJ (F := Ideal) (app : EReal) (aqq : EReal) (apq : EReal) = ((Spec.tanR app aqq apq : ℝ) : EReal) := by
  simp only [tanJ, kZero, kOne, kNegOne, kTwo, kTiny, kAbs, kLt]
  unfold Spec.tanR
  by_cases h : |apq| < Spec.tiny
  · simp only [if_pos h]
  · simp only [if_neg h]
    have hd := tan_den h
    rw [kSub, kMul, kDiv _ hd]
    generalize (aqq - app) / (2 * apq) = θ
    rw [kMul, kAdd, kSqrt (pos_sq θ).le, kGe]
    have hr := abs_lt.mp (Spec.sqrt_gt θ)
    by_cases h2 : 0 ≤ θ
    · simp only [if_pos h2]
      rw [kAdd, kDiv _ (by linarith)]
    · simp only [if_neg h2]
      rw [kSub, kDiv _ (by linarith)]

theorem cosJ_real (t : ℝ) : cosJ (F := Ideal) (t : EReal) = ((Spec.cosR t : ℝ) : EReal) := by
  simp only [cosJ, kOne, kMul, kAdd]
  rw [kRsqrt (pos_sq t)]; rfl

theorem rotL_real (t x y : ℝ) : rotL (F := Ideal) (t : EReal) (x : EReal) (y : EReal) = ((Spec.rotL t x y : ℝ) : EReal) := by
  simp only [rotL, sinJ, cosJ_real, kMul, kSub]; rfl

theorem rotR_real (t x y : ℝ) : rotR (F := Ideal) (t : EReal) (x : EReal) (y : EReal) = ((Spec.rotR t x y : ℝ) : EReal) := by
  simp only [rotR, sinJ, cosJ_real, kMul, kAdd]; rfl

theorem sweep_real (x : Spec.C15) : sweep (co15 x) = co15 (Spec.sweep x) := by
  obtain ⟨a00, a01, a02, a11, a12, a22, v00, v01, v02, v10, v11, v12, v20, v21, v22⟩ := x
  simp only [sweep, Spec.sweep, rot01, rot02, rot12, Spec.rot01, Spec.rot02, Spec.rot12, co15, tanJ_real, rotL_real, rotR_real, kMul, kAdd, kSub, kZero]

theorem sweeps_real (n : ℕ) (x : Spec.C15) : sweep^[n] (co15 x) = co15 (Spec.sweep^[n] x) := by
  induction n with
  | zero => rfl
  | succ n ih => rw [Function.iterate_succ_apply', ih, sweep_real, Function.iterate_succ_apply']

theorem dot3_real (a b c d e f : ℝ) :
    dot3 (F := Ideal) (a : EReal) (b : EReal) (c : EReal) (d : EReal) (e : EReal) (f : EReal) = ((a * b + c * d + e * f : ℝ) : EReal) := by
  simp only [dot3, kMul, kAdd]

theorem gram_real (H : Spec.M) : gramK (co9 H) = co15 (Spec.gram H) := by
  simp only [gramK, co9, dot3_real, kZero, kOne, Spec.gram, co15]

theorem sort_real (x : Spec.C15) : sortK (co15 x) = co9 (Spec.toM (Spec.swap12 (Spec.swap02 (Spec.swap01 x)))).2 := by
  obtain ⟨a00, a01, a02, a11, a12, a22, v00, v01, v02, v10, v11, v12, v20, v21, v22⟩ := x
  simp only [sortK, co15, kGt]
  by_cases h1 : a00 < a11
  · simp only [if_pos h1, kGt, Spec.swap01]
    by_cases h2 : a11 < a22
    · simp only [if_pos h2, kGt, Spec.swap02]
      by_cases h3 : a00 < a11
      · simp only [if_pos h3, Spec.swap12]; rfl
      · exact absurd h1 h3
    · simp only [if_neg h2, kGt, Spec.swap02]
      by_cases h3 : a00 < a22
      · simp only [if_pos h3, Spec.swap12]; rfl
      · simp only [if_neg h3, Spec.swap12]; rfl
  · simp only [if_neg h1, kGt, Spec.swap01]
    by_cases h2 : a00 < a22
    · simp only [if_pos h2, kGt, Spec.swap02]
      by_cases h3 : a11 < a00
      · simp only [if_pos h3, Spec.swap12]; rfl
      · simp only [if_neg h3, Spec.swap12]; rfl
    · simp only [if_neg h2, kGt, Spec.swap02]
      by_cases h3 : a11 < a22
      · simp only [if_pos h3, Spec.swap12]; rfl
      · simp only [if_neg h3, Spec.swap12]; rfl

theorem vK_real (H : Spec.M) : vK (co9 H) = co9 (Spec.vM H) := by
  rw [vK, gram_real, sweeps_real, sort_real, Spec.vM_eq]

theorem invK_real (x y z : ℝ) : invK (F := Ideal) (x : EReal) (y : EReal) (z : EReal) = ((Spec.invR x y z : ℝ) : EReal) := by
  simp only [invK, dot3_real, kTiny, kMax]
  rw [kRsqrt (lt_max_of_lt_right Spec.tiny_pos)]; rfl

theorem uK_real (H V : Spec.M) : uK (co9 H) (co9 V) = co9 (Spec.uM H V) := by
  simp only [uK, co9, dot3_real, invK_real, kMul, Spec.uM, Matrix.mul_apply, Fin.sum_univ_three]

theorem signK_real (H : Spec.M) : signK (co9 H) = ((Spec.signR (Spec.detR H) : ℝ) : EReal) := by
  simp only [signK, co9, kMul, kAdd, kSub, kZero, kOne, kNegOne, kGe]
  exact coe_ite _ _ _

theorem rK_real (d : ℝ) (V U : Spec.M) : rK (F := Ideal) (d : EReal) (co9 V) (co9 U) = co9 (Spec.rM d V U) := by
  simp only [rK, co9, entR, kNarrow, kMul, kAdd, Spec.rM]

theorem rotK_real (H : Spec.M) : rotK (co9 H) = co9 (Spec.solve H) := by
  rw [rotK, vK_real, uK_real, signK_real, rK_real]; rfl

theorem transK_real (r0 r1 r2 s0 s1 s2 mt : ℝ) :
    transK (F := Ideal) (r0 : EReal) (r1 : EReal) (r2 : EReal) (s0 : EReal) (s1 : EReal) (s2 : EReal) (mt : EReal)
      = ((mt - (r0 * s0 + r1 * s1 + r2 * s2) : ℝ) : EReal) := by
  simp only [transK, kNarrow, dot3_real, kSub]

end Cert.Proof.KI
-- ==== Proof.KI.Tile.lean ====
/-
  One tile of the nearest-point search at the ideal operations: from a tile of real scores, the mask holds a one where a
  target point is the first of the points nearest to the source point, and zero elsewhere.
-/
module

public import proofs.«01_k».proof.Proof.KI.Real
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe

variable {F : FTy → Type} [FloatOps F]

/-- The scores of the points of a tile: the squared length of the source point, plus the product with the scaled
source, plus the squared length of the target point. -/
def scoreT (o : ℕ) (h3 : S3x4096.Slices ![0, o] S3x1024) (h1 : S1x4096.Slices ![0, o] S1x1024)
    (sm2 tgt : FVec F S3x4096 .bf16) (src2 tgt2 : FVec F S1x4096 .f32) : FVec F S1024x4096 .f32 :=
  addf
    (addf (broadcastTo S1024x4096 (shapeCast S1024x1 (extractStridedSlice S1x1024 ![0, o] src2 h1) shapeCasts_S1x1024_S1024x1) broadcasts_S1024x1_S1024x4096)
      (matmul dot_S3x1024_S3x4096_S1024x4096_0_0_1_1_n_n none (extractStridedSlice S3x1024 ![0, o] sm2 h3) tgt (constant S1024x4096 .f32 0x00000000#32)))
    (broadcastTo S1024x4096 tgt2 broadcasts_S1x4096_S1024x4096)

/-- The least entry of every row. -/
def minT (x : FVec F S1024x4096 .f32) : FVec F S1024 .f32 :=
  multiReduction .minimumf [1] S1024 x 0x7F800000#32 reduces_S1024x4096_S1024 (.inl rfl) rfl

/-- The index where the score attains the row's minimum `least` cut off at zero, and the count elsewhere. -/
def pickT (idx : FVec F S1x4096 .f32) (score : FVec F S1024x4096 .f32) (least : FVec F S1024 .f32) : FVec F S1024x4096 .f32 :=
  select
    (cmpf .ole score
      (broadcastTo S1024x4096
        (maximumf (shapeCast S1024x1 least shapeCasts_S1024_S1024x1)
          (broadcast S1024x1 (Scalar.ofBits .f32 0x00000000#32)))
        broadcasts_S1024x1_S1024x4096))
    (broadcastTo S1024x4096 (shapeCast S1x4096 idx shapeCasts_S1x4096_S1x4096) broadcasts_S1x4096_S1024x4096)
    (broadcast S1024x4096 (Scalar.ofBits .f32 0x45800000#32))

/-- One where the index is the smallest of the picked ones. -/
def maskT (idx : FVec F S1x4096 .f32) (least : FVec F S1024 .f32) : FVec F S1024x4096 .bf16 :=
  truncf .bf16
    (sitofp .f32
      (extui 32
        (cmpf .oeq (broadcastTo S1024x4096 idx broadcasts_S1x4096_S1024x4096)
          (broadcastTo S1024x4096 (shapeCast S1024x1 least shapeCasts_S1024_S1024x1)
            broadcasts_S1024x1_S1024x4096))
        natLt_1_32))
    bitsLt_bf16_f32

/-- The sums over a tile's points, added to what was there. -/
def accT (o : ℕ) (h4 : S4x4096.Slices ![0, o] S4x1024) (sc4 : FVec F S4x4096 .bf16) (acc : FVec F S4x4096 .f32)
    (mask : FVec F S1024x4096 .bf16) : FVec F S4x4096 .f32 :=
  addf acc (matmul dot_S4x1024_S1024x4096_S4x4096_1_0_0_1_n_n none (extractStridedSlice S4x1024 ![0, o] sc4 h4) mask (constant S4x4096 .f32 0x00000000#32))

/-! ## Real arrays -/

/-- A row of real numbers. -/
def coRow {φ : FTy} (x : Fin 4096 → ℝ) : FVec Ideal S1x4096 φ := fun j => ((x (j 1) : ℝ) : EReal)
/-- Three rows of real numbers. -/
def coThree {φ : FTy} (x : Spec.Points) : FVec Ideal S3x4096 φ := fun j => ((x (j 1) (j 0) : ℝ) : EReal)
/-- Four rows of real numbers. -/
def coFour {φ : FTy} (x : Fin 4 → Fin 4096 → ℝ) : FVec Ideal S4x4096 φ := fun j => ((x (j 0) (j 1) : ℝ) : EReal)
/-- A tile of real numbers. -/
def coTile {φ : FTy} (x : Fin 1024 → Fin 4096 → ℝ) : FVec Ideal S1024x4096 φ := fun j => ((x (j 0) (j 1) : ℝ) : EReal)

theorem coRow_at {φ : FTy} (x : Fin 4096 → ℝ) (r : Fin 1) (k : Fin 4096) : coRow (φ := φ) x (ix2 r k) = ((x k : ℝ) : EReal) := rfl
theorem coThree_at {φ : FTy} (x : Spec.Points) (r : Fin 3) (k : Fin 4096) : coThree (φ := φ) x (ix2 r k) = ((x k r : ℝ) : EReal) := rfl
theorem coFour_at {φ : FTy} (x : Fin 4 → Fin 4096 → ℝ) (r : Fin 4) (k : Fin 4096) : coFour (φ := φ) x (ix2 r k) = ((x r k : ℝ) : EReal) := rfl
theorem coTile_at {φ : FTy} (x : Fin 1024 → Fin 4096 → ℝ) (m : Fin 1024) (k : Fin 4096) : coTile (φ := φ) x (ix2 m k) = ((x m k : ℝ) : EReal) := rfl

theorem row_ext {φ : FTy} {x y : FVec Ideal S1x4096 φ} (h : ∀ k : Fin 4096, x (ix2 0 k) = y (ix2 0 k)) : x = y := by
  funext j; rw [eq_ix2 j]
  have e : ∀ a : Fin 1, x (ix2 a (j 1)) = y (ix2 a (j 1)) := fun a => by rw [Subsingleton.elim a 0]; exact h _
  exact e _
theorem three_ext {φ : FTy} {x y : FVec Ideal S3x4096 φ} (h : ∀ (r : Fin 3) (k : Fin 4096), x (ix2 r k) = y (ix2 r k)) : x = y := by
  funext j; rw [eq_ix2 j]; exact h _ _
theorem four_ext {φ : FTy} {x y : FVec Ideal S4x4096 φ} (h : ∀ (r : Fin 4) (k : Fin 4096), x (ix2 r k) = y (ix2 r k)) : x = y := by
  funext j; rw [eq_ix2 j]; exact h _ _
theorem tile_ext {φ : FTy} {x y : FVec Ideal S1024x4096 φ} (h : ∀ (m : Fin 1024) (k : Fin 4096), x (ix2 m k) = y (ix2 m k)) : x = y := by
  funext j; rw [eq_ix2 j]; exact h _ _

/-- The point of a tile as a point of the cloud. -/
def tileIx (o : ℕ) (ho : o + 1024 ≤ 4096) (m : Fin 1024) : Fin 4096 := ⟨o + m.val, by have := m.isLt; omega⟩

theorem scoreT_real (o : ℕ) (ho : o + 1024 ≤ 4096) (h3 : S3x4096.Slices ![0, o] S3x1024) (h1 : S1x4096.Slices ![0, o] S1x1024)
    (sm2 tgt : Spec.Points) (src2 tgt2 : Fin 4096 → ℝ) :
    scoreT o h3 h1 (coThree sm2) (coThree tgt) (coRow src2) (coRow tgt2)
      = coTile fun m k => (src2 (tileIx o ho m) + ∑ i, sm2 (tileIx o ho m) i * tgt k i) + tgt2 k := by
  refine tile_ext fun m k => ?_
  pointwise [scoreT]
  simp only [coRow_at, coThree_at, coTile_at, ← EReal.coe_mul, coe_sum, ← EReal.coe_add]
  rfl

/-- A minimum along a row that is attained. -/
theorem fold_min_eq {n : ℕ} (g : Fin n → EReal) (j : Fin n) (h : ∀ k, g j ≤ g k) :
    (Finset.univ : Finset (Fin n)).fold min ⊤ g = g j :=
  le_antisymm ((Finset.fold_min_le _).2 (Or.inr ⟨j, Finset.mem_univ _, le_refl _⟩)) ((Finset.le_fold_min _).2 ⟨le_top, fun k _ => h k⟩)

/-- A minimum along the rows of an array. -/
theorem min_row {a n : ℕ} (h : (⟨2, ![a, n]⟩ : Shape).Reduces [1] ⟨1, ![a]⟩) (x : FVec Ideal ⟨2, ![a, n]⟩ .f32) (hφ) (hacc) (m : Fin a) :
    multiReduction .minimumf [1] ⟨1, ![a]⟩ x 0x7F800000#32 h hφ hacc (ix1 m)
      = (Finset.univ : Finset (Fin n)).fold min ⊤ (fun k => x (ix2 m k)) := by
  refine (multiReduction_minimumf_eq_fold x _ h hφ hacc (ix1 m)).trans ?_
  refine (Shape.Reduces.fold_fiber_r2_a1 h (ix1 m) (FloatOps.minimumf (F := Ideal) (φ := .f32)) (FloatOps.ofBits .f32 0x7F800000#32) x).trans ?_
  rw [show (FloatOps.ofBits .f32 0x7F800000#32 : Ideal .f32) = (⊤ : EReal) from lit_inf]
  rfl

theorem minT_at (x : FVec Ideal S1024x4096 .f32) (m : Fin 1024) :
    minT x (ix1 m) = (Finset.univ : Finset (Fin 4096)).fold min ⊤ (fun k => x (ix2 m k)) :=
  min_row reduces_S1024x4096_S1024 x _ _ m

/-- The index where the score cut off at zero is least, and the count elsewhere. -/
def pickR (s : Fin 4096 → ℝ) (k : Fin 4096) : ℝ := by
  classical exact if ∀ l, max (s k) 0 ≤ max (s l) 0 then (k.val : ℝ) else 4096

/-- One at the index `p`. -/
def oneAt (p k : Fin 4096) : ℝ := if k = p then 1 else 0

theorem pickT_real (s : Fin 1024 → Fin 4096 → ℝ) (least : FVec Ideal S1024 .f32) (i : Fin 1024 → Fin 4096)
    (hi : ∀ m l, s m (i m) ≤ s m l) (hl : ∀ m, least (ix1 m) = ((s m (i m) : ℝ) : EReal)) :
    pickT (coRow fun k => (k.val : ℝ)) (coTile s) least = coTile fun m k => pickR (s m) k := by
  refine tile_ext fun m k => ?_
  pointwise [pickT]
  rw [hl, coTile_at, coTile_at, coRow_at, lit_count, ← EReal.coe_zero, coe_max]
  have h : (((s m k : ℝ) : EReal) ≤ ((max (s m (i m)) 0 : ℝ) : EReal)) ↔ ∀ l, max (s m k) 0 ≤ max (s m l) 0 := by
    rw [EReal.coe_le_coe_iff]
    exact ⟨fun g l => max_le (g.trans (max_le_max (hi m l) (le_refl _))) (le_max_right _ _), fun g => (le_max_left _ _).trans (g (i m))⟩
  unfold pickR
  by_cases g : ∀ l, max (s m k) 0 ≤ max (s m l) 0
  · rw [if_pos g, if_pos (h.2 g)]
  · rw [if_neg g, if_neg (fun q => g (h.1 q))]

theorem bit_real (b : Prop) [Decidable b] :
    (FloatOps.sitofp .f32 (BitVec.setWidth 32 (BitVec.ofBool (decide b))) : Ideal .f32) = (((if b then 1 else 0 : ℝ) : ℝ) : EReal) := by
  show (((BitVec.setWidth 32 (BitVec.ofBool (decide b))).toInt : ℝ) : EReal) = _
  by_cases h : b
  · simp [h]
  · simp [h]

theorem maskT_real (p : Fin 1024 → Fin 4096) (least : FVec Ideal S1024 .f32) (hl : ∀ m, least (ix1 m) = (((p m).val : ℝ) : EReal)) :
    maskT (coRow fun k => (k.val : ℝ)) least = coTile fun m k => oneAt (p m) k := by
  refine tile_ext fun m k => ?_
  pointwise [maskT]
  rw [bit_real, hl, coRow_at, coTile_at]
  simp only [oneAt, EReal.coe_eq_coe_iff, Nat.cast_inj, Fin.val_inj]

theorem min_tile (s : Fin 1024 → Fin 4096 → ℝ) (m : Fin 1024) :
    ∃ i, (∀ l, s m i ≤ s m l) ∧ minT (coTile s) (ix1 m) = ((s m i : ℝ) : EReal) := by
  obtain ⟨i, -, hi⟩ := Finset.exists_min_image Finset.univ (s m) ⟨0, Finset.mem_univ _⟩
  refine ⟨i, fun l => hi l (Finset.mem_univ _), ?_⟩
  rw [minT_at]
  exact fold_min_eq _ i fun k => EReal.coe_le_coe_iff.2 (hi k (Finset.mem_univ _))

/-- `p` is the first index at which the score cut off at zero is least. -/
def First (s : Fin 4096 → ℝ) (p : Fin 4096) : Prop := ∀ l, max (s p) 0 ≤ max (s l) 0 ∧ (max (s l) 0 = max (s p) 0 → p ≤ l)

theorem min_pick (s : Fin 1024 → Fin 4096 → ℝ) (p : Fin 1024 → Fin 4096) (hp : ∀ m, First (s m) (p m)) (m : Fin 1024) :
    minT (coTile fun m k => pickR (s m) k) (ix1 m) = (((p m).val : ℝ) : EReal) := by
  rw [minT_at]
  have hv : pickR (s m) (p m) = ((p m).val : ℝ) := if_pos fun l => (hp m l).1
  refine (fold_min_eq _ (p m) fun k => EReal.coe_le_coe_iff.2 ?_).trans (congrArg (fun r : ℝ => (r : EReal)) hv)
  show pickR (s m) (p m) ≤ pickR (s m) k
  rw [hv]
  unfold pickR
  by_cases g : ∀ l, max (s m k) 0 ≤ max (s m l) 0
  · rw [if_pos g]
    exact_mod_cast (hp m k).2 (le_antisymm (g _) (hp m k).1)
  · rw [if_neg g]
    exact_mod_cast (p m).isLt.le

/-- The mask of a tile of real scores. -/
theorem mask_real (s : Fin 1024 → Fin 4096 → ℝ) (p : Fin 1024 → Fin 4096) (hp : ∀ m, First (s m) (p m)) :
    maskT (coRow fun k => (k.val : ℝ)) (minT (pickT (coRow fun k => (k.val : ℝ)) (coTile s) (minT (coTile s))))
      = coTile fun m k => oneAt (p m) k := by
  choose i hi using min_tile s
  rw [pickT_real s _ i (fun m => (hi m).1) (fun m => (hi m).2)]
  exact maskT_real p _ (min_pick s p hp)

theorem accT_real (o : ℕ) (ho : o + 1024 ≤ 4096) (h4 : S4x4096.Slices ![0, o] S4x1024) (sc4 acc : Fin 4 → Fin 4096 → ℝ)
    (mask : Fin 1024 → Fin 4096 → ℝ) :
    accT o h4 (coFour sc4) (coFour acc) (coTile mask)
      = coFour fun r k => acc r k + ∑ m, sc4 r (tileIx o ho m) * mask m k := by
  refine four_ext fun r k => ?_
  pointwise [accT]
  simp only [coFour_at, coTile_at, ← EReal.coe_mul, coe_sum, ← EReal.coe_add]
  rfl

end Cert.Proof.KI
-- ==== Proof.KI.Rows.lean ====
/-
  The kernel's rows and tiles at the ideal operations, from real points: each value the kernel computes from the source
  points, the target points and the mask is the real number, row or array that the step in real numbers computes.
-/
module

public import proofs.«01_k».proof.Proof.KI.Tile
public import proofs.«01_k».proof.Proof.KI.Real

@[expose] public section

set_option maxRecDepth 16384

noncomputable section

namespace Cert.Proof.KI

open Cert.KernelIdeal Cert.KernelIdeal.Gen
open Idealize.ShloMosaic Idealize.ShloMosaic.TcCoe Idealize.ShloMosaic.Tactic

variable {F : FTy → Type} [FloatOps F]

/-- The sum of a row. -/
def sumT (x : FVec F S1x4096 .f32) : F .f32 :=
  extractAt ![0, 0, 0]
    (shapeCast S1x1x1
      (multiReduction .add [1, 2] S1 (shapeCast S1x1x4096 x shapeCasts_S1x4096_S1x1x4096) 0x00000000#32 reduces_S1x1x4096_S1 (.inl rfl) rfl)
      shapeCasts_S1_S1x1x1) inpos_S1x1x1_p0_0_0

/-- A block of real points. -/
def coBlock (x : Spec.Points) : Vec Ideal S1x3x4096 .f32 := fun j => ((x (j 2) (j 1) : ℝ) : EReal)
theorem coBlock_at (x : Spec.Points) (a : Fin 1) (i : Fin 3) (k : Fin 4096) : coBlock x (ix3 a i k) = ((x k i : ℝ) : EReal) := rfl

/-- The inverse of the number of points. -/
def invN : Ideal .f32 := ((1 / 4096 : ℝ) : EReal)

theorem sumT_real (x : Fin 4096 → ℝ) : sumT (F := Ideal) (coRow x) = ((∑ k, x k : ℝ) : EReal) := by
  pointwise [sumT]
  simp only [coRow_at, coe_sum]
  rw [Fin.sum_univ_one]
theorem sm2_real (x : Spec.Points) : k0_pay33 (F := Ideal) (coThree (φ := .f32) x) = coThree fun k i => x k i * (-2) := by
  refine three_ext fun r k => ?_
  pointwise [k0_pay33]
  rw [coThree_at, lit_neg_two, ← EReal.coe_mul, coThree_at]

theorem src2_real (x0 x1 x2 : Fin 4096 → ℝ) : k0_pay35 (F := Ideal) (coRow (φ := .f32) x0) (coRow (φ := .f32) x1) (coRow (φ := .f32) x2)
    = coRow fun k => x0 k * x0 k + x1 k * x1 k + x2 k * x2 k := by
  refine row_ext fun k => ?_
  pointwise [k0_pay35]
  simp only [coRow_at, ← EReal.coe_mul, ← EReal.coe_add]

theorem tgt_real (y : Spec.Points) : k0_pay196 (F := Ideal) (coBlock y) = coThree y := by
  refine three_ext fun r k => ?_
  pointwise [k0_pay196]
  simp only [coBlock_at, coThree_at]

theorem ids_real : k0_pay199 (F := Ideal) = coRow fun k => (k.val : ℝ) := by
  refine row_ext fun k => ?_
  pointwise [k0_pay199]
  rw [coRow_at]
  have hk := k.isLt
  have e : (BitVec.ofNat 32 k.val).toInt = (k.val : ℤ) := by
    rw [BitVec.toInt_eq_toNat_of_lt (by simp; omega), BitVec.toNat_ofNat, Nat.mod_eq_of_lt (by omega)]
  show (((BitVec.ofNat 32 k.val).toInt : ℝ) : EReal) = _
  rw [e]
  push_cast
  rfl
theorem tgtB_real (y : Spec.Points) : k0_pay197 (F := Ideal) (coBlock y) = coThree y := by
  refine three_ext fun r k => ?_
  pointwise [k0_pay197, k0_pay196]
  simp only [coBlock_at, coThree_at]
theorem tgt2_real (y : Spec.Points) : k0_pay198 (F := Ideal) (coBlock y) = coRow fun k => y k 0 * y k 0 + y k 1 * y k 1 + y k 2 * y k 2 := by
  refine row_ext fun k => ?_
  pointwise [k0_pay198, k0_pay196]
  simp only [coBlock_at, coRow_at, ← EReal.coe_mul, ← EReal.coe_add]
theorem zero_real : k0_pay36 (F := Ideal) = coFour fun _ _ => 0 := by
  refine four_ext fun r k => ?_
  pointwise [k0_pay36]
  rw [coFour_at, EReal.coe_zero]

/-- The centred coordinates of the source points, and ones. -/
def cen (x0 x1 x2 : Fin 4096 → ℝ) (m0 m1 m2 : ℝ) (r : Fin 4) (k : Fin 4096) : ℝ :=
  ![x0 k - m0, x1 k - m1, x2 k - m2, 1] r

theorem sc4_real (x0 x1 x2 : Fin 4096 → ℝ) (m0 m1 m2 : ℝ) (cst : Ideal .f32)
    (h0 : k0_pay30 (F := Ideal) cst (coRow (φ := .f32) x0) = (m0 : EReal)) (h1 : k0_pay31 (F := Ideal) cst (coRow (φ := .f32) x1) = (m1 : EReal)) (h2 : k0_pay32 (F := Ideal) cst (coRow (φ := .f32) x2) = (m2 : EReal)) :
    k0_pay34 (F := Ideal) k0_pay200 cst (coRow (φ := .f32) x0) (coRow (φ := .f32) x1) (coRow (φ := .f32) x2) = coFour (cen x0 x1 x2 m0 m1 m2) := by
  refine four_ext fun r k => ?_
  unfold k0_pay34 k0_pay200
  rw [h0, h1, h2]
  fin_cases r
  · pointwise
    simp only [coRow_at, ← EReal.coe_sub]
    rfl
  · pointwise
    simp only [coRow_at, ← EReal.coe_sub]
    rfl
  · pointwise
    simp only [coRow_at, ← EReal.coe_sub]
    rfl
  · pointwise
    rw [coFour_at]
    exact EReal.coe_one.symm

/-! ## The kernel's values as the functions above -/

theorem pay39_eq (v14 : FVec F S1x4096 .f32) (v591 : FVec F S4x4096 .bf16) (v597) (v603 v604 : FVec F S1024x4096 .f32) :
    k0_pay39 v14 v591 v597 v603 v604 = accT 0 slices_S4x4096_o0_0_S4x1024 v591 v597 (maskT v14 (minT (pickT v14 (addf v603 v604) (minT (addf v603 v604))))) := rfl
theorem pay37_eq (v7 : FVec F S3x4096 .bf16) (v560 v561 v562 : FVec F S1x4096 .f32) (v578) (v12 : FVec F S1x4096 .f32) :
    addf (k0_pay37 v7 v560 v561 v562 v578) (k0_pay38 v12) = scoreT 0 slices_S3x4096_o0_0_S3x1024 slices_S1x4096_o0_0_S1x1024 (k0_pay33 v578) v7 (k0_pay35 v560 v561 v562) v12 := rfl
theorem pay40_eq (v7 : FVec F S3x4096 .bf16) (v12 v14 : FVec F S1x4096 .f32) (v581) (v596) :
    k0_pay40 v7 v12 v14 v581 v596 = maskT v14 (minT (pickT v14 (scoreT 1024 slices_S3x4096_o0_1024_S3x1024 slices_S1x4096_o0_1024_S1x1024 v581 v7 v596 v12)
      (minT (scoreT 1024 slices_S3x4096_o0_1024_S3x1024 slices_S1x4096_o0_1024_S1x1024 v581 v7 v596 v12)))) := rfl
theorem pay42_eq (v7 : FVec F S3x4096 .bf16) (v12 v14 : FVec F S1x4096 .f32) (v581) (v591) (v596) (v626) (v652) :
    k0_pay42 v7 v12 v14 v581 v591 v596 v626 v652 (k0_pay41 v591) (constant S4x4096 .f32 0x00000000#32)
      = accT 2048 slices_S4x4096_o0_2048_S4x1024 v591 (accT 1024 slices_S4x4096_o0_1024_S4x1024 v591 v626 v652)
        (maskT v14 (minT (pickT v14 (scoreT 2048 slices_S3x4096_o0_2048_S3x1024 slices_S1x4096_o0_2048_S1x1024 v581 v7 v596 v12)
          (minT (scoreT 2048 slices_S3x4096_o0_2048_S3x1024 slices_S1x4096_o0_2048_S1x1024 v581 v7 v596 v12))))) := rfl
theorem pay43_eq (v7 : FVec F S3x4096 .bf16) (v12 v14 : FVec F S1x4096 .f32) (v581) (v596) :
    k0_pay43 v7 v12 v14 v581 v596 = pickT v14 (scoreT 3072 slices_S3x4096_o0_3072_S3x1024 slices_S1x4096_o0_3072_S1x1024 v581 v7 v596 v12)
      (minT (scoreT 3072 slices_S3x4096_o0_3072_S3x1024 slices_S1x4096_o0_3072_S1x1024 v581 v7 v596 v12)) := rfl
theorem pay44_eq (v14 : FVec F S1x4096 .f32) (v591 : FVec F S4x4096 .bf16) (v684) (v702) :
    k0_pay44 v14 v591 v684 v702 = accT 3072 slices_S4x4096_o0_3072_S4x1024 v591 v684 (maskT v14 (minT v702)) := rfl
/-- A row rounded to the short format and back. -/
def narrowRow (x : FVec F S1x4096 .f32) : FVec F S1x4096 .f32 := extf .f32 (truncf .bf16 x bitsLt_bf16_f32) bitsLt_bf16_f32
section
variable (cst a : F .f32) (x : FVec F S1x4096 .f32) (t : FVec F S3x4096 .f32) (v14 : FVec F S1x4096 .f32) (v591 : FVec F S4x4096 .bf16)
  (v684 g : FVec F S4x4096 .f32) (v702 : FVec F S1024x4096 .f32)
theorem pay30_eq : k0_pay30 cst x = Scalar.mulf (sumT x) cst := rfl
theorem pay31_eq : k0_pay31 cst x = Scalar.mulf (sumT x) cst := rfl
theorem pay32_eq : k0_pay32 cst x = Scalar.mulf (sumT x) cst := rfl
theorem pay46_eq : k0_pay46 t v14 cst v591 v684 v702 = Scalar.mulf (sumT (mulf (extractStridedSlice S1x4096 ![3, 0] (k0_pay44 v14 v591 v684 v702) slices_S4x4096_o3_0_S1x4096) (extractStridedSlice S1x4096 ![0, 0] t slices_S3x4096_o0_0_S1x4096))) cst := rfl
theorem pay47_eq : k0_pay47 t v14 cst v591 v684 v702 = Scalar.mulf (sumT (mulf (extractStridedSlice S1x4096 ![3, 0] (k0_pay44 v14 v591 v684 v702) slices_S4x4096_o3_0_S1x4096) (extractStridedSlice S1x4096 ![1, 0] t slices_S3x4096_o1_0_S1x4096))) cst := rfl
theorem pay48_eq : k0_pay48 t v14 cst v591 v684 v702 = Scalar.mulf (sumT (mulf (extractStridedSlice S1x4096 ![3, 0] (k0_pay44 v14 v591 v684 v702) slices_S4x4096_o3_0_S1x4096) (extractStridedSlice S1x4096 ![2, 0] t slices_S3x4096_o2_0_S1x4096))) cst := rfl
theorem pay49_eq : k0_pay49 t v14 cst v591 v684 v702 = narrowRow (subf (extractStridedSlice S1x4096 ![0, 0] t slices_S3x4096_o0_0_S1x4096) (broadcast S1x4096 (k0_pay46 t v14 cst v591 v684 v702))) := rfl
theorem pay50_eq : k0_pay50 t v14 cst v591 v684 v702 = narrowRow (subf (extractStridedSlice S1x4096 ![1, 0] t slices_S3x4096_o1_0_S1x4096) (broadcast S1x4096 (k0_pay47 t v14 cst v591 v684 v702))) := rfl
theorem pay51_eq : k0_pay51 t v14 cst v591 v684 v702 = narrowRow (subf (extractStridedSlice S1x4096 ![2, 0] t slices_S3x4096_o2_0_S1x4096) (broadcast S1x4096 (k0_pay48 t v14 cst v591 v684 v702))) := rfl
theorem pay52_eq : k0_pay52 t v14 cst v591 v684 v702 = sumT (mulf (extractStridedSlice S1x4096 ![0, 0] (k0_pay44 v14 v591 v684 v702) slices_S4x4096_o0_0_S1x4096) (k0_pay49 t v14 cst v591 v684 v702)) := rfl
theorem pay53_eq : k0_pay53 v14 v591 v684 v702 = extractStridedSlice S1x4096 ![0, 0] (k0_pay44 v14 v591 v684 v702) slices_S4x4096_o0_0_S1x4096 := rfl
theorem pay54_eq : k0_pay54 x v14 = sumT (mulf v14 x) := rfl
theorem pay55_eq : k0_pay55 g x = sumT (mulf (extractStridedSlice S1x4096 ![0, 0] g slices_S4x4096_o0_0_S1x4096) x) := rfl
theorem pay56_eq : k0_pay56 g x = sumT (mulf (extractStridedSlice S1x4096 ![1, 0] g slices_S4x4096_o1_0_S1x4096) x) := rfl
theorem pay59_eq : k0_pay59 g x = sumT (mulf (extractStridedSlice S1x4096 ![2, 0] g slices_S4x4096_o2_0_S1x4096) x) := rfl
end
theorem rowThree_real (i : Fin 3) (h : S3x4096.Slices ![i.val, 0] S1x4096) (x : Spec.Points) :
    extractStridedSlice S1x4096 ![i.val, 0] (coThree (φ := .f32) x) h = coRow (φ := .f32) fun k => x k i := by
  refine row_ext fun k => ?_
  pointwise
  fin_cases i <;> rfl
theorem rowFour_real (i : Fin 4) (h : S4x4096.Slices ![i.val, 0] S1x4096) (x : Fin 4 → Fin 4096 → ℝ) :
    extractStridedSlice S1x4096 ![i.val, 0] (coFour (φ := .f32) x) h = coRow (φ := .f32) (x i) := by
  refine row_ext fun k => ?_
  pointwise
  fin_cases i <;> rfl
theorem rowMul_real (x y : Fin 4096 → ℝ) : mulf (coRow (φ := .f32) x) (coRow (φ := .f32) y) = coRow (φ := .f32) fun k => x k * y k := by
  refine row_ext fun k => ?_
  pointwise
  simp only [coRow_at, ← EReal.coe_mul]
theorem rowSub_real (x : Fin 4096 → ℝ) (m : ℝ) : subf (coRow (φ := .f32) x) (broadcast S1x4096 ((m : EReal) : Ideal .f32)) = coRow (φ := .f32) fun k => x k - m := by
  refine row_ext fun k => ?_
  pointwise
  simp only [coRow_at, ← EReal.coe_sub]

theorem move0_real (r0 r1 r2 t : ℝ) (x0 x1 x2 : Fin 4096 → ℝ) :
    k0_pay163 (F := Ideal) ((r0 : EReal) : Ideal .f32) ((r1 : EReal) : Ideal .f32) ((r2 : EReal) : Ideal .f32) ((t : EReal) : Ideal .f32) (coRow (φ := .f32) x0) (coRow (φ := .f32) x1) (coRow (φ := .f32) x2)
      = coRow fun k => (r0 * x0 k + r1 * x1 k + r2 * x2 k) + t := by
  refine row_ext fun k => ?_
  pointwise [k0_pay163, k0_pay159, k0_pay160, k0_pay161]
  simp only [coRow_at, ← EReal.coe_mul, ← EReal.coe_add]
theorem move1_real (r0 r1 r2 t : ℝ) (x0 x1 x2 : Fin 4096 → ℝ) :
    k0_pay164 (F := Ideal) ((r0 : EReal) : Ideal .f32) ((r1 : EReal) : Ideal .f32) ((r2 : EReal) : Ideal .f32) ((t : EReal) : Ideal .f32) (coRow (φ := .f32) x0) (coRow (φ := .f32) x1) (coRow (φ := .f32) x2)
      = coRow fun k => (r0 * x0 k + r1 * x1 k + r2 * x2 k) + t := by
  refine row_ext fun k => ?_
  pointwise [k0_pay164, k0_pay159, k0_pay160, k0_pay161]
  simp only [coRow_at, ← EReal.coe_mul, ← EReal.coe_add]
theorem moved_real (r0 r1 r2 t : ℝ) (x0 x1 x2 y0 y1 : Fin 4096 → ℝ) (z : Spec.Points) (h0 : ∀ k, z k 0 = y0 k) (h1 : ∀ k, z k 1 = y1 k)
    (h2 : ∀ k, z k 2 = (r0 * x0 k + r1 * x1 k + r2 * x2 k) + t) :
    k0_pay202 (F := Ideal) ((t : EReal) : Ideal .f32) (k0_pay160 (coRow (φ := .f32) x1)) (k0_pay161 (coRow (φ := .f32) x2)) (k0_pay162 (F := Ideal) ((r2 : EReal) : Ideal .f32)) (coRow (φ := .f32) y0) (coRow (φ := .f32) y1)
      (k0_pay165 ((r0 : EReal) : Ideal .f32) (coRow (φ := .f32) x0)) (k0_pay166 (F := Ideal) ((r1 : EReal) : Ideal .f32))
      = coThree z := by
  refine three_ext fun r k => ?_
  rw [coThree_at]
  fin_cases r
  · pointwise [k0_pay202, k0_pay160, k0_pay161, k0_pay162, k0_pay165, k0_pay166, k0_pay159]
    exact congrArg _ (h0 k).symm
  · pointwise [k0_pay202, k0_pay160, k0_pay161, k0_pay162, k0_pay165, k0_pay166, k0_pay159]
    exact congrArg _ (h1 k).symm
  · pointwise [k0_pay202, k0_pay160, k0_pay161, k0_pay162, k0_pay165, k0_pay166, k0_pay159]
    simp only [coRow_at, ← EReal.coe_mul, ← EReal.coe_add]
    exact congrArg _ (h2 k).symm

theorem rowThree_0 (h : S3x4096.Slices ![0, 0] S1x4096) (x : Spec.Points) :
    extractStridedSlice S1x4096 ![0, 0] (coThree (φ := .f32) x) h = coRow (φ := .f32) fun k => x k 0 := rowThree_real 0 h x
theorem rowThree_1 (h : S3x4096.Slices ![1, 0] S1x4096) (x : Spec.Points) :
    extractStridedSlice S1x4096 ![1, 0] (coThree (φ := .f32) x) h = coRow (φ := .f32) fun k => x k 1 := rowThree_real 1 h x
theorem rowThree_2 (h : S3x4096.Slices ![2, 0] S1x4096) (x : Spec.Points) :
    extractStridedSlice S1x4096 ![2, 0] (coThree (φ := .f32) x) h = coRow (φ := .f32) fun k => x k 2 := rowThree_real 2 h x
theorem rowFour_0 (h : S4x4096.Slices ![0, 0] S1x4096) (x : Fin 4 → Fin 4096 → ℝ) :
    extractStridedSlice S1x4096 ![0, 0] (coFour (φ := .f32) x) h = coRow (φ := .f32) (x 0) := rowFour_real 0 h x
theorem rowFour_1 (h : S4x4096.Slices ![1, 0] S1x4096) (x : Fin 4 → Fin 4096 → ℝ) :
    extractStridedSlice S1x4096 ![1, 0] (coFour (φ := .f32) x) h = coRow (φ := .f32) (x 1) := rowFour_real 1 h x
theorem rowFour_2 (h : S4x4096.Slices ![2, 0] S1x4096) (x : Fin 4 → Fin 4096 → ℝ) :
    extractStridedSlice S1x4096 ![2, 0] (coFour (φ := .f32) x) h = coRow (φ := .f32) (x 2) := rowFour_real 2 h x
theorem rowFour_3 (h : S4x4096.Slices ![3, 0] S1x4096) (x : Fin 4 → Fin 4096 → ℝ) :
    extractStridedSlice S1x4096 ![3, 0] (coFour (φ := .f32) x) h = coRow (φ := .f32) (x 3) := rowFour_real 3 h x
theorem narrowRow_ideal (x : FVec Ideal S1x4096 .f32) : narrowRow x = x := rfl

/-! ## The tiles -/

theorem first_near (s y : Spec.Points) (k : Fin 4096) (g : Fin 4096 → ℝ) (hg : ∀ l, max (g l) 0 = Spec.dist2 (s k) y l) :
    First g (Spec.near (s k) y) := by
  intro l
  rw [hg, hg]
  exact Spec.near_spec (s k) y l

/-- The mask of a tile: a one at the nearest target point of each source point. -/
theorem mask_tile (o : ℕ) (ho : o + 1024 ≤ 4096) (h3 : S3x4096.Slices ![0, o] S3x1024) (h1 : S1x4096.Slices ![0, o] S1x1024) (x y : Spec.Points) :
    maskT (coRow fun k => (k.val : ℝ)) (minT (pickT (coRow fun k => (k.val : ℝ))
      (scoreT o h3 h1 (coThree fun k i => x k i * (-2)) (coThree y) (coRow fun k => x k 0 * x k 0 + x k 1 * x k 1 + x k 2 * x k 2)
        (coRow fun k => y k 0 * y k 0 + y k 1 * y k 1 + y k 2 * y k 2))
      (minT (scoreT o h3 h1 (coThree fun k i => x k i * (-2)) (coThree y) (coRow fun k => x k 0 * x k 0 + x k 1 * x k 1 + x k 2 * x k 2)
        (coRow fun k => y k 0 * y k 0 + y k 1 * y k 1 + y k 2 * y k 2)))))
      = coTile fun m k => oneAt (Spec.near (x (tileIx o ho m)) y) k := by
  rw [scoreT_real o ho]
  refine mask_real _ _ fun m => first_near x y (tileIx o ho m) _ fun l => ?_
  simp only [Spec.dist2, Fin.sum_univ_three]
  refine congrArg (fun z => max z 0) ?_
  ring

theorem sum_tiles (g : Fin 4096 → ℝ) :
    (((∑ m, g (tileIx 0 (by norm_num) m)) + ∑ m, g (tileIx 1024 (by norm_num) m)) + ∑ m, g (tileIx 2048 (by norm_num) m))
      + ∑ m, g (tileIx 3072 (by norm_num) m) = ∑ n, g n := by
  have e3 := Fin.sum_univ_add (a := 3072) (b := 1024) g
  have e2 := Fin.sum_univ_add (a := 2048) (b := 1024) fun n : Fin (2048 + 1024) => g (Fin.castAdd 1024 n)
  have e1 := Fin.sum_univ_add (a := 1024) (b := 1024) fun n : Fin (1024 + 1024) => g (Fin.castAdd 1024 (Fin.castAdd 1024 n))
  rw [show (∑ n, g n) = ∑ n : Fin (3072 + 1024), g n from rfl, e3, show (∑ n, g (Fin.castAdd 1024 n)) = ∑ n : Fin (2048 + 1024), g (Fin.castAdd 1024 n) from rfl, e2,
    show (∑ n, g (Fin.castAdd 1024 (Fin.castAdd 1024 n))) = ∑ n : Fin (1024 + 1024), g (Fin.castAdd 1024 (Fin.castAdd 1024 n)) from rfl, e1]
  congr 1

/-- The four tiles of the search one after another. -/
def accAll (v7 sm2 : FVec F S3x4096 .bf16) (v12 v14 src2 : FVec F S1x4096 .f32) (sc4 : FVec F S4x4096 .bf16) (z : FVec F S4x4096 .f32) : FVec F S4x4096 .f32 :=
  let s0 := scoreT 0 slices_S3x4096_o0_0_S3x1024 slices_S1x4096_o0_0_S1x1024 sm2 v7 src2 v12
  let s1 := scoreT 1024 slices_S3x4096_o0_1024_S3x1024 slices_S1x4096_o0_1024_S1x1024 sm2 v7 src2 v12
  let s2 := scoreT 2048 slices_S3x4096_o0_2048_S3x1024 slices_S1x4096_o0_2048_S1x1024 sm2 v7 src2 v12
  let s3 := scoreT 3072 slices_S3x4096_o0_3072_S3x1024 slices_S1x4096_o0_3072_S1x1024 sm2 v7 src2 v12
  accT 3072 slices_S4x4096_o0_3072_S4x1024 sc4
    (accT 2048 slices_S4x4096_o0_2048_S4x1024 sc4
      (accT 1024 slices_S4x4096_o0_1024_S4x1024 sc4
        (accT 0 slices_S4x4096_o0_0_S4x1024 sc4 z (maskT v14 (minT (pickT v14 s0 (minT s0)))))
        (maskT v14 (minT (pickT v14 s1 (minT s1)))))
      (maskT v14 (minT (pickT v14 s2 (minT s2)))))
    (maskT v14 (minT (pickT v14 s3 (minT s3))))

theorem accAll_real (x y : Spec.Points) (c : Fin 4 → Fin 4096 → ℝ) :
    accAll (coThree y) (coThree fun k i => x k i * (-2)) (coRow fun k => y k 0 * y k 0 + y k 1 * y k 1 + y k 2 * y k 2) (coRow fun k => (k.val : ℝ))
      (coRow fun k => x k 0 * x k 0 + x k 1 * x k 1 + x k 2 * x k 2) (coFour c) (coFour fun _ _ => 0)
      = coFour fun r k => ∑ n, c r n * oneAt (Spec.near (x n) y) k := by
  unfold accAll
  simp only [mask_tile 0 (by norm_num), mask_tile 1024 (by norm_num), mask_tile 2048 (by norm_num), mask_tile 3072 (by norm_num),
    accT_real 0 (by norm_num), accT_real 1024 (by norm_num), accT_real 2048 (by norm_num), accT_real 3072 (by norm_num)]
  refine congrArg coFour (funext fun r => funext fun k => ?_)
  rw [← sum_tiles fun n => c r n * oneAt (Spec.near (x n) y) k, zero_add]

theorem acc_eq (v7 : FVec F S3x4096 .bf16) (v12 v14 X0 X1 X2 : FVec F S1x4096 .f32) (X : FVec F S3x4096 .f32) (sc4 : FVec F S4x4096 .bf16) (z : FVec F S4x4096 .f32) :
    k0_pay44 v14 sc4
      (k0_pay42 v7 v12 v14 (k0_pay33 X) sc4 (k0_pay35 X0 X1 X2) (k0_pay39 v14 sc4 z (k0_pay37 v7 X0 X1 X2 X) (k0_pay38 v12))
        (k0_pay40 v7 v12 v14 (k0_pay33 X) (k0_pay35 X0 X1 X2)) (k0_pay41 sc4) (constant S4x4096 .f32 0x00000000#32))
      (k0_pay43 v7 v12 v14 (k0_pay33 X) (k0_pay35 X0 X1 X2))
      = accAll v7 (k0_pay33 X) v12 v14 (k0_pay35 X0 X1 X2) sc4 z := by
  rw [pay44_eq, pay43_eq, pay42_eq, pay40_eq, pay39_eq, pay37_eq]
  rfl

/-- A sum weighted by the ones of a mask. -/
theorem sum_mask (a g : Fin 4096 → ℝ) (p : Fin 4096 → Fin 4096) :
    ∑ k, (∑ n, a n * oneAt (p n) k) * g k = ∑ n, a n * g (p n) := by
  simp only [Finset.sum_mul]
  rw [Finset.sum_comm]
  refine Finset.sum_congr rfl fun n _ => ?_
  simp only [oneAt, mul_ite, ite_mul, mul_one, mul_zero, zero_mul, Finset.sum_ite_eq', Finset.mem_univ, if_true]

end Cert.Proof.KI
-- ==== Proof.KI.Step.lean ====
/-
  One trip of the kernel's loop at the ideal operations: if the scratch buffer holds real points, the trip leaves the points
  moved by one step of the mathematics.
-/
module

public import proofs.«01_k».proof.Proof.KI.Rows
public import proofs.«01_k».proof.Proof.KI.Trip
public import Idealize.ShloMosaic.Lib.WritesUnit

@[expose] public section

set_option maxRecDepth 16384

noncomputable section

namespace Cert.Proof.KI

open Cert.KernelIdeal Cert.KernelIdeal.Gen
open Idealize.ShloMosaic Idealize.ShloMosaic.TcCoe Idealize.ShloMosaic.Tactic

section

variable (c : Dev nD) (arg4 : Memref sig .tc .vmem S3x4096 .f32) (f : Buf (Elt Ideal) (arg4.view.loc (c : Thread nD τ))) (x y : Spec.Points)

/-- The scratch buffer holds the points `x`: so it reads row by row, and as a whole. -/
structure Holds : Prop where
  r0 : View.readAt (Elt Ideal) arg4.view (Rect.unit (s := S3x4096) ![0, 0] S1x4096.size inb_S3x4096_S1x4096_0_0).toLoadRect f = coRow (φ := .f32) fun k => x k 0
  r1 : View.readAt (Elt Ideal) arg4.view (Rect.unit (s := S3x4096) ![1, 0] S1x4096.size inb_S3x4096_S1x4096_1_0).toLoadRect f = coRow (φ := .f32) fun k => x k 1
  r2 : View.readAt (Elt Ideal) arg4.view (Rect.unit (s := S3x4096) ![2, 0] S1x4096.size inb_S3x4096_S1x4096_2_0).toLoadRect f = coRow (φ := .f32) fun k => x k 2
  all : View.readAt (Elt Ideal) arg4.view (Rect.unit (s := S3x4096) ![0, 0] S3x4096.size inb_S3x4096_S3x4096_0_0).toLoadRect f = coThree (φ := .f32) x

/-- An element of a buffer all of which was written. -/
theorem read_write (g : Buf (Elt Ideal) (arg4.view.loc (c : Thread nD τ))) (z : Spec.Points) (j : S3x4096.Idx) :
    arg4.view.read (Elt Ideal) (arg4.view.writes (Elt Ideal) g [⟨Rect.unit (s := S3x4096) ![0, 0] S3x4096.size inb_S3x4096_S3x4096_0_0, (coThree (φ := .f32) z : Vec Ideal S3x4096 .f32)⟩]) j
      = coThree (φ := .f32) z j :=
  View.read_writes_cons_unit_of_mem arg4.view g (off' := ![0, 0]) _ (coThree (φ := .f32) z : Vec Ideal S3x4096 .f32) [] j j rfl fun a => by
    fin_cases a <;> exact (Nat.zero_add _).symm

/-- The moving points at the element of row `i` that a row load's index `j` names. -/
theorem coThree_row (z : Spec.Points) (i : Fin 3) (inb : ∀ a, (![i.val, 0] : Fin S3x4096.rank → ℕ) a + S1x4096.size a ≤ S3x4096.size a) (j : S1x4096.Idx) :
    coThree (φ := .f32) z ((Rect.unit (s := S3x4096) ![i.val, 0] S1x4096.size inb).toLoadRect.idx j) = coRow (φ := .f32) (fun k => z k i) j := by
  have h0 : (j 0).val < 1 := (j 0).isLt
  refine congrArg (fun r : ℝ => (r : EReal)) (congr (congrArg z (Fin.ext ?_)) (Fin.ext ?_))
  · show 0 + 1 * (j 1).val = (j 1).val
    omega
  · show i.val + 1 * (j 0).val = i.val
    omega

/-- A buffer all of which was written holds what was written. -/
theorem holds_write (g : Buf (Elt Ideal) (arg4.view.loc (c : Thread nD τ))) (z : Spec.Points) :
    Holds c arg4 (arg4.view.writes (Elt Ideal) g [⟨Rect.unit (s := S3x4096) ![0, 0] S3x4096.size inb_S3x4096_S3x4096_0_0, (coThree (φ := .f32) z : Vec Ideal S3x4096 .f32)⟩]) z where
  r0 := funext fun j => (read_write c arg4 g z _).trans (coThree_row z 0 _ j)
  r1 := funext fun j => (read_write c arg4 g z _).trans (coThree_row z 1 _ j)
  r2 := funext fun j => (read_write c arg4 g z _).trans (coThree_row z 2 _ j)
  all := funext fun j => (read_write c arg4 g z _).trans (congrArg (coThree (φ := .f32) z) (funext fun a => Fin.ext (by
    fin_cases a
    · show 0 + 1 * (j 0).val = (j 0).val
      omega
    · show 0 + 1 * (j 1).val = (j 1).val
      omega)))

theorem holds_write_eq (g : Buf (Elt Ideal) (arg4.view.loc (c : Thread nD τ))) (z : Spec.Points) (w : Vec Ideal S3x4096 .f32) (hw : w = coThree (φ := .f32) z) :
    Holds c arg4 (arg4.view.writes (Elt Ideal) g [⟨Rect.unit (s := S3x4096) ![0, 0] S3x4096.size inb_S3x4096_S3x4096_0_0, w⟩]) z := by
  subst hw
  exact holds_write c arg4 g z

/-- The sums over the matched points. -/
def accR (x y : Spec.Points) (r : Fin 4) (k : Fin 4096) : ℝ :=
  ∑ n, cen (fun k => x k 0) (fun k => x k 1) (fun k => x k 2) (Spec.mean x 0) (Spec.mean x 1) (Spec.mean x 2) r n * oneAt (Spec.near (x n) y) k

theorem mean_mul (s : ℝ) : s * (1 / 4096) = s / 4096 := by ring

theorem mean30 (g : Fin 4096 → ℝ) : k0_pay30 (F := Ideal) invN (coRow (φ := .f32) g) = (((∑ k, g k) / 4096 : ℝ) : EReal) := by
  rw [pay30_eq, sumT_real, invN, kMul, mean_mul]
theorem mean31 (g : Fin 4096 → ℝ) : k0_pay31 (F := Ideal) invN (coRow (φ := .f32) g) = (((∑ k, g k) / 4096 : ℝ) : EReal) := by
  rw [pay31_eq, sumT_real, invN, kMul, mean_mul]
theorem mean32 (g : Fin 4096 → ℝ) : k0_pay32 (F := Ideal) invN (coRow (φ := .f32) g) = (((∑ k, g k) / 4096 : ℝ) : EReal) := by
  rw [pay32_eq, sumT_real, invN, kMul, mean_mul]

theorem acc_mean (j : Fin 3) : (∑ k, accR x y 3 k * y k j) / 4096 = Spec.mean (Spec.matched x y) j := by
  refine congrArg (· / 4096) ?_
  refine (sum_mask _ (fun k => y k j) fun n => Spec.near (x n) y).trans ?_
  exact Finset.sum_congr rfl fun n _ => one_mul _

theorem acc_cross (i j : Fin 3) : (∑ k, accR x y ⟨i.val, by omega⟩ k * (y k j - Spec.mean (Spec.matched x y) j)) = Spec.cross x (Spec.matched x y) i j := by
  refine (sum_mask _ (fun k => y k j - Spec.mean (Spec.matched x y) j) fun n => Spec.near (x n) y).trans ?_
  refine Finset.sum_congr rfl fun n _ => ?_
  fin_cases i <;> rfl

variable {c arg4 f x} (h : Holds c arg4 f x)
include h

theorem t_mu0 : trip.sl.r c arg4 invN f = ((Spec.mean x 0 : ℝ) : EReal) := by
  refine Eq.trans (b := k0_pay30 invN _) rfl ?_
  rw [h.r0, mean30]; rfl
theorem t_mu1 : trip.sl.r_1 c arg4 invN f = ((Spec.mean x 1 : ℝ) : EReal) := by
  refine Eq.trans (b := k0_pay31 invN _) rfl ?_
  rw [h.r1, mean31]; rfl
theorem t_mu2 : trip.sl.r_2 c arg4 invN f = ((Spec.mean x 2 : ℝ) : EReal) := by
  refine Eq.trans (b := k0_pay32 invN _) rfl ?_
  rw [h.r2, mean32]; rfl

theorem t_sc4 : trip.sl.r_4 c arg4 invN f
    = coFour (cen (fun k => x k 0) (fun k => x k 1) (fun k => x k 2) (Spec.mean x 0) (Spec.mean x 1) (Spec.mean x 2)) := by
  refine Eq.trans (b := k0_pay34 k0_pay200 invN _ _ _) rfl ?_
  rw [h.r0, h.r1, h.r2]
  exact sc4_real _ _ _ _ _ _ _ (mean30 _) (mean31 _) (mean32 _)

theorem t_acc : k0_pay44 k0_pay199 (trip.sl.r_4 c arg4 invN f) (trip.sl.r_11 c arg4 (coBlock y) invN f) (trip.sl.r_12 c arg4 (coBlock y) f)
    = coFour (accR x y) := by
  refine Eq.trans (b := k0_pay44 k0_pay199 (trip.sl.r_4 c arg4 invN f) (k0_pay42 (k0_pay197 (coBlock y)) (k0_pay198 (coBlock y)) k0_pay199 (k0_pay33 _) (trip.sl.r_4 c arg4 invN f) (k0_pay35 _ _ _)
    (k0_pay39 k0_pay199 (trip.sl.r_4 c arg4 invN f) k0_pay36 (k0_pay37 (k0_pay197 (coBlock y)) _ _ _ _) (k0_pay38 (k0_pay198 (coBlock y))))
    (k0_pay40 (k0_pay197 (coBlock y)) (k0_pay198 (coBlock y)) k0_pay199 (k0_pay33 _) (k0_pay35 _ _ _)) (k0_pay41 (trip.sl.r_4 c arg4 invN f)) (constant S4x4096 .f32 0x00000000#32))
    (k0_pay43 (k0_pay197 (coBlock y)) (k0_pay198 (coBlock y)) k0_pay199 (k0_pay33 _) (k0_pay35 _ _ _))) rfl ?_
  rw [acc_eq, h.r0, h.r1, h.r2, h.all, t_sc4 h, tgtB_real, tgt2_real, ids_real, sm2_real, src2_real, zero_real]
  exact accAll_real x y _

theorem t_mt0 : trip.sl.r_14 c arg4 (coBlock y) invN f = ((Spec.mean (Spec.matched x y) 0 : ℝ) : EReal) := by
  refine Eq.trans (b := k0_pay46 (k0_pay196 (coBlock y)) k0_pay199 invN (trip.sl.r_4 c arg4 invN f) (trip.sl.r_11 c arg4 (coBlock y) invN f) (trip.sl.r_12 c arg4 (coBlock y) f)) rfl ?_
  rw [pay46_eq, t_acc y h, tgt_real, rowFour_3, rowThree_0, rowMul_real, sumT_real, invN, kMul, mean_mul, acc_mean]
theorem t_mt1 : trip.sl.r_15 c arg4 (coBlock y) invN f = ((Spec.mean (Spec.matched x y) 1 : ℝ) : EReal) := by
  refine Eq.trans (b := k0_pay47 (k0_pay196 (coBlock y)) k0_pay199 invN (trip.sl.r_4 c arg4 invN f) (trip.sl.r_11 c arg4 (coBlock y) invN f) (trip.sl.r_12 c arg4 (coBlock y) f)) rfl ?_
  rw [pay47_eq, t_acc y h, tgt_real, rowFour_3, rowThree_1, rowMul_real, sumT_real, invN, kMul, mean_mul, acc_mean]
theorem t_mt2 : trip.sl.r_16 c arg4 (coBlock y) invN f = ((Spec.mean (Spec.matched x y) 2 : ℝ) : EReal) := by
  refine Eq.trans (b := k0_pay48 (k0_pay196 (coBlock y)) k0_pay199 invN (trip.sl.r_4 c arg4 invN f) (trip.sl.r_11 c arg4 (coBlock y) invN f) (trip.sl.r_12 c arg4 (coBlock y) f)) rfl ?_
  rw [pay48_eq, t_acc y h, tgt_real, rowFour_3, rowThree_2, rowMul_real, sumT_real, invN, kMul, mean_mul, acc_mean]

theorem t_c0 : trip.sl.r_17 c arg4 (coBlock y) invN f = coRow (φ := .f32) fun k => y k 0 - Spec.mean (Spec.matched x y) 0 := by
  refine Eq.trans (b := k0_pay49 (k0_pay196 (coBlock y)) k0_pay199 invN (trip.sl.r_4 c arg4 invN f) (trip.sl.r_11 c arg4 (coBlock y) invN f) (trip.sl.r_12 c arg4 (coBlock y) f)) rfl ?_
  rw [pay49_eq, show k0_pay46 (k0_pay196 (coBlock y)) k0_pay199 invN (trip.sl.r_4 c arg4 invN f) (trip.sl.r_11 c arg4 (coBlock y) invN f) (trip.sl.r_12 c arg4 (coBlock y) f) = _ from t_mt0 y h,
    tgt_real, rowThree_0, rowSub_real, narrowRow_ideal]
theorem t_c1 : trip.sl.r_18 c arg4 (coBlock y) invN f = coRow (φ := .f32) fun k => y k 1 - Spec.mean (Spec.matched x y) 1 := by
  refine Eq.trans (b := k0_pay50 (k0_pay196 (coBlock y)) k0_pay199 invN (trip.sl.r_4 c arg4 invN f) (trip.sl.r_11 c arg4 (coBlock y) invN f) (trip.sl.r_12 c arg4 (coBlock y) f)) rfl ?_
  rw [pay50_eq, show k0_pay47 (k0_pay196 (coBlock y)) k0_pay199 invN (trip.sl.r_4 c arg4 invN f) (trip.sl.r_11 c arg4 (coBlock y) invN f) (trip.sl.r_12 c arg4 (coBlock y) f) = _ from t_mt1 y h,
    tgt_real, rowThree_1, rowSub_real, narrowRow_ideal]
theorem t_c2 : trip.sl.r_19 c arg4 (coBlock y) invN f = coRow (φ := .f32) fun k => y k 2 - Spec.mean (Spec.matched x y) 2 := by
  refine Eq.trans (b := k0_pay51 (k0_pay196 (coBlock y)) k0_pay199 invN (trip.sl.r_4 c arg4 invN f) (trip.sl.r_11 c arg4 (coBlock y) invN f) (trip.sl.r_12 c arg4 (coBlock y) f)) rfl ?_
  rw [pay51_eq, show k0_pay48 (k0_pay196 (coBlock y)) k0_pay199 invN (trip.sl.r_4 c arg4 invN f) (trip.sl.r_11 c arg4 (coBlock y) invN f) (trip.sl.r_12 c arg4 (coBlock y) f) = _ from t_mt2 y h,
    tgt_real, rowThree_2, rowSub_real, narrowRow_ideal]

theorem t_13 : trip.sl.r_13 c arg4 (coBlock y) invN f = coFour (accR x y) := t_acc y h
theorem t_21 : trip.sl.r_21 c arg4 (coBlock y) invN f = coRow (φ := .f32) (accR x y 0) := by
  refine Eq.trans (b := k0_pay53 k0_pay199 (trip.sl.r_4 c arg4 invN f) (trip.sl.r_11 c arg4 (coBlock y) invN f) (trip.sl.r_12 c arg4 (coBlock y) f)) rfl ?_
  rw [pay53_eq, t_acc y h, rowFour_0]

theorem t_h00 : trip.sl.r_20 c arg4 (coBlock y) invN f = ((Spec.cross x (Spec.matched x y) 0 0 : ℝ) : EReal) := by
  refine Eq.trans (b := k0_pay52 (k0_pay196 (coBlock y)) k0_pay199 invN (trip.sl.r_4 c arg4 invN f) (trip.sl.r_11 c arg4 (coBlock y) invN f) (trip.sl.r_12 c arg4 (coBlock y) f)) rfl ?_
  rw [pay52_eq, show k0_pay49 (k0_pay196 (coBlock y)) k0_pay199 invN (trip.sl.r_4 c arg4 invN f) (trip.sl.r_11 c arg4 (coBlock y) invN f) (trip.sl.r_12 c arg4 (coBlock y) f) = _ from t_c0 y h, t_acc y h, rowFour_0, rowMul_real, sumT_real]
  exact congrArg _ (acc_cross x y 0 0)
theorem t_h01 : trip.sl.r_22 c arg4 (coBlock y) invN f = ((Spec.cross x (Spec.matched x y) 0 1 : ℝ) : EReal) := by
  refine Eq.trans (b := k0_pay54 (trip.sl.r_18 c arg4 (coBlock y) invN f) (trip.sl.r_21 c arg4 (coBlock y) invN f)) rfl ?_
  rw [t_21 y h, t_c1 y h, pay54_eq, rowMul_real, sumT_real]
  exact congrArg _ (acc_cross x y 0 1)
theorem t_h02 : trip.sl.r_23 c arg4 (coBlock y) invN f = ((Spec.cross x (Spec.matched x y) 0 2 : ℝ) : EReal) := by
  refine Eq.trans (b := k0_pay55 (trip.sl.r_13 c arg4 (coBlock y) invN f) (trip.sl.r_19 c arg4 (coBlock y) invN f)) rfl ?_
  rw [t_13 y h, t_c2 y h, pay55_eq, rowFour_0, rowMul_real, sumT_real]
  exact congrArg _ (acc_cross x y 0 2)
theorem t_h10 : trip.sl.r_24 c arg4 (coBlock y) invN f = ((Spec.cross x (Spec.matched x y) 1 0 : ℝ) : EReal) := by
  refine Eq.trans (b := k0_pay56 (trip.sl.r_13 c arg4 (coBlock y) invN f) (trip.sl.r_17 c arg4 (coBlock y) invN f)) rfl ?_
  rw [t_13 y h, t_c0 y h, pay56_eq, rowFour_1, rowMul_real, sumT_real]
  exact congrArg _ (acc_cross x y 1 0)
theorem t_h11 : trip.sl.r_25 c arg4 (coBlock y) invN f = ((Spec.cross x (Spec.matched x y) 1 1 : ℝ) : EReal) := by
  refine Eq.trans (b := k0_pay56 (trip.sl.r_13 c arg4 (coBlock y) invN f) (trip.sl.r_18 c arg4 (coBlock y) invN f)) rfl ?_
  rw [t_13 y h, t_c1 y h, pay56_eq, rowFour_1, rowMul_real, sumT_real]
  exact congrArg _ (acc_cross x y 1 1)
theorem t_h12 : trip.sl.r_26 c arg4 (coBlock y) invN f = ((Spec.cross x (Spec.matched x y) 1 2 : ℝ) : EReal) := by
  refine Eq.trans (b := k0_pay56 (trip.sl.r_13 c arg4 (coBlock y) invN f) (trip.sl.r_19 c arg4 (coBlock y) invN f)) rfl ?_
  rw [t_13 y h, t_c2 y h, pay56_eq, rowFour_1, rowMul_real, sumT_real]
  exact congrArg _ (acc_cross x y 1 2)
theorem t_h20 : trip.sl.r_27 c arg4 (coBlock y) invN f = ((Spec.cross x (Spec.matched x y) 2 0 : ℝ) : EReal) := by
  refine Eq.trans (b := k0_pay59 (trip.sl.r_13 c arg4 (coBlock y) invN f) (trip.sl.r_17 c arg4 (coBlock y) invN f)) rfl ?_
  rw [t_13 y h, t_c0 y h, pay59_eq, rowFour_2, rowMul_real, sumT_real]
  exact congrArg _ (acc_cross x y 2 0)
theorem t_h21 : trip.sl.r_28 c arg4 (coBlock y) invN f = ((Spec.cross x (Spec.matched x y) 2 1 : ℝ) : EReal) := by
  refine Eq.trans (b := k0_pay59 (trip.sl.r_13 c arg4 (coBlock y) invN f) (trip.sl.r_18 c arg4 (coBlock y) invN f)) rfl ?_
  rw [t_13 y h, t_c1 y h, pay59_eq, rowFour_2, rowMul_real, sumT_real]
  exact congrArg _ (acc_cross x y 2 1)
theorem t_h22 : trip.sl.r_29 c arg4 (coBlock y) invN f = ((Spec.cross x (Spec.matched x y) 2 2 : ℝ) : EReal) := by
  refine Eq.trans (b := k0_pay59 (trip.sl.r_13 c arg4 (coBlock y) invN f) (trip.sl.r_19 c arg4 (coBlock y) invN f)) rfl ?_
  rw [t_13 y h, t_c2 y h, pay59_eq, rowFour_2, rowMul_real, sumT_real]
  exact congrArg _ (acc_cross x y 2 2)

/-- The matrix H of a trip. -/
theorem t_H : tripH c arg4 (coBlock y) invN f = co9 (Spec.cross x (Spec.matched x y)) := by
  unfold tripH
  rw [t_h00 y h, t_h01 y h, t_h02 y h, t_h10 y h, t_h11 y h, t_h12 y h, t_h20 y h, t_h21 y h, t_h22 y h]
  rfl

/-- The rotation of a trip. -/
theorem t_rot : rotK (tripH c arg4 (coBlock y) invN f) = co9 (Spec.rigidR x (Spec.matched x y)) := by
  rw [t_H y h, rotK_real]
  rfl

theorem t_t0 : trip.sl.r_80 c arg4 (coBlock y) invN f = ((Spec.rigidT x (Spec.matched x y) 0 : ℝ) : EReal) := by
  rw [trip_t0, t_rot y h, t_mu0 h, t_mu1 h, t_mu2 h, t_mt0 y h]
  exact transK_real _ _ _ _ _ _ _
theorem t_t1 : trip.sl.r_81 c arg4 (coBlock y) invN f = ((Spec.rigidT x (Spec.matched x y) 1 : ℝ) : EReal) := by
  rw [trip_t1, t_rot y h, t_mu0 h, t_mu1 h, t_mu2 h, t_mt1 y h]
  exact transK_real _ _ _ _ _ _ _
theorem t_t2 : trip.sl.r_85 c arg4 (coBlock y) invN f = ((Spec.rigidT x (Spec.matched x y) 2 : ℝ) : EReal) := by
  rw [trip_t2, t_rot y h, t_mu0 h, t_mu1 h, t_mu2 h, t_mt2 y h]
  exact transK_real _ _ _ _ _ _ _
theorem t_r00 : trip.sl.r_69 c arg4 (coBlock y) invN f = ((Spec.rigidR x (Spec.matched x y) 0 0 : ℝ) : EReal) :=
  (congrArg M9.m00 (trip_R c arg4 (coBlock y) invN f)).trans (congrArg M9.m00 (t_rot y h))
theorem t_r01 : trip.sl.r_70 c arg4 (coBlock y) invN f = ((Spec.rigidR x (Spec.matched x y) 0 1 : ℝ) : EReal) :=
  (congrArg M9.m01 (trip_R c arg4 (coBlock y) invN f)).trans (congrArg M9.m01 (t_rot y h))
theorem t_r02 : trip.sl.r_71 c arg4 (coBlock y) invN f = ((Spec.rigidR x (Spec.matched x y) 0 2 : ℝ) : EReal) :=
  (congrArg M9.m02 (trip_R c arg4 (coBlock y) invN f)).trans (congrArg M9.m02 (t_rot y h))
theorem t_r10 : trip.sl.r_72 c arg4 (coBlock y) invN f = ((Spec.rigidR x (Spec.matched x y) 1 0 : ℝ) : EReal) :=
  (congrArg M9.m10 (trip_R c arg4 (coBlock y) invN f)).trans (congrArg M9.m10 (t_rot y h))
theorem t_r11 : trip.sl.r_73 c arg4 (coBlock y) invN f = ((Spec.rigidR x (Spec.matched x y) 1 1 : ℝ) : EReal) :=
  (congrArg M9.m11 (trip_R c arg4 (coBlock y) invN f)).trans (congrArg M9.m11 (t_rot y h))
theorem t_r12 : trip.sl.r_74 c arg4 (coBlock y) invN f = ((Spec.rigidR x (Spec.matched x y) 1 2 : ℝ) : EReal) :=
  (congrArg M9.m12 (trip_R c arg4 (coBlock y) invN f)).trans (congrArg M9.m12 (t_rot y h))
theorem t_r20 : trip.sl.r_75 c arg4 (coBlock y) invN f = ((Spec.rigidR x (Spec.matched x y) 2 0 : ℝ) : EReal) :=
  (congrArg M9.m20 (trip_R c arg4 (coBlock y) invN f)).trans (congrArg M9.m20 (t_rot y h))
theorem t_r21 : trip.sl.r_78 c arg4 (coBlock y) invN f = ((Spec.rigidR x (Spec.matched x y) 2 1 : ℝ) : EReal) :=
  (congrArg M9.m21 (trip_R c arg4 (coBlock y) invN f)).trans (congrArg M9.m21 (t_rot y h))
theorem t_r22 : trip.sl.r_79 c arg4 (coBlock y) invN f = ((Spec.rigidR x (Spec.matched x y) 2 2 : ℝ) : EReal) :=
  (congrArg M9.m22 (trip_R c arg4 (coBlock y) invN f)).trans (congrArg M9.m22 (t_rot y h))

theorem t_move0 : trip.sl.r_89 c arg4 (coBlock y) invN f = coRow (φ := .f32) fun k => Spec.icpStep y x k 0 := by
  refine Eq.trans (b := k0_pay163 (trip.sl.r_69 c arg4 (coBlock y) invN f) (trip.sl.r_70 c arg4 (coBlock y) invN f) (trip.sl.r_71 c arg4 (coBlock y) invN f) (trip.sl.r_80 c arg4 (coBlock y) invN f) (View.readAt (Elt Ideal) arg4.view (Rect.unit (s := S3x4096) ![0, 0] S1x4096.size inb_S3x4096_S1x4096_0_0).toLoadRect f) (View.readAt (Elt Ideal) arg4.view (Rect.unit (s := S3x4096) ![1, 0] S1x4096.size inb_S3x4096_S1x4096_1_0).toLoadRect f) (View.readAt (Elt Ideal) arg4.view (Rect.unit (s := S3x4096) ![2, 0] S1x4096.size inb_S3x4096_S1x4096_2_0).toLoadRect f)) rfl ?_
  rw [t_r00 y h, t_r01 y h, t_r02 y h, t_t0 y h, h.r0, h.r1, h.r2, move0_real]
  rfl
theorem t_move1 : trip.sl.r_90 c arg4 (coBlock y) invN f = coRow (φ := .f32) fun k => Spec.icpStep y x k 1 := by
  refine Eq.trans (b := k0_pay164 (trip.sl.r_72 c arg4 (coBlock y) invN f) (trip.sl.r_73 c arg4 (coBlock y) invN f) (trip.sl.r_74 c arg4 (coBlock y) invN f) (trip.sl.r_81 c arg4 (coBlock y) invN f) (View.readAt (Elt Ideal) arg4.view (Rect.unit (s := S3x4096) ![0, 0] S1x4096.size inb_S3x4096_S1x4096_0_0).toLoadRect f) (View.readAt (Elt Ideal) arg4.view (Rect.unit (s := S3x4096) ![1, 0] S1x4096.size inb_S3x4096_S1x4096_1_0).toLoadRect f) (View.readAt (Elt Ideal) arg4.view (Rect.unit (s := S3x4096) ![2, 0] S1x4096.size inb_S3x4096_S1x4096_2_0).toLoadRect f)) rfl ?_
  rw [t_r10 y h, t_r11 y h, t_r12 y h, t_t1 y h, h.r0, h.r1, h.r2, move1_real]
  rfl

theorem t_86 : trip.sl.r_86 c arg4 f = k0_pay160 (coRow (φ := .f32) fun k => x k 1) := by
  refine Eq.trans (b := k0_pay160 (View.readAt (Elt Ideal) arg4.view (Rect.unit (s := S3x4096) ![1, 0] S1x4096.size inb_S3x4096_S1x4096_1_0).toLoadRect f)) rfl ?_
  rw [h.r1]
theorem t_87 : trip.sl.r_87 c arg4 f = k0_pay161 (coRow (φ := .f32) fun k => x k 2) := by
  refine Eq.trans (b := k0_pay161 (View.readAt (Elt Ideal) arg4.view (Rect.unit (s := S3x4096) ![2, 0] S1x4096.size inb_S3x4096_S1x4096_2_0).toLoadRect f)) rfl ?_
  rw [h.r2]
theorem t_88 : trip.sl.r_88 c arg4 (coBlock y) invN f = k0_pay162 (F := Ideal) ((Spec.rigidR x (Spec.matched x y) 2 2 : ℝ) : EReal) := by
  refine Eq.trans (b := k0_pay162 (trip.sl.r_79 c arg4 (coBlock y) invN f)) rfl ?_
  rw [t_r22 y h]
theorem t_91 : trip.sl.r_91 c arg4 (coBlock y) invN f = k0_pay165 (F := Ideal) ((Spec.rigidR x (Spec.matched x y) 2 0 : ℝ) : EReal) (coRow (φ := .f32) fun k => x k 0) := by
  refine Eq.trans (b := k0_pay165 (trip.sl.r_75 c arg4 (coBlock y) invN f) (View.readAt (Elt Ideal) arg4.view (Rect.unit (s := S3x4096) ![0, 0] S1x4096.size inb_S3x4096_S1x4096_0_0).toLoadRect f)) rfl ?_
  rw [t_r20 y h, h.r0]
theorem t_92 : trip.sl.r_92 c arg4 (coBlock y) invN f = k0_pay166 (F := Ideal) ((Spec.rigidR x (Spec.matched x y) 2 1 : ℝ) : EReal) := by
  refine Eq.trans (b := k0_pay166 (trip.sl.r_78 c arg4 (coBlock y) invN f)) rfl ?_
  rw [t_r21 y h]

/-- What a trip stores: the moved points. -/
theorem t_moved : k0_pay202 (trip.sl.r_85 c arg4 (coBlock y) invN f) (trip.sl.r_86 c arg4 f) (trip.sl.r_87 c arg4 f) (trip.sl.r_88 c arg4 (coBlock y) invN f) (trip.sl.r_89 c arg4 (coBlock y) invN f) (trip.sl.r_90 c arg4 (coBlock y) invN f) (trip.sl.r_91 c arg4 (coBlock y) invN f) (trip.sl.r_92 c arg4 (coBlock y) invN f) = coThree (φ := .f32) (Spec.icpStep y x) := by
  rw [t_move0 y h, t_move1 y h, t_t2 y h, t_86 h, t_87 h, t_88 y h, t_91 y h, t_92 y h]
  exact moved_real _ _ _ _ _ _ _ _ _ _ (fun _ => rfl) (fun _ => rfl) fun _ => rfl

/-- A trip moves the points by one step. -/
theorem holds_step (i : grid0.Coords) (arg1 : Memref sig .tc .vmem S1x3x4096 .f32) (harg1 : arg1.IsWhole) (arg2 : Memref sig .tc .vmem S1x3x4096 .f32) (harg2 : arg2.IsWhole)
    (arg3 : Memref sig .tc .vmem S1x3x4 .f32) (harg3 : arg3.IsWhole) (harg4 : arg4.IsWhole) :
    Holds c arg4 (stepBuf c i arg1 harg1 arg2 harg2 arg3 harg3 arg4 harg4 (coBlock y) invN f) (Spec.icpStep y x) := by
  have e : stepBuf c i arg1 harg1 arg2 harg2 arg3 harg3 arg4 harg4 (coBlock y) invN f
      = arg4.view.writes (Elt Ideal) arg4.view.junk (trip.sl.H4_1 c arg4 (coBlock y) invN f) := by
    delta stepBuf trip
    with_reducible rfl
  have e2 : trip.sl.H4_1 c arg4 (coBlock y) invN f = [⟨Rect.unit (s := S3x4096) ![0, 0] S3x4096.size inb_S3x4096_S3x4096_0_0,
        k0_pay202 (trip.sl.r_85 c arg4 (coBlock y) invN f) (trip.sl.r_86 c arg4 f) (trip.sl.r_87 c arg4 f) (trip.sl.r_88 c arg4 (coBlock y) invN f) (trip.sl.r_89 c arg4 (coBlock y) invN f) (trip.sl.r_90 c arg4 (coBlock y) invN f) (trip.sl.r_91 c arg4 (coBlock y) invN f) (trip.sl.r_92 c arg4 (coBlock y) invN f)⟩] := by delta trip.sl.H4_1; rfl
  rw [e, e2]
  exact holds_write_eq c arg4 _ _ _ (t_moved y h)

end

/-- The trips, one after another. -/
theorem holds_iterate (c : Dev nD) (i : grid0.Coords) (arg1 : Memref sig .tc .vmem S1x3x4096 .f32) (harg1 : arg1.IsWhole) (arg2 : Memref sig .tc .vmem S1x3x4096 .f32) (harg2 : arg2.IsWhole)
    (arg3 : Memref sig .tc .vmem S1x3x4 .f32) (harg3 : arg3.IsWhole) (arg4 : Memref sig .tc .vmem S3x4096 .f32) (harg4 : arg4.IsWhole)
    (f : Buf (Elt Ideal) (arg4.view.loc (c : Thread nD τ))) (x y : Spec.Points) (h : Holds c arg4 f x) (n : ℕ) :
    Holds c arg4 ((stepBuf c i arg1 harg1 arg2 harg2 arg3 harg3 arg4 harg4 (coBlock y) invN)^[n] f) (Spec.moved x y n) := by
  induction n with
  | zero => exact h
  | succ n ih =>
    rw [Function.iterate_succ_apply', Spec.moved_succ]
    exact holds_step y ih i arg1 harg1 arg2 harg2 arg3 harg3 harg4

end Cert.Proof.KI
-- ==== Proof.KI.Out.lean ====
/-
  The block a grid point writes: twelve entries, each put in its place by a mask of zeros and a one.
-/
module

public import proofs.«01_k».proof.Proof.KI.Rows

@[expose] public section

set_option maxRecDepth 16384

noncomputable section

namespace Cert.Proof.KI

open Cert.KernelIdeal Cert.KernelIdeal.Gen
open Idealize.ShloMosaic Idealize.ShloMosaic.TcCoe Idealize.ShloMosaic.Tactic

/-- Three real rows of four, as the block a grid point writes. -/
def coBlockOut (f : Fin 3 → Fin 4 → ℝ) : Vec Ideal S1x3x4 .f32 := fun j => ((f (j 1) (j 2) : ℝ) : EReal)

theorem blockOut_ext {x y : Vec Ideal S1x3x4 .f32} (h : ∀ (a : Fin 1) (i : Fin 3) (l : Fin 4), x (ix3 a i l) = y (ix3 a i l)) : x = y := by
  funext j; rw [eq_ix3 j]; exact h _ _ _

/-- The row and the column of an entry. -/
abbrev rowIx : IVec S3x4 32 := iota .tc S3x4 32 [0] iota_S3x4_d0_w32
abbrev colIx : IVec S3x4 32 := iota .tc S3x4 32 [1] iota_S3x4_d1_w32

/-- The rotation and the translation as rows of four. -/
def rt (R : Fin 3 → Fin 3 → ℝ) (t : Fin 3 → ℝ) (i : Fin 3) (j : Fin 4) : ℝ := if h : j.val < 3 then R i ⟨j.val, h⟩ else t i

theorem out_real (R : Fin 3 → Fin 3 → ℝ) (t : Fin 3 → ℝ) :
    k0_pay1 (F := Ideal) ((t 2 : ℝ) : EReal) rowIx colIx
      (k0_pay329 (F := Ideal) ((R 2 0 : ℝ) : EReal) ((R 2 1 : ℝ) : EReal) ((R 2 2 : ℝ) : EReal) ((t 1 : ℝ) : EReal) rowIx colIx
        (k0_pay327 (F := Ideal) ((R 1 0 : ℝ) : EReal) ((R 1 1 : ℝ) : EReal) ((R 1 2 : ℝ) : EReal) ((t 0 : ℝ) : EReal) rowIx colIx
          (k0_pay325 (F := Ideal) ((R 0 0 : ℝ) : EReal) ((R 0 1 : ℝ) : EReal) ((R 0 2 : ℝ) : EReal)) k0_pay326) k0_pay328) k0_pay330
      = coBlockOut (rt R t) := by
  refine blockOut_ext fun a i l => ?_
  fin_cases i <;> fin_cases l <;>
    (pointwise [k0_pay1, k0_pay325, k0_pay326, k0_pay327, k0_pay328, k0_pay329, k0_pay330, rowIx, colIx]
     simp [coBlockOut, rt, Scalar.select, IntOp.andi, IntOp.cmpi])

end Cert.Proof.KI
-- ==== Proof.KI.Block.lean ====
/-
  What the kernel's body leaves in the result's block, at the ideal operations and real blocks: the rotation and the translation
  from the points of the start to the points after ten steps.
-/
module

public import proofs.«01_k».proof.Proof.KI.Step
public import proofs.«01_k».proof.Proof.KI.Run
public import proofs.«01_k».proof.Proof.KI.Out
public import proofs.«01_k».proof.Proof.KI.Solve
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Idealize.ShloMosaic.Tactic

/-! ## The values of the run, for any operations -/

section

variable {F : FTy → Type} [FloatOps F]
variable (c : Dev nD) (i : grid0.Coords) (M1 : Memref sig .tc .vmem S1x3x4096 .f32) (h1 : M1.IsWhole)
    (M2 : Memref sig .tc .vmem S1x3x4096 .f32) (h2 : M2.IsWhole) (M3 : Memref sig .tc .vmem S1x3x4 .f32) (h3 : M3.IsWhole)
    (M4 : Memref sig .tc .vmem S3x4096 .f32) (h4 : M4.IsWhole) (x1 x2 : Vec F S1x3x4096 .f32)

/-- The scratch buffer after the first store. -/
def scr0 : Buf (Elt F) (M4.view.loc (c : Thread nD τ)) :=
  View.write (Elt F) (M4.view.slice (Rect.unit (s := S3x4096) ![0, 0] S3x4096.size inb_S3x4096_S3x4096_0_0)) (M4.view.writes (Elt F) M4.view.junk [])
    (k0_pay201 (View.readAt (Elt F) M1.view (Rect.unit (s := S1x3x4096) ![0, 0, 0] S1x3x4096.size inb_S1x3x4096_S1x3x4096_0_0_0).toLoadRect (h1.unread x1))) Finset.univ

theorem scr0_eq : scr0 c M1 h1 M4 x1
    = M4.view.writes (Elt F) M4.view.junk [⟨Rect.unit (s := S3x4096) ![0, 0] S3x4096.size inb_S3x4096_S3x4096_0_0, k0_pay201 (View.readAt (Elt F) M1.view (Rect.unit (s := S1x3x4096) ![0, 0, 0] S1x3x4096.size inb_S1x3x4096_S1x3x4096_0_0_0).toLoadRect (h1.unread x1))⟩] := rfl

/-- The scratch buffer after the loop. -/
def scrN : Buf (Elt F) (M4.view.loc (c : Thread nD τ)) :=
  (stepBuf c i M1 h1 M2 h2 M3 h3 M4 h4 (View.readAt (Elt F) M2.view (Rect.unit (s := S1x3x4096) ![0, 0, 0] S1x3x4096.size inb_S1x3x4096_S1x3x4096_0_0_0).toLoadRect (h2.unread x2)) kernelRun.sl.cst_7)^[Scf.trips k0_t1_loop.lb k0_t1_loop.ub k0_t1_loop.st] (scr0 c M1 h1 M4 x1)

theorem row0_eq : kernelRun.sl.v35 c i M1 h1 M2 h2 M3 h3 M4 h4 x1 x2 = View.readAt (Elt F) M4.view (Rect.unit (s := S3x4096) ![0, 0] S1x4096.size inb_S3x4096_S1x4096_0_0).toLoadRect (scrN c i M1 h1 M2 h2 M3 h3 M4 h4 x1 x2) := by
  delta kernelRun.sl.v35 scrN scr0
  with_reducible rfl
theorem row1_eq : kernelRun.sl.v40 c i M1 h1 M2 h2 M3 h3 M4 h4 x1 x2 = View.readAt (Elt F) M4.view (Rect.unit (s := S3x4096) ![1, 0] S1x4096.size inb_S3x4096_S1x4096_1_0).toLoadRect (scrN c i M1 h1 M2 h2 M3 h3 M4 h4 x1 x2) := by
  delta kernelRun.sl.v40 scrN scr0
  with_reducible rfl
theorem row2_eq : kernelRun.sl.v45 c i M1 h1 M2 h2 M3 h3 M4 h4 x1 x2 = View.readAt (Elt F) M4.view (Rect.unit (s := S3x4096) ![2, 0] S1x4096.size inb_S3x4096_S1x4096_2_0).toLoadRect (scrN c i M1 h1 M2 h2 M3 h3 M4 h4 x1 x2) := by
  delta kernelRun.sl.v45 scrN scr0
  with_reducible rfl

/-- The matrix H of the last rigid motion. -/
def blockH : M9 (F .f32) := ⟨kernelRun.sl.r_16 c i M1 h1 M2 h2 M3 h3 M4 h4 x1 x2, kernelRun.sl.r_17 c i M1 h1 M2 h2 M3 h3 M4 h4 x1 x2, kernelRun.sl.r_18 c i M1 h1 M2 h2 M3 h3 M4 h4 x1 x2, kernelRun.sl.r_19 c i M1 h1 M2 h2 M3 h3 M4 h4 x1 x2, kernelRun.sl.r_20 c i M1 h1 M2 h2 M3 h3 M4 h4 x1 x2, kernelRun.sl.r_21 c i M1 h1 M2 h2 M3 h3 M4 h4 x1 x2, kernelRun.sl.r_22 c i M1 h1 M2 h2 M3 h3 M4 h4 x1 x2, kernelRun.sl.r_23 c i M1 h1 M2 h2 M3 h3 M4 h4 x1 x2, kernelRun.sl.r_24 c i M1 h1 M2 h2 M3 h3 M4 h4 x1 x2⟩

theorem block_R : (⟨kernelRun.sl.r_70 c i M1 h1 M2 h2 M3 h3 M4 h4 x1 x2, kernelRun.sl.r_71 c i M1 h1 M2 h2 M3 h3 M4 h4 x1 x2, kernelRun.sl.r_72 c i M1 h1 M2 h2 M3 h3 M4 h4 x1 x2, kernelRun.sl.r_73 c i M1 h1 M2 h2 M3 h3 M4 h4 x1 x2, kernelRun.sl.r_74 c i M1 h1 M2 h2 M3 h3 M4 h4 x1 x2, kernelRun.sl.r_75 c i M1 h1 M2 h2 M3 h3 M4 h4 x1 x2, kernelRun.sl.r_77 c i M1 h1 M2 h2 M3 h3 M4 h4 x1 x2, kernelRun.sl.r_78 c i M1 h1 M2 h2 M3 h3 M4 h4 x1 x2, kernelRun.sl.r_79 c i M1 h1 M2 h2 M3 h3 M4 h4 x1 x2⟩ : M9 (F .f32)) = rotK (blockH c i M1 h1 M2 h2 M3 h3 M4 h4 x1 x2) := rfl

theorem block_t0 : kernelRun.sl.r_80 c i M1 h1 M2 h2 M3 h3 M4 h4 x1 x2 = transK (rotK (blockH c i M1 h1 M2 h2 M3 h3 M4 h4 x1 x2)).m00 (rotK (blockH c i M1 h1 M2 h2 M3 h3 M4 h4 x1 x2)).m01 (rotK (blockH c i M1 h1 M2 h2 M3 h3 M4 h4 x1 x2)).m02
    (kernelRun.sl.r_5 c M1 h1 x1) (kernelRun.sl.r_6 c M1 h1 x1) (kernelRun.sl.r_7 c M1 h1 x1) (kernelRun.sl.r_8 c i M1 h1 M2 h2 M3 h3 M4 h4 x1 x2) := rfl
theorem block_t1 : kernelRun.sl.r_81 c i M1 h1 M2 h2 M3 h3 M4 h4 x1 x2 = transK (rotK (blockH c i M1 h1 M2 h2 M3 h3 M4 h4 x1 x2)).m10 (rotK (blockH c i M1 h1 M2 h2 M3 h3 M4 h4 x1 x2)).m11 (rotK (blockH c i M1 h1 M2 h2 M3 h3 M4 h4 x1 x2)).m12
    (kernelRun.sl.r_5 c M1 h1 x1) (kernelRun.sl.r_6 c M1 h1 x1) (kernelRun.sl.r_7 c M1 h1 x1) (kernelRun.sl.r_9 c i M1 h1 M2 h2 M3 h3 M4 h4 x1 x2) := rfl
theorem block_t2 : kernelRun.sl.r_85 c i M1 h1 M2 h2 M3 h3 M4 h4 x1 x2 = transK (rotK (blockH c i M1 h1 M2 h2 M3 h3 M4 h4 x1 x2)).m20 (rotK (blockH c i M1 h1 M2 h2 M3 h3 M4 h4 x1 x2)).m21 (rotK (blockH c i M1 h1 M2 h2 M3 h3 M4 h4 x1 x2)).m22
    (kernelRun.sl.r_5 c M1 h1 x1) (kernelRun.sl.r_6 c M1 h1 x1) (kernelRun.sl.r_7 c M1 h1 x1) (kernelRun.sl.r_10 c i M1 h1 M2 h2 M3 h3 M4 h4 x1 x2) := rfl

theorem run_eq : (kernelRun c i M1 h1 M2 h2 M3 h3 M4 h4 x1 x2).1 = M3.view.read (Elt F) (M3.view.writes (Elt F) M3.view.junk (kernelRun.sl.H3_1 c i M1 h1 M2 h2 M3 h3 M4 h4 x1 x2)) := by
  delta kernelRun
  with_reducible rfl

theorem block_eq : (kernelRun c i M1 h1 M2 h2 M3 h3 M4 h4 x1 x2).1 = k0_pay1 (kernelRun.sl.r_85 c i M1 h1 M2 h2 M3 h3 M4 h4 x1 x2) rowIx colIx (kernelRun.sl.r_88 c i M1 h1 M2 h2 M3 h3 M4 h4 x1 x2) k0_pay330 := by
  rw [run_eq]
  delta kernelRun.sl.H3_1
  funext j
  refine (View.read_writes_cons_unit_of_mem M3.view _ (off' := ![0, 0, 0]) _ _ [] j j rfl fun a => ?_).trans rfl
  fin_cases a <;> exact (Nat.zero_add _).symm

end

/-! ## Payloads -/

section

variable {F : FTy → Type} [FloatOps F] (a : F .f32) (v1 : FVec F S3x4096 .f32) (v u : FVec F S1x4096 .f32) (b : Vec F S1x3x4096 .f32)
theorem pay203_eq : k0_pay203 b = sumT (extractStridedSlice S1x4096 ![0, 0] (k0_pay195 b) slices_S3x4096_o0_0_S1x4096) := rfl
theorem pay204_eq : k0_pay204 b = sumT (extractStridedSlice S1x4096 ![1, 0] (k0_pay195 b) slices_S3x4096_o1_0_S1x4096) := rfl
theorem pay205_eq : k0_pay205 b = sumT (extractStridedSlice S1x4096 ![2, 0] (k0_pay195 b) slices_S3x4096_o2_0_S1x4096) := rfl
theorem pay210_eq : k0_pay210 (k0_pay206 v) = Scalar.mulf (sumT v) (Scalar.ofBits .f32 0x39800000#32) := rfl
theorem pay211_eq : k0_pay211 v = Scalar.mulf (sumT v) (Scalar.ofBits .f32 0x39800000#32) := rfl
theorem pay212_eq : k0_pay212 v = Scalar.mulf (sumT v) (Scalar.ofBits .f32 0x39800000#32) := rfl
theorem pay213_eq : k0_pay213 v1 a = narrowRow (subf (extractStridedSlice S1x4096 ![0, 0] v1 slices_S3x4096_o0_0_S1x4096) (broadcast S1x4096 (k0_pay207 a))) := rfl
theorem pay207_eq : k0_pay207 a = Scalar.mulf a (Scalar.ofBits .f32 0x39800000#32) := rfl
theorem pay214_eq : k0_pay214 v1 a = narrowRow (subf (extractStridedSlice S1x4096 ![1, 0] v1 slices_S3x4096_o1_0_S1x4096) (broadcast S1x4096 (k0_pay208 a))) := rfl
theorem pay208_eq : k0_pay208 a = Scalar.mulf a (Scalar.ofBits .f32 0x39800000#32) := rfl
theorem pay215_eq : k0_pay215 v1 a = narrowRow (subf (extractStridedSlice S1x4096 ![2, 0] v1 slices_S3x4096_o2_0_S1x4096) (broadcast S1x4096 (k0_pay209 a))) := rfl
theorem pay209_eq : k0_pay209 a = Scalar.mulf a (Scalar.ofBits .f32 0x39800000#32) := rfl
theorem pay216_eq : k0_pay216 (k0_pay206 v) v = narrowRow (subf v (broadcast S1x4096 (k0_pay210 (k0_pay206 v)))) := rfl
theorem pay217_eq : k0_pay217 v v = narrowRow (subf v (broadcast S1x4096 (k0_pay211 v))) := rfl
theorem pay218_eq : k0_pay218 a v = narrowRow (subf v (broadcast S1x4096 a)) := rfl
theorem pay219_eq : k0_pay219 v u = sumT (mulf v u) := rfl
theorem pay220_eq : k0_pay220 v u = sumT (mulf v u) := rfl
theorem pay222_eq : k0_pay222 v u = sumT (mulf v u) := rfl
theorem pay223_eq : k0_pay223 v u = sumT (mulf v u) := rfl
theorem pay225_eq : k0_pay225 v u = sumT (mulf v u) := rfl
theorem pay226_eq : k0_pay226 v u = sumT (mulf v u) := rfl
theorem pay221_eq : k0_pay221 a v u = sumT (mulf v (k0_pay218 a u)) := rfl
theorem pay224_eq : k0_pay224 a v u = sumT (mulf v (k0_pay218 a u)) := rfl
theorem pay227_eq : k0_pay227 a v u = sumT (mulf v (k0_pay218 a u)) := rfl

end

theorem invN_eq : Scalar.ofBits (F := Ideal) .f32 0x39800000#32 = invN := lit_inv_count
theorem pay195_real (x : Spec.Points) : k0_pay195 (F := Ideal) (coBlock x) = coThree (φ := .f32) x := tgt_real x
theorem pay201_real (x : Spec.Points) : k0_pay201 (F := Ideal) (coBlock x) = coThree (φ := .f32) x := by
  refine three_ext fun r k => ?_
  pointwise [k0_pay201, k0_pay195]
  simp only [coBlock_at, coThree_at]

/-! ## The values of the run, at real blocks -/

section

variable (c : Dev nD) (i : grid0.Coords) (M1 : Memref sig .tc .vmem S1x3x4096 .f32) (h1 : M1.IsWhole)
    (M2 : Memref sig .tc .vmem S1x3x4096 .f32) (h2 : M2.IsWhole) (M3 : Memref sig .tc .vmem S1x3x4 .f32) (h3 : M3.IsWhole)
    (M4 : Memref sig .tc .vmem S3x4096 .f32) (h4 : M4.IsWhole) (x y : Spec.Points)

theorem load1 : (View.readAt (Elt Ideal) M1.view (Rect.unit (s := S1x3x4096) ![0, 0, 0] S1x3x4096.size inb_S1x3x4096_S1x3x4096_0_0_0).toLoadRect (h1.unread (coBlock x))) = coBlock x := by
  rw [View.readAt_eq_ld, h1.read_unread, View.ld_unit_zero (funext fun a => by fin_cases a <;> rfl)]
theorem load2 : (View.readAt (Elt Ideal) M2.view (Rect.unit (s := S1x3x4096) ![0, 0, 0] S1x3x4096.size inb_S1x3x4096_S1x3x4096_0_0_0).toLoadRect (h2.unread (coBlock y))) = coBlock y := by
  rw [View.readAt_eq_ld, h2.read_unread, View.ld_unit_zero (funext fun a => by fin_cases a <;> rfl)]

/-- The scratch buffer after the loop holds the points moved ten times. -/
theorem holds_end : Holds c M4 (scrN c i M1 h1 M2 h2 M3 h3 M4 h4 (coBlock x) (coBlock y)) (Spec.moved x y 10) := by
  have e7 : (kernelRun.sl.cst_7 : Ideal .f32) = invN := invN_eq
  have en : Scf.trips k0_t1_loop.lb k0_t1_loop.ub k0_t1_loop.st = 10 := by decide
  unfold scrN
  rw [load2, e7, en]
  refine holds_iterate c i M1 h1 M2 h2 M3 h3 M4 h4 _ x y ?_ 10
  rw [scr0_eq]
  exact holds_write_eq c M4 _ _ _ ((congrArg k0_pay201 (load1 M1 h1 x)).trans (pay201_real x))

theorem e_row0 : kernelRun.sl.v35 c i M1 h1 M2 h2 M3 h3 M4 h4 (coBlock x) (coBlock y) = coRow (φ := .f32) fun k => Spec.moved x y 10 k 0 := by
  rw [row0_eq]
  exact (holds_end c i M1 h1 M2 h2 M3 h3 M4 h4 x y).r0
theorem e_row1 : kernelRun.sl.v40 c i M1 h1 M2 h2 M3 h3 M4 h4 (coBlock x) (coBlock y) = coRow (φ := .f32) fun k => Spec.moved x y 10 k 1 := by
  rw [row1_eq]
  exact (holds_end c i M1 h1 M2 h2 M3 h3 M4 h4 x y).r1
theorem e_row2 : kernelRun.sl.v45 c i M1 h1 M2 h2 M3 h3 M4 h4 (coBlock x) (coBlock y) = coRow (φ := .f32) fun k => Spec.moved x y 10 k 2 := by
  rw [row2_eq]
  exact (holds_end c i M1 h1 M2 h2 M3 h3 M4 h4 x y).r2

theorem e_src : kernelRun.sl.r c M1 h1 (coBlock x) = coThree (φ := .f32) x := by
  refine Eq.trans (b := k0_pay195 (View.readAt (Elt Ideal) M1.view (Rect.unit (s := S1x3x4096) ![0, 0, 0] S1x3x4096.size inb_S1x3x4096_S1x3x4096_0_0_0).toLoadRect (h1.unread (coBlock x)))) rfl ?_
  rw [load1, pay195_real]
theorem e_sum0 : kernelRun.sl.r_1 c M1 h1 (coBlock x) = ((∑ k, x k 0 : ℝ) : EReal) := by
  refine Eq.trans (b := k0_pay203 (View.readAt (Elt Ideal) M1.view (Rect.unit (s := S1x3x4096) ![0, 0, 0] S1x3x4096.size inb_S1x3x4096_S1x3x4096_0_0_0).toLoadRect (h1.unread (coBlock x)))) rfl ?_
  rw [load1, pay203_eq, pay195_real, rowThree_0, sumT_real]
theorem e_mp0 : kernelRun.sl.r_5 c M1 h1 (coBlock x) = ((Spec.mean x 0 : ℝ) : EReal) := by
  refine Eq.trans (b := k0_pay207 (kernelRun.sl.r_1 c M1 h1 (coBlock x))) rfl ?_
  rw [e_sum0, pay207_eq, invN_eq, invN, kMul, mean_mul]; rfl
theorem e_src0 : kernelRun.sl.r_11 c M1 h1 (coBlock x) = coRow (φ := .f32) fun k => x k 0 - Spec.mean x 0 := by
  refine Eq.trans (b := k0_pay213 (kernelRun.sl.r c M1 h1 (coBlock x)) (kernelRun.sl.r_1 c M1 h1 (coBlock x))) rfl ?_
  rw [pay213_eq, show k0_pay207 (kernelRun.sl.r_1 c M1 h1 (coBlock x)) = _ from e_mp0 c M1 h1 x, e_src, rowThree_0, rowSub_real, narrowRow_ideal]
theorem e_sum1 : kernelRun.sl.r_2 c M1 h1 (coBlock x) = ((∑ k, x k 1 : ℝ) : EReal) := by
  refine Eq.trans (b := k0_pay204 (View.readAt (Elt Ideal) M1.view (Rect.unit (s := S1x3x4096) ![0, 0, 0] S1x3x4096.size inb_S1x3x4096_S1x3x4096_0_0_0).toLoadRect (h1.unread (coBlock x)))) rfl ?_
  rw [load1, pay204_eq, pay195_real, rowThree_1, sumT_real]
theorem e_mp1 : kernelRun.sl.r_6 c M1 h1 (coBlock x) = ((Spec.mean x 1 : ℝ) : EReal) := by
  refine Eq.trans (b := k0_pay208 (kernelRun.sl.r_2 c M1 h1 (coBlock x))) rfl ?_
  rw [e_sum1, pay208_eq, invN_eq, invN, kMul, mean_mul]; rfl
theorem e_src1 : kernelRun.sl.r_12 c M1 h1 (coBlock x) = coRow (φ := .f32) fun k => x k 1 - Spec.mean x 1 := by
  refine Eq.trans (b := k0_pay214 (kernelRun.sl.r c M1 h1 (coBlock x)) (kernelRun.sl.r_2 c M1 h1 (coBlock x))) rfl ?_
  rw [pay214_eq, show k0_pay208 (kernelRun.sl.r_2 c M1 h1 (coBlock x)) = _ from e_mp1 c M1 h1 x, e_src, rowThree_1, rowSub_real, narrowRow_ideal]
theorem e_sum2 : kernelRun.sl.r_3 c M1 h1 (coBlock x) = ((∑ k, x k 2 : ℝ) : EReal) := by
  refine Eq.trans (b := k0_pay205 (View.readAt (Elt Ideal) M1.view (Rect.unit (s := S1x3x4096) ![0, 0, 0] S1x3x4096.size inb_S1x3x4096_S1x3x4096_0_0_0).toLoadRect (h1.unread (coBlock x)))) rfl ?_
  rw [load1, pay205_eq, pay195_real, rowThree_2, sumT_real]
theorem e_mp2 : kernelRun.sl.r_7 c M1 h1 (coBlock x) = ((Spec.mean x 2 : ℝ) : EReal) := by
  refine Eq.trans (b := k0_pay209 (kernelRun.sl.r_3 c M1 h1 (coBlock x))) rfl ?_
  rw [e_sum2, pay209_eq, invN_eq, invN, kMul, mean_mul]; rfl
theorem e_src2 : kernelRun.sl.r_13 c M1 h1 (coBlock x) = coRow (φ := .f32) fun k => x k 2 - Spec.mean x 2 := by
  refine Eq.trans (b := k0_pay215 (kernelRun.sl.r c M1 h1 (coBlock x)) (kernelRun.sl.r_3 c M1 h1 (coBlock x))) rfl ?_
  rw [pay215_eq, show k0_pay209 (kernelRun.sl.r_3 c M1 h1 (coBlock x)) = _ from e_mp2 c M1 h1 x, e_src, rowThree_2, rowSub_real, narrowRow_ideal]
theorem e_mc0 : kernelRun.sl.r_8 c i M1 h1 M2 h2 M3 h3 M4 h4 (coBlock x) (coBlock y) = ((Spec.mean (Spec.moved x y 10) 0 : ℝ) : EReal) := by
  refine Eq.trans (b := k0_pay210 (k0_pay206 (kernelRun.sl.v35 c i M1 h1 M2 h2 M3 h3 M4 h4 (coBlock x) (coBlock y)))) rfl ?_
  rw [e_row0, pay210_eq, sumT_real, invN_eq, invN, kMul, mean_mul]; rfl
theorem e_mc1 : kernelRun.sl.r_9 c i M1 h1 M2 h2 M3 h3 M4 h4 (coBlock x) (coBlock y) = ((Spec.mean (Spec.moved x y 10) 1 : ℝ) : EReal) := by
  refine Eq.trans (b := k0_pay211 (kernelRun.sl.v40 c i M1 h1 M2 h2 M3 h3 M4 h4 (coBlock x) (coBlock y))) rfl ?_
  rw [e_row1, pay211_eq, sumT_real, invN_eq, invN, kMul, mean_mul]; rfl
theorem e_mc2 : kernelRun.sl.r_10 c i M1 h1 M2 h2 M3 h3 M4 h4 (coBlock x) (coBlock y) = ((Spec.mean (Spec.moved x y 10) 2 : ℝ) : EReal) := by
  refine Eq.trans (b := k0_pay212 (kernelRun.sl.v45 c i M1 h1 M2 h2 M3 h3 M4 h4 (coBlock x) (coBlock y))) rfl ?_
  rw [e_row2, pay212_eq, sumT_real, invN_eq, invN, kMul, mean_mul]; rfl
theorem e_dst0 : kernelRun.sl.r_14 c i M1 h1 M2 h2 M3 h3 M4 h4 (coBlock x) (coBlock y) = coRow (φ := .f32) fun k => Spec.moved x y 10 k 0 - Spec.mean (Spec.moved x y 10) 0 := by
  refine Eq.trans (b := k0_pay216 (k0_pay206 (kernelRun.sl.v35 c i M1 h1 M2 h2 M3 h3 M4 h4 (coBlock x) (coBlock y))) (kernelRun.sl.v35 c i M1 h1 M2 h2 M3 h3 M4 h4 (coBlock x) (coBlock y))) rfl ?_
  rw [pay216_eq, show k0_pay210 (k0_pay206 (kernelRun.sl.v35 c i M1 h1 M2 h2 M3 h3 M4 h4 (coBlock x) (coBlock y))) = _ from e_mc0 c i M1 h1 M2 h2 M3 h3 M4 h4 x y, e_row0, rowSub_real, narrowRow_ideal]
theorem e_dst1 : kernelRun.sl.r_15 c i M1 h1 M2 h2 M3 h3 M4 h4 (coBlock x) (coBlock y) = coRow (φ := .f32) fun k => Spec.moved x y 10 k 1 - Spec.mean (Spec.moved x y 10) 1 := by
  refine Eq.trans (b := k0_pay217 (kernelRun.sl.v40 c i M1 h1 M2 h2 M3 h3 M4 h4 (coBlock x) (coBlock y)) (kernelRun.sl.v40 c i M1 h1 M2 h2 M3 h3 M4 h4 (coBlock x) (coBlock y))) rfl ?_
  rw [pay217_eq, show k0_pay211 (kernelRun.sl.v40 c i M1 h1 M2 h2 M3 h3 M4 h4 (coBlock x) (coBlock y)) = _ from e_mc1 c i M1 h1 M2 h2 M3 h3 M4 h4 x y, e_row1, rowSub_real, narrowRow_ideal]
theorem e_dst2 : k0_pay218 (kernelRun.sl.r_10 c i M1 h1 M2 h2 M3 h3 M4 h4 (coBlock x) (coBlock y)) (kernelRun.sl.v45 c i M1 h1 M2 h2 M3 h3 M4 h4 (coBlock x) (coBlock y)) = coRow (φ := .f32) fun k => Spec.moved x y 10 k 2 - Spec.mean (Spec.moved x y 10) 2 := by
  rw [pay218_eq, e_mc2, e_row2, rowSub_real, narrowRow_ideal]
theorem e_h00 : kernelRun.sl.r_16 c i M1 h1 M2 h2 M3 h3 M4 h4 (coBlock x) (coBlock y) = ((Spec.cross x (Spec.moved x y 10) 0 0 : ℝ) : EReal) := by
  refine Eq.trans (b := k0_pay219 (kernelRun.sl.r_11 c M1 h1 (coBlock x)) (kernelRun.sl.r_14 c i M1 h1 M2 h2 M3 h3 M4 h4 (coBlock x) (coBlock y))) rfl ?_
  rw [pay219_eq, e_src0, e_dst0, rowMul_real, sumT_real]; rfl
theorem e_h01 : kernelRun.sl.r_17 c i M1 h1 M2 h2 M3 h3 M4 h4 (coBlock x) (coBlock y) = ((Spec.cross x (Spec.moved x y 10) 0 1 : ℝ) : EReal) := by
  refine Eq.trans (b := k0_pay220 (kernelRun.sl.r_11 c M1 h1 (coBlock x)) (kernelRun.sl.r_15 c i M1 h1 M2 h2 M3 h3 M4 h4 (coBlock x) (coBlock y))) rfl ?_
  rw [pay220_eq, e_src0, e_dst1, rowMul_real, sumT_real]; rfl
theorem e_h02 : kernelRun.sl.r_18 c i M1 h1 M2 h2 M3 h3 M4 h4 (coBlock x) (coBlock y) = ((Spec.cross x (Spec.moved x y 10) 0 2 : ℝ) : EReal) := by
  refine Eq.trans (b := k0_pay221 (kernelRun.sl.r_10 c i M1 h1 M2 h2 M3 h3 M4 h4 (coBlock x) (coBlock y)) (kernelRun.sl.r_11 c M1 h1 (coBlock x)) (kernelRun.sl.v45 c i M1 h1 M2 h2 M3 h3 M4 h4 (coBlock x) (coBlock y))) rfl ?_
  rw [pay221_eq, e_src0, e_dst2, rowMul_real, sumT_real]; rfl
theorem e_h10 : kernelRun.sl.r_19 c i M1 h1 M2 h2 M3 h3 M4 h4 (coBlock x) (coBlock y) = ((Spec.cross x (Spec.moved x y 10) 1 0 : ℝ) : EReal) := by
  refine Eq.trans (b := k0_pay222 (kernelRun.sl.r_12 c M1 h1 (coBlock x)) (kernelRun.sl.r_14 c i M1 h1 M2 h2 M3 h3 M4 h4 (coBlock x) (coBlock y))) rfl ?_
  rw [pay222_eq, e_src1, e_dst0, rowMul_real, sumT_real]; rfl
theorem e_h11 : kernelRun.sl.r_20 c i M1 h1 M2 h2 M3 h3 M4 h4 (coBlock x) (coBlock y) = ((Spec.cross x (Spec.moved x y 10) 1 1 : ℝ) : EReal) := by
  refine Eq.trans (b := k0_pay223 (kernelRun.sl.r_12 c M1 h1 (coBlock x)) (kernelRun.sl.r_15 c i M1 h1 M2 h2 M3 h3 M4 h4 (coBlock x) (coBlock y))) rfl ?_
  rw [pay223_eq, e_src1, e_dst1, rowMul_real, sumT_real]; rfl
theorem e_h12 : kernelRun.sl.r_21 c i M1 h1 M2 h2 M3 h3 M4 h4 (coBlock x) (coBlock y) = ((Spec.cross x (Spec.moved x y 10) 1 2 : ℝ) : EReal) := by
  refine Eq.trans (b := k0_pay224 (kernelRun.sl.r_10 c i M1 h1 M2 h2 M3 h3 M4 h4 (coBlock x) (coBlock y)) (kernelRun.sl.r_12 c M1 h1 (coBlock x)) (kernelRun.sl.v45 c i M1 h1 M2 h2 M3 h3 M4 h4 (coBlock x) (coBlock y))) rfl ?_
  rw [pay224_eq, e_src1, e_dst2, rowMul_real, sumT_real]; rfl
theorem e_h20 : kernelRun.sl.r_22 c i M1 h1 M2 h2 M3 h3 M4 h4 (coBlock x) (coBlock y) = ((Spec.cross x (Spec.moved x y 10) 2 0 : ℝ) : EReal) := by
  refine Eq.trans (b := k0_pay225 (kernelRun.sl.r_13 c M1 h1 (coBlock x)) (kernelRun.sl.r_14 c i M1 h1 M2 h2 M3 h3 M4 h4 (coBlock x) (coBlock y))) rfl ?_
  rw [pay225_eq, e_src2, e_dst0, rowMul_real, sumT_real]; rfl
theorem e_h21 : kernelRun.sl.r_23 c i M1 h1 M2 h2 M3 h3 M4 h4 (coBlock x) (coBlock y) = ((Spec.cross x (Spec.moved x y 10) 2 1 : ℝ) : EReal) := by
  refine Eq.trans (b := k0_pay226 (kernelRun.sl.r_13 c M1 h1 (coBlock x)) (kernelRun.sl.r_15 c i M1 h1 M2 h2 M3 h3 M4 h4 (coBlock x) (coBlock y))) rfl ?_
  rw [pay226_eq, e_src2, e_dst1, rowMul_real, sumT_real]; rfl
theorem e_h22 : kernelRun.sl.r_24 c i M1 h1 M2 h2 M3 h3 M4 h4 (coBlock x) (coBlock y) = ((Spec.cross x (Spec.moved x y 10) 2 2 : ℝ) : EReal) := by
  refine Eq.trans (b := k0_pay227 (kernelRun.sl.r_10 c i M1 h1 M2 h2 M3 h3 M4 h4 (coBlock x) (coBlock y)) (kernelRun.sl.r_13 c M1 h1 (coBlock x)) (kernelRun.sl.v45 c i M1 h1 M2 h2 M3 h3 M4 h4 (coBlock x) (coBlock y))) rfl ?_
  rw [pay227_eq, e_src2, e_dst2, rowMul_real, sumT_real]; rfl

theorem e_rot : rotK (blockH c i M1 h1 M2 h2 M3 h3 M4 h4 (coBlock x) (coBlock y)) = co9 (Spec.rigidR x (Spec.moved x y 10)) := by
  have e : blockH c i M1 h1 M2 h2 M3 h3 M4 h4 (coBlock x) (coBlock y) = co9 (Spec.cross x (Spec.moved x y 10)) := by
    unfold blockH
    rw [e_h00, e_h01, e_h02, e_h10, e_h11, e_h12, e_h20, e_h21, e_h22]
    rfl
  rw [e, rotK_real]
  rfl
theorem e_t0 : kernelRun.sl.r_80 c i M1 h1 M2 h2 M3 h3 M4 h4 (coBlock x) (coBlock y) = ((Spec.rigidT x (Spec.moved x y 10) 0 : ℝ) : EReal) := by
  rw [block_t0, e_rot, e_mp0, e_mp1, e_mp2, e_mc0]
  exact transK_real _ _ _ _ _ _ _
theorem e_t1 : kernelRun.sl.r_81 c i M1 h1 M2 h2 M3 h3 M4 h4 (coBlock x) (coBlock y) = ((Spec.rigidT x (Spec.moved x y 10) 1 : ℝ) : EReal) := by
  rw [block_t1, e_rot, e_mp0, e_mp1, e_mp2, e_mc1]
  exact transK_real _ _ _ _ _ _ _
theorem e_t2 : kernelRun.sl.r_85 c i M1 h1 M2 h2 M3 h3 M4 h4 (coBlock x) (coBlock y) = ((Spec.rigidT x (Spec.moved x y 10) 2 : ℝ) : EReal) := by
  rw [block_t2, e_rot, e_mp0, e_mp1, e_mp2, e_mc2]
  exact transK_real _ _ _ _ _ _ _
theorem e_r00 : kernelRun.sl.r_70 c i M1 h1 M2 h2 M3 h3 M4 h4 (coBlock x) (coBlock y) = ((Spec.rigidR x (Spec.moved x y 10) 0 0 : ℝ) : EReal) :=
  (congrArg M9.m00 (block_R c i M1 h1 M2 h2 M3 h3 M4 h4 (coBlock x) (coBlock y))).trans (congrArg M9.m00 (e_rot c i M1 h1 M2 h2 M3 h3 M4 h4 x y))
theorem e_r01 : kernelRun.sl.r_71 c i M1 h1 M2 h2 M3 h3 M4 h4 (coBlock x) (coBlock y) = ((Spec.rigidR x (Spec.moved x y 10) 0 1 : ℝ) : EReal) :=
  (congrArg M9.m01 (block_R c i M1 h1 M2 h2 M3 h3 M4 h4 (coBlock x) (coBlock y))).trans (congrArg M9.m01 (e_rot c i M1 h1 M2 h2 M3 h3 M4 h4 x y))
theorem e_r02 : kernelRun.sl.r_72 c i M1 h1 M2 h2 M3 h3 M4 h4 (coBlock x) (coBlock y) = ((Spec.rigidR x (Spec.moved x y 10) 0 2 : ℝ) : EReal) :=
  (congrArg M9.m02 (block_R c i M1 h1 M2 h2 M3 h3 M4 h4 (coBlock x) (coBlock y))).trans (congrArg M9.m02 (e_rot c i M1 h1 M2 h2 M3 h3 M4 h4 x y))
theorem e_r10 : kernelRun.sl.r_73 c i M1 h1 M2 h2 M3 h3 M4 h4 (coBlock x) (coBlock y) = ((Spec.rigidR x (Spec.moved x y 10) 1 0 : ℝ) : EReal) :=
  (congrArg M9.m10 (block_R c i M1 h1 M2 h2 M3 h3 M4 h4 (coBlock x) (coBlock y))).trans (congrArg M9.m10 (e_rot c i M1 h1 M2 h2 M3 h3 M4 h4 x y))
theorem e_r11 : kernelRun.sl.r_74 c i M1 h1 M2 h2 M3 h3 M4 h4 (coBlock x) (coBlock y) = ((Spec.rigidR x (Spec.moved x y 10) 1 1 : ℝ) : EReal) :=
  (congrArg M9.m11 (block_R c i M1 h1 M2 h2 M3 h3 M4 h4 (coBlock x) (coBlock y))).trans (congrArg M9.m11 (e_rot c i M1 h1 M2 h2 M3 h3 M4 h4 x y))
theorem e_r12 : kernelRun.sl.r_75 c i M1 h1 M2 h2 M3 h3 M4 h4 (coBlock x) (coBlock y) = ((Spec.rigidR x (Spec.moved x y 10) 1 2 : ℝ) : EReal) :=
  (congrArg M9.m12 (block_R c i M1 h1 M2 h2 M3 h3 M4 h4 (coBlock x) (coBlock y))).trans (congrArg M9.m12 (e_rot c i M1 h1 M2 h2 M3 h3 M4 h4 x y))
theorem e_r20 : kernelRun.sl.r_77 c i M1 h1 M2 h2 M3 h3 M4 h4 (coBlock x) (coBlock y) = ((Spec.rigidR x (Spec.moved x y 10) 2 0 : ℝ) : EReal) :=
  (congrArg M9.m20 (block_R c i M1 h1 M2 h2 M3 h3 M4 h4 (coBlock x) (coBlock y))).trans (congrArg M9.m20 (e_rot c i M1 h1 M2 h2 M3 h3 M4 h4 x y))
theorem e_r21 : kernelRun.sl.r_78 c i M1 h1 M2 h2 M3 h3 M4 h4 (coBlock x) (coBlock y) = ((Spec.rigidR x (Spec.moved x y 10) 2 1 : ℝ) : EReal) :=
  (congrArg M9.m21 (block_R c i M1 h1 M2 h2 M3 h3 M4 h4 (coBlock x) (coBlock y))).trans (congrArg M9.m21 (e_rot c i M1 h1 M2 h2 M3 h3 M4 h4 x y))
theorem e_r22 : kernelRun.sl.r_79 c i M1 h1 M2 h2 M3 h3 M4 h4 (coBlock x) (coBlock y) = ((Spec.rigidR x (Spec.moved x y 10) 2 2 : ℝ) : EReal) :=
  (congrArg M9.m22 (block_R c i M1 h1 M2 h2 M3 h3 M4 h4 (coBlock x) (coBlock y))).trans (congrArg M9.m22 (e_rot c i M1 h1 M2 h2 M3 h3 M4 h4 x y))

/-- What the body leaves in the result's block. -/
theorem block_real : (kernelRun c i M1 h1 M2 h2 M3 h3 M4 h4 (coBlock x) (coBlock y)).1 = coBlockOut (Spec.result x y) := by
  have e8 : kernelRun.sl.r_88 c i M1 h1 M2 h2 M3 h3 M4 h4 (coBlock x) (coBlock y) = k0_pay329 (kernelRun.sl.r_77 c i M1 h1 M2 h2 M3 h3 M4 h4 (coBlock x) (coBlock y)) (kernelRun.sl.r_78 c i M1 h1 M2 h2 M3 h3 M4 h4 (coBlock x) (coBlock y)) (kernelRun.sl.r_79 c i M1 h1 M2 h2 M3 h3 M4 h4 (coBlock x) (coBlock y)) (kernelRun.sl.r_81 c i M1 h1 M2 h2 M3 h3 M4 h4 (coBlock x) (coBlock y)) rowIx colIx
      (k0_pay327 (kernelRun.sl.r_73 c i M1 h1 M2 h2 M3 h3 M4 h4 (coBlock x) (coBlock y)) (kernelRun.sl.r_74 c i M1 h1 M2 h2 M3 h3 M4 h4 (coBlock x) (coBlock y)) (kernelRun.sl.r_75 c i M1 h1 M2 h2 M3 h3 M4 h4 (coBlock x) (coBlock y)) (kernelRun.sl.r_80 c i M1 h1 M2 h2 M3 h3 M4 h4 (coBlock x) (coBlock y)) rowIx colIx (k0_pay325 (kernelRun.sl.r_70 c i M1 h1 M2 h2 M3 h3 M4 h4 (coBlock x) (coBlock y)) (kernelRun.sl.r_71 c i M1 h1 M2 h2 M3 h3 M4 h4 (coBlock x) (coBlock y)) (kernelRun.sl.r_72 c i M1 h1 M2 h2 M3 h3 M4 h4 (coBlock x) (coBlock y))) k0_pay326) k0_pay328 := rfl
  rw [block_eq, e8, e_r00, e_r01, e_r02, e_r10, e_r11, e_r12, e_r20, e_r21, e_r22, e_t0, e_t1, e_t2]
  exact out_real (Spec.rigidR x (Spec.moved x y 10)) (Spec.rigidT x (Spec.moved x y 10))

end

end Cert.Proof.KI
-- ==== Proof.RI.Lin.lean ====
/-
  Reading a long line of host operations through the equations its operations leave behind. In a line whose operations
  write buffers of increasing number and read buffers of smaller number, every written buffer holds, at the line's end,
  its operation's function of what the operands hold at the line's end. So a line of many operations is read as a
  conjunction of equations about one valuation, with no nested term.
-/
module

public import Idealize.ShloMosaic.Lib.StableHlo.RunRead

@[expose] public section

noncomputable section

namespace Cert.Proof.RI

open Idealize.ShloMosaic Idealize.ShloMosaic.StableHlo

variable {τ : Topo} {sig : RefSig} {Val : EltTy → Type}
variable {T Tx Ta Tb Tc Te Ty : BufTy}

/-- A buffer's number. -/
def key (r : Ref sig .tc) : ℕ := r.idx.val

/-- What a valuation holds at a typed reference. -/
def rd (V : Valuation τ sig Val) (x : TRef sig T) : T.Contents Val := x.ofBuf (V (Proc.devRef .tc x.ref))

theorem rd_congr {V V' : Valuation τ sig Val} {x : TRef sig T}
    (h : V' (Proc.devRef .tc x.ref) = V (Proc.devRef .tc x.ref)) : rd V' x = rd V x :=
  congrArg x.ofBuf h

/-- What an operation that writes one buffer says of every later valuation: `Q` holds of any `V'` that keeps the buffers
    numbered below `y` as they were before the operation and holds the operation's result at `y`. -/
def Leaves (op : HloOp τ sig Val) (y : Ref sig .tc) (Q : Valuation τ sig Val → Prop) : Prop :=
  op.writes = {Proc.devRef .tc y} ∧
  ∀ V V' : Valuation τ sig Val, (∀ r : Ref sig .tc, key r < key y → V' (Proc.devRef .tc r) = V (Proc.devRef .tc r)) →
    V' (Proc.devRef .tc y) = op.result V (Proc.devRef .tc y) → Q V'

/-- A line whose operations write buffers of increasing number, from `n` on, and read buffers of smaller number; the last
    argument is the conjunction of the equations they leave. -/
inductive Lin : ℕ → List (HloOp τ sig Val) → (Valuation τ sig Val → Prop) → Prop
  | nil (n : ℕ) : Lin n [] (fun _ => True)
  | cons {n : ℕ} {op : HloOp τ sig Val} {y : Ref sig .tc} {ops : List (HloOp τ sig Val)} {Q P : Valuation τ sig Val → Prop}
      (hn : n ≤ key y) (hQ : Leaves op y Q) (h : Lin (key y + 1) ops P) : Lin n (op :: ops) (fun V => Q V ∧ P V)

/-- The equations hold at the line's end, and buffers numbered below the line's are unchanged. -/
theorem Lin.sound {n : ℕ} {ops : List (HloOp τ sig Val)} {P : Valuation τ sig Val → Prop} (h : Lin n ops P) :
    ∀ V, P (after ops V) ∧ ∀ r : Ref sig .tc, key r < n → after ops V (Proc.devRef .tc r) = V (Proc.devRef .tc r) := by
  induction h with
  | nil n => exact fun V => ⟨trivial, fun _ _ => rfl⟩
  | @cons n op y ops Q P hn hQ h ih =>
    intro V
    obtain ⟨hP, hr⟩ := ih (op.result V)
    have below : ∀ r : Ref sig .tc, key r < key y → after (op :: ops) V (Proc.devRef .tc r) = V (Proc.devRef .tc r) := by
      intro r hk
      rw [after_cons, hr r (by omega)]
      refine op.result_of_not_mem V fun hm => ?_
      rw [hQ.1] at hm
      have := Proc.devRef_injective _ (Finset.mem_singleton.mp hm)
      subst this; omega
    exact ⟨⟨hQ.2 V _ below (by rw [after_cons, hr y (by omega)]), hP⟩, fun r hk => below r (by omega)⟩

theorem Lin.nullary {n : ℕ} {y : TRef sig Ty} {v : Ty.Contents Val} {ops : List (HloOp τ sig Val)} {P : Valuation τ sig Val → Prop}
    (hn : n ≤ key y.ref) (h : Lin (key y.ref + 1) ops P) :
    Lin n (TRef.nullary y v :: ops) (fun V => rd V y = v ∧ P V) :=
  .cons hn ⟨rfl, fun V V' _ hy => by
    show TRef.ofBuf y (V' (Proc.devRef .tc y.ref)) = _
    rw [hy, nullary_result]; simp⟩ h

theorem Lin.unary {n : ℕ} {x : TRef sig Tx} {y : TRef sig Ty} {f : Tx.Contents Val → Ty.Contents Val}
    {ops : List (HloOp τ sig Val)} {P : Valuation τ sig Val → Prop}
    (hx : key x.ref < key y.ref) (hn : n ≤ key y.ref) (h : Lin (key y.ref + 1) ops P) :
    Lin n (TRef.unary x y f :: ops) (fun V => rd V y = f (rd V x) ∧ P V) :=
  .cons hn ⟨rfl, fun V V' hr hy => by
    beta_reduce
    rw [rd_congr (hr x.ref hx)]
    show TRef.ofBuf y (V' (Proc.devRef .tc y.ref)) = _
    rw [hy, unary_result]; simp [rd]⟩ h

theorem Lin.binary {n : ℕ} {a : TRef sig Ta} {b : TRef sig Tb} {y : TRef sig Ty}
    {f : Ta.Contents Val → Tb.Contents Val → Ty.Contents Val}
    {ops : List (HloOp τ sig Val)} {P : Valuation τ sig Val → Prop}
    (ha : key a.ref < key y.ref) (hb : key b.ref < key y.ref) (hn : n ≤ key y.ref) (h : Lin (key y.ref + 1) ops P) :
    Lin n (TRef.binary a b y f :: ops) (fun V => rd V y = f (rd V a) (rd V b) ∧ P V) :=
  .cons hn ⟨rfl, fun V V' hr hy => by
    beta_reduce
    rw [rd_congr (hr a.ref ha), rd_congr (hr b.ref hb)]
    show TRef.ofBuf y (V' (Proc.devRef .tc y.ref)) = _
    rw [hy, binary_result]; simp [rd]⟩ h

theorem Lin.ternary {n : ℕ} {c : TRef sig Tc} {a : TRef sig Ta} {b : TRef sig Tb} {y : TRef sig Ty}
    {f : Tc.Contents Val → Ta.Contents Val → Tb.Contents Val → Ty.Contents Val}
    {ops : List (HloOp τ sig Val)} {P : Valuation τ sig Val → Prop}
    (hc : key c.ref < key y.ref) (ha : key a.ref < key y.ref) (hb : key b.ref < key y.ref) (hn : n ≤ key y.ref)
    (h : Lin (key y.ref + 1) ops P) :
    Lin n (TRef.ternary c a b y f :: ops) (fun V => rd V y = f (rd V c) (rd V a) (rd V b) ∧ P V) :=
  .cons hn ⟨rfl, fun V V' hr hy => by
    beta_reduce
    rw [rd_congr (hr c.ref hc), rd_congr (hr a.ref ha), rd_congr (hr b.ref hb)]
    show TRef.ofBuf y (V' (Proc.devRef .tc y.ref)) = _
    rw [hy, ternary_result]; simp [rd]⟩ h

theorem Lin.quaternary {n : ℕ} {a : TRef sig Ta} {b : TRef sig Tb} {c : TRef sig Tc} {e : TRef sig Te} {y : TRef sig Ty}
    {f : Ta.Contents Val → Tb.Contents Val → Tc.Contents Val → Te.Contents Val → Ty.Contents Val}
    {ops : List (HloOp τ sig Val)} {P : Valuation τ sig Val → Prop}
    (ha : key a.ref < key y.ref) (hb : key b.ref < key y.ref) (hc : key c.ref < key y.ref) (he : key e.ref < key y.ref)
    (hn : n ≤ key y.ref) (h : Lin (key y.ref + 1) ops P) :
    Lin n (TRef.quaternary a b c e y f :: ops) (fun V => rd V y = f (rd V a) (rd V b) (rd V c) (rd V e) ∧ P V) :=
  .cons hn ⟨rfl, fun V V' hr hy => by
    beta_reduce
    rw [rd_congr (hr a.ref ha), rd_congr (hr b.ref hb), rd_congr (hr c.ref hc), rd_congr (hr e.ref he)]
    show TRef.ofBuf y (V' (Proc.devRef .tc y.ref)) = _
    rw [hy, quaternary_result]; simp [rd]⟩ h

theorem Lin.reshape {n : ℕ} {x : TRef sig Tx} {y : TRef sig Ty} {he : Tx.elt = Ty.elt} {hs : Tx.shape.ShapeCasts Ty.shape}
    {ops : List (HloOp τ sig Val)} {P : Valuation τ sig Val → Prop}
    (hx : key x.ref < key y.ref) (hn : n ≤ key y.ref) (h : Lin (key y.ref + 1) ops P) :
    Lin n (TRef.reshape x y he hs :: ops)
      (fun V => rd V y = (fun i => he ▸ shapeCast Ty.shape (rd V x) hs i) ∧ P V) :=
  .cons hn ⟨rfl, fun V V' hr hy => by
    beta_reduce
    rw [rd_congr (hr x.ref hx)]
    show TRef.ofBuf y (V' (Proc.devRef .tc y.ref)) = _
    rw [hy, reshape_result]
    obtain ⟨xr, hxt, _, _⟩ := x; obtain ⟨yr, hyt, _, _⟩ := y
    subst hxt hyt
    rfl⟩ h

end Cert.Proof.RI
-- ==== Proof.RI.Rigid.lean ====
/-
  What the reference's rigid step computes, as functions of whole arrays (one 3 x 3 matrix, or one number, per cloud), and
  the equations of its operations folded into those functions piece by piece: the matrix H and the constant arrays, one
  Jacobi rotation, one exchange of columns, and the end.
-/
module

public import proofs.«01_k».proof.Proof.Gen.ReferenceIdeal.Run
public import proofs.«01_k».proof.Proof.RI.Lin

@[expose] public section

noncomputable section

namespace Cert.Proof.RI

open Cert.ReferenceIdeal Cert.ReferenceIdeal.Gen
open Idealize.ShloMosaic Idealize.ShloMosaic.TcCoe Idealize.ShloMosaic.StableHlo

variable {F : FTy → Type} [FloatOps F]

/-- Four 3 x 3 matrices. -/
abbrev M33 (F : FTy → Type) : Type := (⟨S4x3x3, .f32⟩ : BufTy).Contents (Elt F)
/-- Four 3 x 3 matrices of truth values. -/
abbrev B33 (F : FTy → Type) : Type := (⟨S4x3x3, .i1⟩ : BufTy).Contents (Elt F)
/-- Four numbers. -/
abbrev V4 (F : FTy → Type) : Type := (⟨S4, .f32⟩ : BufTy).Contents (Elt F)
/-- Four truth values. -/
abbrev B4 (F : FTy → Type) : Type := (⟨S4, .i1⟩ : BufTy).Contents (Elt F)
/-- Four 1 x 1 matrices. -/
abbrev M11 (F : FTy → Type) : Type := (⟨S4x1x1, .f32⟩ : BufTy).Contents (Elt F)
/-- Four clouds of points. -/
abbrev Cloud (F : FTy → Type) : Type := (⟨S4x4096x3, .f32⟩ : BufTy).Contents (Elt F)
/-- A row of three numbers per cloud. -/
abbrev Row (F : FTy → Type) : Type := (⟨S4x1x3, .f32⟩ : BufTy).Contents (Elt F)
/-- A point per cloud. -/
abbrev Pt (F : FTy → Type) : Type := (⟨S4x3, .f32⟩ : BufTy).Contents (Elt F)

/-- The same number for every cloud. -/
def numT (b : BitVec 32) : V4 F := broadcastInDim S4 ![] bcast_S_S4 (constant S_ .f32 b)
/-- A number per cloud, at every entry of a matrix. -/
def everyT (x : V4 F) : M33 F := broadcastInDim S4x3x3 ![0] bcast_S4_S4x3x3_0 x
/-- A truth value per cloud, at every entry of a matrix. -/
def everyB (x : B4 F) : B33 F := broadcastInDim S4x3x3 ![0] bcast_S4_S4x3x3_0 x
/-- The place `k` in every entry. -/
def placeT (k : BitVec 32) : (⟨S4x3x3, .i32⟩ : BufTy).Contents (Elt F) := broadcastInDim S4x3x3 ![] bcast_S_S4x3x3 (constantI S_ 32 k)
/-- Whether an entry stands at row `i` and column `j`. -/
def atT (i j : BitVec 32) : B33 F :=
  andi (cmpi .eq (iotaInDim S4x3x3 32 1 : (⟨S4x3x3, .i32⟩ : BufTy).Contents (Elt F)) (placeT (F := F) i))
    (cmpi .eq (iotaInDim S4x3x3 32 2 : (⟨S4x3x3, .i32⟩ : BufTy).Contents (Elt F)) (placeT (F := F) j))
/-- The identity matrices. -/
def eyeT : M33 F :=
  select (cmpi .eq (iotaInDim S4x3x3 32 1 : (⟨S4x3x3, .i32⟩ : BufTy).Contents (Elt F)) (iotaInDim S4x3x3 32 2)) (everyT (numT 0x3F800000#32)) (everyT (numT 0x00000000#32))
/-- The matrix product. -/
def mulT (A B : M33 F) : M33 F := Host.dotGeneral dot_S4x3x3_S4x3x3_S4x3x3_2_1_1_2_0_0 none A B
/-- The product of the transpose of the first matrix and the second. -/
def tmulT (A B : M33 F) : M33 F := Host.dotGeneral dot_S4x3x3_S4x3x3_S4x3x3_1_1_2_2_0_0 none A B
/-- The product of the first matrix and the transpose of the second. -/
def mulTT (A B : M33 F) : M33 F := Host.dotGeneral dot_S4x3x3_S4x3x3_S4x3x3_2_2_1_1_0_0 none A B
/-- The one entry of 1 x 1 matrices. -/
def entryT (x : M11 F) : V4 F := shapeCast S4 x shapeCasts_S4x1x1_S4

/-- The entry (0, 0). -/
def ent00 (x : M33 F) : M11 F := extractStridedSlice S4x1x1 ![0, 0, 0] x slices_S4x3x3_S4x1x1_0_0_0
/-- The entry (0, 1). -/
def ent01 (x : M33 F) : M11 F := extractStridedSlice S4x1x1 ![0, 0, 1] x slices_S4x3x3_S4x1x1_0_0_1
/-- The entry (0, 2). -/
def ent02 (x : M33 F) : M11 F := extractStridedSlice S4x1x1 ![0, 0, 2] x slices_S4x3x3_S4x1x1_0_0_2
/-- The entry (1, 0). -/
def ent10 (x : M33 F) : M11 F := extractStridedSlice S4x1x1 ![0, 1, 0] x slices_S4x3x3_S4x1x1_0_1_0
/-- The entry (1, 1). -/
def ent11 (x : M33 F) : M11 F := extractStridedSlice S4x1x1 ![0, 1, 1] x slices_S4x3x3_S4x1x1_0_1_1
/-- The entry (1, 2). -/
def ent12 (x : M33 F) : M11 F := extractStridedSlice S4x1x1 ![0, 1, 2] x slices_S4x3x3_S4x1x1_0_1_2
/-- The entry (2, 0). -/
def ent20 (x : M33 F) : M11 F := extractStridedSlice S4x1x1 ![0, 2, 0] x slices_S4x3x3_S4x1x1_0_2_0
/-- The entry (2, 1). -/
def ent21 (x : M33 F) : M11 F := extractStridedSlice S4x1x1 ![0, 2, 1] x slices_S4x3x3_S4x1x1_0_2_1
/-- The entry (2, 2). -/
def ent22 (x : M33 F) : M11 F := extractStridedSlice S4x1x1 ![0, 2, 2] x slices_S4x3x3_S4x1x1_0_2_2

/-- The tangent of the rotation that annuls the entry `apq`; 0 where `|apq|` is below 1e-30. -/
def tanT (apq aqq app : V4 F) : V4 F :=
  have small : B4 F := cmpf .olt (Host.absf apq) (numT 0x0DA24260#32)
  have theta : V4 F := Host.divf (subf aqq app) (mulf (numT 0x40000000#32) (select small (numT 0x3F800000#32) apq))
  have root : V4 F := Host.sqrt (addf (mulf theta theta) (numT 0x3F800000#32))
  select small (numT 0x00000000#32) (Host.divf (numT 0x3F800000#32)
    (addf theta (select (cmpf .oge theta (numT 0x00000000#32)) root (Host.negf root))))
/-- The cosine, from the tangent. -/
def cosT (t : V4 F) : V4 F := Host.rsqrt (addf (mulf t t) (numT 0x3F800000#32))
/-- The rotation matrices with tangents `t`: the cosine where `dg` holds, the sine at `pm`, its negative at `qm`. -/
def rotJ (dg pm qm : B33 F) (t : V4 F) : M33 F :=
  select dg (everyT (cosT t)) (select pm (everyT (mulf t (cosT t))) (select qm (Host.negf (everyT (mulf t (cosT t)))) eyeT))
/-- One Jacobi rotation of the pair (A, V). -/
def rotT (dg bd pm qm : B33 F) (fpq fqq fpp : M33 F → M11 F) (s : M33 F × M33 F) : M33 F × M33 F :=
  have J : M33 F := rotJ dg pm qm (tanT (entryT (fpq s.1)) (entryT (fqq s.1)) (entryT (fpp s.1)))
  (select bd (everyT (numT 0x00000000#32)) (tmulT J (mulT s.1 J)), mulT s.2 J)
/-- One exchange of columns of the pair (A, V), where the later diagonal entry of A is the greater. -/
def swapT (dg bd : B33 F) (fq fp : M33 F → M11 F) (s : M33 F × M33 F) : M33 F × M33 F :=
  have J : M33 F := select (everyB (F := F) (cmpf .ogt (entryT (fq s.1)) (entryT (fp s.1))))
    (select dg (everyT (numT 0x00000000#32)) (select bd (everyT (numT 0x3F800000#32)) eyeT)) eyeT
  (tmulT J (mulT s.1 J), mulT s.2 J)
/-- The masks of a plane: the two diagonal places, and the two beside them. -/
def dgT (p q : BitVec 32) : B33 F := ori (atT (F := F) p p) (atT (F := F) q q)
@[inherit_doc dgT] def bdT (p q : BitVec 32) : B33 F := ori (atT (F := F) p q) (atT (F := F) q p)
/-- One sweep. -/
def sweepT (s : M33 F × M33 F) : M33 F × M33 F :=
  rotT (dgT 1 2) (bdT 1 2) (atT 1 2) (atT 2 1) ent12 ent22 ent11
    (rotT (dgT 0 2) (bdT 0 2) (atT 0 2) (atT 2 0) ent02 ent22 ent00
      (rotT (dgT 0 1) (bdT 0 1) (atT 0 1) (atT 1 0) ent01 ent11 ent00 s))
/-- The three exchanges. -/
def sortT (s : M33 F × M33 F) : M33 F × M33 F :=
  swapT (dgT 1 2) (bdT 1 2) ent22 ent11 (swapT (dgT 0 2) (bdT 0 2) ent22 ent00 (swapT (dgT 0 1) (bdT 0 1) ent11 ent00 s))
/-- The mean point. -/
def meanT (x : Cloud F) : Row F :=
  Host.divf (broadcastInDim S4x1x3 ![0, 2] bcast_S4x3_S4x1x3_0_2 (Host.reduceAdd x (constant S_ .f32 0x00000000#32) reducesTo_S4x4096x3_S4x3_d1 h_S_))
    (broadcastInDim S4x1x3 ![] bcast_S_S4x1x3 (constant S_ .f32 0x45800000#32))
/-- The points less their mean. -/
def centredT (x : Cloud F) : Cloud F := subf x (broadcastInDim S4x4096x3 ![0, 1, 2] bcast_S4x1x3_S4x4096x3_0_1_2 (meanT x))
/-- The matrix H. -/
def crossT (x y : Cloud F) : M33 F := Host.dotGeneral dot_S4x4096x3_S4x4096x3_S4x3x3_1_1_2_2_0_0 none (centredT x) (centredT y)
/-- The right singular vectors of H. -/
def vT (H : M33 F) : M33 F := (sortT (sweepT^[6] (tmulT H H, eyeT))).2
/-- The left singular vectors, from H and the right ones. -/
def uT (H V : M33 F) : M33 F :=
  have W : M33 F := mulT H V
  mulf W (broadcastInDim S4x3x3 ![0, 1, 2] bcast_S4x1x3_S4x3x3_0_1_2 (Host.rsqrt (maximumf
    (broadcastInDim S4x1x3 ![0, 2] bcast_S4x3_S4x1x3_0_2 (Host.reduceAdd (mulf W W) (constant S_ .f32 0x00000000#32) reducesTo_S4x3x3_S4x3_d1 h_S_))
    (broadcastInDim S4x1x3 ![] bcast_S_S4x1x3 (constant S_ .f32 0x0DA24260#32)))))
/-- The determinant. -/
def detT (M : M33 F) : V4 F :=
  have e00 : V4 F := entryT (ent00 M); have e01 : V4 F := entryT (ent01 M); have e02 : V4 F := entryT (ent02 M)
  have e10 : V4 F := entryT (ent10 M); have e11 : V4 F := entryT (ent11 M); have e12 : V4 F := entryT (ent12 M)
  have e20 : V4 F := entryT (ent20 M); have e21 : V4 F := entryT (ent21 M); have e22 : V4 F := entryT (ent22 M)
  addf (subf (mulf e00 (subf (mulf e11 e22) (mulf e12 e21))) (mulf e01 (subf (mulf e10 e22) (mulf e12 e20))))
    (mulf e02 (subf (mulf e10 e21) (mulf e11 e20)))
/-- The rotation R, from the singular vectors. -/
def rT (U V : M33 F) : M33 F :=
  mulTT (select (cmpi .eq (iotaInDim S4x3x3 32 2 : (⟨S4x3x3, .i32⟩ : BufTy).Contents (Elt F)) (placeT (F := F) 2))
    (mulf V (everyT (select (cmpf .oge (detT (mulTT V U)) (numT 0x00000000#32)) (numT 0x3F800000#32) (numT 0xBF800000#32)))) V) U
/-- The rotation of the rigid step from one cloud to another. -/
def rigidR (x y : Cloud F) : M33 F := rT (uT (crossT x y) (vT (crossT x y))) (vT (crossT x y))
/-- The translation of the rigid step. -/
def rigidT (x y : Cloud F) : Pt F :=
  subf (shapeCast S4x3 (meanT y) shapeCasts_S4x1x3_S4x3)
    (Host.dotGeneral dot_S4x3x3_S4x3_S4x3_2_1_1_n_0_0 none (rigidR x y) (shapeCast S4x3 (meanT x) shapeCasts_S4x1x3_S4x3))

/-- The operations before the first rotation: the matrix H, and the constant arrays. -/
theorem front_chunk {cst cst_0 cst_1 cst_2 cst_3 cst_4 cst_5 cst_6 : (⟨S_, .f32⟩ : BufTy).Contents (Elt F)} {x y v8 v9 v10 v11 : (⟨S4x4096x3, .f32⟩ : BufTy).Contents (Elt F)} {v0 v4 : (⟨S4x3, .f32⟩ : BufTy).Contents (Elt F)} {v1 v2 v3 v5 v6 v7 : (⟨S4x1x3, .f32⟩ : BufTy).Contents (Elt F)} {v12 v17 v18 v58 v59 : M33 F} {v13 v14 v15 v16 : V4 F} {v19 v20 v21 v22 v23 : (⟨S4x3x3, .i32⟩ : BufTy).Contents (Elt F)} {c c_7 c_8 : (⟨S_, .i32⟩ : BufTy).Contents (Elt F)} {v24 v25 v26 v27 v28 v29 v30 v31 v32 v33 v34 v35 v36 v37 v38 v39 v40 v41 v42 v43 v44 v45 v46 v47 v48 v49 v50 v51 v52 v53 v54 v55 v56 v57 : B33 F} {P : Prop}
    (E :
      cst = (constant S_ .f32 0x00000000#32) ∧
      v0 = (fun x v => Host.reduceAdd x v reducesTo_S4x4096x3_S4x3_d1 h_S_) x cst ∧
      v1 = (broadcastInDim S4x1x3 ![0, 2] bcast_S4x3_S4x1x3_0_2) v0 ∧
      cst_0 = (constant S_ .f32 0x45800000#32) ∧
      v2 = (broadcastInDim S4x1x3 ![] bcast_S_S4x1x3) cst_0 ∧
      v3 = Host.divf v1 v2 ∧
      cst_1 = (constant S_ .f32 0x00000000#32) ∧
      v4 = (fun x v => Host.reduceAdd x v reducesTo_S4x4096x3_S4x3_d1 h_S_) y cst_1 ∧
      v5 = (broadcastInDim S4x1x3 ![0, 2] bcast_S4x3_S4x1x3_0_2) v4 ∧
      cst_2 = (constant S_ .f32 0x45800000#32) ∧
      v6 = (broadcastInDim S4x1x3 ![] bcast_S_S4x1x3) cst_2 ∧
      v7 = Host.divf v5 v6 ∧
      v8 = (broadcastInDim S4x4096x3 ![0, 1, 2] bcast_S4x1x3_S4x4096x3_0_1_2) v3 ∧
      v9 = subf x v8 ∧
      v10 = (broadcastInDim S4x4096x3 ![0, 1, 2] bcast_S4x1x3_S4x4096x3_0_1_2) v7 ∧
      v11 = subf y v10 ∧
      v12 = (fun l r => Host.dotGeneral dot_S4x4096x3_S4x4096x3_S4x3x3_1_1_2_2_0_0 none l r) v9 v11 ∧
      cst_3 = (constant S_ .f32 0x00000000#32) ∧
      v13 = (broadcastInDim S4 ![] bcast_S_S4) cst_3 ∧
      cst_4 = (constant S_ .f32 0x3F800000#32) ∧
      v14 = (broadcastInDim S4 ![] bcast_S_S4) cst_4 ∧
      cst_5 = (constant S_ .f32 0x40000000#32) ∧
      v15 = (broadcastInDim S4 ![] bcast_S_S4) cst_5 ∧
      cst_6 = (constant S_ .f32 0x0DA24260#32) ∧
      v16 = (broadcastInDim S4 ![] bcast_S_S4) cst_6 ∧
      v17 = (broadcastInDim S4x3x3 ![0] bcast_S4_S4x3x3_0) v13 ∧
      v18 = (broadcastInDim S4x3x3 ![0] bcast_S4_S4x3x3_0) v14 ∧
      v19 = (iotaInDim S4x3x3 32 1) ∧
      v20 = (iotaInDim S4x3x3 32 2) ∧
      c = (constantI S_ 32 0#32) ∧
      v21 = (broadcastInDim S4x3x3 ![] bcast_S_S4x3x3) c ∧
      c_7 = (constantI S_ 32 1#32) ∧
      v22 = (broadcastInDim S4x3x3 ![] bcast_S_S4x3x3) c_7 ∧
      c_8 = (constantI S_ 32 2#32) ∧
      v23 = (broadcastInDim S4x3x3 ![] bcast_S_S4x3x3) c_8 ∧
      v24 = (cmpi .eq) v19 v21 ∧
      v25 = (cmpi .eq) v20 v21 ∧
      v26 = andi v24 v25 ∧
      v27 = (cmpi .eq) v19 v21 ∧
      v28 = (cmpi .eq) v20 v22 ∧
      v29 = andi v27 v28 ∧
      v30 = (cmpi .eq) v19 v21 ∧
      v31 = (cmpi .eq) v20 v23 ∧
      v32 = andi v30 v31 ∧
      v33 = (cmpi .eq) v19 v22 ∧
      v34 = (cmpi .eq) v20 v21 ∧
      v35 = andi v33 v34 ∧
      v36 = (cmpi .eq) v19 v22 ∧
      v37 = (cmpi .eq) v20 v22 ∧
      v38 = andi v36 v37 ∧
      v39 = (cmpi .eq) v19 v22 ∧
      v40 = (cmpi .eq) v20 v23 ∧
      v41 = andi v39 v40 ∧
      v42 = (cmpi .eq) v19 v23 ∧
      v43 = (cmpi .eq) v20 v21 ∧
      v44 = andi v42 v43 ∧
      v45 = (cmpi .eq) v19 v23 ∧
      v46 = (cmpi .eq) v20 v22 ∧
      v47 = andi v45 v46 ∧
      v48 = (cmpi .eq) v19 v23 ∧
      v49 = (cmpi .eq) v20 v23 ∧
      v50 = andi v48 v49 ∧
      v51 = ori v26 v38 ∧
      v52 = ori v26 v50 ∧
      v53 = ori v38 v50 ∧
      v54 = ori v29 v35 ∧
      v55 = ori v32 v44 ∧
      v56 = ori v41 v47 ∧
      v57 = (cmpi .eq) v19 v20 ∧
      v58 = select v57 v18 v17 ∧
      v59 = (fun l r => Host.dotGeneral dot_S4x3x3_S4x3x3_S4x3x3_1_1_2_2_0_0 none l r) v12 v12 ∧
      P) :
    v3 = meanT x ∧ v7 = meanT y ∧ v12 = crossT x y ∧ v13 = numT 0x00000000#32 ∧ v14 = numT 0x3F800000#32 ∧ v15 = numT 0x40000000#32 ∧ v16 = numT 0x0DA24260#32 ∧ v17 = everyT (numT 0x00000000#32) ∧ v18 = everyT (numT 0x3F800000#32) ∧ v29 = atT 0 1 ∧ v32 = atT 0 2 ∧ v35 = atT 1 0 ∧ v41 = atT 1 2 ∧ v44 = atT 2 0 ∧ v47 = atT 2 1 ∧ v51 = dgT 0 1 ∧ v52 = dgT 0 2 ∧ v53 = dgT 1 2 ∧ v54 = bdT 0 1 ∧ v55 = bdT 0 2 ∧ v56 = bdT 1 2 ∧ v58 = eyeT ∧ v59 = tmulT (crossT x y) (crossT x y) ∧ P := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, h⟩ := E
  exact ⟨rfl, rfl, rfl, rfl, rfl, rfl, rfl, rfl, rfl, rfl, rfl, rfl, rfl, rfl, rfl, rfl, rfl, rfl, rfl, rfl, rfl, rfl, rfl, h⟩

/-- The operations of one Jacobi rotation. -/
theorem rot_chunk (fpq fqq fpp : M33 F → M11 F) {dg' bd' pm' qm' : B33 F} {A v85 v86 v87 eye v88 v89 v90 v91 v92 v93 zeros v94 W : M33 F} {v60 v64 v66 : M11 F} {v61 v62 tiny v65 v67 v68 one v69 two v70 v71 v72 v73 v74 zero v76 v77 v78 v79 v80 v81 v82 v83 v84 : V4 F} {v63 v75 : B4 F} {qm pm dg bd : B33 F}
    (hzero : zero = numT 0x00000000#32) (hone : one = numT 0x3F800000#32) (htwo : two = numT 0x40000000#32) (htiny : tiny = numT 0x0DA24260#32) (hzeros : zeros = everyT (numT 0x00000000#32)) (heye : eye = eyeT)
    (hdg : dg = dg') (hbd : bd = bd') (hpm : pm = pm') (hqm : qm = qm') {s : M33 F × M33 F} (hs : (A, W) = s) {P : Prop}
    (E :
      v60 = fpq A ∧
      v61 = (fun i => (rfl : (.f32 : EltTy) = .f32) ▸ shapeCast S4 v60 shapeCasts_S4x1x1_S4 i) ∧
      v62 = Host.absf v61 ∧
      v63 = (cmpf .olt) v62 tiny ∧
      v64 = fqq A ∧
      v65 = (fun i => (rfl : (.f32 : EltTy) = .f32) ▸ shapeCast S4 v64 shapeCasts_S4x1x1_S4 i) ∧
      v66 = fpp A ∧
      v67 = (fun i => (rfl : (.f32 : EltTy) = .f32) ▸ shapeCast S4 v66 shapeCasts_S4x1x1_S4 i) ∧
      v68 = subf v65 v67 ∧
      v69 = select v63 one v61 ∧
      v70 = mulf two v69 ∧
      v71 = Host.divf v68 v70 ∧
      v72 = mulf v71 v71 ∧
      v73 = addf v72 one ∧
      v74 = Host.sqrt v73 ∧
      v75 = (cmpf .oge) v71 zero ∧
      v76 = Host.negf v74 ∧
      v77 = select v75 v74 v76 ∧
      v78 = addf v71 v77 ∧
      v79 = Host.divf one v78 ∧
      v80 = select v63 zero v79 ∧
      v81 = mulf v80 v80 ∧
      v82 = addf v81 one ∧
      v83 = Host.rsqrt v82 ∧
      v84 = mulf v80 v83 ∧
      v85 = (broadcastInDim S4x3x3 ![0] bcast_S4_S4x3x3_0) v84 ∧
      v86 = (broadcastInDim S4x3x3 ![0] bcast_S4_S4x3x3_0) v83 ∧
      v87 = Host.negf v85 ∧
      v88 = select qm v87 eye ∧
      v89 = select pm v85 v88 ∧
      v90 = select dg v86 v89 ∧
      v91 = (fun l r => Host.dotGeneral dot_S4x3x3_S4x3x3_S4x3x3_2_1_1_2_0_0 none l r) A v90 ∧
      v92 = (fun l r => Host.dotGeneral dot_S4x3x3_S4x3x3_S4x3x3_1_1_2_2_0_0 none l r) v90 v91 ∧
      v93 = (fun l r => Host.dotGeneral dot_S4x3x3_S4x3x3_S4x3x3_2_1_1_2_0_0 none l r) W v90 ∧
      v94 = select bd zeros v92 ∧
      P) :
    (v94, v93) = rotT dg' bd' pm' qm' fpq fqq fpp s ∧ P := by
  subst hzero hone htwo htiny hzeros heye hdg hbd hpm hqm hs
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, h⟩ := E
  exact ⟨rfl, h⟩

/-- The operations of one exchange. -/
theorem swap_chunk (fq fp : M33 F → M11 F) {dg' bd' : B33 F} {bd dg v697 : B33 F} {ones eye v690 zeros v691 A v698 v699 v700 W v701 : M33 F} {v692 v694 : M11 F} {v693 v695 : V4 F} {v696 : B4 F}
    (hzeros : zeros = everyT (numT 0x00000000#32)) (hones : ones = everyT (numT 0x3F800000#32)) (heye : eye = eyeT)
    (hdg : dg = dg') (hbd : bd = bd') {s : M33 F × M33 F} (hs : (A, W) = s) {P : Prop}
    (E :
      v690 = select bd ones eye ∧
      v691 = select dg zeros v690 ∧
      v692 = fq A ∧
      v693 = (fun i => (rfl : (.f32 : EltTy) = .f32) ▸ shapeCast S4 v692 shapeCasts_S4x1x1_S4 i) ∧
      v694 = fp A ∧
      v695 = (fun i => (rfl : (.f32 : EltTy) = .f32) ▸ shapeCast S4 v694 shapeCasts_S4x1x1_S4 i) ∧
      v696 = (cmpf .ogt) v693 v695 ∧
      v697 = (broadcastInDim S4x3x3 ![0] bcast_S4_S4x3x3_0) v696 ∧
      v698 = select v697 v691 eye ∧
      v699 = (fun l r => Host.dotGeneral dot_S4x3x3_S4x3x3_S4x3x3_2_1_1_2_0_0 none l r) A v698 ∧
      v700 = (fun l r => Host.dotGeneral dot_S4x3x3_S4x3x3_S4x3x3_1_1_2_2_0_0 none l r) v698 v699 ∧
      v701 = (fun l r => Host.dotGeneral dot_S4x3x3_S4x3x3_S4x3x3_2_1_1_2_0_0 none l r) W v698 ∧
      P) :
    (v700, v701) = swapT dg' bd' fq fp s ∧ P := by
  subst hzeros hones heye hdg hbd hs
  obtain ⟨rfl, rfl, rfl, rfl, rfl, rfl, rfl, rfl, rfl, rfl, rfl, rfl, h⟩ := E
  exact ⟨rfl, h⟩

/-- The operations after the exchanges: the left singular vectors, the rotation and the translation. -/
theorem end_chunk {x y : Cloud F} {H W v726 v727 v733 v734 v735 v771 v775 v776 v777 R B : M33 F} {cst_9 cst_10 cst_11 cst_12 cst_13 : (⟨S_, .f32⟩ : BufTy).Contents (Elt F)} {v728 v779 v780 v781 t : (⟨S4x3, .f32⟩ : BufTy).Contents (Elt F)} {v729 v730 v731 v732 v7 v3 : (⟨S4x1x3, .f32⟩ : BufTy).Contents (Elt F)} {v736 v738 v740 v742 v744 v746 v748 v750 v752 : M11 F} {v737 v739 v741 v743 v745 v747 v749 v751 v753 v754 v755 v756 v757 v758 v759 v760 v761 v762 v763 v764 v765 v766 v767 v768 call0_v0 call0_v1 v770 : V4 F} {v769 : B4 F} {v772 v773 : (⟨S4x3x3, .i32⟩ : BufTy).Contents (Elt F)} {c_14 : (⟨S_, .i32⟩ : BufTy).Contents (Elt F)} {v774 : B33 F}
    (hH : H = crossT x y) (h3 : v3 = meanT x) (h7 : v7 = meanT y) (hW : (B, W) = sortT (sweepT^[6] (tmulT (crossT x y) (crossT x y), eyeT))) {P : Prop}
    (E :
      v726 = (fun l r => Host.dotGeneral dot_S4x3x3_S4x3x3_S4x3x3_2_1_1_2_0_0 none l r) H W ∧
      v727 = mulf v726 v726 ∧
      cst_9 = (constant S_ .f32 0x00000000#32) ∧
      v728 = (fun x v => Host.reduceAdd x v reducesTo_S4x3x3_S4x3_d1 h_S_) v727 cst_9 ∧
      v729 = (broadcastInDim S4x1x3 ![0, 2] bcast_S4x3_S4x1x3_0_2) v728 ∧
      cst_10 = (constant S_ .f32 0x0DA24260#32) ∧
      v730 = (broadcastInDim S4x1x3 ![] bcast_S_S4x1x3) cst_10 ∧
      v731 = maximumf v729 v730 ∧
      v732 = Host.rsqrt v731 ∧
      v733 = (broadcastInDim S4x3x3 ![0, 1, 2] bcast_S4x1x3_S4x3x3_0_1_2) v732 ∧
      v734 = mulf v726 v733 ∧
      v735 = (fun l r => Host.dotGeneral dot_S4x3x3_S4x3x3_S4x3x3_2_2_1_1_0_0 none l r) W v734 ∧
      v736 = (extractStridedSlice S4x1x1 ![0, 0, 0] · slices_S4x3x3_S4x1x1_0_0_0) v735 ∧
      v737 = (fun i => (rfl : (.f32 : EltTy) = .f32) ▸ shapeCast S4 v736 shapeCasts_S4x1x1_S4 i) ∧
      v738 = (extractStridedSlice S4x1x1 ![0, 0, 1] · slices_S4x3x3_S4x1x1_0_0_1) v735 ∧
      v739 = (fun i => (rfl : (.f32 : EltTy) = .f32) ▸ shapeCast S4 v738 shapeCasts_S4x1x1_S4 i) ∧
      v740 = (extractStridedSlice S4x1x1 ![0, 0, 2] · slices_S4x3x3_S4x1x1_0_0_2) v735 ∧
      v741 = (fun i => (rfl : (.f32 : EltTy) = .f32) ▸ shapeCast S4 v740 shapeCasts_S4x1x1_S4 i) ∧
      v742 = (extractStridedSlice S4x1x1 ![0, 1, 0] · slices_S4x3x3_S4x1x1_0_1_0) v735 ∧
      v743 = (fun i => (rfl : (.f32 : EltTy) = .f32) ▸ shapeCast S4 v742 shapeCasts_S4x1x1_S4 i) ∧
      v744 = (extractStridedSlice S4x1x1 ![0, 1, 1] · slices_S4x3x3_S4x1x1_0_1_1) v735 ∧
      v745 = (fun i => (rfl : (.f32 : EltTy) = .f32) ▸ shapeCast S4 v744 shapeCasts_S4x1x1_S4 i) ∧
      v746 = (extractStridedSlice S4x1x1 ![0, 1, 2] · slices_S4x3x3_S4x1x1_0_1_2) v735 ∧
      v747 = (fun i => (rfl : (.f32 : EltTy) = .f32) ▸ shapeCast S4 v746 shapeCasts_S4x1x1_S4 i) ∧
      v748 = (extractStridedSlice S4x1x1 ![0, 2, 0] · slices_S4x3x3_S4x1x1_0_2_0) v735 ∧
      v749 = (fun i => (rfl : (.f32 : EltTy) = .f32) ▸ shapeCast S4 v748 shapeCasts_S4x1x1_S4 i) ∧
      v750 = (extractStridedSlice S4x1x1 ![0, 2, 1] · slices_S4x3x3_S4x1x1_0_2_1) v735 ∧
      v751 = (fun i => (rfl : (.f32 : EltTy) = .f32) ▸ shapeCast S4 v750 shapeCasts_S4x1x1_S4 i) ∧
      v752 = (extractStridedSlice S4x1x1 ![0, 2, 2] · slices_S4x3x3_S4x1x1_0_2_2) v735 ∧
      v753 = (fun i => (rfl : (.f32 : EltTy) = .f32) ▸ shapeCast S4 v752 shapeCasts_S4x1x1_S4 i) ∧
      v754 = mulf v745 v753 ∧
      v755 = mulf v747 v751 ∧
      v756 = subf v754 v755 ∧
      v757 = mulf v737 v756 ∧
      v758 = mulf v743 v753 ∧
      v759 = mulf v747 v749 ∧
      v760 = subf v758 v759 ∧
      v761 = mulf v739 v760 ∧
      v762 = subf v757 v761 ∧
      v763 = mulf v743 v751 ∧
      v764 = mulf v745 v749 ∧
      v765 = subf v763 v764 ∧
      v766 = mulf v741 v765 ∧
      v767 = addf v762 v766 ∧
      cst_11 = (constant S_ .f32 0x00000000#32) ∧
      v768 = (broadcastInDim S4 ![] bcast_S_S4) cst_11 ∧
      v769 = (cmpf .oge) v767 v768 ∧
      cst_12 = (constant S_ .f32 0x3F800000#32) ∧
      cst_13 = (constant S_ .f32 0xBF800000#32) ∧
      call0_v0 = (broadcastInDim S4 ![] bcast_S_S4) cst_12 ∧
      call0_v1 = (broadcastInDim S4 ![] bcast_S_S4) cst_13 ∧
      v770 = select v769 call0_v0 call0_v1 ∧
      v771 = (broadcastInDim S4x3x3 ![0] bcast_S4_S4x3x3_0) v770 ∧
      v772 = (iotaInDim S4x3x3 32 2) ∧
      c_14 = (constantI S_ 32 2#32) ∧
      v773 = (broadcastInDim S4x3x3 ![] bcast_S_S4x3x3) c_14 ∧
      v774 = (cmpi .eq) v772 v773 ∧
      v775 = id v771 ∧
      v776 = mulf W v775 ∧
      v777 = select v774 v776 W ∧
      R = (fun l r => Host.dotGeneral dot_S4x3x3_S4x3x3_S4x3x3_2_2_1_1_0_0 none l r) v777 v734 ∧
      v779 = (fun i => (rfl : (.f32 : EltTy) = .f32) ▸ shapeCast S4x3 v7 shapeCasts_S4x1x3_S4x3 i) ∧
      v780 = (fun i => (rfl : (.f32 : EltTy) = .f32) ▸ shapeCast S4x3 v3 shapeCasts_S4x1x3_S4x3 i) ∧
      v781 = (fun l r => Host.dotGeneral dot_S4x3x3_S4x3_S4x3_2_1_1_n_0_0 none l r) R v780 ∧
      t = subf v779 v781 ∧
      P) :
    R = rigidR x y ∧ t = rigidT x y := by
  have hV : W = vT (crossT x y) := congrArg Prod.snd hW
  clear hW
  subst hH h3 h7 hV
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, h⟩ := E
  exact ⟨rfl, rfl⟩

end Cert.Proof.RI
-- ==== Proof.RI.Sites.lean ====
/-
  The rigid step where the reference performs it: inside the loop, from the moved points to their nearest points, and after
  the loop, from the given points to the moved ones. Each line of operations leaves the rotation and the translation of
  the rigid step.
-/
module

public import proofs.«01_k».proof.Proof.RI.Rigid

@[expose] public section

noncomputable section

namespace Cert.Proof.RI

open Cert.ReferenceIdeal Cert.ReferenceIdeal.Gen
open Idealize.ShloMosaic Idealize.ShloMosaic.TcCoe Idealize.ShloMosaic.StableHlo

variable {F : FTy → Type} [FloatOps F]

set_option maxHeartbeats 40000000 in
set_option maxRecDepth 100000 in
/-- The rigid step inside the loop; the buffers of smaller number are kept. -/
theorem loop_site (V : Valuation τ sig (Elt F)) :
    (rd (after while0Ops0_4 V) (.of main_while0b_v23_0 : TRef sig ⟨S4x3x3, .f32⟩)
        = rigidR (rd (after while0Ops0_4 V) (.of main_v0_3 : TRef sig ⟨S4x4096x3, .f32⟩)) (rd (after while0Ops0_4 V) (.of main_while0b_v22 : TRef sig ⟨S4x4096x3, .f32⟩))
      ∧ rd (after while0Ops0_4 V) (.of main_while0b_v23_1 : TRef sig ⟨S4x3, .f32⟩)
        = rigidT (rd (after while0Ops0_4 V) (.of main_v0_3 : TRef sig ⟨S4x4096x3, .f32⟩)) (rd (after while0Ops0_4 V) (.of main_while0b_v22 : TRef sig ⟨S4x4096x3, .f32⟩)))
      ∧ ∀ r : Ref sig .tc, key r < 45 → after while0Ops0_4 V (Proc.devRef .tc r) = V (Proc.devRef .tc r) := by
  obtain ⟨E, K⟩ := Lin.sound (n := 45) (ops := while0Ops0_4 (F := F)) (by
    unfold while0Ops0_4
    repeat first
      | (apply Lin.binary; decide; decide; decide)
      | (apply Lin.unary; decide; decide)
      | (apply Lin.reshape; decide; decide)
      | (apply Lin.ternary; decide; decide; decide; decide)
      | (apply Lin.nullary; decide)
    exact Lin.nil _) V
  refine ⟨?_, K⟩
  obtain ⟨h3, h7, hH, hz, ho, ht, hy, hzs, hos, hm01, hm02, hm10, hm12, hm20, hm21, hd01, hd02, hd12, hb01, hb02, hb12, he, hA, E⟩ := front_chunk E
  have s := congrArg₂ Prod.mk hA he
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := swap_chunk ent11 ent00 hzs hos he hd01 hb01 s E
  obtain ⟨s, E⟩ := swap_chunk ent22 ent00 hzs hos he hd02 hb02 s E
  obtain ⟨s, E⟩ := swap_chunk ent22 ent11 hzs hos he hd12 hb12 s E
  exact end_chunk hH h3 h7 s E

set_option maxHeartbeats 40000000 in
set_option maxRecDepth 100000 in
/-- The rigid step after the loop; the buffers of smaller number are kept. -/
theorem last_site (V : Valuation τ sig (Elt F)) :
    (rd (after hostOps0_1 V) (.of main_v1_0 : TRef sig ⟨S4x3x3, .f32⟩)
        = rigidR (rd (after hostOps0_1 V) (.of main_arg0 : TRef sig ⟨S4x4096x3, .f32⟩)) (rd (after hostOps0_1 V) (.of main_v0_3 : TRef sig ⟨S4x4096x3, .f32⟩))
      ∧ rd (after hostOps0_1 V) (.of main_v1_1 : TRef sig ⟨S4x3, .f32⟩)
        = rigidT (rd (after hostOps0_1 V) (.of main_arg0 : TRef sig ⟨S4x4096x3, .f32⟩)) (rd (after hostOps0_1 V) (.of main_v0_3 : TRef sig ⟨S4x4096x3, .f32⟩)))
      ∧ ∀ r : Ref sig .tc, key r < 853 → after hostOps0_1 V (Proc.devRef .tc r) = V (Proc.devRef .tc r) := by
  obtain ⟨E, K⟩ := Lin.sound (n := 853) (ops := hostOps0_1 (F := F)) (by
    unfold hostOps0_1
    repeat first
      | (apply Lin.binary; decide; decide; decide)
      | (apply Lin.unary; decide; decide)
      | (apply Lin.reshape; decide; decide)
      | (apply Lin.ternary; decide; decide; decide; decide)
      | (apply Lin.nullary; decide)
    exact Lin.nil _) V
  refine ⟨?_, K⟩
  obtain ⟨h3, h7, hH, hz, ho, ht, hy, hzs, hos, hm01, hm02, hm10, hm12, hm20, hm21, hd01, hd02, hd12, hb01, hb02, hb12, he, hA, E⟩ := front_chunk E
  have s := congrArg₂ Prod.mk hA he
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := rot_chunk ent01 ent11 ent00 hz ho ht hy hzs he hd01 hb01 hm01 hm10 s E
  obtain ⟨s, E⟩ := rot_chunk ent02 ent22 ent00 hz ho ht hy hzs he hd02 hb02 hm02 hm20 s E
  obtain ⟨s, E⟩ := rot_chunk ent12 ent22 ent11 hz ho ht hy hzs he hd12 hb12 hm12 hm21 s E
  obtain ⟨s, E⟩ := swap_chunk ent11 ent00 hzs hos he hd01 hb01 s E
  obtain ⟨s, E⟩ := swap_chunk ent22 ent00 hzs hos he hd02 hb02 s E
  obtain ⟨s, E⟩ := swap_chunk ent22 ent11 hzs hos he hd12 hb12 s E
  exact end_chunk hH h3 h7 s E

end Cert.Proof.RI
-- ==== Proof.RI.Real.lean ====
/-
  The reference's rigid step at the ideal operations, from real clouds: every array holds the real numbers that the step
  in real numbers computes, one per cloud.
-/
module

public import proofs.«01_k».proof.Proof.RI.Rigid
public import proofs.«01_k».proof.Proof.Coe
public import Idealize.ShloMosaic.Lib.Pointwise

@[expose] public section

set_option maxRecDepth 16384

noncomputable section

namespace Cert.Proof.RI

open Cert.ReferenceIdeal Cert.ReferenceIdeal.Gen
open Idealize.ShloMosaic Idealize.ShloMosaic.TcCoe Idealize.ShloMosaic.StableHlo

/-- Four real matrices. -/
def coM (A : Fin 4 → Spec.M) : M33 Ideal := fun j => ((A (j 0) (j 1) (j 2) : ℝ) : EReal)
/-- Four real numbers. -/
def coV (x : Fin 4 → ℝ) : V4 Ideal := fun j => ((x (j 0) : ℝ) : EReal)
/-- Four real clouds. -/
def coC (x : Fin 4 → Fin 4096 → Fin 3 → ℝ) : Cloud Ideal := fun j => ((x (j 0) (j 1) (j 2) : ℝ) : EReal)
/-- Four real points. -/
def coPt (x : Fin 4 → Fin 3 → ℝ) : Pt Ideal := fun j => ((x (j 0) (j 1) : ℝ) : EReal)
/-- Four pairs of real matrices. -/
def coP (s : Fin 4 → Spec.M × Spec.M) : M33 Ideal × M33 Ideal := (coM fun b => (s b).1, coM fun b => (s b).2)

theorem coM_at (A : Fin 4 → Spec.M) (b : Fin 4) (i j : Fin 3) : coM A (ix3 b i j) = ((A b i j : ℝ) : EReal) := rfl
theorem coV_at (x : Fin 4 → ℝ) (b : Fin 4) : coV x (ix1 b) = ((x b : ℝ) : EReal) := rfl
theorem coC_at (x : Fin 4 → Fin 4096 → Fin 3 → ℝ) (b : Fin 4) (k : Fin 4096) (i : Fin 3) : coC x (ix3 b k i) = ((x b k i : ℝ) : EReal) := rfl

theorem ext3 {x y : M33 Ideal} (h : ∀ (b : Fin 4) (i j : Fin 3), x (ix3 b i j) = y (ix3 b i j)) : x = y := by
  funext j; rw [eq_ix3 j]; exact h _ _ _
theorem ext1 {x y : V4 Ideal} (h : ∀ b : Fin 4, x (ix1 b) = y (ix1 b)) : x = y := by
  funext j; rw [eq_ix1 j]; exact h _
theorem ext2 {x y : Pt Ideal} (h : ∀ (b : Fin 4) (i : Fin 3), x (ix2 b i) = y (ix2 b i)) : x = y := by
  funext j; rw [eq_ix2 j]; exact h _ _

theorem mulT_real (A B : Fin 4 → Spec.M) : mulT (coM A) (coM B) = coM fun b => A b * B b := by
  refine ext3 fun b i j => ?_
  pointwise [mulT]
  simp only [coM_at, ← EReal.coe_mul, coe_sum, Matrix.mul_apply]

theorem tmulT_real (A B : Fin 4 → Spec.M) : tmulT (coM A) (coM B) = coM fun b => (A b).transpose * B b := by
  refine ext3 fun b i j => ?_
  pointwise [tmulT]
  simp only [coM_at, ← EReal.coe_mul, coe_sum, Matrix.mul_apply, Matrix.transpose_apply]

theorem mulTT_real (A B : Fin 4 → Spec.M) : mulTT (coM A) (coM B) = coM fun b => A b * (B b).transpose := by
  refine ext3 fun b i j => ?_
  pointwise [mulTT]
  simp only [coM_at, ← EReal.coe_mul, coe_sum, Matrix.mul_apply, Matrix.transpose_apply]

theorem e00_real (A : Fin 4 → Spec.M) : entryT (ent00 (coM A)) = coV fun b => A b 0 0 := by
  refine ext1 fun b => ?_; pointwise [entryT, ent00]; rfl
theorem e01_real (A : Fin 4 → Spec.M) : entryT (ent01 (coM A)) = coV fun b => A b 0 1 := by
  refine ext1 fun b => ?_; pointwise [entryT, ent01]; rfl
theorem e02_real (A : Fin 4 → Spec.M) : entryT (ent02 (coM A)) = coV fun b => A b 0 2 := by
  refine ext1 fun b => ?_; pointwise [entryT, ent02]; rfl
theorem e10_real (A : Fin 4 → Spec.M) : entryT (ent10 (coM A)) = coV fun b => A b 1 0 := by
  refine ext1 fun b => ?_; pointwise [entryT, ent10]; rfl
theorem e11_real (A : Fin 4 → Spec.M) : entryT (ent11 (coM A)) = coV fun b => A b 1 1 := by
  refine ext1 fun b => ?_; pointwise [entryT, ent11]; rfl
theorem e12_real (A : Fin 4 → Spec.M) : entryT (ent12 (coM A)) = coV fun b => A b 1 2 := by
  refine ext1 fun b => ?_; pointwise [entryT, ent12]; rfl
theorem e20_real (A : Fin 4 → Spec.M) : entryT (ent20 (coM A)) = coV fun b => A b 2 0 := by
  refine ext1 fun b => ?_; pointwise [entryT, ent20]; rfl
theorem e21_real (A : Fin 4 → Spec.M) : entryT (ent21 (coM A)) = coV fun b => A b 2 1 := by
  refine ext1 fun b => ?_; pointwise [entryT, ent21]; rfl
theorem e22_real (A : Fin 4 → Spec.M) : entryT (ent22 (coM A)) = coV fun b => A b 2 2 := by
  refine ext1 fun b => ?_; pointwise [entryT, ent22]; rfl

theorem coe_abs' (a : ℝ) : FloatOps.absf (F := Ideal) (φ := .f32) (a : EReal) = ((|a| : ℝ) : EReal) := coe_abs a

theorem tanT_real (apq aqq app : Fin 4 → ℝ) :
    tanT (coV apq) (coV aqq) (coV app) = coV fun b => Spec.tanR (app b) (aqq b) (apq b) := by
  refine ext1 fun b => ?_
  pointwise [tanT, numT]
  simp only [coV_at, coe_abs', lit_tiny, lit_two, EReal.coe_lt_coe_iff]
  generalize apq b = apq; generalize aqq b = aqq; generalize app b = app
  unfold Spec.tanR
  by_cases h : |apq| < Spec.tiny
  · simp only [if_pos h]; rfl
  · simp only [if_neg h]
    have hd := tan_den h
    rw [← EReal.coe_sub, ← EReal.coe_mul, coe_div _ hd]
    generalize (aqq - app) / (2 * apq) = θ
    rw [← EReal.coe_mul, ← EReal.coe_one, ← EReal.coe_add, coe_sqrt (pos_sq θ).le, ← EReal.coe_zero]
    simp only [EReal.coe_le_coe_iff]
    have hr := abs_lt.mp (Spec.sqrt_gt θ)
    by_cases h2 : 0 ≤ θ
    · simp only [if_pos h2]
      rw [← EReal.coe_add, coe_div _ (by linarith)]
    · simp only [if_neg h2]
      rw [← EReal.coe_neg, ← EReal.coe_add, coe_div _ (by linarith)]
      congr 1
      rw [show θ + -√(θ * θ + 1) = -(√(θ * θ + 1) - θ) by ring, div_neg, neg_div]

theorem at_mask (p q : Fin 3) (b : Fin 4) (i j : Fin 3) :
    atT (F := Ideal) (BitVec.ofNat 32 p.val) (BitVec.ofNat 32 q.val) (ix3 b i j) = BitVec.ofBool (decide (i = p ∧ j = q)) := by
  pointwise [atT, placeT]
  revert p q i j
  decide

theorem dg_mask (p q : Fin 3) (b : Fin 4) (i j : Fin 3) :
    dgT (F := Ideal) (BitVec.ofNat 32 p.val) (BitVec.ofNat 32 q.val) (ix3 b i j)
      = BitVec.ofBool (decide ((i = p ∧ j = p) ∨ (i = q ∧ j = q))) := by
  change IntOp.ori (atT (F := Ideal) _ _ (ix3 b i j)) (atT (F := Ideal) _ _ (ix3 b i j)) = _
  rw [at_mask, at_mask]
  revert p q i j
  decide

theorem bd_mask (p q : Fin 3) (b : Fin 4) (i j : Fin 3) :
    bdT (F := Ideal) (BitVec.ofNat 32 p.val) (BitVec.ofNat 32 q.val) (ix3 b i j)
      = BitVec.ofBool (decide ((i = p ∧ j = q) ∨ (i = q ∧ j = p))) := by
  change IntOp.ori (atT (F := Ideal) _ _ (ix3 b i j)) (atT (F := Ideal) _ _ (ix3 b i j)) = _
  rw [at_mask, at_mask]
  revert p q i j
  decide

theorem eye_real : (eyeT : M33 Ideal) = coM fun _ => 1 := by
  refine ext3 fun b i j => ?_
  pointwise [eyeT, everyT, numT]
  rw [show IntOp.cmpi .eq (BitVec.ofNat 32 i.val) (BitVec.ofNat 32 j.val) = BitVec.ofBool (decide (i = j)) by revert i j; decide,
    sel_ofBool, coM_at, Matrix.one_apply, ← EReal.coe_zero, ← EReal.coe_one, coe_ite]

theorem cosT_real (t : Fin 4 → ℝ) : cosT (coV t) = coV fun b => Spec.cosR (t b) := by
  refine ext1 fun b => ?_
  pointwise [cosT, numT]
  rw [coV_at, ← EReal.coe_mul, ← EReal.coe_one, ← EReal.coe_add, coe_rsqrt (pos_sq _)]; rfl

theorem rotJ_real (p q : Fin 3) (t : Fin 4 → ℝ) :
    rotJ (dgT (F := Ideal) (BitVec.ofNat 32 p.val) (BitVec.ofNat 32 q.val)) (atT (F := Ideal) (BitVec.ofNat 32 p.val) (BitVec.ofNat 32 q.val))
      (atT (F := Ideal) (BitVec.ofNat 32 q.val) (BitVec.ofNat 32 p.val)) (coV t) = coM fun b => Spec.rotJ p q (t b) := by
  refine ext3 fun b i j => ?_
  pointwise [rotJ, everyT]
  simp only [dg_mask, at_mask, sel_ofBool, cosT_real, coV_at, ← EReal.coe_mul, ← EReal.coe_neg, eye_real, coM_at, coe_ite]
  rfl

theorem rotT_real (p q : Fin 3) (fpq fqq fpp : M33 Ideal → M11 Ideal)
    (h1 : ∀ A, entryT (fpq (coM A)) = coV fun b => A b p q) (h2 : ∀ A, entryT (fqq (coM A)) = coV fun b => A b q q)
    (h3 : ∀ A, entryT (fpp (coM A)) = coV fun b => A b p p) (s : Fin 4 → Spec.M × Spec.M) :
    rotT (dgT (F := Ideal) (BitVec.ofNat 32 p.val) (BitVec.ofNat 32 q.val)) (bdT (F := Ideal) (BitVec.ofNat 32 p.val) (BitVec.ofNat 32 q.val))
      (atT (F := Ideal) (BitVec.ofNat 32 p.val) (BitVec.ofNat 32 q.val)) (atT (F := Ideal) (BitVec.ofNat 32 q.val) (BitVec.ofNat 32 p.val))
      fpq fqq fpp (coP s) = coP fun b => Spec.rotM p q (s b) := by
  simp only [rotT, coP, h1, h2, h3, tanT_real, rotJ_real, mulT_real, tmulT_real]
  refine Prod.ext ?_ rfl
  refine ext3 fun b i j => ?_
  pointwise [everyT, numT]
  simp only [bd_mask, sel_ofBool, coM_at, ← EReal.coe_zero, coe_ite]
  rfl

theorem swapT_real (p q : Fin 3) (fq fp : M33 Ideal → M11 Ideal)
    (h2 : ∀ A, entryT (fq (coM A)) = coV fun b => A b q q)
    (h3 : ∀ A, entryT (fp (coM A)) = coV fun b => A b p p) (s : Fin 4 → Spec.M × Spec.M) :
    swapT (dgT (F := Ideal) (BitVec.ofNat 32 p.val) (BitVec.ofNat 32 q.val)) (bdT (F := Ideal) (BitVec.ofNat 32 p.val) (BitVec.ofNat 32 q.val))
      fq fp (coP s) = coP fun b => Spec.swapM p q (s b) := by
  have hJ : (select (everyB (F := Ideal) (cmpf (F := Ideal) (φ := .f32) .ogt (coV fun b => (s b).1 q q) (coV fun b => (s b).1 p p) : B4 Ideal))
      (select (dgT (F := Ideal) (BitVec.ofNat 32 p.val) (BitVec.ofNat 32 q.val)) (everyT (numT 0x00000000#32))
        (select (bdT (F := Ideal) (BitVec.ofNat 32 p.val) (BitVec.ofNat 32 q.val)) (everyT (numT 0x3F800000#32)) eyeT : M33 Ideal) : M33 Ideal) eyeT : M33 Ideal)
      = coM fun b => Spec.swapP p q ((s b).1 p p < (s b).1 q q) := by
    refine ext3 fun b i j => ?_
    pointwise [everyB, everyT, numT]
    simp only [dg_mask, bd_mask, sel_ofBool, eye_real, coM_at, coV_at, ← EReal.coe_zero, ← EReal.coe_one, coe_ite, EReal.coe_lt_coe_iff]
    rfl
  simp only [swapT, coP, h2, h3, hJ, mulT_real, tmulT_real]
  rfl

theorem sweepT_real (s : Fin 4 → Spec.M × Spec.M) : sweepT (coP s) = coP fun b => Spec.sweepM (s b) := by
  unfold sweepT
  have r01 : ∀ s, rotT (dgT (F := Ideal) 0 1) (bdT (F := Ideal) 0 1) (atT (F := Ideal) 0 1) (atT (F := Ideal) 1 0) ent01 ent11 ent00 (coP s)
    = coP fun b => Spec.rotM 0 1 (s b) := rotT_real 0 1 ent01 ent11 ent00 e01_real e11_real e00_real
  have r02 : ∀ s, rotT (dgT (F := Ideal) 0 2) (bdT (F := Ideal) 0 2) (atT (F := Ideal) 0 2) (atT (F := Ideal) 2 0) ent02 ent22 ent00 (coP s)
    = coP fun b => Spec.rotM 0 2 (s b) := rotT_real 0 2 ent02 ent22 ent00 e02_real e22_real e00_real
  have r12 : ∀ s, rotT (dgT (F := Ideal) 1 2) (bdT (F := Ideal) 1 2) (atT (F := Ideal) 1 2) (atT (F := Ideal) 2 1) ent12 ent22 ent11 (coP s)
    = coP fun b => Spec.rotM 1 2 (s b) := rotT_real 1 2 ent12 ent22 ent11 e12_real e22_real e11_real
  rw [r01, r02, r12]
  rfl

theorem sweepsT_real (n : ℕ) (s : Fin 4 → Spec.M × Spec.M) : sweepT^[n] (coP s) = coP fun b => Spec.sweepM^[n] (s b) := by
  induction n with
  | zero => rfl
  | succ n ih => simp only [Function.iterate_succ_apply', ih, sweepT_real]

theorem sortT_real (s : Fin 4 → Spec.M × Spec.M) : sortT (coP s) = coP fun b => Spec.sortM (s b) := by
  unfold sortT
  have r01 : ∀ s, swapT (dgT (F := Ideal) 0 1) (bdT (F := Ideal) 0 1) ent11 ent00 (coP s) = coP fun b => Spec.swapM 0 1 (s b) :=
    swapT_real 0 1 ent11 ent00 e11_real e00_real
  have r02 : ∀ s, swapT (dgT (F := Ideal) 0 2) (bdT (F := Ideal) 0 2) ent22 ent00 (coP s) = coP fun b => Spec.swapM 0 2 (s b) :=
    swapT_real 0 2 ent22 ent00 e22_real e00_real
  have r12 : ∀ s, swapT (dgT (F := Ideal) 1 2) (bdT (F := Ideal) 1 2) ent22 ent11 (coP s) = coP fun b => Spec.swapM 1 2 (s b) :=
    swapT_real 1 2 ent22 ent11 e22_real e11_real
  rw [r01, r02, r12]
  rfl

theorem vT_real (H : Fin 4 → Spec.M) : vT (coM H) = coM fun b => Spec.vM (H b) := by
  have h := sweepsT_real 6 fun b => ((H b).transpose * H b, 1)
  rw [vT, tmulT_real, eye_real]
  change (sortT (sweepT^[6] (coP fun b => ((H b).transpose * H b, 1)))).2 = _
  rw [h, sortT_real]; rfl

theorem uT_real (H V : Fin 4 → Spec.M) : uT (coM H) (coM V) = coM fun b => Spec.uM (H b) (V b) := by
  refine ext3 fun b i j => ?_
  pointwise [uT]
  simp only [mulT_real, coM_at, ← EReal.coe_mul, coe_sum, lit_tiny, coe_max]
  rw [coe_rsqrt (lt_max_of_lt_right Spec.tiny_pos), ← EReal.coe_mul, Fin.sum_univ_three]
  rfl

theorem detT_real (A : Fin 4 → Spec.M) : detT (coM A) = coV fun b => Spec.detR (A b) := by
  simp only [detT, e00_real, e01_real, e02_real, e10_real, e11_real, e12_real, e20_real, e21_real, e22_real]
  refine ext1 fun b => ?_
  pointwise
  simp only [coV_at, ← EReal.coe_mul, ← EReal.coe_sub, ← EReal.coe_add]
  rfl

/-- A matrix whose last column is multiplied by a number. -/
def flip3 (d : ℝ) (V : Spec.M) : Spec.M := fun i j => if j = 2 then V i j * d else V i j

theorem rT_real (U V : Fin 4 → Spec.M) :
    rT (coM U) (coM V) = coM fun b => Spec.rM (Spec.signR (Spec.detR (V b * (U b).transpose))) (V b) (U b) := by
  have hW : (select (cmpi .eq (iotaInDim S4x3x3 32 2 : (⟨S4x3x3, .i32⟩ : BufTy).Contents (Elt Ideal)) (placeT (F := Ideal) 2))
    (mulf (coM V) (everyT (select (cmpf .oge (detT (mulTT (coM V) (coM U))) (numT 0x00000000#32 : V4 Ideal) : B4 Ideal) (numT 0x3F800000#32) (numT 0xBF800000#32) : V4 Ideal)) : M33 Ideal) (coM V) : M33 Ideal)
      = coM fun b => flip3 (Spec.signR (Spec.detR (V b * (U b).transpose))) (V b) := by
    rw [mulTT_real, detT_real]
    refine ext3 fun b i j => ?_
    pointwise [placeT, everyT, numT]
    simp only [coM_at, coV_at, lit_neg_one, ← EReal.coe_zero, ← EReal.coe_one, coe_ite, EReal.coe_le_coe_iff, ← EReal.coe_mul]
    rw [show IntOp.cmpi .eq (BitVec.ofNat 32 j.val) 2 = BitVec.ofBool (decide (j = 2)) by revert j; decide, sel_ofBool, coe_ite]
    rfl
  rw [rT, hW, mulTT_real]
  congr 1
  funext b
  ext i l
  simp [Matrix.mul_apply, Fin.sum_univ_three, Spec.rM, flip3, mul_comm]

theorem meanT_real (x : Fin 4 → Fin 4096 → Fin 3 → ℝ) (b : Fin 4) (i : Fin 3) :
    meanT (coC x) (ix3 b 0 i) = ((Spec.mean (x b) i : ℝ) : EReal) := by
  pointwise [meanT]
  simp only [coC_at, coe_sum, lit_count]
  rw [coe_div _ (by norm_num)]; rfl

theorem crossT_real (x y : Fin 4 → Fin 4096 → Fin 3 → ℝ) : crossT (coC x) (coC y) = coM fun b => Spec.cross (x b) (y b) := by
  refine ext3 fun b i j => ?_
  pointwise [crossT, centredT]
  simp only [coC_at, meanT_real, ← EReal.coe_sub, ← EReal.coe_mul, coe_sum]
  rfl

theorem rigidR_real (x y : Fin 4 → Fin 4096 → Fin 3 → ℝ) : rigidR (coC x) (coC y) = coM fun b => Spec.rigidR (x b) (y b) := by
  rw [rigidR, crossT_real, vT_real, uT_real, rT_real]
  congr 1
  funext b
  rw [Spec.sign_eq]; rfl

theorem rigidT_real (x y : Fin 4 → Fin 4096 → Fin 3 → ℝ) : rigidT (coC x) (coC y) = coPt fun b i => Spec.rigidT (x b) (y b) i := by
  refine ext2 fun b i => ?_
  pointwise [rigidT]
  simp only [rigidR_real, coM_at, meanT_real, ← EReal.coe_mul, coe_sum, ← EReal.coe_sub, Fin.sum_univ_three]
  rfl

end Cert.Proof.RI
-- ==== Proof.RI.Near.lean ====
/-
  The nearest points as the reference finds them: the array of squared distances, the arg-min along its last axis, and the
  gather of the points of that index.
-/
module

public import proofs.«01_k».proof.Proof.RI.Real

@[expose] public section

set_option maxRecDepth 16384

noncomputable section

namespace Cert.Proof.RI

open Cert.ReferenceIdeal Cert.ReferenceIdeal.Gen
open Idealize.ShloMosaic Idealize.ShloMosaic.TcCoe Idealize.ShloMosaic.StableHlo

variable {F : FTy → Type} [FloatOps F]

/-- The squared distances between the points of two clouds. -/
def d2T (s y : Cloud F) : (⟨S4x4096x4096, .f32⟩ : BufTy).Contents (Elt F) :=
  maximumf
    (addf
      (subf
        (broadcastInDim S4x4096x4096 ![0, 1, 2] bcast_S4x4096x1_S4x4096x4096_0_1_2
          (broadcastInDim S4x4096x1 ![0, 1] bcast_S4x4096_S4x4096x1_0_1
            (Host.reduceAdd (mulf s s) (constant S_ .f32 0x00000000#32) reducesTo_S4x4096x3_S4x4096_d2 h_S_)))
        (mulf (broadcastInDim S4x4096x4096 ![] bcast_S_S4x4096x4096 (constant S_ .f32 0x40000000#32))
          (Host.dotGeneral dot_S4x4096x3_S4x4096x3_S4x4096x4096_2_2_1_1_0_0 none s y)))
      (broadcastInDim S4x4096x4096 ![0, 1, 2] bcast_S4x1x4096_S4x4096x4096_0_1_2
        (broadcastInDim S4x1x4096 ![0, 2] bcast_S4x4096_S4x1x4096_0_2
          (Host.reduceAdd (mulf y y) (constant S_ .f32 0x00000000#32) reducesTo_S4x4096x3_S4x4096_d2 h_S_))))
    (broadcastInDim S4x4096x4096 ![] bcast_S_S4x4096x4096 (constant S_ .f32 0x00000000#32))

/-- The indices that an arg-min along the last axis leaves. -/
def argG {a b n : ℕ} {u : Shape} (h : (⟨3, ![a, b, n]⟩ : Shape).ReducesTo [2] ⟨2, ![a, b]⟩) (hu : 0 < u.numel)
    (x : FVec F ⟨3, ![a, b, n]⟩ .f32) (y : IVec ⟨3, ![a, b, n]⟩ 32) (v : FVec F u .f32) (w : IVec u 32) : IVec ⟨2, ![a, b]⟩ 32 :=
  fun j => (Host.argReduce (reducer_argmin_f32_i32 (F := F)) x y v w h hu j).2

/-- The arg-min along the last axis. -/
abbrev argT (d : (⟨S4x4096x4096, .f32⟩ : BufTy).Contents (Elt F)) : (⟨S4x4096, .i32⟩ : BufTy).Contents (Elt F) :=
  argG reducesTo_S4x4096x4096_S4x4096_d2 h_S_ d (iotaInDim S4x4096x4096 32 2) (constant S_ .f32 0x7F800000#32) (constantI S_ 32 0#32)

/-- A negative index counted from the end. -/
def wrapT (i : (⟨S4x4096x1, .i32⟩ : BufTy).Contents (Elt F)) : (⟨S4x4096x1, .i32⟩ : BufTy).Contents (Elt F) :=
  select (cmpi .slt i (broadcastInDim S4x4096x1 ![] bcast_S_S4x4096x1 (constantI S_ 32 0#32)))
    (addi i (broadcastInDim S4x4096x1 ![] bcast_S_S4x4096x1 (constantI S_ 32 4096#32))) i

/-- The points of the given indices. -/
def takeT (y : Cloud F) (i : (⟨S4x4096, .i32⟩ : BufTy).Contents (Elt F)) : Cloud F :=
  Host.gather gather_S4x4096x3_S4x4096x1_S4x4096x3_2_1_0_0_1_2_113 y
    (wrapT (F := F) (broadcastInDim S4x4096x1 ![0, 1] bcast_S4x4096_S4x4096x1_0_1 i))

theorem d2T_real (x y : Fin 4 → Spec.Points) (b : Fin 4) (k j : Fin 4096) :
    d2T (coC x) (coC y) (ix3 b k j) = ((Spec.dist2 (x b k) (y b) j : ℝ) : EReal) := by
  pointwise [d2T]
  simp only [coC_at, ← EReal.coe_mul, coe_sum, lit_two, ← EReal.coe_sub, ← EReal.coe_add, ← EReal.coe_zero, coe_max]
  rfl

/-! ## The arg-min -/

section Fold

variable (d : Fin 4096 → ℝ)

/-- The pair of a value and its index. -/
def pairAt (k : Fin 4096) : Ideal .f32 × BitVec 32 := ((d k : EReal), BitVec.ofNat 32 k.val)

theorem reducer_pair (a b : Fin 4096) :
    reducer_argmin_f32_i32 (F := Ideal) (pairAt d a) (pairAt d b)
      = if d a < d b ∨ (d a = d b ∧ a < b) then pairAt d a else pairAt d b := by
  have hs : IntOp.cmpi .slt (BitVec.ofNat 32 a.val) (BitVec.ofNat 32 b.val) = BitVec.ofBool (decide (a < b)) := by
    show BitVec.ofBool (BitVec.slt _ _) = _
    congr 1
    have := a.isLt; have := b.isLt
    rw [BitVec.slt, BitVec.toInt_eq_toNat_of_lt (by simp; omega), BitVec.toInt_eq_toNat_of_lt (by simp; omega)]
    simp [Nat.mod_eq_of_lt (show a.val < 4294967296 by omega), Nat.mod_eq_of_lt (show b.val < 4294967296 by omega)]
  have h1 : FloatOps.cmpf (F := Ideal) (φ := .f32) .olt (pairAt d a).1 (pairAt d b).1 = BitVec.ofBool (decide (d a < d b)) := by
    show BitVec.ofBool (decide ((d a : EReal) < (d b : EReal))) = _
    simp only [EReal.coe_lt_coe_iff]
  have h2 : FloatOps.cmpf (F := Ideal) (φ := .f32) .une (pairAt d a).1 (pairAt d a).1 = 0#1 := by
    show BitVec.ofBool (decide ((d a : EReal) ≠ (d a : EReal))) = _
    simp
  have h3 : FloatOps.cmpf (F := Ideal) (φ := .f32) .oeq (pairAt d a).1 (pairAt d b).1 = BitVec.ofBool (decide (d a = d b)) := by
    show BitVec.ofBool (decide ((d a : EReal) = (d b : EReal))) = _
    simp only [EReal.coe_eq_coe_iff]
  unfold reducer_argmin_f32_i32
  simp only [h1, h2, h3]
  rw [show IntOp.cmpi .slt (pairAt d a).2 (pairAt d b).2 = _ from hs]
  by_cases p : d a < d b
  · have o : ∀ v : BitVec 1, 1#1 ||| v = 1#1 := by decide
    simp [p, o, IntOp.ori, IntOp.andi, Scalar.select]
  · by_cases q : d a = d b
    · by_cases r : a < b
      · simp [q, r, IntOp.ori, IntOp.andi, Scalar.select, pairAt]
      · simp [q, r, IntOp.ori, IntOp.andi, Scalar.select, pairAt]
    · simp [p, q, IntOp.ori, IntOp.andi, Scalar.select]

theorem reducer_first (b : Fin 4096) :
    reducer_argmin_f32_i32 (F := Ideal) ((⊤ : EReal), 0#32) (pairAt d b) = pairAt d b := by
  have h1 : FloatOps.cmpf (F := Ideal) (φ := .f32) .olt (⊤ : EReal) (pairAt d b).1 = 0#1 := by
    show BitVec.ofBool (decide ((⊤ : EReal) < (d b : EReal))) = _
    simp
  have h2 : FloatOps.cmpf (F := Ideal) (φ := .f32) .une (⊤ : EReal) (⊤ : EReal) = 0#1 := by
    show BitVec.ofBool (decide ((⊤ : EReal) ≠ ⊤)) = _
    simp
  have h3 : FloatOps.cmpf (F := Ideal) (φ := .f32) .oeq (⊤ : EReal) (pairAt d b).1 = 0#1 := by
    show BitVec.ofBool (decide ((⊤ : EReal) = (d b : EReal))) = _
    simp [EReal.top_ne_coe]
  unfold reducer_argmin_f32_i32
  simp only [h1, h2, h3]
  simp [IntOp.ori, IntOp.andi, Scalar.select]

/-- `j` is at least as good as `k`: a smaller value, or the same value at no greater index. -/
def Beats (j k : Fin 4096) : Prop := d j ≤ d k ∧ (d k = d j → j ≤ k)

theorem Beats.refl (j : Fin 4096) : Beats d j j := ⟨le_refl _, fun _ => le_refl _⟩
theorem Beats.trans {i j k : Fin 4096} (h : Beats d i j) (g : Beats d j k) : Beats d i k := by
  refine ⟨h.1.trans g.1, fun e => ?_⟩
  have e1 : d j = d i := le_antisymm (e ▸ g.1) h.1
  exact (h.2 e1).trans (g.2 (e.trans e1.symm))

theorem fold_from (l : List (Fin 4096)) (a : Fin 4096) :
    ∃ j ∈ a :: l, (l.map (pairAt d)).foldl (reducer_argmin_f32_i32 (F := Ideal)) (pairAt d a) = pairAt d j
      ∧ ∀ k ∈ a :: l, Beats d j k := by
  induction l generalizing a with
  | nil => exact ⟨a, by simp, rfl, by simp [Beats.refl]⟩
  | cons b l ih =>
    rw [List.map_cons, List.foldl_cons, reducer_pair]
    by_cases h : d a < d b ∨ (d a = d b ∧ a < b)
    · obtain ⟨j, hj, e, hb⟩ := ih a
      rw [if_pos h]
      refine ⟨j, ?_, e, ?_⟩
      · simp only [List.mem_cons] at hj ⊢; tauto
      · have ab : Beats d a b := ⟨by rcases h with h | h; exact h.le; exact h.1.le,
          fun q => by rcases h with h | h; exact absurd q h.ne'; exact h.2.le⟩
        intro k hk
        simp only [List.mem_cons] at hk
        rcases hk with rfl | rfl | hk
        · exact hb _ (by simp)
        · exact (hb a (by simp)).trans d ab
        · exact hb k (by simp [hk])
    · obtain ⟨j, hj, e, hb⟩ := ih b
      rw [if_neg h]
      refine ⟨j, ?_, e, ?_⟩
      · simp only [List.mem_cons] at hj ⊢; tauto
      · push Not at h
        have ab : Beats d b a := ⟨h.1, fun q => by have := h.2 q; exact this⟩
        intro k hk
        simp only [List.mem_cons] at hk
        rcases hk with rfl | rfl | hk
        · exact (hb b (by simp)).trans d ab
        · exact hb _ (by simp)
        · exact hb k (by simp [hk])

theorem fold_all (l : List (Fin 4096)) (h : ∀ k, k ∈ l) :
    ∃ j, (l.map (pairAt d)).foldl (reducer_argmin_f32_i32 (F := Ideal)) ((⊤ : EReal), 0#32) = pairAt d j ∧ ∀ k, Beats d j k := by
  cases l with
  | nil => exact absurd (h 0) (by simp)
  | cons a l =>
    rw [List.map_cons, List.foldl_cons, reducer_first]
    obtain ⟨j, -, e, hb⟩ := fold_from d l a
    exact ⟨j, e, fun k => hb k (h k)⟩

end Fold

/-- The pairs that an arg-min along the last axis runs over: those of one row, every index among them. -/
theorem fiber_row {a b n : ℕ} {α β : Type} (h : (⟨3, ![a, b, n]⟩ : Shape).ReducesTo [2] ⟨2, ![a, b]⟩)
    (x : (⟨3, ![a, b, n]⟩ : Shape).Idx → α) (y : (⟨3, ![a, b, n]⟩ : Shape).Idx → β) (i : Fin a) (k : Fin b) :
    ∃ l : List (Fin n), (∀ m, m ∈ l) ∧ Host.argReduceFiber x y h (ix2 i k) = l.map fun m => (x (ix3 i k m), y (ix3 i k m)) := by
  have fib := fun j => Shape.ReducesTo.fiber_r3_a2 h (ix2 i k) j
  refine ⟨((List.finRange _).filter fun q => h.drop ((⟨3, ![a, b, n]⟩ : Shape).rowMajor.symm q) = ix2 i k).map
    fun q => (⟨3, ![a, b, n]⟩ : Shape).rowMajor.symm q 2, fun m => ?_, ?_⟩
  · refine List.mem_map.2 ⟨(⟨3, ![a, b, n]⟩ : Shape).rowMajor (ix3 i k m), List.mem_filter.2 ⟨List.mem_finRange _, decide_eq_true ?_⟩, ?_⟩
    · rw [Equiv.symm_apply_apply]; exact (fib _).2 ⟨m, rfl⟩
    · rw [Equiv.symm_apply_apply]; rfl
  · refine Eq.trans (List.map_congr_left fun q hq => ?_) List.map_map.symm
    obtain ⟨m, e⟩ := (fib _).1 (of_decide_eq_true (List.mem_filter.1 hq).2)
    have e' : (⟨3, ![a, b, n]⟩ : Shape).rowMajor.symm q = ix3 i k m := e.symm
    have e2 : (⟨3, ![a, b, n]⟩ : Shape).rowMajor.symm q 2 = m := by rw [e']; rfl
    show (x _, y _) = (x (ix3 i k ((⟨3, ![a, b, n]⟩ : Shape).rowMajor.symm q 2)), y (ix3 i k ((⟨3, ![a, b, n]⟩ : Shape).rowMajor.symm q 2)))
    rw [e2, e']

/-- An arg-min along the last axis, from real values. -/
theorem arg_row {a b : ℕ} (h : (⟨3, ![a, b, 4096]⟩ : Shape).ReducesTo [2] ⟨2, ![a, b]⟩)
    (x : FVec Ideal ⟨3, ![a, b, 4096]⟩ .f32) (y : (⟨3, ![a, b, 4096]⟩ : Shape).Idx → BitVec 32) {u : Shape} (v : FVec Ideal u .f32)
    (w : u.Idx → BitVec 32) (hu : 0 < u.numel) (i : Fin a) (k : Fin b) (d : Fin 4096 → ℝ)
    (hx : ∀ m, x (ix3 i k m) = ((d m : ℝ) : EReal)) (hy : ∀ m, y (ix3 i k m) = BitVec.ofNat 32 m.val)
    (hv : ∀ j, v j = (⊤ : EReal)) (hw : ∀ j, w j = 0#32) :
    ∃ j, argG h hu x y v w (ix2 i k) = BitVec.ofNat 32 j.val ∧ ∀ m, Beats d j m := by
  obtain ⟨l, hl, e⟩ := fiber_row h x y i k
  obtain ⟨j, f, hb⟩ := fold_all d l hl
  refine ⟨j, ?_, hb⟩
  unfold argG
  rw [Ideal.argReduce_eq_reduce2, Host.reduce2_eq_foldl_fiber, e, hv, hw]
  simp only [hx, hy]
  exact congrArg Prod.snd f

theorem inf_at (j : S_.Idx) : (constant (F := Ideal) S_ .f32 0x7F800000#32) j = (⊤ : EReal) := by
  rw [constant_apply]
  exact lit_inf

theorem iota_at (b : Fin 4) (k m : Fin 4096) : iotaInDim S4x4096x4096 32 2 (ix3 b k m) = BitVec.ofNat 32 m.val := rfl

theorem argT_real (x y : Fin 4 → Spec.Points) (b : Fin 4) (k : Fin 4096) :
    argT (d2T (coC x) (coC y)) (ix2 b k) = BitVec.ofNat 32 (Spec.near (x b k) (y b)).val := by
  obtain ⟨j, e, hb⟩ := arg_row reducesTo_S4x4096x4096_S4x4096_d2 (d2T (coC x) (coC y)) (iotaInDim S4x4096x4096 32 2)
    (constant S_ .f32 0x7F800000#32) (constantI S_ 32 0#32) h_S_ b k (Spec.dist2 (x b k) (y b)) (d2T_real x y b k)
    (iota_at b k) inf_at (fun j => constantI_apply S_ 32 0#32 j)
  rw [Spec.near_eq (j := j) fun k' => hb k']
  exact e

end Cert.Proof.RI
-- ==== Proof.RI.Take.lean ====
/-
  The points that the reference takes: the gather at the indices of the arg-min gives, to every point, the first of the
  points nearest to it.
-/
module

public import proofs.«01_k».proof.Proof.RI.Near

@[expose] public section

set_option maxRecDepth 16384

noncomputable section

namespace Cert.Proof.RI

open Cert.ReferenceIdeal Cert.ReferenceIdeal.Gen
open Idealize.ShloMosaic Idealize.ShloMosaic.TcCoe Idealize.ShloMosaic.StableHlo

section Gather

variable {α : Type}

/-- The dimensions of a gather of points, cloud by cloud. -/
abbrev ptDims (B N K C : ℕ) (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

/-- The gather at a point: the row is the index there, kept within the cloud. -/
theorem gather_pt {B N K C w : ℕ} (hN : 0 < N)
    (wf : GatherDims.WF ⟨3, ![B, N, C]⟩ ⟨3, ![B, K, 1]⟩ ⟨3, ![B, K, C]⟩ [2] [1] [0] [1] [0] 2 ![1, 1, C])
    (x : (⟨3, ![B, N, C]⟩ : Shape).Idx → α) (idx : IVec ⟨3, ![B, K, 1]⟩ w) (b : Fin B) (k : Fin K) (c : Fin C) :
    Host.gather (ptDims B N K C wf) x idx (ix3 b k c)
      = x (ix3 b ⟨min (idx (ix3 b k 0)).toInt.toNat (N - 1), by omega⟩ c) := by
  unfold Host.gather
  congr 1
  funext a
  refine Fin.ext ?_
  show (ptDims B N K C wf).start (ix3 b k c) idx a + (ptDims B N K C wf).batchCoord (ix3 b k c) a
      + (ptDims B N K C wf).offCoord (ix3 b k c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (ptDims B N K C wf).startIndexMap from List.mem_singleton.mpr rfl)]
    have hsi : (ptDims B N K C wf).siIdx (ix3 b k c) ⟨List.idxOf (1 : Fin 3) (ptDims B N K C wf).startIndexMap,
        List.idxOf_lt_length_iff.2 (List.mem_singleton.mpr rfl)⟩ = ix3 b k 0 := by
      funext e; refine Fin.ext ?_
      match e with
      | ⟨0, _⟩ => rfl
      | ⟨1, _⟩ => rfl
      | ⟨2, _⟩ => rfl
    rw [hsi]
    rfl
  · rw [GatherDims.batchCoord_eq_zero _ _ _ (fun h => by simp at h)]
    have hs : (ptDims B N K C wf).start (ix3 b k c) idx 2 = 0 := by
      unfold GatherDims.start
      rw [dif_neg (by simp)]
    rw [hs]
    simp only [Nat.add_zero, Nat.zero_add]
    rfl

end Gather

theorem toInt_small (n : Fin 4096) : (BitVec.ofNat 32 n.val).toInt = (n.val : ℤ) := by
  have hn := n.isLt
  rw [BitVec.toInt_eq_toNat_of_lt (by simp; omega), BitVec.toNat_ofNat, Nat.mod_eq_of_lt (by omega)]

theorem wrapT_at (i : (⟨S4x4096, .i32⟩ : BufTy).Contents (Elt Ideal)) (b : Fin 4) (k n : Fin 4096)
    (h : i (ix2 b k) = BitVec.ofNat 32 n.val) :
    wrapT (F := Ideal) (broadcastInDim S4x4096x1 ![0, 1] bcast_S4x4096_S4x4096x1_0_1 i) (ix3 b k 0) = BitVec.ofNat 32 n.val := by
  pointwise [wrapT]
  rw [h]
  have hs : BitVec.slt (BitVec.ofNat 32 n.val) 0#32 = false := by
    have h0 : (0#32 : BitVec 32).toInt = 0 := by decide
    rw [BitVec.slt, h0, toInt_small]
    exact decide_eq_false (by omega)
  have : IntOp.cmpi .slt (BitVec.ofNat 32 n.val) 0#32 = 0#1 := by
    show BitVec.ofBool (BitVec.slt _ _) = _
    rw [hs]
    rfl
  rw [this]
  rfl

theorem takeT_at (y : Cloud Ideal) (i : (⟨S4x4096, .i32⟩ : BufTy).Contents (Elt Ideal)) (b : Fin 4) (k n : Fin 4096) (c : Fin 3)
    (h : i (ix2 b k) = BitVec.ofNat 32 n.val) : takeT y i (ix3 b k c) = y (ix3 b n c) := by
  refine (gather_pt (B := 4) (N := 4096) (K := 4096) (C := 3) (by norm_num) gather_S4x4096x3_S4x4096x1_S4x4096x3_2_1_0_0_1_2_113_wf y _ b k c).trans ?_
  have e : (⟨min (wrapT (F := Ideal) (broadcastInDim S4x4096x1 ![0, 1] bcast_S4x4096_S4x4096x1_0_1 i) (ix3 b k 0)).toInt.toNat (4096 - 1), by omega⟩ : Fin 4096) = n := by
    refine Fin.ext ?_
    show min _ _ = n.val
    rw [wrapT_at i b k n h, toInt_small]
    have := n.isLt
    omega
  exact congrArg (fun q : Fin 4096 => y (ix3 b q c)) e

theorem takeT_real (x y : Fin 4 → Spec.Points) :
    takeT (coC y) (argT (d2T (coC x) (coC y))) = coC fun b => Spec.matched (x b) (y b) := by
  funext j
  rw [eq_ix3 j]
  exact takeT_at (coC y) _ _ _ _ _ (argT_real x y _ _)

end Cert.Proof.RI
-- ==== Proof.RI.Loop.lean ====
/-
  The reference's loop, read list by list: what each line of operations leaves in the buffers that the next ones read.
-/
module

public import proofs.«01_k».proof.Proof.RI.Sites
public import proofs.«01_k».proof.Proof.RI.Take

@[expose] public section

set_option maxRecDepth 16384

noncomputable section

namespace Cert.Proof.RI

open Cert.ReferenceIdeal Cert.ReferenceIdeal.Gen
open Idealize.ShloMosaic Idealize.ShloMosaic.TcCoe Idealize.ShloMosaic.StableHlo Idealize.ShloMosaic.Tactic

variable {F : FTy → Type} [FloatOps F]

/-- The points rotated and shifted. -/
def moveT (x : Cloud F) (R : M33 F) (t : Pt F) : Cloud F :=
  addf (Host.dotGeneral dot_S4x4096x3_S4x3x3_S4x4096x3_2_2_1_1_0_0 none x R)
    (broadcastInDim S4x4096x3 ![0, 1, 2] bcast_S4x1x3_S4x4096x3_0_1_2 (broadcastInDim S4x1x3 ![0, 2] bcast_S4x3_S4x1x3_0_2 t))

/-- The rotation with the translation as last column. -/
def outT (R : M33 F) (t : Pt F) : (⟨S4x3x4, .f32⟩ : BufTy).Contents (Elt F) :=
  concatenate S4x3x4 2 [⟨S4x3x3, R⟩, ⟨S4x3x1, broadcastInDim S4x3x1 ![0, 1] bcast_S4x3_S4x3x1_0_1 t⟩] concatenates_S4x3x3_S4x3x1_S4x3x4_d2

variable (V : Valuation τ sig (Elt F))

theorem d2_site : after while0Ops0 V (Proc.devRef .tc main_while0b_v19) = d2T (V (Proc.devRef .tc main_v0_3)) (V (Proc.devRef .tc main_v0_0)) := by
  after_results
  rfl

theorem arg_site : after while0Ops0_1 V (Proc.devRef .tc main_while0b_v20) = argT (V (Proc.devRef .tc main_while0b_v19)) := by
  after_results
  rfl

theorem take_site : after while0Ops0_3 (after while0Ops0_2 V) (Proc.devRef .tc main_while0b_v22)
    = takeT (V (Proc.devRef .tc main_v0_0)) (V (Proc.devRef .tc main_while0b_v20)) := by
  after_results
  rfl

theorem move_site : after while0Ops0_5 V (Proc.devRef .tc main_v0_3)
    = moveT (V (Proc.devRef .tc main_v0_3)) (V (Proc.devRef .tc main_while0b_v23_0)) (V (Proc.devRef .tc main_while0b_v23_1)) := by
  after_results
  rfl

theorem out_site : after hostOps0_2 V (Proc.devRef .tc main_v3)
    = outT (V (Proc.devRef .tc main_v1_0)) (V (Proc.devRef .tc main_v1_1)) := by
  after_results
  rfl

end Cert.Proof.RI
-- ==== Proof.RI.Value.lean ====
/-
  What the reference computes from real clouds: ten steps of the loop, each the step of the mathematics, then the rigid
  motion from the points of the start to the points of the end.
-/
module

public import proofs.«01_k».proof.Proof.RI.Loop
public import proofs.«01_k».proof.Proof.RI.Real

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.StableHlo Idealize.ShloMosaic.Tactic

/-- Four real results, each a rotation with a translation as last column. -/
def coOut (f : Fin 4 → Fin 3 → Fin 4 → ℝ) : (⟨S4x3x4, .f32⟩ : BufTy).Contents (Elt Ideal) :=
  fun j => ((f (j 0) (j 1) (j 2) : ℝ) : EReal)

theorem cloud_ext {x y : Cloud Ideal} (h : ∀ (b : Fin 4) (k : Fin 4096) (i : Fin 3), x (ix3 b k i) = y (ix3 b k i)) : x = y := by
  funext j; rw [eq_ix3 j]; exact h _ _ _
theorem coPt_at (x : Fin 4 → Fin 3 → ℝ) (b : Fin 4) (i : Fin 3) : coPt x (ix2 b i) = ((x b i : ℝ) : EReal) := rfl
theorem coOut_ext {x y : (⟨S4x3x4, .f32⟩ : BufTy).Contents (Elt Ideal)}
    (h : ∀ (b : Fin 4) (i : Fin 3) (l : Fin 4), x (ix3 b i l) = y (ix3 b i l)) : x = y := by
  funext j; rw [eq_ix3 j]; exact h _ _ _

theorem move_real (x y : Fin 4 → Spec.Points) :
    moveT (coC x) (coM fun b => Spec.rigidR (x b) (Spec.matched (x b) (y b))) (coPt fun b i => Spec.rigidT (x b) (Spec.matched (x b) (y b)) i)
      = coC fun b => Spec.icpStep (y b) (x b) := by
  refine cloud_ext fun b k i => ?_
  pointwise [moveT]
  rw [coPt_at]
  simp only [coC_at, coM_at, ← EReal.coe_mul, coe_sum, ← EReal.coe_add]
  refine congrArg _ ?_
  simp only [Spec.icpStep, Fin.sum_univ_three]
  ring

theorem out_real (R : Fin 4 → Spec.M) (t : Fin 4 → Fin 3 → ℝ) :
    outT (coM R) (coPt t) = coOut fun b i j => if h : j.val < 3 then R b i ⟨j.val, h⟩ else t b i := by
  refine coOut_ext fun b i l => ?_
  fin_cases l <;> (pointwise [outT]; rfl)

section Keep
variable {F : FTy → Type} [FloatOps F] (V : Valuation τ sig (Elt F))

/-- The lists of one trip before the rigid step write none of the carried points nor the arguments. -/
theorem keep_front (r : Ref sig .tc) (h : r = main_v0_3 ∨ r = main_v0_0 ∨ r = main_arg0 ∨ r = main_arg1) :
    after condOps V (Proc.devRef .tc r) = V (Proc.devRef .tc r)
    ∧ after while0Ops0 V (Proc.devRef .tc r) = V (Proc.devRef .tc r)
    ∧ after while0Ops0_1 V (Proc.devRef .tc r) = V (Proc.devRef .tc r)
    ∧ after while0Ops0_2 V (Proc.devRef .tc r) = V (Proc.devRef .tc r)
    ∧ after while0Ops0_3 V (Proc.devRef .tc r) = V (Proc.devRef .tc r)
    ∧ after while0Ops0_4 V (Proc.devRef .tc r) = V (Proc.devRef .tc r) := by
  rcases h with rfl | rfl | rfl | rfl <;>
  exact ⟨after_of_writes_sub condOps V condOps_writes (by decide +kernel),
    after_of_writes_sub while0Ops0 V while0Ops0_writes (by decide +kernel),
    after_of_writes_sub while0Ops0_1 V while0Ops0_1_writes (by decide +kernel),
    after_of_writes_sub while0Ops0_2 V while0Ops0_2_writes (by decide +kernel),
    after_of_writes_sub while0Ops0_3 V while0Ops0_3_writes (by decide +kernel),
    after_of_writes_sub while0Ops0_4 V while0Ops0_4_writes (by decide +kernel)⟩

/-- The last list of a trip writes neither the target points nor the arguments. -/
theorem keep_end (r : Ref sig .tc) (h : r = main_v0_0 ∨ r = main_arg0 ∨ r = main_arg1) :
    after while0Ops0_5 V (Proc.devRef .tc r) = V (Proc.devRef .tc r) := by
  rcases h with rfl | rfl | rfl <;>
  exact after_of_writes_sub while0Ops0_5 V while0Ops0_5_writes (by decide +kernel)

/-- One trip, list after list. -/
abbrev tripV : Valuation τ sig (Elt F) :=
  after while0Ops0_5 (after while0Ops0_4 (after while0Ops0_3 (after while0Ops0_2 (after while0Ops0_1 (after while0Ops0 (after condOps V))))))

theorem trip_keep (r : Ref sig .tc) (h : r = main_v0_0 ∨ r = main_arg0 ∨ r = main_arg1) :
    tripV V (Proc.devRef .tc r) = V (Proc.devRef .tc r) := by
  have h' : r = main_v0_3 ∨ r = main_v0_0 ∨ r = main_arg0 ∨ r = main_arg1 := Or.inr h
  rw [tripV, keep_end _ r h, (keep_front _ r h').2.2.2.2.2, (keep_front _ r h').2.2.2.2.1, (keep_front _ r h').2.2.2.1,
    (keep_front _ r h').2.2.1, (keep_front _ r h').2.1, (keep_front _ r h').1]

theorem trip_take :
    let W := after while0Ops0_3 (after while0Ops0_2 (after while0Ops0_1 (after while0Ops0 (after condOps V))))
    W (Proc.devRef .tc main_while0b_v22) = takeT (V (Proc.devRef .tc main_v0_0)) (argT (d2T (V (Proc.devRef .tc main_v0_3)) (V (Proc.devRef .tc main_v0_0))))
    ∧ W (Proc.devRef .tc main_v0_3) = V (Proc.devRef .tc main_v0_3) := by
  have h3 := Or.inl (b := main_v0_3 = main_v0_0 ∨ main_v0_3 = main_arg0 ∨ main_v0_3 = main_arg1) (rfl : main_v0_3 = main_v0_3)
  have h0 : main_v0_0 = main_v0_3 ∨ main_v0_0 = main_v0_0 ∨ main_v0_0 = main_arg0 ∨ main_v0_0 = main_arg1 := Or.inr (Or.inl rfl)
  refine ⟨?_, ?_⟩
  · rw [take_site, arg_site, d2_site, (keep_front _ _ h0).2.2.1, (keep_front _ _ h0).2.1, (keep_front _ _ h0).1, (keep_front _ _ h3).1]
  · rw [(keep_front _ _ h3).2.2.2.2.1, (keep_front _ _ h3).2.2.2.1, (keep_front _ _ h3).2.2.1, (keep_front _ _ h3).2.1, (keep_front _ _ h3).1]

theorem rd_v23_0 : rd V (.of main_while0b_v23_0 : TRef sig ⟨S4x3x3, .f32⟩) = V (Proc.devRef .tc main_while0b_v23_0) := rfl
theorem rd_v23_1 : rd V (.of main_while0b_v23_1 : TRef sig ⟨S4x3, .f32⟩) = V (Proc.devRef .tc main_while0b_v23_1) := rfl
theorem rd_v22 : rd V (.of main_while0b_v22 : TRef sig ⟨S4x4096x3, .f32⟩) = V (Proc.devRef .tc main_while0b_v22) := rfl
theorem rd_v0_3 : rd V (.of main_v0_3 : TRef sig ⟨S4x4096x3, .f32⟩) = V (Proc.devRef .tc main_v0_3) := rfl
theorem rd_arg0 : rd V (.of main_arg0 : TRef sig ⟨S4x4096x3, .f32⟩) = V (Proc.devRef .tc main_arg0) := rfl
theorem rd_v1_0 : rd V (.of main_v1_0 : TRef sig ⟨S4x3x3, .f32⟩) = V (Proc.devRef .tc main_v1_0) := rfl
theorem rd_v1_1 : rd V (.of main_v1_1 : TRef sig ⟨S4x3, .f32⟩) = V (Proc.devRef .tc main_v1_1) := rfl

/-- What the loop's rigid step leaves: the rotation, the translation, and the points it moves. -/
theorem trip_rigid :
    after while0Ops0_4 V (Proc.devRef .tc main_while0b_v23_0) = rigidR (V (Proc.devRef .tc main_v0_3)) (V (Proc.devRef .tc main_while0b_v22))
    ∧ after while0Ops0_4 V (Proc.devRef .tc main_while0b_v23_1) = rigidT (V (Proc.devRef .tc main_v0_3)) (V (Proc.devRef .tc main_while0b_v22))
    ∧ after while0Ops0_4 V (Proc.devRef .tc main_v0_3) = V (Proc.devRef .tc main_v0_3) := by
  obtain ⟨⟨hR, hT⟩, hk⟩ := loop_site V
  have e3 := hk main_v0_3 (by decide)
  have e22 := hk main_while0b_v22 (by decide)
  rw [rd_v23_0, rd_v0_3, rd_v22, e3, e22] at hR
  rw [rd_v23_1, rd_v0_3, rd_v22, e3, e22] at hT
  exact ⟨hR, hT, e3⟩

theorem last_keep :
    after hostOps0_2 V (Proc.devRef .tc main_arg0) = V (Proc.devRef .tc main_arg0)
    ∧ after hostOps0_2 V (Proc.devRef .tc main_arg1) = V (Proc.devRef .tc main_arg1) := by
  refine ⟨?_, ?_⟩ <;> after_results

/-- What the last rigid step leaves. -/
theorem last_rigid :
    after hostOps0_2 (after hostOps0_1 V) (Proc.devRef .tc main_v3)
      = outT (rigidR (V (Proc.devRef .tc main_arg0)) (V (Proc.devRef .tc main_v0_3))) (rigidT (V (Proc.devRef .tc main_arg0)) (V (Proc.devRef .tc main_v0_3)))
    ∧ after hostOps0_2 (after hostOps0_1 V) (Proc.devRef .tc main_arg0) = V (Proc.devRef .tc main_arg0)
    ∧ after hostOps0_2 (after hostOps0_1 V) (Proc.devRef .tc main_arg1) = V (Proc.devRef .tc main_arg1) := by
  obtain ⟨⟨hR, hT⟩, hk⟩ := last_site V
  have e3 := hk main_v0_3 (by decide)
  have e0 := hk main_arg0 (by decide)
  have e1 := hk main_arg1 (by decide)
  rw [rd_v1_0, rd_arg0, rd_v0_3, e3, e0] at hR
  rw [rd_v1_1, rd_arg0, rd_v0_3, e3, e0] at hT
  refine ⟨?_, ?_, ?_⟩
  · rw [out_site, hR, hT]
  · rw [(last_keep _).1, e0]
  · rw [(last_keep _).2, e1]

end Keep

/-- One trip from real clouds. -/
theorem trip_real (V : Valuation τ sig (Elt Ideal)) (x y : Fin 4 → Spec.Points)
    (h3 : V (Proc.devRef .tc main_v0_3) = coC x) (h0 : V (Proc.devRef .tc main_v0_0) = coC y) :
    tripV V (Proc.devRef .tc main_v0_3) = coC fun b => Spec.icpStep (y b) (x b) := by
  obtain ⟨t22, t3⟩ := trip_take V
  rw [h3, h0, takeT_real] at t22
  rw [h3] at t3
  rw [tripV, move_site]
  obtain ⟨r1, r2, r3⟩ := trip_rigid (after while0Ops0_3 (after while0Ops0_2 (after while0Ops0_1 (after while0Ops0 (after condOps V)))))
  rw [r1, r2, r3, t22, t3]
  rw [rigidR_real, rigidT_real]
  exact move_real x y

section Launch

variable {F : FTy → Type} [FloatOps F] (m : (ℓ : Loc nD τ sig) → Buf (Elt F) ℓ)

theorem entry (c : Dev nD) :
    entryContents preI m c (Proc.devRef .tc main_v0_3) = m ((c.tc : Thread nD τ).loc main_arg0)
    ∧ entryContents preI m c (Proc.devRef .tc main_v0_0) = m ((c.tc : Thread nD τ).loc main_arg1)
    ∧ entryContents preI m c (Proc.devRef .tc main_arg0) = m ((c.tc : Thread nD τ).loc main_arg0)
    ∧ entryContents preI m c (Proc.devRef .tc main_arg1) = m ((c.tc : Thread nD τ).loc main_arg1) := by
  refine ⟨?_, ?_, ?_, ?_⟩
  · show after hostOps0 (launchContents m c) _ = _
    after_results
    rfl
  · show after hostOps0 (launchContents m c) _ = _
    after_results
    rfl
  · show after hostOps0 (launchContents m c) _ = _
    after_results
  · show after hostOps0 (launchContents m c) _ = _
    after_results

theorem atTrip_keep (c : Dev nD) (n : ℕ) (r : Ref sig .tc) (h : r = main_v0_0 ∨ r = main_arg0 ∨ r = main_arg1) :
    atTrip condOps bodyI (entryContents preI m) n c (Proc.devRef .tc r) = entryContents preI m c (Proc.devRef .tc r) := by
  induction n with
  | zero => rfl
  | succ n ih => exact (trip_keep (atTrip condOps bodyI (entryContents preI m) n c) r h).trans ih

theorem final_eq (c : Dev nD) :
    finalContents condOps preI bodyI postI 10 m c
      = after hostOps0_2 (after hostOps0_1 (after condOps (atTrip condOps bodyI (entryContents preI m) 10 c))) := rfl

theorem final_args (c : Dev nD) :
    finalContents condOps preI bodyI postI 10 m c (Proc.devRef .tc main_arg0) = m ((c.tc : Thread nD τ).loc main_arg0)
    ∧ finalContents condOps preI bodyI postI 10 m c (Proc.devRef .tc main_arg1) = m ((c.tc : Thread nD τ).loc main_arg1) := by
  rw [final_eq]
  obtain ⟨-, a0, a1⟩ := last_rigid (after condOps (atTrip condOps bodyI (entryContents preI m) 10 c))
  refine ⟨?_, ?_⟩
  · rw [a0, (keep_front _ main_arg0 (by simp)).1, atTrip_keep m c 10 main_arg0 (by simp), (entry m c).2.2.1]
  · rw [a1, (keep_front _ main_arg1 (by simp)).1, atTrip_keep m c 10 main_arg1 (by simp), (entry m c).2.2.2]

end Launch

variable (m : (ℓ : Loc nD τ sig) → Buf (Elt Ideal) ℓ) (ρ : Dev nD → PrngReg)

theorem atTrip_real (c : Dev nD) (x y : Fin 4 → Spec.Points)
    (h0 : m ((c.tc : Thread nD τ).loc main_arg0) = coC x) (h1 : m ((c.tc : Thread nD τ).loc main_arg1) = coC y) (n : ℕ) :
    atTrip condOps bodyI (entryContents preI m) n c (Proc.devRef .tc main_v0_3) = coC fun b => Spec.moved (x b) (y b) n := by
  induction n with
  | zero => exact ((entry m c).1).trans h0
  | succ n ih =>
    refine (trip_real (atTrip condOps bodyI (entryContents preI m) n c) _ y ih ?_).trans ?_
    · rw [atTrip_keep m c n main_v0_0 (by simp), (entry m c).2.1, h1]
    · congr 1
      funext b
      rw [Spec.moved_succ]

theorem final_real (c : Dev nD) (x y : Fin 4 → Spec.Points)
    (h0 : m ((c.tc : Thread nD τ).loc main_arg0) = coC x) (h1 : m ((c.tc : Thread nD τ).loc main_arg1) = coC y) :
    finalContents condOps preI bodyI postI 10 m c (Proc.devRef .tc main_v3) = coOut fun b => Spec.result (x b) (y b) := by
  rw [final_eq, (last_rigid _).1, (keep_front _ main_arg0 (by simp)).1, (keep_front _ main_v0_3 (by simp)).1,
    atTrip_keep m c 10 main_arg0 (by simp), (entry m c).2.2.1, h0, atTrip_real m c x y h0 h1 10, rigidR_real, rigidT_real]
  exact out_real _ _

/-- Every run of the reference terminates and leaves the arguments as they were, with every counter at zero. -/
theorem frame : θ_run (defs (F := Ideal)) (onTc (τ := τ) (main (F := Ideal))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h c main_arg0 rfl).trans (final_args m c).1, (h c main_arg1 rfl).trans (final_args m c).2⟩,
    sem_eq_zero_of_no_sems (by decide) r.2⟩) (run_fold (F := Ideal) m ρ)

/-- From real clouds the reference's result array ends at the result of the mathematics. -/
theorem run_real (x y : Dev nD → Fin 4 → Spec.Points)
    (h0 : ∀ c : Dev nD, m ((c.tc : Thread nD τ).loc main_arg0) = coC (x c)) (h1 : ∀ c : Dev nD, m ((c.tc : Thread nD τ).loc main_arg1) = coC (y c)) :
    θ_run (defs (F := Ideal)) (onTc (τ := τ) (main (F := Ideal))) ⟨m, fun _ => 0, ρ⟩
    (fun r => ∀ c : Dev nD, r.2.mem ((c.tc : Thread nD τ).loc main_v3) = coOut (fun b => Spec.result (x c b) (y c b))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_v3 rfl).trans (final_real m c _ _ (h0 c) (h1 c)),
    (h c main_arg0 rfl).trans (final_args m c).1, (h c main_arg1 rfl).trans (final_args m c).2⟩) (run_fold (F := Ideal) m ρ)

end Cert.Proof.RI
-- ==== Proof.KI.Array.lean ====
/-
  The kernel's result array: the blocks of the grid points, one per cloud.
-/
module

public import proofs.«01_k».proof.Proof.KI.Block
public import proofs.«01_k».proof.Proof.RI.Value
public import proofs.«01_k».proof.Proof.Gen.KernelIdeal.Points

@[expose] public section

set_option maxRecDepth 16384

noncomputable section

namespace Cert.Proof.KI

open Cert.KernelIdeal Cert.KernelIdeal.Gen
open Idealize.ShloMosaic Idealize.ShloMosaic.TcCoe Idealize.ShloMosaic.StableHlo Idealize.ShloMosaic.Tactic
open Idealize.SL.Sem

/-- The grid point's number is the cloud's. -/
theorem lt4 (t : Fin cfg0.N) : t.val < 4 := t.isLt.trans_eq (by decide : cfg0.N = 4)
abbrev cloudOf (t : Fin cfg0.N) : Fin 4 := ⟨t.val, lt4 t⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb0 (t : Fin cfg0.N) (a : Fin 1) (i : Fin 3) (k : Fin 4096) : ((cfg0.win 0).blk t).view.emb (ix3 a i k) = ix3 (cloudOf t) i k := by
  obtain ⟨e0, e1, e2⟩ := idx0 t
  funext d; apply Fin.ext
  match d with
  | ⟨0, _⟩ => show win0_0.index t (0 : Fin 3) * 1 + 1 * a.val = t.val; omega
  | ⟨1, _⟩ => show win0_0.index t (1 : Fin 3) * 3 + 1 * i.val = i.val; omega
  | ⟨2, _⟩ => show win0_0.index t (2 : Fin 3) * 4096 + 1 * k.val = k.val; omega
theorem emb1 (t : Fin cfg0.N) (a : Fin 1) (i : Fin 3) (k : Fin 4096) : ((cfg0.win 1).blk t).view.emb (ix3 a i k) = ix3 (cloudOf t) i k := by
  obtain ⟨e0, e1, e2⟩ := idx1 t
  funext d; apply Fin.ext
  match d with
  | ⟨0, _⟩ => show win0_1.index t (0 : Fin 3) * 1 + 1 * a.val = t.val; omega
  | ⟨1, _⟩ => show win0_1.index t (1 : Fin 3) * 3 + 1 * i.val = i.val; omega
  | ⟨2, _⟩ => show win0_1.index t (2 : Fin 3) * 4096 + 1 * k.val = k.val; omega
theorem emb2 (t : Fin cfg0.N) (a : Fin 1) (i : Fin 3) (l : Fin 4) : ((cfg0.win 2).blk t).view.emb (ix3 a i l) = ix3 (cloudOf t) i l := by
  obtain ⟨e0, e1, e2⟩ := idx2 t
  funext d; apply Fin.ext
  match d with
  | ⟨0, _⟩ => show win0_2.index t (0 : Fin 3) * 1 + 1 * a.val = t.val; omega
  | ⟨1, _⟩ => show win0_2.index t (1 : Fin 3) * 3 + 1 * i.val = i.val; omega
  | ⟨2, _⟩ => show win0_2.index t (2 : Fin 3) * 4 + 1 * l.val = l.val; omega

theorem block_ext {x y : Vec Ideal S1x3x4096 .f32} (h : ∀ (a : Fin 1) (i : Fin 3) (k : Fin 4096), x (ix3 a i k) = y (ix3 a i k)) : x = y := by
  funext j; rw [eq_ix3 j]; exact h _ _ _

/-! ## The arrays the grid reads: the arguments transposed -/

section
variable {F : FTy → Type} [FloatOps F] (W : Valuation τ sig (Elt F))

theorem host0 : after hostOps0 W (Proc.devRef .tc main_call0_v0) = transpose S4x3x4096 [0, 2, 1] (W (Proc.devRef .tc main_arg0)) transposes_S4x4096x3_S4x3x4096_0_2_1 := by
  after_results
  rfl
theorem host1 : after hostOps0 W (Proc.devRef .tc main_call0_v1) = transpose S4x3x4096 [0, 2, 1] (W (Proc.devRef .tc main_arg1)) transposes_S4x4096x3_S4x3x4096_0_2_1 := by
  after_results
  rfl
end

section

variable (m : (ℓ : Loc nD τ sig) → Buf (Elt Ideal) ℓ) (ρ : Dev nD → PrngReg) (x y : Dev nD → Fin 4 → Spec.Points)
  (h0 : ∀ c : Dev nD, m ((c.tc : Thread nD τ).loc main_arg0) = RI.coC (x c)) (h1 : ∀ c : Dev nD, m ((c.tc : Thread nD τ).loc main_arg1) = RI.coC (y c))

include h0 in
theorem iblk0_real (c : Dev nD) (t : Fin cfg0.N) : iblk m c 0 t = coBlock (x c (cloudOf t)) := by
  refine block_ext fun a i k => ?_
  show V m c main_call0_v0 (((cfg0.win 0).blk t).view.emb (ix3 a i k)) = _
  rw [emb0]
  refine (congrFun (host0 fun b => m (c, b)) _).trans ?_
  rw [show m (c, Proc.devRef .tc main_arg0) = RI.coC (x c) from h0 c]
  pointwise
  rfl

include h1 in
theorem iblk1_real (c : Dev nD) (t : Fin cfg0.N) : iblk m c 1 t = coBlock (y c (cloudOf t)) := by
  refine block_ext fun a i k => ?_
  show V m c main_call0_v1 (((cfg0.win 1).blk t).view.emb (ix3 a i k)) = _
  rw [emb1]
  refine (congrFun (host1 fun b => m (c, b)) _).trans ?_
  rw [show m (c, Proc.devRef .tc main_arg1) = RI.coC (y c) from h1 c]
  pointwise
  rfl

include h0 h1 in
theorem outs_real (c : Dev nD) (t : Fin cfg0.N) : outsAt m c t = coBlockOut (Spec.result (x c (cloudOf t)) (y c (cloudOf t))) := by
  unfold outsAt
  rw [iblk0_real m x h0, iblk1_real m y h1, block_real]

include h0 h1 in
/-- What a grid point writes back is its block of the result. -/
theorem flushed_real (c : Dev nD) (t : Fin cfg0.N) :
    (dats m 0 c).flushed 2 t = ((cfg0.win 2).blk t).view.read (Elt Ideal) (RI.coOut fun b => Spec.result (x c b) (y c b)) := by
  show (cfg0.win 2).cut (grid0.coords t) ((dats m 0 c).after 2 t) = _
  rw [after0_2, outs_real m x y h0 h1]
  refine blockOut_ext fun a i l => ?_
  show coBlockOut (Spec.result (x c (cloudOf t)) (y c (cloudOf t))) (ix3 a i l) = RI.coOut (fun b => Spec.result (x c b) (y c b)) (((cfg0.win 2).blk t).view.emb (ix3 a i l))
  rw [emb2]
  rfl

/-- Every entry of the result lies in some grid point's block. -/
theorem covered (j : S4x3x4.Idx) : ∃ t : Fin cfg0.N, (cfg0.win 2).flush t = true ∧ j ∈ ((cfg0.win 2).blk t).view.set := by
  obtain ⟨t, ht⟩ : ∃ t : Fin cfg0.N, t.val = (j 0).val := ⟨⟨(j 0).val, (j 0).isLt.trans_eq (by decide : 4 = cfg0.N)⟩, rfl⟩
  have e : ix3 (cloudOf t) (j 1) (j 2) = j := by
    rw [eq_ix3 j, show cloudOf t = j 0 from Fin.ext ht]
    rfl
  have h := ((cfg0.win 2).blk t).view.emb_mem_set (ix3 (0 : Fin 1) (j 1) (j 2))
  exact ⟨t, flush0_2 t, Eq.mp (congrArg (fun q : S4x3x4.Idx => q ∈ (((cfg0.win 2).blk t).view.set : Finset S4x3x4.Idx)) ((emb2 t 0 (j 1) (j 2)).trans e)) h⟩

include h0 h1 in
/-- The kernel's run at real clouds: the result of the mathematics, the arguments unchanged. -/
theorem run_real : θ_run defs (onTc (τ := τ) (main (F := Ideal))) ⟨m, fun _ => 0, ρ⟩ fun r => ∀ c : Dev nD,
      r.2.mem ((c.tc : Thread nD τ).loc main_v0) = RI.coOut (fun b => Spec.result (x c b) (y c b))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h.1 c).1 2).trans ((dats m 0 c).arrAt_eq_of_cover 2 _ (fun t _ => flushed_real m x y h0 h1 c t) covered),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩) (run_main m ρ)

end

end Cert.Proof.KI
-- ==== Proof.Finite.lean ====
/-
  The precondition, read: an array all of whose elements have an absolute value below infinity is an array of reals.
-/
module

public import proofs.«01_k».proof.Proof.RI.Real
public import proofs.«01_k».proof.Pre_finite
public import proofs.«01_k».proof.Proof.Gen.Pre_finite
public import Idealize.ShloMosaic.Lib.ReduceAll

@[expose] public section

set_option maxRecDepth 16384

noncomputable section

namespace Cert.Proof

open Idealize.ShloMosaic Idealize.ShloMosaic.TcCoe Idealize.ShloMosaic.Tactic

/-- An extended real of absolute value below infinity is a real. -/
theorem real_of_abs_lt (a : EReal) (h : max a (-a) < ⊤) : a = ((a.toReal : ℝ) : EReal) := by
  refine (EReal.coe_toReal ?_ ?_).symm
  · rintro rfl; simp at h
  · rintro rfl; simp at h

/-- The clouds' shape. -/
abbrev S443 : Shape := ⟨3, ![4, 4096, 3]⟩

/-- One of the two arrays of the precondition. -/
theorem real_of_all (x : FVec Ideal S443 .f32) (hb hr hs) (j : (⟨0, ![]⟩ : Shape).Idx)
    (e : Host.reduce (axes := [0, 1, 2]) (t := ⟨0, ![]⟩) (u := ⟨0, ![]⟩) IntOp.andi
      (cmpf .olt (Host.absf x) (broadcastInDim S443 ![] hb (constant (F := Ideal) ⟨0, ![]⟩ .f32 0x7F800000#32))) (constantI ⟨0, ![]⟩ 1 1#1) hr hs j = 1#1) :
    x = RI.coC fun b k i => (x (ix3 b k i)).toReal := by
  have h (i : S443.Idx) := Host.reduce_andi_all _ _ _ _ j e i
  refine funext fun j => ?_
  obtain ⟨b, k, i, rfl⟩ : ∃ b k i, j = ix3 b k i := ⟨j 0, j 1, j 2, eq_ix3 j⟩
  have hi := h (ix3 b k i)
  refine real_of_abs_lt _ ?_
  have hc : Ideal.cmp .olt (max (x (ix3 b k i)) (-(x (ix3 b k i)))) (Ideal.ofBits .f32 0x7F800000#32) = 1#1 := hi
  rw [lit_inf] at hc
  by_contra hn
  simp [Ideal.cmp, hn] at hc

/-- Both arrays of the precondition are real. -/
theorem finite_real (x y : FVec Ideal S443 .f32) (h : Cert.Pre_finite.fn (F := Ideal) x y = fun _ => 1#1) :
    (x = RI.coC fun b k i => (x (ix3 b k i)).toReal) ∧ y = RI.coC fun b k i => (y (ix3 b k i)).toReal := by
  have e := congrFun h (fun a => a.elim0)
  have e' : IntOp.andi _ _ = 1#1 := e
  obtain ⟨e1, e2⟩ := IntOp.andi_eq_one.1 e'
  exact ⟨real_of_all x _ _ _ _ e1, real_of_all y _ _ _ _ e2⟩

end Cert.Proof
-- ==== Proof.lean ====
/- The claims, assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.K.Run
public import proofs.«01_k».proof.Proof.KI.Run
public import proofs.«01_k».proof.Proof.KI.Array
public import proofs.«01_k».proof.Proof.RI.Value
public import proofs.«01_k».proof.Proof.Finite

@[expose] public section

noncomputable section

open Idealize.ShloMosaic Idealize.ShloMosaic.TcCoe Idealize.SL.Sem

namespace Cert.Proof

/-- From clouds of real coordinates the kernel and the plain algorithm both end with the rigid motion of `Spec`. -/
theorem value : Cert.algebraic_KernelIdeal_ReferenceIdeal_pre_finite := by
  intro m g m' g' hpre hm
  have hx := fun c => (finite_real _ _ (hpre c)).1
  have hy := fun c => (finite_real _ _ (hpre c)).2
  exact ⟨_, KI.run_real m g _ _ hx hy, (θ_run _ _ _).mono (fun r h c => h c) (RI.run_real m' g' _ _ (fun c => (hm c).1.trans (hx c)) (fun c => (hm c).2.trans (hy c)))⟩

theorem claim : Cert.Claim :=
  ⟨Cert.Kernel.Gen.facts, Cert.KernelIdeal.Gen.facts, Cert.ReferenceIdeal.Gen.facts, Cert.Pre_finite.Gen.facts,
    fun m ρ _ => K.frame m ρ, fun m ρ _ => KI.frame m ρ, fun m ρ _ => KI.frame m ρ, fun m ρ _ => RI.frame m ρ, fun m ρ _ => RI.frame m ρ, trivial, value⟩

end Cert.Proof

end

end
